-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_ctx [hPre_finite_ctx : Cert.Pre_finite_ctx.Facts] (m : (ℓ : Loc Cert.CtxIdeal.nD Cert.CtxIdeal.τ Cert.CtxIdeal.sig) → Buf (Elt Ideal) ℓ) : Prop :=
  ∀ c : Dev Cert.CtxIdeal.nD,
    (Cert.Pre_finite_ctx.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_ctx [hPre_finite_ctx : Cert.Pre_finite_ctx.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_ctx.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2))) = (fun _ => 1#1)

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Mrg (m : (ℓ : Loc Cert.Mrg.nD Cert.Mrg.τ Cert.Mrg.sig) → Buf (Elt Bits) ℓ) : Prop :=
  True

def Pre_MrgIdeal (m : (ℓ : Loc Cert.MrgIdeal.nD Cert.MrgIdeal.τ Cert.MrgIdeal.sig) → Buf (Elt Ideal) ℓ) : Prop :=
  True

def Pre_MrgRefIdeal (m : (ℓ : Loc Cert.MrgRefIdeal.nD Cert.MrgRefIdeal.τ Cert.MrgRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_lat [hPre_finite_lat : Cert.Pre_finite_lat.Facts] (m : (ℓ : Loc Cert.GqaIdeal.nD Cert.GqaIdeal.τ Cert.GqaIdeal.sig) → Buf (Elt Ideal) ℓ) : Prop :=
  ∀ c : Dev Cert.GqaIdeal.nD,
    (Cert.Pre_finite_lat.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_lat [hPre_finite_lat : Cert.Pre_finite_lat.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_lat.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Nbr (m : (ℓ : Loc Cert.Nbr.nD Cert.Nbr.τ Cert.Nbr.sig) → Buf (Elt Bits) ℓ) : Prop :=
  True

def Pre_NbrIdeal (m : (ℓ : Loc Cert.NbrIdeal.nD Cert.NbrIdeal.τ Cert.NbrIdeal.sig) → Buf (Elt Ideal) ℓ) : Prop :=
  True

def Pre_NbrIdeal_finite_na [hPre_finite_na : Cert.Pre_finite_na.Facts] (m : (ℓ : Loc Cert.NbrIdeal.nD Cert.NbrIdeal.τ Cert.NbrIdeal.sig) → Buf (Elt Ideal) ℓ) : Prop :=
  ∀ c : Dev Cert.NbrIdeal.nD,
    (Cert.Pre_finite_na.fn (F := Ideal) (m ((c.tc : Thread Cert.NbrIdeal.nD Cert.NbrIdeal.τ).loc Cert.NbrIdeal.main_arg0)) (m ((c.tc : Thread Cert.NbrIdeal.nD Cert.NbrIdeal.τ).loc Cert.NbrIdeal.main_arg1)) (m ((c.tc : Thread Cert.NbrIdeal.nD Cert.NbrIdeal.τ).loc Cert.NbrIdeal.main_arg2)) (m ((c.tc : Thread Cert.NbrIdeal.nD Cert.NbrIdeal.τ).loc Cert.NbrIdeal.main_arg3))) = (fun _ => 1#1)

def Pre_NbrRefIdeal (m : (ℓ : Loc Cert.NbrRefIdeal.nD Cert.NbrRefIdeal.τ Cert.NbrRefIdeal.sig) → Buf (Elt Ideal) ℓ) : Prop :=
  True

def Pre_NbrRefIdeal_finite_na [hPre_finite_na : Cert.Pre_finite_na.Facts] (m : (ℓ : Loc Cert.NbrRefIdeal.nD Cert.NbrRefIdeal.τ Cert.NbrRefIdeal.sig) → Buf (Elt Ideal) ℓ) : Prop :=
  ∀ c : Dev Cert.NbrRefIdeal.nD,
    (Cert.Pre_finite_na.fn (F := Ideal) (m ((c.tc : Thread Cert.NbrRefIdeal.nD Cert.NbrRefIdeal.τ).loc Cert.NbrRefIdeal.main_arg0)) (m ((c.tc : Thread Cert.NbrRefIdeal.nD Cert.NbrRefIdeal.τ).loc Cert.NbrRefIdeal.main_arg1)) (m ((c.tc : Thread Cert.NbrRefIdeal.nD Cert.NbrRefIdeal.τ).loc Cert.NbrRefIdeal.main_arg2)) (m ((c.tc : Thread Cert.NbrRefIdeal.nD Cert.NbrRefIdeal.τ).loc Cert.NbrRefIdeal.main_arg3))) = (fun _ => 1#1)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxIdeal_pre_finite_ctx [hCtxIdeal : Cert.CtxIdeal.Facts] [hPre_finite_ctx : Cert.Pre_finite_ctx.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_ctx m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_CtxRefIdeal_pre_finite_ctx [hCtxRefIdeal : Cert.CtxRefIdeal.Facts] [hPre_finite_ctx : Cert.Pre_finite_ctx.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_ctx m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2)
      ∧ r.2.mem ((c.tc : Thread Cert.Fin.nD Cert.Fin.τ).loc Cert.Fin.main_arg3) = m ((c.tc : Thread Cert.Fin.nD Cert.Fin.τ).loc Cert.Fin.main_arg3))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
      ∧ r.2.mem ((c.tc : Thread Cert.FinIdeal.nD Cert.FinIdeal.τ).loc Cert.FinIdeal.main_arg3) = m ((c.tc : Thread Cert.FinIdeal.nD Cert.FinIdeal.τ).loc Cert.FinIdeal.main_arg3))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2)
      ∧ r.2.mem ((c.tc : Thread Cert.FinRefIdeal.nD Cert.FinRefIdeal.τ).loc Cert.FinRefIdeal.main_arg3) = m ((c.tc : Thread Cert.FinRefIdeal.nD Cert.FinRefIdeal.τ).loc Cert.FinRefIdeal.main_arg3))
      ∧ r.2.sem = fun _ => 0)

def quiescent_Mrg [hMrg : Cert.Mrg.Facts] : Prop :=
  ∀ (m : (ℓ : Loc Cert.Mrg.nD Cert.Mrg.τ Cert.Mrg.sig) → Buf (Elt Bits) ℓ) (g : Dev Cert.Mrg.nD → PrngReg), Pre_Mrg m →
    θ_run (Cert.Mrg.defs (F := Bits)) (onTc (τ := Cert.Mrg.τ) (Cert.Mrg.main (F := Bits))) ⟨m, fun _ => 0, g⟩ (fun r => (∀ c : Dev Cert.Mrg.nD,
      r.2.mem ((c.tc : Thread Cert.Mrg.nD Cert.Mrg.τ).loc Cert.Mrg.main_arg0) = m ((c.tc : Thread Cert.Mrg.nD Cert.Mrg.τ).loc Cert.Mrg.main_arg0)
      ∧ r.2.mem ((c.tc : Thread Cert.Mrg.nD Cert.Mrg.τ).loc Cert.Mrg.main_arg1) = m ((c.tc : Thread Cert.Mrg.nD Cert.Mrg.τ).loc Cert.Mrg.main_arg1)
      ∧ r.2.mem ((c.tc : Thread Cert.Mrg.nD Cert.Mrg.τ).loc Cert.Mrg.main_arg2) = m ((c.tc : Thread Cert.Mrg.nD Cert.Mrg.τ).loc Cert.Mrg.main_arg2)
      ∧ r.2.mem ((c.tc : Thread Cert.Mrg.nD Cert.Mrg.τ).loc Cert.Mrg.main_arg3) = m ((c.tc : Thread Cert.Mrg.nD Cert.Mrg.τ).loc Cert.Mrg.main_arg3)
      ∧ r.2.mem ((c.tc : Thread Cert.Mrg.nD Cert.Mrg.τ).loc Cert.Mrg.main_arg4) = m ((c.tc : Thread Cert.Mrg.nD Cert.Mrg.τ).loc Cert.Mrg.main_arg4)
      ∧ r.2.mem ((c.tc : Thread Cert.Mrg.nD Cert.Mrg.τ).loc Cert.Mrg.main_arg5) = m ((c.tc : Thread Cert.Mrg.nD Cert.Mrg.τ).loc Cert.Mrg.main_arg5)
      ∧ r.2.mem ((c.tc : Thread Cert.Mrg.nD Cert.Mrg.τ).loc Cert.Mrg.main_arg6) = m ((c.tc : Thread Cert.Mrg.nD Cert.Mrg.τ).loc Cert.Mrg.main_arg6)
      ∧ r.2.mem ((c.tc : Thread Cert.Mrg.nD Cert.Mrg.τ).loc Cert.Mrg.main_arg7) = m ((c.tc : Thread Cert.Mrg.nD Cert.Mrg.τ).loc Cert.Mrg.main_arg7)
      ∧ r.2.mem ((c.tc : Thread Cert.Mrg.nD Cert.Mrg.τ).loc Cert.Mrg.main_arg8) = m ((c.tc : Thread Cert.Mrg.nD Cert.Mrg.τ).loc Cert.Mrg.main_arg8)
      ∧ r.2.mem ((c.tc : Thread Cert.Mrg.nD Cert.Mrg.τ).loc Cert.Mrg.main_arg9) = m ((c.tc : Thread Cert.Mrg.nD Cert.Mrg.τ).loc Cert.Mrg.main_arg9)
      ∧ r.2.mem ((c.tc : Thread Cert.Mrg.nD Cert.Mrg.τ).loc Cert.Mrg.main_arg10) = m ((c.tc : Thread Cert.Mrg.nD Cert.Mrg.τ).loc Cert.Mrg.main_arg10)
      ∧ r.2.mem ((c.tc : Thread Cert.Mrg.nD Cert.Mrg.τ).loc Cert.Mrg.main_arg11) = m ((c.tc : Thread Cert.Mrg.nD Cert.Mrg.τ).loc Cert.Mrg.main_arg11)
      ∧ r.2.mem ((c.tc : Thread Cert.Mrg.nD Cert.Mrg.τ).loc Cert.Mrg.main_arg12) = m ((c.tc : Thread Cert.Mrg.nD Cert.Mrg.τ).loc Cert.Mrg.main_arg12)
      ∧ r.2.mem ((c.tc : Thread Cert.Mrg.nD Cert.Mrg.τ).loc Cert.Mrg.main_arg13) = m ((c.tc : Thread Cert.Mrg.nD Cert.Mrg.τ).loc Cert.Mrg.main_arg13)
      ∧ r.2.mem ((c.tc : Thread Cert.Mrg.nD Cert.Mrg.τ).loc Cert.Mrg.main_arg14) = m ((c.tc : Thread Cert.Mrg.nD Cert.Mrg.τ).loc Cert.Mrg.main_arg14))
      ∧ r.2.sem = fun _ => 0)

def quiescent_MrgIdeal [hMrgIdeal : Cert.MrgIdeal.Facts] : Prop :=
  ∀ (m : (ℓ : Loc Cert.MrgIdeal.nD Cert.MrgIdeal.τ Cert.MrgIdeal.sig) → Buf (Elt Ideal) ℓ) (g : Dev Cert.MrgIdeal.nD → PrngReg), Pre_MrgIdeal m →
    θ_run (Cert.MrgIdeal.defs (F := Ideal)) (onTc (τ := Cert.MrgIdeal.τ) (Cert.MrgIdeal.main (F := Ideal))) ⟨m, fun _ => 0, g⟩ (fun r => (∀ c : Dev Cert.MrgIdeal.nD,
      r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
      ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
      ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
      ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
      ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4)
      ∧ r.2.mem ((c.tc : Thread Cert.MrgIdeal.nD Cert.MrgIdeal.τ).loc Cert.MrgIdeal.main_arg5) = m ((c.tc : Thread Cert.MrgIdeal.nD Cert.MrgIdeal.τ).loc Cert.MrgIdeal.main_arg5)
      ∧ r.2.mem ((c.tc : Thread Cert.MrgIdeal.nD Cert.MrgIdeal.τ).loc Cert.MrgIdeal.main_arg6) = m ((c.tc : Thread Cert.MrgIdeal.nD Cert.MrgIdeal.τ).loc Cert.MrgIdeal.main_arg6)
      ∧ r.2.mem ((c.tc : Thread Cert.MrgIdeal.nD Cert.MrgIdeal.τ).loc Cert.MrgIdeal.main_arg7) = m ((c.tc : Thread Cert.MrgIdeal.nD Cert.MrgIdeal.τ).loc Cert.MrgIdeal.main_arg7)
      ∧ r.2.mem ((c.tc : Thread Cert.MrgIdeal.nD Cert.MrgIdeal.τ).loc Cert.MrgIdeal.main_arg8) = m ((c.tc : Thread Cert.MrgIdeal.nD Cert.MrgIdeal.τ).loc Cert.MrgIdeal.main_arg8)
      ∧ r.2.mem ((c.tc : Thread Cert.MrgIdeal.nD Cert.MrgIdeal.τ).loc Cert.MrgIdeal.main_arg9) = m ((c.tc : Thread Cert.MrgIdeal.nD Cert.MrgIdeal.τ).loc Cert.MrgIdeal.main_arg9)
      ∧ r.2.mem ((c.tc : Thread Cert.MrgIdeal.nD Cert.MrgIdeal.τ).loc Cert.MrgIdeal.main_arg10) = m ((c.tc : Thread Cert.MrgIdeal.nD Cert.MrgIdeal.τ).loc Cert.MrgIdeal.main_arg10)
      ∧ r.2.mem ((c.tc : Thread Cert.MrgIdeal.nD Cert.MrgIdeal.τ).loc Cert.MrgIdeal.main_arg11) = m ((c.tc : Thread Cert.MrgIdeal.nD Cert.MrgIdeal.τ).loc Cert.MrgIdeal.main_arg11)
      ∧ r.2.mem ((c.tc : Thread Cert.MrgIdeal.nD Cert.MrgIdeal.τ).loc Cert.MrgIdeal.main_arg12) = m ((c.tc : Thread Cert.MrgIdeal.nD Cert.MrgIdeal.τ).loc Cert.MrgIdeal.main_arg12)
      ∧ r.2.mem ((c.tc : Thread Cert.MrgIdeal.nD Cert.MrgIdeal.τ).loc Cert.MrgIdeal.main_arg13) = m ((c.tc : Thread Cert.MrgIdeal.nD Cert.MrgIdeal.τ).loc Cert.MrgIdeal.main_arg13)
      ∧ r.2.mem ((c.tc : Thread Cert.MrgIdeal.nD Cert.MrgIdeal.τ).loc Cert.MrgIdeal.main_arg14) = m ((c.tc : Thread Cert.MrgIdeal.nD Cert.MrgIdeal.τ).loc Cert.MrgIdeal.main_arg14))
      ∧ r.2.sem = fun _ => 0)

def quiescent_MrgRefIdeal [hMrgRefIdeal : Cert.MrgRefIdeal.Facts] : Prop :=
  ∀ (m : (ℓ : Loc Cert.MrgRefIdeal.nD Cert.MrgRefIdeal.τ Cert.MrgRefIdeal.sig) → Buf (Elt Ideal) ℓ) (g : Dev Cert.MrgRefIdeal.nD → PrngReg), Pre_MrgRefIdeal m →
    θ_run (Cert.MrgRefIdeal.defs (F := Ideal)) (onTc (τ := Cert.MrgRefIdeal.τ) (Cert.MrgRefIdeal.main (F := Ideal))) ⟨m, fun _ => 0, g⟩ (fun r => (∀ c : Dev Cert.MrgRefIdeal.nD,
      r.2.mem ((c.tc : Thread Cert.MrgRefIdeal.nD Cert.MrgRefIdeal.τ).loc Cert.MrgRefIdeal.main_arg0) = m ((c.tc : Thread Cert.MrgRefIdeal.nD Cert.MrgRefIdeal.τ).loc Cert.MrgRefIdeal.main_arg0)
      ∧ r.2.mem ((c.tc : Thread Cert.MrgRefIdeal.nD Cert.MrgRefIdeal.τ).loc Cert.MrgRefIdeal.main_arg1) = m ((c.tc : Thread Cert.MrgRefIdeal.nD Cert.MrgRefIdeal.τ).loc Cert.MrgRefIdeal.main_arg1)
      ∧ r.2.mem ((c.tc : Thread Cert.MrgRefIdeal.nD Cert.MrgRefIdeal.τ).loc Cert.MrgRefIdeal.main_arg2) = m ((c.tc : Thread Cert.MrgRefIdeal.nD Cert.MrgRefIdeal.τ).loc Cert.MrgRefIdeal.main_arg2)
      ∧ r.2.mem ((c.tc : Thread Cert.MrgRefIdeal.nD Cert.MrgRefIdeal.τ).loc Cert.MrgRefIdeal.main_arg3) = m ((c.tc : Thread Cert.MrgRefIdeal.nD Cert.MrgRefIdeal.τ).loc Cert.MrgRefIdeal.main_arg3)
      ∧ r.2.mem ((c.tc : Thread Cert.MrgRefIdeal.nD Cert.MrgRefIdeal.τ).loc Cert.MrgRefIdeal.main_arg4) = m ((c.tc : Thread Cert.MrgRefIdeal.nD Cert.MrgRefIdeal.τ).loc Cert.MrgRefIdeal.main_arg4)
      ∧ r.2.mem ((c.tc : Thread Cert.MrgRefIdeal.nD Cert.MrgRefIdeal.τ).loc Cert.MrgRefIdeal.main_arg5) = m ((c.tc : Thread Cert.MrgRefIdeal.nD Cert.MrgRefIdeal.τ).loc Cert.MrgRefIdeal.main_arg5)
      ∧ r.2.mem ((c.tc : Thread Cert.MrgRefIdeal.nD Cert.MrgRefIdeal.τ).loc Cert.MrgRefIdeal.main_arg6) = m ((c.tc : Thread Cert.MrgRefIdeal.nD Cert.MrgRefIdeal.τ).loc Cert.MrgRefIdeal.main_arg6)
      ∧ r.2.mem ((c.tc : Thread Cert.MrgRefIdeal.nD Cert.MrgRefIdeal.τ).loc Cert.MrgRefIdeal.main_arg7) = m ((c.tc : Thread Cert.MrgRefIdeal.nD Cert.MrgRefIdeal.τ).loc Cert.MrgRefIdeal.main_arg7)
      ∧ r.2.mem ((c.tc : Thread Cert.MrgRefIdeal.nD Cert.MrgRefIdeal.τ).loc Cert.MrgRefIdeal.main_arg8) = m ((c.tc : Thread Cert.MrgRefIdeal.nD Cert.MrgRefIdeal.τ).loc Cert.MrgRefIdeal.main_arg8)
      ∧ r.2.mem ((c.tc : Thread Cert.MrgRefIdeal.nD Cert.MrgRefIdeal.τ).loc Cert.MrgRefIdeal.main_arg9) = m ((c.tc : Thread Cert.MrgRefIdeal.nD Cert.MrgRefIdeal.τ).loc Cert.MrgRefIdeal.main_arg9)
      ∧ r.2.mem ((c.tc : Thread Cert.MrgRefIdeal.nD Cert.MrgRefIdeal.τ).loc Cert.MrgRefIdeal.main_arg10) = m ((c.tc : Thread Cert.MrgRefIdeal.nD Cert.MrgRefIdeal.τ).loc Cert.MrgRefIdeal.main_arg10)
      ∧ r.2.mem ((c.tc : Thread Cert.MrgRefIdeal.nD Cert.MrgRefIdeal.τ).loc Cert.MrgRefIdeal.main_arg11) = m ((c.tc : Thread Cert.MrgRefIdeal.nD Cert.MrgRefIdeal.τ).loc Cert.MrgRefIdeal.main_arg11)
      ∧ r.2.mem ((c.tc : Thread Cert.MrgRefIdeal.nD Cert.MrgRefIdeal.τ).loc Cert.MrgRefIdeal.main_arg12) = m ((c.tc : Thread Cert.MrgRefIdeal.nD Cert.MrgRefIdeal.τ).loc Cert.MrgRefIdeal.main_arg12)
      ∧ r.2.mem ((c.tc : Thread Cert.MrgRefIdeal.nD Cert.MrgRefIdeal.τ).loc Cert.MrgRefIdeal.main_arg13) = m ((c.tc : Thread Cert.MrgRefIdeal.nD Cert.MrgRefIdeal.τ).loc Cert.MrgRefIdeal.main_arg13)
      ∧ r.2.mem ((c.tc : Thread Cert.MrgRefIdeal.nD Cert.MrgRefIdeal.τ).loc Cert.MrgRefIdeal.main_arg14) = m ((c.tc : Thread Cert.MrgRefIdeal.nD Cert.MrgRefIdeal.τ).loc Cert.MrgRefIdeal.main_arg14))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4)
      ∧ r.2.mem ((c.tc : Thread Cert.Gqa.nD Cert.Gqa.τ).loc Cert.Gqa.main_arg5) = m ((c.tc : Thread Cert.Gqa.nD Cert.Gqa.τ).loc Cert.Gqa.main_arg5))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ r.2.sem = fun _ => 0)

def quiescent_GqaIdeal_pre_finite_lat [hGqaIdeal : Cert.GqaIdeal.Facts] [hPre_finite_lat : Cert.Pre_finite_lat.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_lat m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5))
      ∧ r.2.sem = fun _ => 0)

def quiescent_GqaRefIdeal_pre_finite_lat [hGqaRefIdeal : Cert.GqaRefIdeal.Facts] [hPre_finite_lat : Cert.Pre_finite_lat.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_lat m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Nbr [hNbr : Cert.Nbr.Facts] : Prop :=
  ∀ (m : (ℓ : Loc Cert.Nbr.nD Cert.Nbr.τ Cert.Nbr.sig) → Buf (Elt Bits) ℓ) (g : Dev Cert.Nbr.nD → PrngReg), Pre_Nbr m →
    θ_run (Cert.Nbr.defs (F := Bits)) (onTc (τ := Cert.Nbr.τ) (Cert.Nbr.main (F := Bits))) ⟨m, fun _ => 0, g⟩ (fun r => (∀ c : Dev Cert.Nbr.nD,
      r.2.mem ((c.tc : Thread Cert.Nbr.nD Cert.Nbr.τ).loc Cert.Nbr.main_arg0) = m ((c.tc : Thread Cert.Nbr.nD Cert.Nbr.τ).loc Cert.Nbr.main_arg0)
      ∧ r.2.mem ((c.tc : Thread Cert.Nbr.nD Cert.Nbr.τ).loc Cert.Nbr.main_arg1) = m ((c.tc : Thread Cert.Nbr.nD Cert.Nbr.τ).loc Cert.Nbr.main_arg1)
      ∧ r.2.mem ((c.tc : Thread Cert.Nbr.nD Cert.Nbr.τ).loc Cert.Nbr.main_arg2) = m ((c.tc : Thread Cert.Nbr.nD Cert.Nbr.τ).loc Cert.Nbr.main_arg2)
      ∧ r.2.mem ((c.tc : Thread Cert.Nbr.nD Cert.Nbr.τ).loc Cert.Nbr.main_arg3) = m ((c.tc : Thread Cert.Nbr.nD Cert.Nbr.τ).loc Cert.Nbr.main_arg3))
      ∧ r.2.sem = fun _ => 0)

def quiescent_NbrIdeal [hNbrIdeal : Cert.NbrIdeal.Facts] : Prop :=
  ∀ (m : (ℓ : Loc Cert.NbrIdeal.nD Cert.NbrIdeal.τ Cert.NbrIdeal.sig) → Buf (Elt Ideal) ℓ) (g : Dev Cert.NbrIdeal.nD → PrngReg), Pre_NbrIdeal m →
    θ_run (Cert.NbrIdeal.defs (F := Ideal)) (onTc (τ := Cert.NbrIdeal.τ) (Cert.NbrIdeal.main (F := Ideal))) ⟨m, fun _ => 0, g⟩ (fun r => (∀ c : Dev Cert.NbrIdeal.nD,
      r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
      ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
      ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2)
      ∧ r.2.mem ((c.tc : Thread Cert.NbrIdeal.nD Cert.NbrIdeal.τ).loc Cert.NbrIdeal.main_arg3) = m ((c.tc : Thread Cert.NbrIdeal.nD Cert.NbrIdeal.τ).loc Cert.NbrIdeal.main_arg3))
      ∧ r.2.sem = fun _ => 0)

def quiescent_NbrIdeal_pre_finite_na [hNbrIdeal : Cert.NbrIdeal.Facts] [hPre_finite_na : Cert.Pre_finite_na.Facts] : Prop :=
  ∀ (m : (ℓ : Loc Cert.NbrIdeal.nD Cert.NbrIdeal.τ Cert.NbrIdeal.sig) → Buf (Elt Ideal) ℓ) (g : Dev Cert.NbrIdeal.nD → PrngReg), Pre_NbrIdeal_finite_na m →
    θ_run (Cert.NbrIdeal.defs (F := Ideal)) (onTc (τ := Cert.NbrIdeal.τ) (Cert.NbrIdeal.main (F := Ideal))) ⟨m, fun _ => 0, g⟩ (fun r => (∀ c : Dev Cert.NbrIdeal.nD,
      r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
      ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
      ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2)
      ∧ r.2.mem ((c.tc : Thread Cert.NbrIdeal.nD Cert.NbrIdeal.τ).loc Cert.NbrIdeal.main_arg3) = m ((c.tc : Thread Cert.NbrIdeal.nD Cert.NbrIdeal.τ).loc Cert.NbrIdeal.main_arg3))
      ∧ r.2.sem = fun _ => 0)

def quiescent_NbrRefIdeal [hNbrRefIdeal : Cert.NbrRefIdeal.Facts] : Prop :=
  ∀ (m : (ℓ : Loc Cert.NbrRefIdeal.nD Cert.NbrRefIdeal.τ Cert.NbrRefIdeal.sig) → Buf (Elt Ideal) ℓ) (g : Dev Cert.NbrRefIdeal.nD → PrngReg), Pre_NbrRefIdeal m →
    θ_run (Cert.NbrRefIdeal.defs (F := Ideal)) (onTc (τ := Cert.NbrRefIdeal.τ) (Cert.NbrRefIdeal.main (F := Ideal))) ⟨m, fun _ => 0, g⟩ (fun r => (∀ c : Dev Cert.NbrRefIdeal.nD,
      r.2.mem ((c.tc : Thread Cert.NbrRefIdeal.nD Cert.NbrRefIdeal.τ).loc Cert.NbrRefIdeal.main_arg0) = m ((c.tc : Thread Cert.NbrRefIdeal.nD Cert.NbrRefIdeal.τ).loc Cert.NbrRefIdeal.main_arg0)
      ∧ r.2.mem ((c.tc : Thread Cert.NbrRefIdeal.nD Cert.NbrRefIdeal.τ).loc Cert.NbrRefIdeal.main_arg1) = m ((c.tc : Thread Cert.NbrRefIdeal.nD Cert.NbrRefIdeal.τ).loc Cert.NbrRefIdeal.main_arg1)
      ∧ r.2.mem ((c.tc : Thread Cert.NbrRefIdeal.nD Cert.NbrRefIdeal.τ).loc Cert.NbrRefIdeal.main_arg2) = m ((c.tc : Thread Cert.NbrRefIdeal.nD Cert.NbrRefIdeal.τ).loc Cert.NbrRefIdeal.main_arg2)
      ∧ r.2.mem ((c.tc : Thread Cert.NbrRefIdeal.nD Cert.NbrRefIdeal.τ).loc Cert.NbrRefIdeal.main_arg3) = m ((c.tc : Thread Cert.NbrRefIdeal.nD Cert.NbrRefIdeal.τ).loc Cert.NbrRefIdeal.main_arg3))
      ∧ r.2.sem = fun _ => 0)

def quiescent_NbrRefIdeal_pre_finite_na [hNbrRefIdeal : Cert.NbrRefIdeal.Facts] [hPre_finite_na : Cert.Pre_finite_na.Facts] : Prop :=
  ∀ (m : (ℓ : Loc Cert.NbrRefIdeal.nD Cert.NbrRefIdeal.τ Cert.NbrRefIdeal.sig) → Buf (Elt Ideal) ℓ) (g : Dev Cert.NbrRefIdeal.nD → PrngReg), Pre_NbrRefIdeal_finite_na m →
    θ_run (Cert.NbrRefIdeal.defs (F := Ideal)) (onTc (τ := Cert.NbrRefIdeal.τ) (Cert.NbrRefIdeal.main (F := Ideal))) ⟨m, fun _ => 0, g⟩ (fun r => (∀ c : Dev Cert.NbrRefIdeal.nD,
      r.2.mem ((c.tc : Thread Cert.NbrRefIdeal.nD Cert.NbrRefIdeal.τ).loc Cert.NbrRefIdeal.main_arg0) = m ((c.tc : Thread Cert.NbrRefIdeal.nD Cert.NbrRefIdeal.τ).loc Cert.NbrRefIdeal.main_arg0)
      ∧ r.2.mem ((c.tc : Thread Cert.NbrRefIdeal.nD Cert.NbrRefIdeal.τ).loc Cert.NbrRefIdeal.main_arg1) = m ((c.tc : Thread Cert.NbrRefIdeal.nD Cert.NbrRefIdeal.τ).loc Cert.NbrRefIdeal.main_arg1)
      ∧ r.2.mem ((c.tc : Thread Cert.NbrRefIdeal.nD Cert.NbrRefIdeal.τ).loc Cert.NbrRefIdeal.main_arg2) = m ((c.tc : Thread Cert.NbrRefIdeal.nD Cert.NbrRefIdeal.τ).loc Cert.NbrRefIdeal.main_arg2)
      ∧ r.2.mem ((c.tc : Thread Cert.NbrRefIdeal.nD Cert.NbrRefIdeal.τ).loc Cert.NbrRefIdeal.main_arg3) = m ((c.tc : Thread Cert.NbrRefIdeal.nD Cert.NbrRefIdeal.τ).loc Cert.NbrRefIdeal.main_arg3))
      ∧ r.2.sem = fun _ => 0)

def preserves_Ctx_CtxIdeal : Prop :=
  True

def algebraic_CtxIdeal_CtxRefIdeal_pre_finite_ctx [hCtxIdeal : Cert.CtxIdeal.Facts] [hCtxRefIdeal : Cert.CtxRefIdeal.Facts] [hPre_finite_ctx : Cert.Pre_finite_ctx.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_ctx m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v82) = v0 c
          ∧ r.2.mem ((c.tc : Thread Cert.CtxRefIdeal.nD Cert.CtxRefIdeal.τ).loc Cert.CtxRefIdeal.main_v83) = v1 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2))

def preserves_Moe_MoeIdeal : Prop :=
  True

def algebraic_MoeIdeal_MoeRefIdeal [hMoeIdeal : Cert.MoeIdeal.Facts] [hMoeRefIdeal : Cert.MoeRefIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v47) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v9_0)) (v1 : (c : Dev Cert.InpIdeal.nD) → Buf (Elt Ideal) ((c.tc : Thread Cert.InpIdeal.nD Cert.InpIdeal.τ).loc Cert.InpIdeal.main_v9_1)) (v2 : (c : Dev Cert.InpIdeal.nD) → Buf (Elt Ideal) ((c.tc : Thread Cert.InpIdeal.nD Cert.InpIdeal.τ).loc Cert.InpIdeal.main_v9_2)) (v3 : (c : Dev Cert.InpIdeal.nD) → Buf (Elt Ideal) ((c.tc : Thread Cert.InpIdeal.nD Cert.InpIdeal.τ).loc Cert.InpIdeal.main_v9_3)) (v4 : (c : Dev Cert.InpIdeal.nD) → Buf (Elt Ideal) ((c.tc : Thread Cert.InpIdeal.nD Cert.InpIdeal.τ).loc Cert.InpIdeal.main_v9_4)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v9_0) = v0 c
          ∧ r.2.mem ((c.tc : Thread Cert.InpIdeal.nD Cert.InpIdeal.τ).loc Cert.InpIdeal.main_v9_1) = v1 c
          ∧ r.2.mem ((c.tc : Thread Cert.InpIdeal.nD Cert.InpIdeal.τ).loc Cert.InpIdeal.main_v9_2) = v2 c
          ∧ r.2.mem ((c.tc : Thread Cert.InpIdeal.nD Cert.InpIdeal.τ).loc Cert.InpIdeal.main_v9_3) = v3 c
          ∧ r.2.mem ((c.tc : Thread Cert.InpIdeal.nD Cert.InpIdeal.τ).loc Cert.InpIdeal.main_v9_4) = v4 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v68) = v0 c
          ∧ r.2.mem ((c.tc : Thread Cert.InpRefIdeal.nD Cert.InpRefIdeal.τ).loc Cert.InpRefIdeal.main_v69) = v1 c
          ∧ r.2.mem ((c.tc : Thread Cert.InpRefIdeal.nD Cert.InpRefIdeal.τ).loc Cert.InpRefIdeal.main_v70) = v2 c
          ∧ r.2.mem ((c.tc : Thread Cert.InpRefIdeal.nD Cert.InpRefIdeal.τ).loc Cert.InpRefIdeal.main_v71) = v3 c
          ∧ r.2.mem ((c.tc : Thread Cert.InpRefIdeal.nD Cert.InpRefIdeal.τ).loc Cert.InpRefIdeal.main_v72) = v4 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)
      ∧ m' ((c.tc : Thread Cert.FinRefIdeal.nD Cert.FinRefIdeal.τ).loc Cert.FinRefIdeal.main_arg3) = m ((c.tc : Thread Cert.FinIdeal.nD Cert.FinIdeal.τ).loc Cert.FinIdeal.main_arg3)) →
    ∃ (v0 : (c : Dev Cert.FinIdeal.nD) → Buf (Elt Ideal) ((c.tc : Thread Cert.FinIdeal.nD Cert.FinIdeal.τ).loc Cert.FinIdeal.main_v0)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v0) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
          ∧ r.2.mem ((c.tc : Thread Cert.FinIdeal.nD Cert.FinIdeal.τ).loc Cert.FinIdeal.main_arg3) = m ((c.tc : Thread Cert.FinIdeal.nD Cert.FinIdeal.τ).loc Cert.FinIdeal.main_arg3))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v52) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2)
          ∧ r.2.mem ((c.tc : Thread Cert.FinRefIdeal.nD Cert.FinRefIdeal.τ).loc Cert.FinRefIdeal.main_arg3) = m' ((c.tc : Thread Cert.FinRefIdeal.nD Cert.FinRefIdeal.τ).loc Cert.FinRefIdeal.main_arg3))

def preserves_Mrg_MrgIdeal : Prop :=
  True

def algebraic_MrgIdeal_MrgRefIdeal [hMrgIdeal : Cert.MrgIdeal.Facts] [hMrgRefIdeal : Cert.MrgRefIdeal.Facts] : Prop :=
  ∀ (m : (ℓ : Loc Cert.MrgIdeal.nD Cert.MrgIdeal.τ Cert.MrgIdeal.sig) → Buf (Elt Ideal) ℓ) (g : Dev Cert.MrgIdeal.nD → PrngReg)
    (m' : (ℓ : Loc Cert.MrgRefIdeal.nD Cert.MrgRefIdeal.τ Cert.MrgRefIdeal.sig) → Buf (Elt Ideal) ℓ) (g' : Dev Cert.MrgRefIdeal.nD → PrngReg), Pre_MrgIdeal m →
    (∀ c : Dev Cert.MrgIdeal.nD,
      m' ((c.tc : Thread Cert.MrgRefIdeal.nD Cert.MrgRefIdeal.τ).loc Cert.MrgRefIdeal.main_arg0) = m ((c.tc : Thread Cert.MrgIdeal.nD Cert.MrgIdeal.τ).loc Cert.MrgIdeal.main_arg0)
      ∧ m' ((c.tc : Thread Cert.MrgRefIdeal.nD Cert.MrgRefIdeal.τ).loc Cert.MrgRefIdeal.main_arg1) = m ((c.tc : Thread Cert.MrgIdeal.nD Cert.MrgIdeal.τ).loc Cert.MrgIdeal.main_arg1)
      ∧ m' ((c.tc : Thread Cert.MrgRefIdeal.nD Cert.MrgRefIdeal.τ).loc Cert.MrgRefIdeal.main_arg2) = m ((c.tc : Thread Cert.MrgIdeal.nD Cert.MrgIdeal.τ).loc Cert.MrgIdeal.main_arg2)
      ∧ m' ((c.tc : Thread Cert.MrgRefIdeal.nD Cert.MrgRefIdeal.τ).loc Cert.MrgRefIdeal.main_arg3) = m ((c.tc : Thread Cert.MrgIdeal.nD Cert.MrgIdeal.τ).loc Cert.MrgIdeal.main_arg3)
      ∧ m' ((c.tc : Thread Cert.MrgRefIdeal.nD Cert.MrgRefIdeal.τ).loc Cert.MrgRefIdeal.main_arg4) = m ((c.tc : Thread Cert.MrgIdeal.nD Cert.MrgIdeal.τ).loc Cert.MrgIdeal.main_arg4)
      ∧ m' ((c.tc : Thread Cert.MrgRefIdeal.nD Cert.MrgRefIdeal.τ).loc Cert.MrgRefIdeal.main_arg5) = m ((c.tc : Thread Cert.MrgIdeal.nD Cert.MrgIdeal.τ).loc Cert.MrgIdeal.main_arg5)
      ∧ m' ((c.tc : Thread Cert.MrgRefIdeal.nD Cert.MrgRefIdeal.τ).loc Cert.MrgRefIdeal.main_arg6) = m ((c.tc : Thread Cert.MrgIdeal.nD Cert.MrgIdeal.τ).loc Cert.MrgIdeal.main_arg6)
      ∧ m' ((c.tc : Thread Cert.MrgRefIdeal.nD Cert.MrgRefIdeal.τ).loc Cert.MrgRefIdeal.main_arg7) = m ((c.tc : Thread Cert.MrgIdeal.nD Cert.MrgIdeal.τ).loc Cert.MrgIdeal.main_arg7)
      ∧ m' ((c.tc : Thread Cert.MrgRefIdeal.nD Cert.MrgRefIdeal.τ).loc Cert.MrgRefIdeal.main_arg8) = m ((c.tc : Thread Cert.MrgIdeal.nD Cert.MrgIdeal.τ).loc Cert.MrgIdeal.main_arg8)
      ∧ m' ((c.tc : Thread Cert.MrgRefIdeal.nD Cert.MrgRefIdeal.τ).loc Cert.MrgRefIdeal.main_arg9) = m ((c.tc : Thread Cert.MrgIdeal.nD Cert.MrgIdeal.τ).loc Cert.MrgIdeal.main_arg9)
      ∧ m' ((c.tc : Thread Cert.MrgRefIdeal.nD Cert.MrgRefIdeal.τ).loc Cert.MrgRefIdeal.main_arg10) = m ((c.tc : Thread Cert.MrgIdeal.nD Cert.MrgIdeal.τ).loc Cert.MrgIdeal.main_arg10)
      ∧ m' ((c.tc : Thread Cert.MrgRefIdeal.nD Cert.MrgRefIdeal.τ).loc Cert.MrgRefIdeal.main_arg11) = m ((c.tc : Thread Cert.MrgIdeal.nD Cert.MrgIdeal.τ).loc Cert.MrgIdeal.main_arg11)
      ∧ m' ((c.tc : Thread Cert.MrgRefIdeal.nD Cert.MrgRefIdeal.τ).loc Cert.MrgRefIdeal.main_arg12) = m ((c.tc : Thread Cert.MrgIdeal.nD Cert.MrgIdeal.τ).loc Cert.MrgIdeal.main_arg12)
      ∧ m' ((c.tc : Thread Cert.MrgRefIdeal.nD Cert.MrgRefIdeal.τ).loc Cert.MrgRefIdeal.main_arg13) = m ((c.tc : Thread Cert.MrgIdeal.nD Cert.MrgIdeal.τ).loc Cert.MrgIdeal.main_arg13)
      ∧ m' ((c.tc : Thread Cert.MrgRefIdeal.nD Cert.MrgRefIdeal.τ).loc Cert.MrgRefIdeal.main_arg14) = m ((c.tc : Thread Cert.MrgIdeal.nD Cert.MrgIdeal.τ).loc Cert.MrgIdeal.main_arg14)) →
    ∃ (v0 : (c : Dev Cert.MrgIdeal.nD) → Buf (Elt Ideal) ((c.tc : Thread Cert.MrgIdeal.nD Cert.MrgIdeal.τ).loc Cert.MrgIdeal.main_v10_0)) (v1 : (c : Dev Cert.MrgIdeal.nD) → Buf (Elt Ideal) ((c.tc : Thread Cert.MrgIdeal.nD Cert.MrgIdeal.τ).loc Cert.MrgIdeal.main_v10_1)),
      θ_run (Cert.MrgIdeal.defs (F := Ideal)) (onTc (τ := Cert.MrgIdeal.τ) (Cert.MrgIdeal.main (F := Ideal))) ⟨m, fun _ => 0, g⟩ (fun r => ∀ c : Dev Cert.MrgIdeal.nD,
          r.2.mem ((c.tc : Thread Cert.MrgIdeal.nD Cert.MrgIdeal.τ).loc Cert.MrgIdeal.main_v10_0) = v0 c
          ∧ r.2.mem ((c.tc : Thread Cert.MrgIdeal.nD Cert.MrgIdeal.τ).loc Cert.MrgIdeal.main_v10_1) = v1 c
          ∧ r.2.mem ((c.tc : Thread Cert.MrgIdeal.nD Cert.MrgIdeal.τ).loc Cert.MrgIdeal.main_arg0) = m ((c.tc : Thread Cert.MrgIdeal.nD Cert.MrgIdeal.τ).loc Cert.MrgIdeal.main_arg0)
          ∧ r.2.mem ((c.tc : Thread Cert.MrgIdeal.nD Cert.MrgIdeal.τ).loc Cert.MrgIdeal.main_arg1) = m ((c.tc : Thread Cert.MrgIdeal.nD Cert.MrgIdeal.τ).loc Cert.MrgIdeal.main_arg1)
          ∧ r.2.mem ((c.tc : Thread Cert.MrgIdeal.nD Cert.MrgIdeal.τ).loc Cert.MrgIdeal.main_arg2) = m ((c.tc : Thread Cert.MrgIdeal.nD Cert.MrgIdeal.τ).loc Cert.MrgIdeal.main_arg2)
          ∧ r.2.mem ((c.tc : Thread Cert.MrgIdeal.nD Cert.MrgIdeal.τ).loc Cert.MrgIdeal.main_arg3) = m ((c.tc : Thread Cert.MrgIdeal.nD Cert.MrgIdeal.τ).loc Cert.MrgIdeal.main_arg3)
          ∧ r.2.mem ((c.tc : Thread Cert.MrgIdeal.nD Cert.MrgIdeal.τ).loc Cert.MrgIdeal.main_arg4) = m ((c.tc : Thread Cert.MrgIdeal.nD Cert.MrgIdeal.τ).loc Cert.MrgIdeal.main_arg4)
          ∧ r.2.mem ((c.tc : Thread Cert.MrgIdeal.nD Cert.MrgIdeal.τ).loc Cert.MrgIdeal.main_arg5) = m ((c.tc : Thread Cert.MrgIdeal.nD Cert.MrgIdeal.τ).loc Cert.MrgIdeal.main_arg5)
          ∧ r.2.mem ((c.tc : Thread Cert.MrgIdeal.nD Cert.MrgIdeal.τ).loc Cert.MrgIdeal.main_arg6) = m ((c.tc : Thread Cert.MrgIdeal.nD Cert.MrgIdeal.τ).loc Cert.MrgIdeal.main_arg6)
          ∧ r.2.mem ((c.tc : Thread Cert.MrgIdeal.nD Cert.MrgIdeal.τ).loc Cert.MrgIdeal.main_arg7) = m ((c.tc : Thread Cert.MrgIdeal.nD Cert.MrgIdeal.τ).loc Cert.MrgIdeal.main_arg7)
          ∧ r.2.mem ((c.tc : Thread Cert.MrgIdeal.nD Cert.MrgIdeal.τ).loc Cert.MrgIdeal.main_arg8) = m ((c.tc : Thread Cert.MrgIdeal.nD Cert.MrgIdeal.τ).loc Cert.MrgIdeal.main_arg8)
          ∧ r.2.mem ((c.tc : Thread Cert.MrgIdeal.nD Cert.MrgIdeal.τ).loc Cert.MrgIdeal.main_arg9) = m ((c.tc : Thread Cert.MrgIdeal.nD Cert.MrgIdeal.τ).loc Cert.MrgIdeal.main_arg9)
          ∧ r.2.mem ((c.tc : Thread Cert.MrgIdeal.nD Cert.MrgIdeal.τ).loc Cert.MrgIdeal.main_arg10) = m ((c.tc : Thread Cert.MrgIdeal.nD Cert.MrgIdeal.τ).loc Cert.MrgIdeal.main_arg10)
          ∧ r.2.mem ((c.tc : Thread Cert.MrgIdeal.nD Cert.MrgIdeal.τ).loc Cert.MrgIdeal.main_arg11) = m ((c.tc : Thread Cert.MrgIdeal.nD Cert.MrgIdeal.τ).loc Cert.MrgIdeal.main_arg11)
          ∧ r.2.mem ((c.tc : Thread Cert.MrgIdeal.nD Cert.MrgIdeal.τ).loc Cert.MrgIdeal.main_arg12) = m ((c.tc : Thread Cert.MrgIdeal.nD Cert.MrgIdeal.τ).loc Cert.MrgIdeal.main_arg12)
          ∧ r.2.mem ((c.tc : Thread Cert.MrgIdeal.nD Cert.MrgIdeal.τ).loc Cert.MrgIdeal.main_arg13) = m ((c.tc : Thread Cert.MrgIdeal.nD Cert.MrgIdeal.τ).loc Cert.MrgIdeal.main_arg13)
          ∧ r.2.mem ((c.tc : Thread Cert.MrgIdeal.nD Cert.MrgIdeal.τ).loc Cert.MrgIdeal.main_arg14) = m ((c.tc : Thread Cert.MrgIdeal.nD Cert.MrgIdeal.τ).loc Cert.MrgIdeal.main_arg14))
      ∧ θ_run (Cert.MrgRefIdeal.defs (F := Ideal)) (onTc (τ := Cert.MrgRefIdeal.τ) (Cert.MrgRefIdeal.main (F := Ideal))) ⟨m', fun _ => 0, g'⟩ (fun r => ∀ c : Dev Cert.MrgRefIdeal.nD,
          r.2.mem ((c.tc : Thread Cert.MrgRefIdeal.nD Cert.MrgRefIdeal.τ).loc Cert.MrgRefIdeal.main_v168) = v0 c
          ∧ r.2.mem ((c.tc : Thread Cert.MrgRefIdeal.nD Cert.MrgRefIdeal.τ).loc Cert.MrgRefIdeal.main_v218) = v1 c
          ∧ r.2.mem ((c.tc : Thread Cert.MrgRefIdeal.nD Cert.MrgRefIdeal.τ).loc Cert.MrgRefIdeal.main_arg0) = m' ((c.tc : Thread Cert.MrgRefIdeal.nD Cert.MrgRefIdeal.τ).loc Cert.MrgRefIdeal.main_arg0)
          ∧ r.2.mem ((c.tc : Thread Cert.MrgRefIdeal.nD Cert.MrgRefIdeal.τ).loc Cert.MrgRefIdeal.main_arg1) = m' ((c.tc : Thread Cert.MrgRefIdeal.nD Cert.MrgRefIdeal.τ).loc Cert.MrgRefIdeal.main_arg1)
          ∧ r.2.mem ((c.tc : Thread Cert.MrgRefIdeal.nD Cert.MrgRefIdeal.τ).loc Cert.MrgRefIdeal.main_arg2) = m' ((c.tc : Thread Cert.MrgRefIdeal.nD Cert.MrgRefIdeal.τ).loc Cert.MrgRefIdeal.main_arg2)
          ∧ r.2.mem ((c.tc : Thread Cert.MrgRefIdeal.nD Cert.MrgRefIdeal.τ).loc Cert.MrgRefIdeal.main_arg3) = m' ((c.tc : Thread Cert.MrgRefIdeal.nD Cert.MrgRefIdeal.τ).loc Cert.MrgRefIdeal.main_arg3)
          ∧ r.2.mem ((c.tc : Thread Cert.MrgRefIdeal.nD Cert.MrgRefIdeal.τ).loc Cert.MrgRefIdeal.main_arg4) = m' ((c.tc : Thread Cert.MrgRefIdeal.nD Cert.MrgRefIdeal.τ).loc Cert.MrgRefIdeal.main_arg4)
          ∧ r.2.mem ((c.tc : Thread Cert.MrgRefIdeal.nD Cert.MrgRefIdeal.τ).loc Cert.MrgRefIdeal.main_arg5) = m' ((c.tc : Thread Cert.MrgRefIdeal.nD Cert.MrgRefIdeal.τ).loc Cert.MrgRefIdeal.main_arg5)
          ∧ r.2.mem ((c.tc : Thread Cert.MrgRefIdeal.nD Cert.MrgRefIdeal.τ).loc Cert.MrgRefIdeal.main_arg6) = m' ((c.tc : Thread Cert.MrgRefIdeal.nD Cert.MrgRefIdeal.τ).loc Cert.MrgRefIdeal.main_arg6)
          ∧ r.2.mem ((c.tc : Thread Cert.MrgRefIdeal.nD Cert.MrgRefIdeal.τ).loc Cert.MrgRefIdeal.main_arg7) = m' ((c.tc : Thread Cert.MrgRefIdeal.nD Cert.MrgRefIdeal.τ).loc Cert.MrgRefIdeal.main_arg7)
          ∧ r.2.mem ((c.tc : Thread Cert.MrgRefIdeal.nD Cert.MrgRefIdeal.τ).loc Cert.MrgRefIdeal.main_arg8) = m' ((c.tc : Thread Cert.MrgRefIdeal.nD Cert.MrgRefIdeal.τ).loc Cert.MrgRefIdeal.main_arg8)
          ∧ r.2.mem ((c.tc : Thread Cert.MrgRefIdeal.nD Cert.MrgRefIdeal.τ).loc Cert.MrgRefIdeal.main_arg9) = m' ((c.tc : Thread Cert.MrgRefIdeal.nD Cert.MrgRefIdeal.τ).loc Cert.MrgRefIdeal.main_arg9)
          ∧ r.2.mem ((c.tc : Thread Cert.MrgRefIdeal.nD Cert.MrgRefIdeal.τ).loc Cert.MrgRefIdeal.main_arg10) = m' ((c.tc : Thread Cert.MrgRefIdeal.nD Cert.MrgRefIdeal.τ).loc Cert.MrgRefIdeal.main_arg10)
          ∧ r.2.mem ((c.tc : Thread Cert.MrgRefIdeal.nD Cert.MrgRefIdeal.τ).loc Cert.MrgRefIdeal.main_arg11) = m' ((c.tc : Thread Cert.MrgRefIdeal.nD Cert.MrgRefIdeal.τ).loc Cert.MrgRefIdeal.main_arg11)
          ∧ r.2.mem ((c.tc : Thread Cert.MrgRefIdeal.nD Cert.MrgRefIdeal.τ).loc Cert.MrgRefIdeal.main_arg12) = m' ((c.tc : Thread Cert.MrgRefIdeal.nD Cert.MrgRefIdeal.τ).loc Cert.MrgRefIdeal.main_arg12)
          ∧ r.2.mem ((c.tc : Thread Cert.MrgRefIdeal.nD Cert.MrgRefIdeal.τ).loc Cert.MrgRefIdeal.main_arg13) = m' ((c.tc : Thread Cert.MrgRefIdeal.nD Cert.MrgRefIdeal.τ).loc Cert.MrgRefIdeal.main_arg13)
          ∧ r.2.mem ((c.tc : Thread Cert.MrgRefIdeal.nD Cert.MrgRefIdeal.τ).loc Cert.MrgRefIdeal.main_arg14) = m' ((c.tc : Thread Cert.MrgRefIdeal.nD Cert.MrgRefIdeal.τ).loc Cert.MrgRefIdeal.main_arg14))

def preserves_Gqa_GqaIdeal : Prop :=
  True

def algebraic_GqaIdeal_GqaRefIdeal_pre_finite_lat [hGqaIdeal : Cert.GqaIdeal.Facts] [hGqaRefIdeal : Cert.GqaRefIdeal.Facts] [hPre_finite_lat : Cert.Pre_finite_lat.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_lat m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)
      ∧ m' ((c.tc : Thread Cert.GqaRefIdeal.nD Cert.GqaRefIdeal.τ).loc Cert.GqaRefIdeal.main_arg5) = m ((c.tc : Thread Cert.GqaIdeal.nD Cert.GqaIdeal.τ).loc Cert.GqaIdeal.main_arg5)) →
    ∃ (v0 : (c : Dev Cert.GqaIdeal.nD) → Buf (Elt Ideal) ((c.tc : Thread Cert.GqaIdeal.nD Cert.GqaIdeal.τ).loc Cert.GqaIdeal.main_v34)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v34) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
          ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v99) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4)
          ∧ r.2.mem ((c.tc : Thread Cert.GqaRefIdeal.nD Cert.GqaRefIdeal.τ).loc Cert.GqaRefIdeal.main_arg5) = m' ((c.tc : Thread Cert.GqaRefIdeal.nD Cert.GqaRefIdeal.τ).loc Cert.GqaRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v5)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v5) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v23) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Nbr_NbrIdeal : Prop :=
  True

def algebraic_NbrIdeal_NbrRefIdeal_pre_finite_na [hNbrIdeal : Cert.NbrIdeal.Facts] [hNbrRefIdeal : Cert.NbrRefIdeal.Facts] [hPre_finite_na : Cert.Pre_finite_na.Facts] : Prop :=
  ∀ (m : (ℓ : Loc Cert.NbrIdeal.nD Cert.NbrIdeal.τ Cert.NbrIdeal.sig) → Buf (Elt Ideal) ℓ) (g : Dev Cert.NbrIdeal.nD → PrngReg)
    (m' : (ℓ : Loc Cert.NbrRefIdeal.nD Cert.NbrRefIdeal.τ Cert.NbrRefIdeal.sig) → Buf (Elt Ideal) ℓ) (g' : Dev Cert.NbrRefIdeal.nD → PrngReg), Pre_NbrIdeal_finite_na m →
    (∀ c : Dev Cert.NbrIdeal.nD,
      m' ((c.tc : Thread Cert.NbrRefIdeal.nD Cert.NbrRefIdeal.τ).loc Cert.NbrRefIdeal.main_arg0) = m ((c.tc : Thread Cert.NbrIdeal.nD Cert.NbrIdeal.τ).loc Cert.NbrIdeal.main_arg0)
      ∧ m' ((c.tc : Thread Cert.NbrRefIdeal.nD Cert.NbrRefIdeal.τ).loc Cert.NbrRefIdeal.main_arg1) = m ((c.tc : Thread Cert.NbrIdeal.nD Cert.NbrIdeal.τ).loc Cert.NbrIdeal.main_arg1)
      ∧ m' ((c.tc : Thread Cert.NbrRefIdeal.nD Cert.NbrRefIdeal.τ).loc Cert.NbrRefIdeal.main_arg2) = m ((c.tc : Thread Cert.NbrIdeal.nD Cert.NbrIdeal.τ).loc Cert.NbrIdeal.main_arg2)
      ∧ m' ((c.tc : Thread Cert.NbrRefIdeal.nD Cert.NbrRefIdeal.τ).loc Cert.NbrRefIdeal.main_arg3) = m ((c.tc : Thread Cert.NbrIdeal.nD Cert.NbrIdeal.τ).loc Cert.NbrIdeal.main_arg3)) →
    ∃ (v0 : (c : Dev Cert.NbrIdeal.nD) → Buf (Elt Ideal) ((c.tc : Thread Cert.NbrIdeal.nD Cert.NbrIdeal.τ).loc Cert.NbrIdeal.main_v2)),
      θ_run (Cert.NbrIdeal.defs (F := Ideal)) (onTc (τ := Cert.NbrIdeal.τ) (Cert.NbrIdeal.main (F := Ideal))) ⟨m, fun _ => 0, g⟩ (fun r => ∀ c : Dev Cert.NbrIdeal.nD,
          r.2.mem ((c.tc : Thread Cert.NbrIdeal.nD Cert.NbrIdeal.τ).loc Cert.NbrIdeal.main_v2) = v0 c
          ∧ r.2.mem ((c.tc : Thread Cert.NbrIdeal.nD Cert.NbrIdeal.τ).loc Cert.NbrIdeal.main_arg0) = m ((c.tc : Thread Cert.NbrIdeal.nD Cert.NbrIdeal.τ).loc Cert.NbrIdeal.main_arg0)
          ∧ r.2.mem ((c.tc : Thread Cert.NbrIdeal.nD Cert.NbrIdeal.τ).loc Cert.NbrIdeal.main_arg1) = m ((c.tc : Thread Cert.NbrIdeal.nD Cert.NbrIdeal.τ).loc Cert.NbrIdeal.main_arg1)
          ∧ r.2.mem ((c.tc : Thread Cert.NbrIdeal.nD Cert.NbrIdeal.τ).loc Cert.NbrIdeal.main_arg2) = m ((c.tc : Thread Cert.NbrIdeal.nD Cert.NbrIdeal.τ).loc Cert.NbrIdeal.main_arg2)
          ∧ r.2.mem ((c.tc : Thread Cert.NbrIdeal.nD Cert.NbrIdeal.τ).loc Cert.NbrIdeal.main_arg3) = m ((c.tc : Thread Cert.NbrIdeal.nD Cert.NbrIdeal.τ).loc Cert.NbrIdeal.main_arg3))
      ∧ θ_run (Cert.NbrRefIdeal.defs (F := Ideal)) (onTc (τ := Cert.NbrRefIdeal.τ) (Cert.NbrRefIdeal.main (F := Ideal))) ⟨m', fun _ => 0, g'⟩ (fun r => ∀ c : Dev Cert.NbrRefIdeal.nD,
          r.2.mem ((c.tc : Thread Cert.NbrRefIdeal.nD Cert.NbrRefIdeal.τ).loc Cert.NbrRefIdeal.main_v51) = v0 c
          ∧ r.2.mem ((c.tc : Thread Cert.NbrRefIdeal.nD Cert.NbrRefIdeal.τ).loc Cert.NbrRefIdeal.main_arg0) = m' ((c.tc : Thread Cert.NbrRefIdeal.nD Cert.NbrRefIdeal.τ).loc Cert.NbrRefIdeal.main_arg0)
          ∧ r.2.mem ((c.tc : Thread Cert.NbrRefIdeal.nD Cert.NbrRefIdeal.τ).loc Cert.NbrRefIdeal.main_arg1) = m' ((c.tc : Thread Cert.NbrRefIdeal.nD Cert.NbrRefIdeal.τ).loc Cert.NbrRefIdeal.main_arg1)
          ∧ r.2.mem ((c.tc : Thread Cert.NbrRefIdeal.nD Cert.NbrRefIdeal.τ).loc Cert.NbrRefIdeal.main_arg2) = m' ((c.tc : Thread Cert.NbrRefIdeal.nD Cert.NbrRefIdeal.τ).loc Cert.NbrRefIdeal.main_arg2)
          ∧ r.2.mem ((c.tc : Thread Cert.NbrRefIdeal.nD Cert.NbrRefIdeal.τ).loc Cert.NbrRefIdeal.main_arg3) = m' ((c.tc : Thread Cert.NbrRefIdeal.nD Cert.NbrRefIdeal.τ).loc Cert.NbrRefIdeal.main_arg3))

def Claim : Prop :=
  ∃ (hCtx : Cert.Ctx.Facts) (hCtxIdeal : Cert.CtxIdeal.Facts) (hCtxRefIdeal : Cert.CtxRefIdeal.Facts) (hMoe : Cert.Moe.Facts) (hMoeIdeal : Cert.MoeIdeal.Facts) (hMoeRefIdeal : Cert.MoeRefIdeal.Facts) (hInp : Cert.Inp.Facts) (hInpIdeal : Cert.InpIdeal.Facts) (hInpRefIdeal : Cert.InpRefIdeal.Facts) (hFin : Cert.Fin.Facts) (hFinIdeal : Cert.FinIdeal.Facts) (hFinRefIdeal : Cert.FinRefIdeal.Facts) (hMrg : Cert.Mrg.Facts) (hMrgIdeal : Cert.MrgIdeal.Facts) (hMrgRefIdeal : Cert.MrgRefIdeal.Facts) (hGqa : Cert.Gqa.Facts) (hGqaIdeal : Cert.GqaIdeal.Facts) (hGqaRefIdeal : Cert.GqaRefIdeal.Facts) (hMod : Cert.Mod.Facts) (hModIdeal : Cert.ModIdeal.Facts) (hModRefIdeal : Cert.ModRefIdeal.Facts) (hNbr : Cert.Nbr.Facts) (hNbrIdeal : Cert.NbrIdeal.Facts) (hNbrRefIdeal : Cert.NbrRefIdeal.Facts) (hPre_finite_ctx : Cert.Pre_finite_ctx.Facts) (hPre_experts_in_range : Cert.Pre_experts_in_range.Facts) (hPre_finite_lat : Cert.Pre_finite_lat.Facts) (hPre_finite_na : Cert.Pre_finite_na.Facts),
    quiescent_Ctx (hCtx := hCtx)
    ∧ quiescent_CtxIdeal (hCtxIdeal := hCtxIdeal)
    ∧ quiescent_CtxIdeal_pre_finite_ctx (hCtxIdeal := hCtxIdeal) (hPre_finite_ctx := hPre_finite_ctx)
    ∧ quiescent_CtxRefIdeal (hCtxRefIdeal := hCtxRefIdeal)
    ∧ quiescent_CtxRefIdeal_pre_finite_ctx (hCtxRefIdeal := hCtxRefIdeal) (hPre_finite_ctx := hPre_finite_ctx)
    ∧ quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal) (hPre_experts_in_range := hPre_experts_in_range)
    ∧ quiescent_Inp (hInp := hInp)
    ∧ quiescent_InpIdeal (hInpIdeal := hInpIdeal)
    ∧ quiescent_InpRefIdeal (hInpRefIdeal := hInpRefIdeal)
    ∧ quiescent_Fin (hFin := hFin)
    ∧ quiescent_FinIdeal (hFinIdeal := hFinIdeal)
    ∧ quiescent_FinRefIdeal (hFinRefIdeal := hFinRefIdeal)
    ∧ quiescent_Mrg (hMrg := hMrg)
    ∧ quiescent_MrgIdeal (hMrgIdeal := hMrgIdeal)
    ∧ quiescent_MrgRefIdeal (hMrgRefIdeal := hMrgRefIdeal)
    ∧ quiescent_Gqa (hGqa := hGqa)
    ∧ quiescent_GqaIdeal (hGqaIdeal := hGqaIdeal)
    ∧ quiescent_GqaIdeal_pre_finite_lat (hGqaIdeal := hGqaIdeal) (hPre_finite_lat := hPre_finite_lat)
    ∧ quiescent_GqaRefIdeal (hGqaRefIdeal := hGqaRefIdeal)
    ∧ quiescent_GqaRefIdeal_pre_finite_lat (hGqaRefIdeal := hGqaRefIdeal) (hPre_finite_lat := hPre_finite_lat)
    ∧ quiescent_Mod (hMod := hMod)
    ∧ quiescent_ModIdeal (hModIdeal := hModIdeal)
    ∧ quiescent_ModRefIdeal (hModRefIdeal := hModRefIdeal)
    ∧ quiescent_Nbr (hNbr := hNbr)
    ∧ quiescent_NbrIdeal (hNbrIdeal := hNbrIdeal)
    ∧ quiescent_NbrIdeal_pre_finite_na (hNbrIdeal := hNbrIdeal) (hPre_finite_na := hPre_finite_na)
    ∧ quiescent_NbrRefIdeal (hNbrRefIdeal := hNbrRefIdeal)
    ∧ quiescent_NbrRefIdeal_pre_finite_na (hNbrRefIdeal := hNbrRefIdeal) (hPre_finite_na := hPre_finite_na)
    ∧ preserves_Ctx_CtxIdeal
    ∧ algebraic_CtxIdeal_CtxRefIdeal_pre_finite_ctx (hCtxIdeal := hCtxIdeal) (hCtxRefIdeal := hCtxRefIdeal) (hPre_finite_ctx := hPre_finite_ctx)
    ∧ preserves_Moe_MoeIdeal
    ∧ algebraic_MoeIdeal_MoeRefIdeal (hMoeIdeal := hMoeIdeal) (hMoeRefIdeal := hMoeRefIdeal) (hPre_experts_in_range := hPre_experts_in_range)
    ∧ preserves_Inp_InpIdeal
    ∧ algebraic_InpIdeal_InpRefIdeal (hInpIdeal := hInpIdeal) (hInpRefIdeal := hInpRefIdeal)
    ∧ preserves_Fin_FinIdeal
    ∧ algebraic_FinIdeal_FinRefIdeal (hFinIdeal := hFinIdeal) (hFinRefIdeal := hFinRefIdeal)
    ∧ preserves_Mrg_MrgIdeal
    ∧ algebraic_MrgIdeal_MrgRefIdeal (hMrgIdeal := hMrgIdeal) (hMrgRefIdeal := hMrgRefIdeal)
    ∧ preserves_Gqa_GqaIdeal
    ∧ algebraic_GqaIdeal_GqaRefIdeal_pre_finite_lat (hGqaIdeal := hGqaIdeal) (hGqaRefIdeal := hGqaRefIdeal) (hPre_finite_lat := hPre_finite_lat)
    ∧ preserves_Mod_ModIdeal
    ∧ algebraic_ModIdeal_ModRefIdeal (hModIdeal := hModIdeal) (hModRefIdeal := hModRefIdeal)
    ∧ preserves_Nbr_NbrIdeal
    ∧ algebraic_NbrIdeal_NbrRefIdeal_pre_finite_na (hNbrIdeal := hNbrIdeal) (hNbrRefIdeal := hNbrRefIdeal) (hPre_finite_na := hPre_finite_na)
-- ==== Pre_experts_in_range.lean ====
abbrev S160 : Shape := ⟨1, ![160]⟩
abbrev S1 : Shape := ⟨1, ![1]⟩
abbrev S40960x1024 : Shape := ⟨2, ![40960, 1024]⟩
abbrev S40960x1 : Shape := ⟨2, ![40960, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : FVec F S40960x1024 .bf16) (main_arg3 : FVec F S40960x1 .f32) (main_arg4 : FVec F S32x1024x2048 .f32) (main_arg5 : FVec F S32x1x2048 .f32) (main_arg6 : FVec F S32x1024x1024 .f32) (main_arg7 : FVec F S32x1x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_finite_ctx.lean ====
abbrev S8192x768 : Shape := ⟨2, ![8192, 768]⟩
abbrev S2x64 : Shape := ⟨2, ![2, 64]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_

variable [Facts]

def fn {F : FTy → Type} [FloatOps F] (main_arg0 : FVec F S8192x768 .f32) (main_arg1 : FVec F S8192x768 .f32) (main_arg2 : FVec F S2x64 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S2x64 .f32 := Host.absf main_arg2
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  main_v13
-- ==== Pre_finite_lat.lean ====
abbrev S8192x768 : Shape := ⟨2, ![8192, 768]⟩
abbrev S4x256x2x64 : Shape := ⟨4, ![4, 256, 2, 64]⟩
abbrev S2x64 : Shape := ⟨2, ![2, 64]⟩
abbrev S1024x2x16 : Shape := ⟨3, ![1024, 2, 16]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S4x256x2x64 : S_.BroadcastsInDim S4x256x2x64 (![] : Fin 0 → Fin S4x256x2x64.rank)
  reducesTo_S4x256x2x64_S_d0_1_2_3 : S4x256x2x64.ReducesTo [0, 1, 2, 3] S_
  bcast_S_S2x64 : S_.BroadcastsInDim S2x64 (![] : Fin 0 → Fin S2x64.rank)
  reducesTo_S2x64_S_d0_1 : S2x64.ReducesTo [0, 1] S_
  bcast_S_S1024x2x16 : S_.BroadcastsInDim S1024x2x16 (![] : Fin 0 → Fin S1024x2x16.rank)
  reducesTo_S1024x2x16_S_d0_1_2 : S1024x2x16.ReducesTo [0, 1, 2] S_

variable [Facts]

def fn_part1 {F : FTy → Type} [FloatOps F] (main_arg5 : FVec F S1024x2x16 .f32) (main_v13 : IVec S_ 1) (main_v16 : IVec S1024x2x16 1) : IVec S_ 1 :=
  let main_c_5 : IVec S_ 1 := constantI S_ 1 1#1
  let main_v17 : IVec S_ 1 := (fun x v => Host.reduce IntOp.andi x v reducesTo_S1024x2x16_S_d0_1_2 h_S_) main_v16 main_c_5
  let main_v18 : IVec S_ 1 := andi main_v13 main_v17
  let main_v19 : FVec F S1024x2x16 .f32 := Host.absf main_arg5
  let main_cst_6 : FVec F S_ .f32 := constant S_ .f32 0x7F800000#32
  let main_v20 : FVec F S1024x2x16 .f32 := broadcastInDim S1024x2x16 ![] bcast_S_S1024x2x16 main_cst_6
  let main_v21 : IVec S1024x2x16 1 := cmpf .olt main_v19 main_v20
  let main_c_7 : IVec S_ 1 := constantI S_ 1 1#1
  let main_v22 : IVec S_ 1 := (fun x v => Host.reduce IntOp.andi x v reducesTo_S1024x2x16_S_d0_1_2 h_S_) main_v21 main_c_7
  let main_v23 : IVec S_ 1 := andi main_v18 main_v22
  main_v23

def fn {F : FTy → Type} [FloatOps F] (main_arg0 : FVec F S8192x768 .f32) (main_arg1 : FVec F S4x256x2x64 .f32) (main_arg2 : FVec F S4x256x2x64 .f32) (main_arg3 : FVec F S2x64 .f32) (main_arg4 : FVec F S1024x2x16 .f32) (main_arg5 : FVec F S1024x2x16 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S4x256x2x64 .f32 := Host.absf main_arg1
  let main_cst_0 : FVec F S_ .f32 := constant S_ .f32 0x7F800000#32
  let main_v5 : FVec F S4x256x2x64 .f32 := broadcastInDim S4x256x2x64 ![] bcast_S_S4x256x2x64 main_cst_0
  let main_v6 : IVec S4x256x2x64 1 := cmpf .olt main_v4 main_v5
  let main_c_1 : IVec S_ 1 := constantI S_ 1 1#1
  let main_v7 : IVec S_ 1 := (fun x v => Host.reduce IntOp.andi x v reducesTo_S4x256x2x64_S_d0_1_2_3 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S1024x2x16 .f32 := Host.absf main_arg4
  let main_cst_4 : FVec F S_ .f32 := constant S_ .f32 0x7F800000#32
  let main_v15 : FVec F S1024x2x16 .f32 := broadcastInDim S1024x2x16 ![] bcast_S_S1024x2x16 main_cst_4
  let main_v16 : IVec S1024x2x16 1 := cmpf .olt main_v14 main_v15
  fn_part1 (F := F) main_arg5 main_v13 main_v16
-- ==== Pre_finite_na.lean ====
abbrev S8192x768 : Shape := ⟨2, ![8192, 768]⟩
abbrev S4x256x4x64 : Shape := ⟨4, ![4, 256, 4, 64]⟩
abbrev S4x8x64x512 : Shape := ⟨4, ![4, 8, 64, 512]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S4x256x4x64 : S_.BroadcastsInDim S4x256x4x64 (![] : Fin 0 → Fin S4x256x4x64.rank)
  reducesTo_S4x256x4x64_S_d0_1_2_3 : S4x256x4x64.ReducesTo [0, 1, 2, 3] S_
  bcast_S_S4x8x64x512 : S_.BroadcastsInDim S4x8x64x512 (![] : Fin 0 → Fin S4x8x64x512.rank)
  reducesTo_S4x8x64x512_S_d0_1_2_3 : S4x8x64x512.ReducesTo [0, 1, 2, 3] S_

variable [Facts]

def fn {F : FTy → Type} [FloatOps F] (main_arg0 : FVec F S8192x768 .f32) (main_arg1 : FVec F S4x256x4x64 .f32) (main_arg2 : FVec F S4x256x4x64 .f32) (main_arg3 : FVec F S4x8x64x512 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S4x256x4x64 .f32 := Host.absf main_arg1
  let main_cst_0 : FVec F S_ .f32 := constant S_ .f32 0x7F800000#32
  let main_v5 : FVec F S4x256x4x64 .f32 := broadcastInDim S4x256x4x64 ![] bcast_S_S4x256x4x64 main_cst_0
  let main_v6 : IVec S4x256x4x64 1 := cmpf .olt main_v4 main_v5
  let main_c_1 : IVec S_ 1 := constantI S_ 1 1#1
  let main_v7 : IVec S_ 1 := (fun x v => Host.reduce IntOp.andi x v reducesTo_S4x256x4x64_S_d0_1_2_3 h_S_) main_v6 main_c_1
  let main_v8 : IVec S_ 1 := andi main_v3 main_v7
  let main_v9 : FVec F S4x8x64x512 .f32 := Host.absf main_arg3
  let main_cst_2 : FVec F S_ .f32 := constant S_ .f32 0x7F800000#32
  let main_v10 : FVec F S4x8x64x512 .f32 := broadcastInDim S4x8x64x512 ![] bcast_S_S4x8x64x512 main_cst_2
  let main_v11 : IVec S4x8x64x512 1 := cmpf .olt main_v9 main_v10
  let main_c_3 : IVec S_ 1 := constantI S_ 1 1#1
  let main_v12 : IVec S_ 1 := (fun x v => Host.reduce IntOp.andi x v reducesTo_S4x8x64x512_S_d0_1_2_3 h_S_) main_v11 main_c_3
  let main_v13 : IVec S_ 1 := andi main_v8 main_v12
  main_v13
-- ==== Ctx.lean ====
abbrev S8192x768 : Shape := ⟨2, ![8192, 768]⟩
abbrev S2x64 : Shape := ⟨2, ![2, 64]⟩
abbrev S4096x768 : Shape := ⟨2, ![4096, 768]⟩
abbrev S4096x128 : Shape := ⟨2, ![4096, 128]⟩
abbrev S256x768 : Shape := ⟨2, ![256, 768]⟩
abbrev S256x128 : Shape := ⟨2, ![256, 128]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S1x64 : Shape := ⟨2, ![1, 64]⟩

abbrev nBuf : Space → Nat
  | .hbm => 5
  | .vmem => 9
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S2x64, .f32⟩
  | .hbm, ⟨3, _⟩ => ⟨S4096x768, .f32⟩
  | .hbm, ⟨4, _⟩ => ⟨S4096x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S2x64, .f32⟩
  | .local _ .vmem, ⟨5, _⟩ => ⟨S256x768, .f32⟩
  | .local _ .vmem, ⟨6, _⟩ => ⟨S256x768, .f32⟩
  | .local _ .vmem, ⟨7, _⟩ => ⟨S256x128, .f32⟩
  | .local _ .vmem, ⟨8, _⟩ => ⟨S256x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxRefIdeal.lean ====
abbrev S8192x768 : Shape := ⟨2, ![8192, 768]⟩
abbrev S2x64 : Shape := ⟨2, ![2, 64]⟩
abbrev S4096x768 : Shape := ⟨2, ![4096, 768]⟩
abbrev S4096x256 : Shape := ⟨2, ![4096, 256]⟩
abbrev S16x256x4x64 : Shape := ⟨4, ![16, 256, 4, 64]⟩
abbrev S4096x512 : Shape := ⟨2, ![4096, 512]⟩
abbrev S16x256x8x64 : Shape := ⟨4, ![16, 256, 8, 64]⟩
abbrev S4096x128 : Shape := ⟨2, ![4096, 128]⟩
abbrev S16x256x2x64 : Shape := ⟨4, ![16, 256, 2, 64]⟩
abbrev S16x256x4x1x64 : Shape := ⟨5, ![16, 256, 4, 1, 64]⟩
abbrev S16x4x256x256x1 : Shape := ⟨5, ![16, 4, 256, 256, 1]⟩
abbrev S16x4x1x256x256 : Shape := ⟨5, ![16, 4, 1, 256, 256]⟩
abbrev S_ : Shape := ⟨0, ![]⟩
abbrev S16x4x1x256 : Shape := ⟨4, ![16, 4, 1, 256]⟩
abbrev S16x4x1x256x1 : Shape := ⟨5, ![16, 4, 1, 256, 1]⟩
abbrev S16x4x64x1x256 : Shape := ⟨5, ![16, 4, 64, 1, 256]⟩
abbrev S1x64 : Shape := ⟨2, ![1, 64]⟩
abbrev S64 : Shape := ⟨1, ![64]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S16x256x2 : Shape := ⟨3, ![16, 256, 2]⟩
abbrev S16x256x2x1 : Shape := ⟨4, ![16, 256, 2, 1]⟩
abbrev S16x256x2x4x64 : Shape := ⟨5, ![16, 256, 2, 4, 64]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x64x4x256 : Shape := ⟨5, ![16, 2, 64, 4, 256]⟩

abbrev nBuf : Space → Nat
  | .hbm => 101
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S2x64, .f32⟩
  | .hbm, ⟨3, _⟩ => ⟨S4096x768, .f32⟩
  | .hbm, ⟨4, _⟩ => ⟨S4096x768, .f32⟩
  | .hbm, ⟨5, _⟩ => ⟨S4096x256, .f32⟩
  | .hbm, ⟨6, _⟩ => ⟨S16x256x4x64, .f32⟩
  | .hbm, ⟨7, _⟩ => ⟨S4096x256, .f32⟩
  | .hbm, ⟨8, _⟩ => ⟨S16x256x4x64, .f32⟩
  | .hbm, ⟨9, _⟩ => ⟨S4096x256, .f32⟩
  | .hbm, ⟨10, _⟩ => ⟨S16x256x4x64, .f32⟩
  | .hbm, ⟨11, _⟩ => ⟨S4096x512, .f32⟩
  | .hbm, ⟨12, _⟩ => ⟨S16x256x8x64, .f32⟩
  | .hbm, ⟨13, _⟩ => ⟨S4096x128, .f32⟩
  | .hbm, ⟨14, _⟩ => ⟨S16x256x2x64, .f32⟩
  | .hbm, ⟨15, _⟩ => ⟨S4096x128, .f32⟩
  | .hbm, ⟨16, _⟩ => ⟨S16x256x2x64, .f32⟩
  | .hbm, ⟨17, _⟩ => ⟨S16x256x4x1x64, .f32⟩
  | .hbm, ⟨18, _⟩ => ⟨S16x4x256x256x1, .f32⟩
  | .hbm, ⟨19, _⟩ => ⟨S16x4x1x256x256, .f32⟩
  | .hbm, ⟨20, _⟩ => ⟨S_, .f32⟩
  | .hbm, ⟨21, _⟩ => ⟨S16x4x1x256x256, .f32⟩
  | .hbm, ⟨22, _⟩ => ⟨S16x4x1x256x256, .f32⟩
  | .hbm, ⟨23, _⟩ => ⟨S_, .f32⟩
  | .hbm, ⟨24, _⟩ => ⟨S16x4x1x256, .f32⟩
  | .hbm, ⟨25, _⟩ => ⟨S_, .f32⟩
  | .hbm, ⟨26, _⟩ => ⟨S16x4x1x256, .f32⟩
  | .hbm, ⟨27, _⟩ => ⟨S16x4x1x256, .f32⟩
  | .hbm, ⟨28, _⟩ => ⟨S16x4x1x256x1, .f32⟩
  | .hbm, ⟨29, _⟩ => ⟨S16x4x1x256x256, .f32⟩
  | .hbm, ⟨30, _⟩ => ⟨S16x4x1x256x256, .f32⟩
  | .hbm, ⟨31, _⟩ => ⟨S16x4x1x256x256, .f32⟩
  | .hbm, ⟨32, _⟩ => ⟨S_, .f32⟩
  | .hbm, ⟨33, _⟩ => ⟨S16x4x1x256, .f32⟩
  | .hbm, ⟨34, _⟩ => ⟨S16x4x1x256x1, .f32⟩
  | .hbm, ⟨35, _⟩ => ⟨S16x4x1x256x256, .f32⟩
  | .hbm, ⟨36, _⟩ => ⟨S16x4x1x256x256, .f32⟩
  | .hbm, ⟨37, _⟩ => ⟨S16x4x64x1x256, .f32⟩
  | .hbm, ⟨38, _⟩ => ⟨S16x256x4x1x64, .f32⟩
  | .hbm, ⟨39, _⟩ => ⟨S4096x256, .f32⟩
  | .hbm, ⟨40, _⟩ => ⟨S1x64, .f32⟩
  | .hbm, ⟨41, _⟩ => ⟨S64, .f32⟩
  | .hbm, ⟨42, _⟩ => ⟨S16x256x8x64, .f32⟩
  | .hbm, ⟨43, _⟩ => ⟨S_, .f32⟩
  | .hbm, ⟨44, _⟩ => ⟨S16x256x8, .f32⟩
  | .hbm, ⟨45, _⟩ => ⟨S16x256x8x1, .f32⟩
  | .hbm, ⟨46, _⟩ => ⟨S_, .f32⟩
  | .hbm, ⟨47, _⟩ => ⟨S16x256x8x1, .f32⟩
  | .hbm, ⟨48, _⟩ => ⟨S16x256x8x1, .f32⟩
  | .hbm, ⟨49, _⟩ => ⟨S_, .f32⟩
  | .hbm, ⟨50, _⟩ => ⟨S16x256x8x1, .f32⟩
  | .hbm, ⟨51, _⟩ => ⟨S16x256x8x1, .f32⟩
  | .hbm, ⟨52, _⟩ => ⟨S16x256x8x1, .f32⟩
  | .hbm, ⟨53, _⟩ => ⟨S16x256x8x64, .f32⟩
  | .hbm, ⟨54, _⟩ => ⟨S16x256x8x64, .f32⟩
  | .hbm, ⟨55, _⟩ => ⟨S1x1x1x64, .f32⟩
  | .hbm, ⟨56, _⟩ => ⟨S16x256x8x64, .f32⟩
  | .hbm, ⟨57, _⟩ => ⟨S16x256x8x64, .f32⟩
  | .hbm, ⟨58, _⟩ => ⟨S1x64, .f32⟩
  | .hbm, ⟨59, _⟩ => ⟨S64, .f32⟩
  | .hbm, ⟨60, _⟩ => ⟨S16x256x2x64, .f32⟩
  | .hbm, ⟨61, _⟩ => ⟨S_, .f32⟩
  | .hbm, ⟨62, _⟩ => ⟨S16x256x2, .f32⟩
  | .hbm, ⟨63, _⟩ => ⟨S16x256x2x1, .f32⟩
  | .hbm, ⟨64, _⟩ => ⟨S_, .f32⟩
  | .hbm, ⟨65, _⟩ => ⟨S16x256x2x1, .f32⟩
  | .hbm, ⟨66, _⟩ => ⟨S16x256x2x1, .f32⟩
  | .hbm, ⟨67, _⟩ => ⟨S_, .f32⟩
  | .hbm, ⟨68, _⟩ => ⟨S16x256x2x1, .f32⟩
  | .hbm, ⟨69, _⟩ => ⟨S16x256x2x1, .f32⟩
  | .hbm, ⟨70, _⟩ => ⟨S16x256x2x1, .f32⟩
  | .hbm, ⟨71, _⟩ => ⟨S16x256x2x64, .f32⟩
  | .hbm, ⟨72, _⟩ => ⟨S16x256x2x64, .f32⟩
  | .hbm, ⟨73, _⟩ => ⟨S1x1x1x64, .f32⟩
  | .hbm, ⟨74, _⟩ => ⟨S16x256x2x64, .f32⟩
  | .hbm, ⟨75, _⟩ => ⟨S16x256x2x64, .f32⟩
  | .hbm, ⟨76, _⟩ => ⟨S16x256x2x4x64, .f32⟩
  | .hbm, ⟨77, _⟩ => ⟨S16x2x256x256x4, .f32⟩
  | .hbm, ⟨78, _⟩ => ⟨S16x2x4x256x256, .f32⟩
  | .hbm, ⟨79, _⟩ => ⟨S_, .f32⟩
  | .hbm, ⟨80, _⟩ => ⟨S16x2x4x256x256, .f32⟩
  | .hbm, ⟨81, _⟩ => ⟨S16x2x4x256x256, .f32⟩
  | .hbm, ⟨82, _⟩ => ⟨S_, .f32⟩
  | .hbm, ⟨83, _⟩ => ⟨S16x2x4x256, .f32⟩
  | .hbm, ⟨84, _⟩ => ⟨S_, .f32⟩
  | .hbm, ⟨85, _⟩ => ⟨S16x2x4x256, .f32⟩
  | .hbm, ⟨86, _⟩ => ⟨S16x2x4x256, .f32⟩
  | .hbm, ⟨87, _⟩ => ⟨S16x2x4x256x1, .f32⟩
  | .hbm, ⟨88, _⟩ => ⟨S16x2x4x256x256, .f32⟩
  | .hbm, ⟨89, _⟩ => ⟨S16x2x4x256x256, .f32⟩
  | .hbm, ⟨90, _⟩ => ⟨S16x2x4x256x256, .f32⟩
  | .hbm, ⟨91, _⟩ => ⟨S_, .f32⟩
  | .hbm, ⟨92, _⟩ => ⟨S16x2x4x256, .f32⟩
  | .hbm, ⟨93, _⟩ => ⟨S16x2x4x256x1, .f32⟩
  | .hbm, ⟨94, _⟩ => ⟨S16x2x4x256x256, .f32⟩
  | .hbm, ⟨95, _⟩ => ⟨S16x2x4x256x256, .f32⟩
  | .hbm, ⟨96, _⟩ => ⟨S16x2x64x4x256, .f32⟩
  | .hbm, ⟨97, _⟩ => ⟨S16x256x2x4x64, .f32⟩
  | .hbm, ⟨98, _⟩ => ⟨S4096x512, .f32⟩
  | .hbm, ⟨99, _⟩ => ⟨S4096x768, .f32⟩
  | .hbm, ⟨100, _⟩ => ⟨S4096x128, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_9 : Ref sig .tc := ⟨.hbm, 79, rfl⟩
abbrev main_v66 : Ref sig .tc := ⟨.hbm, 80, rfl⟩
abbrev main_v67 : Ref sig .tc := ⟨.hbm, 81, rfl⟩
abbrev main_cst_10 : Ref sig .tc := ⟨.hbm, 82, rfl⟩
abbrev main_v68 : Ref sig .tc := ⟨.hbm, 83, rfl⟩
abbrev main_cst_11 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_12 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== Moe.lean ====
abbrev S160 : Shape := ⟨1, ![160]⟩
abbrev S1 : Shape := ⟨1, ![1]⟩
abbrev S40960x1024 : Shape := ⟨2, ![40960, 1024]⟩
abbrev S40960x1 : Shape := ⟨2, ![40960, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S256x1 : Shape := ⟨2, ![256, 1]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 7
  | .vmem => 16
  | .smem => 2
  | _ => 0

abbrev bufTy : (tb : Table) → Fin (tcTables nBuf tb) → BufTy
  | .hbm, ⟨0, _⟩ => ⟨S40960x1024, .bf16⟩
  | .hbm, ⟨1, _⟩ => ⟨S40960x1, .f32⟩
  | .hbm, ⟨2, _⟩ => ⟨S32x1024x2048, .f32⟩
  | .hbm, ⟨3, _⟩ => ⟨S32x1x2048, .f32⟩
  | .hbm, ⟨4, _⟩ => ⟨S32x1024x1024, .f32⟩
  | .hbm, ⟨5, _⟩ => ⟨S32x1x1024, .f32⟩
  | .hbm, ⟨6, _⟩ => ⟨S40960x1024, .f32⟩
  | .local _ .vmem, ⟨0, _⟩ => ⟨S256x1024, .bf16⟩
  | .local _ .vmem, ⟨1, _⟩ => ⟨S256x1024, .bf16⟩
  | .local _ .vmem, ⟨2, _⟩ => ⟨S256x1, .f32⟩
  | .local _ .vmem, ⟨3, _⟩ => ⟨S256x1, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .vmem, ⟨14, _⟩ => ⟨S1024x2048, .bf16⟩
  | .local _ .vmem, ⟨15, _⟩ => ⟨S1024x1024, .bf16⟩
  | .local _ .smem, ⟨0, _⟩ => ⟨S160, .i32⟩
  | .local _ .smem, ⟨1, _⟩ => ⟨S1, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
@[reducible] def k0_t1_loop : Scf.Loop 32 :=
  let c0_i32_5 : BitVec 32 := 0#32
  let c8_i32 : BitVec 32 := 8#32
  let v19 : BitVec 32 := Scalar.addi c0_i32_5 c8_i32
  let c1_i32_6 : BitVec 32 := 1#32
  ⟨c0_i32_5, v19, c1_i32_6⟩
def k0_mult1 (k0_t1 : Fin k0_t1_loop.trips) : BitVec 32 :=
  let c0_i32_5 : BitVec 32 := 0#32
  let c1_i32_6 : BitVec 32 := 1#32
  let arg12 : BitVec 32 := Scf.iv c0_i32_5 c1_i32_6 k0_t1
  let c128_i32 : BitVec 32 := 128#32
  let v20 : BitVec 32 := Scalar.muli arg12 c128_i32
  v20
def k0_off3 (k0_t1 : Fin k0_t1_loop.trips) : Fin 3 → Nat :=
  let c0_8 : Index := 0#32
  let c0_i32_5 : BitVec 32 := 0#32
  let c1_i32_6 : BitVec 32 := 1#32
  let arg12 : BitVec 32 := Scf.iv c0_i32_5 c1_i32_6 k0_t1
  let c128_i32 : BitVec 32 := 128#32
  let v20 : BitVec 32 := Scalar.muli arg12 c128_i32
  let v21 : BitVec 32 := v20
  let v22 : Index := Scalar.indexCast v21
  let c0_9 : Index := 0#32
  ![0, v22.toNat, 0]
def k0_off4 (k0_t1 : Fin k0_t1_loop.trips) : Fin 2 → Nat :=
  let c0_i32_5 : BitVec 32 := 0#32
  let c1_i32_6 : BitVec 32 := 1#32
  let arg12 : BitVec 32 := Scf.iv c0_i32_5 c1_i32_6 k0_t1
  let c128_i32 : BitVec 32 := 128#32
  let v20 : BitVec 32 := Scalar.muli arg12 c128_i32
  let v21 : BitVec 32 := v20
  let v26 : Index := Scalar.indexCast v21
  let c0_10 : Index := 0#32
  ![v26.toNat, 0]
def k0_off5 (k0_t1 : Fin k0_t1_loop.trips) : Fin 3 → Nat :=
  let c0_11 : Index := 0#32
  let c0_i32_5 : BitVec 32 := 0#32
  let c1_i32_6 : BitVec 32 := 1#32
  let arg12 : BitVec 32 := Scf.iv c0_i32_5 c1_i32_6 k0_t1
  let c128_i32 : BitVec 32 := 128#32
  let v20 : BitVec 32 := Scalar.muli arg12 c128_i32
  let v21 : BitVec 32 := v20
  let v30 : Index := Scalar.indexCast v21
  let c0_12 : Index := 0#32
  ![0, v30.toNat, 0]
def k0_off6 (k0_t1 : Fin k0_t1_loop.trips) : Fin 2 → Nat :=
  let c0_i32_5 : BitVec 32 := 0#32
  let c1_i32_6 : BitVec 32 := 1#32
  let arg12 : BitVec 32 := Scf.iv c0_i32_5 c1_i32_6 k0_t1
  let c128_i32 : BitVec 32 := 128#32
  let v20 : BitVec 32 := Scalar.muli arg12 c128_i32
  let v21 : BitVec 32 := v20
  let v34 : Index := Scalar.indexCast v21
  let c0_13 : Index := 0#32
  ![v34.toNat, 0]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S160 : Shape := ⟨1, ![160]⟩
abbrev S1 : Shape := ⟨1, ![1]⟩
abbrev S40960x1024 : Shape := ⟨2, ![40960, 1024]⟩
abbrev S40960x1 : Shape := ⟨2, ![40960, 1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S160x1 : Shape := ⟨2, ![160, 1]⟩
abbrev S160x256 : Shape := ⟨2, ![160, 256]⟩
abbrev S32 : Shape := ⟨1, ![32]⟩
abbrev S1x32 : Shape := ⟨2, ![1, 32]⟩
abbrev S40960x32 : Shape := ⟨2, ![40960, 32]⟩
abbrev S_ : Shape := ⟨0, ![]⟩
abbrev S32x2048x40960 : Shape := ⟨3, ![32, 2048, 40960]⟩
abbrev S32x40960x2048 : Shape := ⟨3, ![32, 40960, 2048]⟩
abbrev S32x40960x1024 : Shape := ⟨3, ![32, 40960, 1024]⟩
abbrev S32x40960 : Shape := ⟨2, ![32, 40960]⟩
abbrev S32x40960x1 : Shape := ⟨3, ![32, 40960, 1]⟩

abbrev nBuf : Space → Nat
  | .hbm => 73
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x1024, .bf16⟩
  | .hbm, ⟨3, _⟩ => ⟨S40960x1, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S160x1, .i32⟩
  | .hbm, ⟨9, _⟩ => ⟨S160x256, .i32⟩
  | .hbm, ⟨10, _⟩ => ⟨S40960x1, .i32⟩
  | .hbm, ⟨11, _⟩ => ⟨S32, .i32⟩
  | .hbm, ⟨12, _⟩ => ⟨S1x32, .i32⟩
  | .hbm, ⟨13, _⟩ => ⟨S40960x32, .i32⟩
  | .hbm, ⟨14, _⟩ => ⟨S40960x32, .i32⟩
  | .hbm, ⟨15, _⟩ => ⟨S40960x32, .i1⟩
  | .hbm, ⟨16, _⟩ => ⟨S160, .i32⟩
  | .hbm, ⟨17, _⟩ => ⟨S160x1, .i32⟩
  | .hbm, ⟨18, _⟩ => ⟨S160x256, .i32⟩
  | .hbm, ⟨19, _⟩ => ⟨S40960x1, .i32⟩
  | .hbm, ⟨20, _⟩ => ⟨S_, .i32⟩
  | .hbm, ⟨21, _⟩ => ⟨S40960x1, .i32⟩
  | .hbm, ⟨22, _⟩ => ⟨S40960x1, .i1⟩
  | .hbm, ⟨23, _⟩ => ⟨S40960x32, .i1⟩
  | .hbm, ⟨24, _⟩ => ⟨S40960x32, .i1⟩
  | .hbm, ⟨25, _⟩ => ⟨S_, .f32⟩
  | .hbm, ⟨26, _⟩ => ⟨S_, .f32⟩
  | .hbm, ⟨27, _⟩ => ⟨S40960x32, .f32⟩
  | .hbm, ⟨28, _⟩ => ⟨S40960x32, .f32⟩
  | .hbm, ⟨29, _⟩ => ⟨S40960x32, .f32⟩
  | .hbm, ⟨30, _⟩ => ⟨S40960x1024, .f32⟩
  | .hbm, ⟨31, _⟩ => ⟨S32x2048x40960, .f32⟩
  | .hbm, ⟨32, _⟩ => ⟨S32x40960x2048, .f32⟩
  | .hbm, ⟨33, _⟩ => ⟨S32x40960x2048, .f32⟩
  | .hbm, ⟨34, _⟩ => ⟨S32x40960x2048, .f32⟩
  | .hbm, ⟨35, _⟩ => ⟨S32x40960x1024, .f32⟩
  | .hbm, ⟨36, _⟩ => ⟨S_, .f32⟩
  | .hbm, ⟨37, _⟩ => ⟨S32x40960x1024, .f32⟩
  | .hbm, ⟨38, _⟩ => ⟨S32x40960x1024, .f32⟩
  | .hbm, ⟨39, _⟩ => ⟨S32x40960x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32x40960x1024, .f32⟩
  | .hbm, ⟨44, _⟩ => ⟨S32x40960x1024, .f32⟩
  | .hbm, ⟨45, _⟩ => ⟨S_, .f32⟩
  | .hbm, ⟨46, _⟩ => ⟨S32x40960x1024, .f32⟩
  | .hbm, ⟨47, _⟩ => ⟨S32x40960x1024, .f32⟩
  | .hbm, ⟨48, _⟩ => ⟨S_, .f32⟩
  | .hbm, ⟨49, _⟩ => ⟨S32x40960x1024, .f32⟩
  | .hbm, ⟨50, _⟩ => ⟨S32x40960x1024, .f32⟩
  | .hbm, ⟨51, _⟩ => ⟨S_, .f32⟩
  | .hbm, ⟨52, _⟩ => ⟨S32x40960x1024, .f32⟩
  | .hbm, ⟨53, _⟩ => ⟨S32x40960x1024, .f32⟩
  | .hbm, ⟨54, _⟩ => ⟨S32x40960x1024, .f32⟩
  | .hbm, ⟨55, _⟩ => ⟨S32x40960x1024, .f32⟩
  | .hbm, ⟨56, _⟩ => ⟨S_, .f32⟩
  | .hbm, ⟨57, _⟩ => ⟨S32x40960x1024, .f32⟩
  | .hbm, ⟨58, _⟩ => ⟨S32x40960x1024, .f32⟩
  | .hbm, ⟨59, _⟩ => ⟨S_, .f32⟩
  | .hbm, ⟨60, _⟩ => ⟨S32x40960x1024, .f32⟩
  | .hbm, ⟨61, _⟩ => ⟨S32x40960x1024, .f32⟩
  | .hbm, ⟨62, _⟩ => ⟨S32x40960x1024, .f32⟩
  | .hbm, ⟨63, _⟩ => ⟨S32x40960x1024, .f32⟩
  | .hbm, ⟨64, _⟩ => ⟨S32x40960x1024, .f32⟩
  | .hbm, ⟨65, _⟩ => ⟨S32x40960x1024, .f32⟩
  | .hbm, ⟨66, _⟩ => ⟨S32x40960x1024, .f32⟩
  | .hbm, ⟨67, _⟩ => ⟨S32x40960, .f32⟩
  | .hbm, ⟨68, _⟩ => ⟨S32x40960x1, .f32⟩
  | .hbm, ⟨69, _⟩ => ⟨S32x40960x1024, .f32⟩
  | .hbm, ⟨70, _⟩ => ⟨S32x40960x1024, .f32⟩
  | .hbm, ⟨71, _⟩ => ⟨S_, .f32⟩
  | .hbm, ⟨72, _⟩ => ⟨S40960x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Inp.lean ====
abbrev S8192x1024 : Shape := ⟨2, ![8192, 1024]⟩
abbrev S8x8x1024 : Shape := ⟨3, ![8, 8, 1024]⟩
abbrev S4x1024 : Shape := ⟨2, ![4, 1024]⟩
abbrev S1024x5648 : Shape := ⟨2, ![1024, 5648]⟩
abbrev S4x4 : Shape := ⟨2, ![4, 4]⟩
abbrev S1024x2560 : Shape := ⟨2, ![1024, 2560]⟩
abbrev S1024x16 : Shape := ⟨2, ![1024, 16]⟩
abbrev S_ : Shape := ⟨0, ![]⟩
abbrev S1024x128 : Shape := ⟨2, ![1024, 128]⟩
abbrev S16x1024 : Shape := ⟨2, ![16, 1024]⟩
abbrev S1x16 : Shape := ⟨2, ![1, 16]⟩
abbrev S1x128 : Shape := ⟨2, ![1, 128]⟩
abbrev S16x1 : Shape := ⟨2, ![16, 1]⟩
abbrev S8192x768 : Shape := ⟨2, ![8192, 768]⟩
abbrev S8192x128 : Shape := ⟨2, ![8192, 128]⟩
abbrev S16x8192 : Shape := ⟨2, ![16, 8192]⟩
abbrev S256x1024 : Shape := ⟨2, ![256, 1024]⟩
abbrev S1x8x1024 : Shape := ⟨3, ![1, 8, 1024]⟩
abbrev S256x768 : Shape := ⟨2, ![256, 768]⟩
abbrev S256x128 : Shape := ⟨2, ![256, 128]⟩
abbrev S16x256 : Shape := ⟨2, ![16, 256]⟩
abbrev S256 : Shape := ⟨1, ![256]⟩
abbrev S256x1 : Shape := ⟨2, ![256, 1]⟩
abbrev S1x1024 : Shape := ⟨2, ![1, 1024]⟩
abbrev S1x1x1024 : Shape := ⟨3, ![1, 1, 1024]⟩
abbrev S256x2560 : Shape := ⟨2, ![256, 2560]⟩

abbrev nBuf : Space → Nat
  | .hbm => 23
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8x8x1024, .f32⟩
  | .hbm, ⟨2, _⟩ => ⟨S4x1024, .f32⟩
  | .hbm, ⟨3, _⟩ => ⟨S1024x5648, .f32⟩
  | .hbm, ⟨4, _⟩ => ⟨S4x4, .f32⟩
  | .hbm, ⟨5, _⟩ => ⟨S1024x2560, .f32⟩
  | .hbm, ⟨6, _⟩ => ⟨S1024x2560, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x16, .f32⟩
  | .hbm, ⟨12, _⟩ => ⟨S16x1024, .f32⟩
  | .hbm, ⟨13, _⟩ => ⟨S1x16, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S16x1, .f32⟩
  | .hbm, ⟨18, _⟩ => ⟨S8192x768, .f32⟩
  | .hbm, ⟨19, _⟩ => ⟨S8192x768, .f32⟩
  | .hbm, ⟨20, _⟩ => ⟨S8192x1024, .f32⟩
  | .hbm, ⟨21, _⟩ => ⟨S8192x128, .f32⟩
  | .hbm, ⟨22, _⟩ => ⟨S16x8192, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S4x1024, .f32⟩
  | .local _ .vmem, ⟨5, _⟩ => ⟨S1024x2560, .bf16⟩
  | .local _ .vmem, ⟨6, _⟩ => ⟨S1024x128, .f32⟩
  | .local _ .vmem, ⟨7, _⟩ => ⟨S16x1024, .f32⟩
  | .local _ .vmem, ⟨8, _⟩ => ⟨S1x128, .f32⟩
  | .local _ .vmem, ⟨9, _⟩ => ⟨S16x1, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x1024, .f32⟩
  | .local _ .vmem, ⟨15, _⟩ => ⟨S256x1024, .f32⟩
  | .local _ .vmem, ⟨16, _⟩ => ⟨S256x128, .f32⟩
  | .local _ .vmem, ⟨17, _⟩ => ⟨S256x128, .f32⟩
  | .local _ .vmem, ⟨18, _⟩ => ⟨S16x256, .f32⟩
  | .local _ .vmem, ⟨19, _⟩ => ⟨S16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InpRefIdeal.lean ====
abbrev S8192x1024 : Shape := ⟨2, ![8192, 1024]⟩
abbrev S8x8x1024 : Shape := ⟨3, ![8, 8, 1024]⟩
abbrev S4x1024 : Shape := ⟨2, ![4, 1024]⟩
abbrev S1024x5648 : Shape := ⟨2, ![1024, 5648]⟩
abbrev S4x4 : Shape := ⟨2, ![4, 4]⟩
abbrev S1x1x1024 : Shape := ⟨3, ![1, 1, 1024]⟩
abbrev S1x1024 : Shape := ⟨2, ![1, 1024]⟩
abbrev S4x1x1024 : Shape := ⟨3, ![4, 1, 1024]⟩
abbrev S4096x1024 : Shape := ⟨2, ![4096, 1024]⟩
abbrev S16x256x1024 : Shape := ⟨3, ![16, 256, 1024]⟩
abbrev S4x1024x1024 : Shape := ⟨3, ![4, 1024, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S4x1024x1 : Shape := ⟨3, ![4, 1024, 1]⟩
abbrev S1024x2576 : Shape := ⟨2, ![1024, 2576]⟩
abbrev S8192x2576 : Shape := ⟨2, ![8192, 2576]⟩
abbrev S8192x16 : Shape := ⟨2, ![8192, 16]⟩
abbrev S16 : Shape := ⟨1, ![16]⟩
abbrev S1x16 : Shape := ⟨2, ![1, 16]⟩
abbrev S8192x768 : Shape := ⟨2, ![8192, 768]⟩
abbrev S8192x128 : Shape := ⟨2, ![8192, 128]⟩
abbrev S16x8192 : Shape := ⟨2, ![16, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x8x1024, .f32⟩
  | .hbm, ⟨2, _⟩ => ⟨S4x1024, .f32⟩
  | .hbm, ⟨3, _⟩ => ⟨S1024x5648, .f32⟩
  | .hbm, ⟨4, _⟩ => ⟨S4x4, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4096x1024, .f32⟩
  | .hbm, ⟨18, _⟩ => ⟨S16x256x1024, .f32⟩
  | .hbm, ⟨19, _⟩ => ⟨S4096x1024, .f32⟩
  | .hbm, ⟨20, _⟩ => ⟨S4x1024x1024, .f32⟩
  | .hbm, ⟨21, _⟩ => ⟨S1x1024, .f32⟩
  | .hbm, ⟨22, _⟩ => ⟨S1024, .f32⟩
  | .hbm, ⟨23, _⟩ => ⟨S16x256x1024, .f32⟩
  | .hbm, ⟨24, _⟩ => ⟨S_, .f32⟩
  | .hbm, ⟨25, _⟩ => ⟨S16x256, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S_, .f32⟩
  | .hbm, ⟨31, _⟩ => ⟨S16x256x1, .f32⟩
  | .hbm, ⟨32, _⟩ => ⟨S16x256x1, .f32⟩
  | .hbm, ⟨33, _⟩ => ⟨S16x256x1, .f32⟩
  | .hbm, ⟨34, _⟩ => ⟨S16x256x1024, .f32⟩
  | .hbm, ⟨35, _⟩ => ⟨S16x256x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S1x1024, .f32⟩
  | .hbm, ⟨47, _⟩ => ⟨S1024, .f32⟩
  | .hbm, ⟨48, _⟩ => ⟨S4x1024x1024, .f32⟩
  | .hbm, ⟨49, _⟩ => ⟨S_, .f32⟩
  | .hbm, ⟨50, _⟩ => ⟨S4x1024, .f32⟩
  | .hbm, ⟨51, _⟩ => ⟨S4x1024x1, .f32⟩
  | .hbm, ⟨52, _⟩ => ⟨S_, .f32⟩
  | .hbm, ⟨53, _⟩ => ⟨S4x1024x1, .f32⟩
  | .hbm, ⟨54, _⟩ => ⟨S4x1024x1, .f32⟩
  | .hbm, ⟨55, _⟩ => ⟨S_, .f32⟩
  | .hbm, ⟨56, _⟩ => ⟨S4x1024x1, .f32⟩
  | .hbm, ⟨57, _⟩ => ⟨S4x1024x1, .f32⟩
  | .hbm, ⟨58, _⟩ => ⟨S4x1024x1, .f32⟩
  | .hbm, ⟨59, _⟩ => ⟨S4x1024x1024, .f32⟩
  | .hbm, ⟨60, _⟩ => ⟨S4x1024x1024, .f32⟩
  | .hbm, ⟨61, _⟩ => ⟨S1x1x1024, .f32⟩
  | .hbm, ⟨62, _⟩ => ⟨S4x1024x1024, .f32⟩
  | .hbm, ⟨63, _⟩ => ⟨S4x1024x1024, .f32⟩
  | .hbm, ⟨64, _⟩ => ⟨S_, .f32⟩
  | .hbm, ⟨65, _⟩ => ⟨S4x1x1024, .f32⟩
  | .hbm, ⟨66, _⟩ => ⟨S4x1x1024, .f32⟩
  | .hbm, ⟨67, _⟩ => ⟨S4x1024x1024, .f32⟩
  | .hbm, ⟨68, _⟩ => ⟨S4x1024x1024, .f32⟩
  | .hbm, ⟨69, _⟩ => ⟨S4x1024x1024, .f32⟩
  | .hbm, ⟨70, _⟩ => ⟨S4x1024x1024, .f32⟩
  | .hbm, ⟨71, _⟩ => ⟨S4096x1024, .f32⟩
  | .hbm, ⟨72, _⟩ => ⟨S4096x1024, .f32⟩
  | .hbm, ⟨73, _⟩ => ⟨S8192x1024, .f32⟩
  | .hbm, ⟨74, _⟩ => ⟨S1024x2576, .f32⟩
  | .hbm, ⟨75, _⟩ => ⟨S8192x2576, .f32⟩
  | .hbm, ⟨76, _⟩ => ⟨S8192x16, .f32⟩
  | .hbm, ⟨77, _⟩ => ⟨S16, .f32⟩
  | .hbm, ⟨78, _⟩ => ⟨S1x16, .f32⟩
  | .hbm, ⟨79, _⟩ => ⟨S8192x16, .f32⟩
  | .hbm, ⟨80, _⟩ => ⟨S8192x16, .f32⟩
  | .hbm, ⟨81, _⟩ => ⟨S8192x768, .f32⟩
  | .hbm, ⟨82, _⟩ => ⟨S8192x768, .f32⟩
  | .hbm, ⟨83, _⟩ => ⟨S8192x1024, .f32⟩
  | .hbm, ⟨84, _⟩ => ⟨S_, .i32⟩
  | .hbm, ⟨85, _⟩ => ⟨S_, .f32⟩
  | .hbm, ⟨86, _⟩ => ⟨S8192x128, .f32⟩
  | .hbm, ⟨87, _⟩ => ⟨S16x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c : Ref sig .tc := ⟨.hbm, 84, rfl⟩
abbrev main_call0_v0 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Fin.lean ====
abbrev S8192x1024 : Shape := ⟨2, ![8192, 1024]⟩
abbrev S8x8x1024 : Shape := ⟨3, ![8, 8, 1024]⟩
abbrev S4x1024 : Shape := ⟨2, ![4, 1024]⟩
abbrev S256x1024 : Shape := ⟨2, ![256, 1024]⟩
abbrev S1x8x1024 : Shape := ⟨3, ![1, 8, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x8x1024, .f32⟩
  | .hbm, ⟨3, _⟩ => ⟨S4x1024, .f32⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S4x1024, .f32⟩
  | .local _ .vmem, ⟨7, _⟩ => ⟨S256x1024, .f32⟩
  | .local _ .vmem, ⟨8, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinRefIdeal.lean ====
abbrev S8192x1024 : Shape := ⟨2, ![8192, 1024]⟩
abbrev S8x8x1024 : Shape := ⟨3, ![8, 8, 1024]⟩
abbrev S4x1024 : Shape := ⟨2, ![4, 1024]⟩
abbrev S1x1x1024 : Shape := ⟨3, ![1, 1, 1024]⟩
abbrev S1x1024 : Shape := ⟨2, ![1, 1024]⟩
abbrev S4x1x1024 : Shape := ⟨3, ![4, 1, 1024]⟩
abbrev S4096x1024 : Shape := ⟨2, ![4096, 1024]⟩
abbrev S16x256x1024 : Shape := ⟨3, ![16, 256, 1024]⟩
abbrev S4x1024x1024 : Shape := ⟨3, ![4, 1024, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S4x1024x1 : Shape := ⟨3, ![4, 1024, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x8x1024, .f32⟩
  | .hbm, ⟨3, _⟩ => ⟨S4x1024, .f32⟩
  | .hbm, ⟨4, _⟩ => ⟨S1x1x1024, .f32⟩
  | .hbm, ⟨5, _⟩ => ⟨S1x1024, .f32⟩
  | .hbm, ⟨6, _⟩ => ⟨S1x1x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S4096x1024, .f32⟩
  | .hbm, ⟨11, _⟩ => ⟨S16x256x1024, .f32⟩
  | .hbm, ⟨12, _⟩ => ⟨S4096x1024, .f32⟩
  | .hbm, ⟨13, _⟩ => ⟨S4x1024x1024, .f32⟩
  | .hbm, ⟨14, _⟩ => ⟨S4096x1024, .f32⟩
  | .hbm, ⟨15, _⟩ => ⟨S16x256x1024, .f32⟩
  | .hbm, ⟨16, _⟩ => ⟨S4096x1024, .f32⟩
  | .hbm, ⟨17, _⟩ => ⟨S4x1024x1024, .f32⟩
  | .hbm, ⟨18, _⟩ => ⟨S1x1024, .f32⟩
  | .hbm, ⟨19, _⟩ => ⟨S1024, .f32⟩
  | .hbm, ⟨20, _⟩ => ⟨S16x256x1024, .f32⟩
  | .hbm, ⟨21, _⟩ => ⟨S_, .f32⟩
  | .hbm, ⟨22, _⟩ => ⟨S16x256, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S16x256x1, .f32⟩
  | .hbm, ⟨31, _⟩ => ⟨S16x256x1024, .f32⟩
  | .hbm, ⟨32, _⟩ => ⟨S16x256x1024, .f32⟩
  | .hbm, ⟨33, _⟩ => ⟨S1x1x1024, .f32⟩
  | .hbm, ⟨34, _⟩ => ⟨S16x256x1024, .f32⟩
  | .hbm, ⟨35, _⟩ => ⟨S16x256x1024, .f32⟩
  | .hbm, ⟨36, _⟩ => ⟨S16x256x1024, .f32⟩
  | .hbm, ⟨37, _⟩ => ⟨S16x256x1024, .f32⟩
  | .hbm, ⟨38, _⟩ => ⟨S16x256x1024, .f32⟩
  | .hbm, ⟨39, _⟩ => ⟨S1x1024, .f32⟩
  | .hbm, ⟨40, _⟩ => ⟨S1024, .f32⟩
  | .hbm, ⟨41, _⟩ => ⟨S4x1024x1024, .f32⟩
  | .hbm, ⟨42, _⟩ => ⟨S_, .f32⟩
  | .hbm, ⟨43, _⟩ => ⟨S4x1024, .f32⟩
  | .hbm, ⟨44, _⟩ => ⟨S4x1024x1, .f32⟩
  | .hbm, ⟨45, _⟩ => ⟨S_, .f32⟩
  | .hbm, ⟨46, _⟩ => ⟨S4x1024x1, .f32⟩
  | .hbm, ⟨47, _⟩ => ⟨S4x1024x1, .f32⟩
  | .hbm, ⟨48, _⟩ => ⟨S_, .f32⟩
  | .hbm, ⟨49, _⟩ => ⟨S4x1024x1, .f32⟩
  | .hbm, ⟨50, _⟩ => ⟨S4x1024x1, .f32⟩
  | .hbm, ⟨51, _⟩ => ⟨S4x1024x1, .f32⟩
  | .hbm, ⟨52, _⟩ => ⟨S4x1024x1024, .f32⟩
  | .hbm, ⟨53, _⟩ => ⟨S4x1024x1024, .f32⟩
  | .hbm, ⟨54, _⟩ => ⟨S1x1x1024, .f32⟩
  | .hbm, ⟨55, _⟩ => ⟨S4x1024x1024, .f32⟩
  | .hbm, ⟨56, _⟩ => ⟨S4x1024x1024, .f32⟩
  | .hbm, ⟨57, _⟩ => ⟨S4x1024x1024, .f32⟩
  | .hbm, ⟨58, _⟩ => ⟨S4x1024x1024, .f32⟩
  | .hbm, ⟨59, _⟩ => ⟨S4x1024x1024, .f32⟩
  | .hbm, ⟨60, _⟩ => ⟨S4096x1024, .f32⟩
  | .hbm, ⟨61, _⟩ => ⟨S4096x1024, .f32⟩
  | .hbm, ⟨62, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Mrg.lean ====
abbrev S8192x1024 : Shape := ⟨2, ![8192, 1024]⟩
abbrev S8x8x1024 : Shape := ⟨3, ![8, 8, 1024]⟩
abbrev S4x1024 : Shape := ⟨2, ![4, 1024]⟩
abbrev S8192x768 : Shape := ⟨2, ![8192, 768]⟩
abbrev S8192x256 : Shape := ⟨2, ![8192, 256]⟩
abbrev S256 : Shape := ⟨1, ![256]⟩
abbrev S1024x5648 : Shape := ⟨2, ![1024, 5648]⟩
abbrev S256x1024 : Shape := ⟨2, ![256, 1024]⟩
abbrev S512x1024 : Shape := ⟨2, ![512, 1024]⟩
abbrev S1024x1024 : Shape := ⟨2, ![1024, 1024]⟩
abbrev S1024x32 : Shape := ⟨2, ![1024, 32]⟩
abbrev S32 : Shape := ⟨1, ![32]⟩
abbrev S1024x3072 : Shape := ⟨2, ![1024, 3072]⟩
abbrev S_ : Shape := ⟨0, ![]⟩
abbrev S1024x128 : Shape := ⟨2, ![1024, 128]⟩
abbrev S1x32 : Shape := ⟨2, ![1, 32]⟩
abbrev S1x128 : Shape := ⟨2, ![1, 128]⟩
abbrev S1x256 : Shape := ⟨2, ![1, 256]⟩
abbrev S8192x128 : Shape := ⟨2, ![8192, 128]⟩
abbrev S1x8x1024 : Shape := ⟨3, ![1, 8, 1024]⟩
abbrev S256x768 : Shape := ⟨2, ![256, 768]⟩
abbrev S256x256 : Shape := ⟨2, ![256, 256]⟩
abbrev S256x128 : Shape := ⟨2, ![256, 128]⟩
abbrev S256x1 : Shape := ⟨2, ![256, 1]⟩
abbrev S1x1024 : Shape := ⟨2, ![1, 1024]⟩
abbrev S1x1x1024 : Shape := ⟨3, ![1, 1, 1024]⟩
abbrev S256x64 : Shape := ⟨2, ![256, 64]⟩
abbrev S256x512 : Shape := ⟨2, ![256, 512]⟩

abbrev nBuf : Space → Nat
  | .hbm => 33
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8x8x1024, .f32⟩
  | .hbm, ⟨2, _⟩ => ⟨S4x1024, .f32⟩
  | .hbm, ⟨3, _⟩ => ⟨S8192x768, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S256, .f32⟩
  | .hbm, ⟨8, _⟩ => ⟨S1024x5648, .f32⟩
  | .hbm, ⟨9, _⟩ => ⟨S256x1024, .f32⟩
  | .hbm, ⟨10, _⟩ => ⟨S512x1024, .f32⟩
  | .hbm, ⟨11, _⟩ => ⟨S256x1024, .f32⟩
  | .hbm, ⟨12, _⟩ => ⟨S1024x1024, .f32⟩
  | .hbm, ⟨13, _⟩ => ⟨S1024x32, .f32⟩
  | .hbm, ⟨14, _⟩ => ⟨S32, .f32⟩
  | .hbm, ⟨15, _⟩ => ⟨S1024x3072, .f32⟩
  | .hbm, ⟨16, _⟩ => ⟨S1024x3072, .bf16⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1x32, .f32⟩
  | .hbm, ⟨21, _⟩ => ⟨S_, .f32⟩
  | .hbm, ⟨22, _⟩ => ⟨S_, .f32⟩
  | .hbm, ⟨23, _⟩ => ⟨S1x128, .f32⟩
  | .hbm, ⟨24, _⟩ => ⟨S1x256, .f32⟩
  | .hbm, ⟨25, _⟩ => ⟨S256x1024, .bf16⟩
  | .hbm, ⟨26, _⟩ => ⟨S512x1024, .bf16⟩
  | .hbm, ⟨27, _⟩ => ⟨S256x1024, .bf16⟩
  | .hbm, ⟨28, _⟩ => ⟨S1024x1024, .bf16⟩
  | .hbm, ⟨29, _⟩ => ⟨S8192x1024, .f32⟩
  | .hbm, ⟨30, _⟩ => ⟨S8192x1024, .bf16⟩
  | .hbm, ⟨31, _⟩ => ⟨S8192x128, .i32⟩
  | .hbm, ⟨32, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S4x1024, .f32⟩
  | .local _ .vmem, ⟨5, _⟩ => ⟨S256x768, .f32⟩
  | .local _ .vmem, ⟨6, _⟩ => ⟨S256x768, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S1x256, .f32⟩
  | .local _ .vmem, ⟨14, _⟩ => ⟨S1024x3072, .bf16⟩
  | .local _ .vmem, ⟨15, _⟩ => ⟨S256x1024, .bf16⟩
  | .local _ .vmem, ⟨16, _⟩ => ⟨S512x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x128, .f32⟩
  | .local _ .vmem, ⟨20, _⟩ => ⟨S1x128, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x128, .i32⟩
  | .local _ .vmem, ⟨26, _⟩ => ⟨S256x128, .i32⟩
  | .local _ .vmem, ⟨27, _⟩ => ⟨S256x128, .f32⟩
  | .local _ .vmem, ⟨28, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_call1_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v10_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MrgRefIdeal.lean ====
abbrev S8192x1024 : Shape := ⟨2, ![8192, 1024]⟩
abbrev S8x8x1024 : Shape := ⟨3, ![8, 8, 1024]⟩
abbrev S4x1024 : Shape := ⟨2, ![4, 1024]⟩
abbrev S8192x768 : Shape := ⟨2, ![8192, 768]⟩
abbrev S8192x256 : Shape := ⟨2, ![8192, 256]⟩
abbrev S256 : Shape := ⟨1, ![256]⟩
abbrev S1024x5648 : Shape := ⟨2, ![1024, 5648]⟩
abbrev S256x1024 : Shape := ⟨2, ![256, 1024]⟩
abbrev S512x1024 : Shape := ⟨2, ![512, 1024]⟩
abbrev S1024x1024 : Shape := ⟨2, ![1024, 1024]⟩
abbrev S1024x32 : Shape := ⟨2, ![1024, 32]⟩
abbrev S32 : Shape := ⟨1, ![32]⟩
abbrev S1x1x1024 : Shape := ⟨3, ![1, 1, 1024]⟩
abbrev S1x1024 : Shape := ⟨2, ![1, 1024]⟩
abbrev S4x1x1024 : Shape := ⟨3, ![4, 1, 1024]⟩
abbrev S4096x1024 : Shape := ⟨2, ![4096, 1024]⟩
abbrev S16x256x1024 : Shape := ⟨3, ![16, 256, 1024]⟩
abbrev S4x1024x1024 : Shape := ⟨3, ![4, 1024, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S4x1024x1 : Shape := ⟨3, ![4, 1024, 1]⟩
abbrev S8192x4x64 : Shape := ⟨3, ![8192, 4, 64]⟩
abbrev S4x64 : Shape := ⟨2, ![4, 64]⟩
abbrev S8192x4 : Shape := ⟨2, ![8192, 4]⟩
abbrev S8192x4x1 : Shape := ⟨3, ![8192, 4, 1]⟩
abbrev S1x4x64 : Shape := ⟨3, ![1, 4, 64]⟩
abbrev S1024x3072 : Shape := ⟨2, ![1024, 3072]⟩
abbrev S8192x3072 : Shape := ⟨2, ![8192, 3072]⟩
abbrev S8192x512 : Shape := ⟨2, ![8192, 512]⟩

abbrev nBuf : Space → Nat
  | .hbm => 263
  | .vmem => 0
  | .smem => 0
  | _ => 0

abbrev hbmTy0_0 (i : Nat) : BufTy := match i % 128 with
  | 0 => ⟨S8192x1024, .f32⟩
  | 1 => ⟨S8x8x1024, .f32⟩
  | 2 => ⟨S4x1024, .f32⟩
  | 3 => ⟨S8192x768, .f32⟩
  | 4 => ⟨S8192x256, .f32⟩
  | 5 => ⟨S8192x256, .f32⟩
  | 6 => ⟨S8192x1024, .f32⟩
  | 7 => ⟨S256, .f32⟩
  | 8 => ⟨S1024x5648, .f32⟩
  | 9 => ⟨S256x1024, .f32⟩
  | 10 => ⟨S512x1024, .f32⟩
  | 11 => ⟨S256x1024, .f32⟩
  | 12 => ⟨S1024x1024, .f32⟩
  | 13 => ⟨S1024x32, .f32⟩
  | 14 => ⟨S32, .f32⟩
  | 15 => ⟨S1x1x1024, .f32⟩
  | 16 => ⟨S1x1024, .f32⟩
  | 17 => ⟨S1x1x1024, .f32⟩
  | 18 => ⟨S4x1x1024, .f32⟩
  | 19 => ⟨S4x1024, .f32⟩
  | 20 => ⟨S4x1x1024, .f32⟩
  | 21 => ⟨S1x1x1024, .f32⟩
  | 22 => ⟨S1x1024, .f32⟩
  | 23 => ⟨S1x1x1024, .f32⟩
  | 24 => ⟨S4x1x1024, .f32⟩
  | 25 => ⟨S4x1024, .f32⟩
  | 26 => ⟨S4x1x1024, .f32⟩
  | 27 => ⟨S1x1x1024, .f32⟩
  | 28 => ⟨S1x1024, .f32⟩
  | 29 => ⟨S1x1x1024, .f32⟩
  | 30 => ⟨S4x1x1024, .f32⟩
  | 31 => ⟨S4x1024, .f32⟩
  | 32 => ⟨S4x1x1024, .f32⟩
  | 33 => ⟨S1x1x1024, .f32⟩
  | 34 => ⟨S1x1024, .f32⟩
  | 35 => ⟨S1x1x1024, .f32⟩
  | 36 => ⟨S4x1x1024, .f32⟩
  | 37 => ⟨S4x1024, .f32⟩
  | 38 => ⟨S4x1x1024, .f32⟩
  | 39 => ⟨S1x1x1024, .f32⟩
  | 40 => ⟨S1x1024, .f32⟩
  | 41 => ⟨S1x1x1024, .f32⟩
  | 42 => ⟨S4x1x1024, .f32⟩
  | 43 => ⟨S4x1024, .f32⟩
  | 44 => ⟨S4x1x1024, .f32⟩
  | 45 => ⟨S4096x1024, .f32⟩
  | 46 => ⟨S16x256x1024, .f32⟩
  | 47 => ⟨S4096x1024, .f32⟩
  | 48 => ⟨S4x1024x1024, .f32⟩
  | 49 => ⟨S1x1024, .f32⟩
  | 50 => ⟨S1024, .f32⟩
  | 51 => ⟨S16x256x1024, .f32⟩
  | 52 => ⟨S_, .f32⟩
  | 53 => ⟨S16x256, .f32⟩
  | 54 => ⟨S16x256x1, .f32⟩
  | 55 => ⟨S_, .f32⟩
  | 56 => ⟨S16x256x1, .f32⟩
  | 57 => ⟨S16x256x1, .f32⟩
  | 58 => ⟨S_, .f32⟩
  | 59 => ⟨S16x256x1, .f32⟩
  | 60 => ⟨S16x256x1, .f32⟩
  | 61 => ⟨S16x256x1, .f32⟩
  | 62 => ⟨S16x256x1024, .f32⟩
  | 63 => ⟨S16x256x1024, .f32⟩
  | 64 => ⟨S1x1x1024, .f32⟩
  | 65 => ⟨S16x256x1024, .f32⟩
  | 66 => ⟨S16x256x1024, .f32⟩
  | 67 => ⟨S_, .f32⟩
  | 68 => ⟨S1x1x1024, .f32⟩
  | 69 => ⟨S1x1x1024, .f32⟩
  | 70 => ⟨S16x256x1024, .f32⟩
  | 71 => ⟨S16x256x1024, .f32⟩
  | 72 => ⟨S16x256x1024, .f32⟩
  | 73 => ⟨S16x256x1024, .f32⟩
  | 74 => ⟨S1x1024, .f32⟩
  | 75 => ⟨S1024, .f32⟩
  | 76 => ⟨S4x1024x1024, .f32⟩
  | 77 => ⟨S_, .f32⟩
  | 78 => ⟨S4x1024, .f32⟩
  | 79 => ⟨S4x1024x1, .f32⟩
  | 80 => ⟨S_, .f32⟩
  | 81 => ⟨S4x1024x1, .f32⟩
  | 82 => ⟨S4x1024x1, .f32⟩
  | 83 => ⟨S_, .f32⟩
  | 84 => ⟨S4x1024x1, .f32⟩
  | 85 => ⟨S4x1024x1, .f32⟩
  | 86 => ⟨S4x1024x1, .f32⟩
  | 87 => ⟨S4x1024x1024, .f32⟩
  | 88 => ⟨S4x1024x1024, .f32⟩
  | 89 => ⟨S1x1x1024, .f32⟩
  | 90 => ⟨S4x1024x1024, .f32⟩
  | 91 => ⟨S4x1024x1024, .f32⟩
  | 92 => ⟨S_, .f32⟩
  | 93 => ⟨S4x1x1024, .f32⟩
  | 94 => ⟨S4x1x1024, .f32⟩
  | 95 => ⟨S4x1024x1024, .f32⟩
  | 96 => ⟨S4x1024x1024, .f32⟩
  | 97 => ⟨S4x1024x1024, .f32⟩
  | 98 => ⟨S4x1024x1024, .f32⟩
  | 99 => ⟨S4096x1024, .f32⟩
  | 100 => ⟨S4096x1024, .f32⟩
  | 101 => ⟨S8192x1024, .f32⟩
  | 102 => ⟨S8192x256, .f32⟩
  | 103 => ⟨S8192x4x64, .f32⟩
  | 104 => ⟨S4x64, .f32⟩
  | 105 => ⟨S8192x4x64, .f32⟩
  | 106 => ⟨S_, .f32⟩
  | 107 => ⟨S8192x4, .f32⟩
  | 108 => ⟨S8192x4x1, .f32⟩
  | 109 => ⟨S_, .f32⟩
  | 110 => ⟨S8192x4x1, .f32⟩
  | 111 => ⟨S8192x4x1, .f32⟩
  | 112 => ⟨S_, .f32⟩
  | 113 => ⟨S8192x4x1, .f32⟩
  | 114 => ⟨S8192x4x1, .f32⟩
  | 115 => ⟨S8192x4x1, .f32⟩
  | 116 => ⟨S8192x4x64, .f32⟩
  | 117 => ⟨S8192x4x64, .f32⟩
  | 118 => ⟨S1x4x64, .f32⟩
  | 119 => ⟨S8192x4x64, .f32⟩
  | 120 => ⟨S8192x4x64, .f32⟩
  | 121 => ⟨S8192x256, .f32⟩
  | 122 => ⟨S8192x256, .f32⟩
  | 123 => ⟨S8192x256, .f32⟩
  | 124 => ⟨S8192x256, .f32⟩
  | 125 => ⟨S_, .f32⟩
  | 126 => ⟨S8192x256, .f32⟩
  | 127 => ⟨S8192x256, .f32⟩
  | _ => ⟨S8192x1024, .f32⟩

abbrev hbmTy0_1 (i : Nat) : BufTy := match i % 128 with
  | 0 => ⟨S_, .f32⟩
  | 1 => ⟨S8192x256, .f32⟩
  | 2 => ⟨S8192x256, .f32⟩
  | 3 => ⟨S8192x256, .f32⟩
  | 4 => ⟨S1024x3072, .f32⟩
  | 5 => ⟨S8192x3072, .f32⟩
  | 6 => ⟨S8192x3072, .f32⟩
  | 7 => ⟨S8192x3072, .f32⟩
  | 8 => ⟨S_, .f32⟩
  | 9 => ⟨S8192x3072, .f32⟩
  | 10 => ⟨S8192x3072, .f32⟩
  | 11 => ⟨S_, .f32⟩
  | 12 => ⟨S8192x3072, .f32⟩
  | 13 => ⟨S8192x3072, .f32⟩
  | 14 => ⟨S8192x1024, .f32⟩
  | 15 => ⟨S8192x256, .f32⟩
  | 16 => ⟨S8192x1024, .f32⟩
  | 17 => ⟨S8192x1024, .f32⟩
  | 18 => ⟨S8192x1024, .f32⟩
  | 19 => ⟨S8192x512, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S4096x1024, .f32⟩
  | 29 => ⟨S16x256x1024, .f32⟩
  | 30 => ⟨S4096x1024, .f32⟩
  | 31 => ⟨S4x1024x1024, .f32⟩
  | 32 => ⟨S1x1024, .f32⟩
  | 33 => ⟨S1024, .f32⟩
  | 34 => ⟨S16x256x1024, .f32⟩
  | 35 => ⟨S_, .f32⟩
  | 36 => ⟨S16x256, .f32⟩
  | 37 => ⟨S16x256x1, .f32⟩
  | 38 => ⟨S_, .f32⟩
  | 39 => ⟨S16x256x1, .f32⟩
  | 40 => ⟨S16x256x1, .f32⟩
  | 41 => ⟨S_, .f32⟩
  | 42 => ⟨S16x256x1, .f32⟩
  | 43 => ⟨S16x256x1, .f32⟩
  | 44 => ⟨S16x256x1, .f32⟩
  | 45 => ⟨S16x256x1024, .f32⟩
  | 46 => ⟨S16x256x1024, .f32⟩
  | 47 => ⟨S1x1x1024, .f32⟩
  | 48 => ⟨S16x256x1024, .f32⟩
  | 49 => ⟨S16x256x1024, .f32⟩
  | 50 => ⟨S16x256x1024, .f32⟩
  | 51 => ⟨S16x256x1024, .f32⟩
  | 52 => ⟨S16x256x1024, .f32⟩
  | 53 => ⟨S1x1024, .f32⟩
  | 54 => ⟨S1024, .f32⟩
  | 55 => ⟨S4x1024x1024, .f32⟩
  | 56 => ⟨S_, .f32⟩
  | 57 => ⟨S4x1024, .f32⟩
  | 58 => ⟨S4x1024x1, .f32⟩
  | 59 => ⟨S_, .f32⟩
  | 60 => ⟨S4x1024x1, .f32⟩
  | 61 => ⟨S4x1024x1, .f32⟩
  | 62 => ⟨S_, .f32⟩
  | 63 => ⟨S4x1024x1, .f32⟩
  | 64 => ⟨S4x1024x1, .f32⟩
  | 65 => ⟨S4x1024x1, .f32⟩
  | 66 => ⟨S4x1024x1024, .f32⟩
  | 67 => ⟨S4x1024x1024, .f32⟩
  | 68 => ⟨S1x1x1024, .f32⟩
  | 69 => ⟨S4x1024x1024, .f32⟩
  | 70 => ⟨S4x1024x1024, .f32⟩
  | 71 => ⟨S4x1024x1024, .f32⟩
  | 72 => ⟨S4x1024x1024, .f32⟩
  | 73 => ⟨S4x1024x1024, .f32⟩
  | 74 => ⟨S4096x1024, .f32⟩
  | 75 => ⟨S4096x1024, .f32⟩
  | 76 => ⟨S8192x1024, .f32⟩
  | 77 => ⟨S4096x1024, .f32⟩
  | 78 => ⟨S16x256x1024, .f32⟩
  | 79 => ⟨S4096x1024, .f32⟩
  | 80 => ⟨S4x1024x1024, .f32⟩
  | 81 => ⟨S1x1024, .f32⟩
  | 82 => ⟨S1024, .f32⟩
  | 83 => ⟨S16x256x1024, .f32⟩
  | 84 => ⟨S_, .f32⟩
  | 85 => ⟨S16x256, .f32⟩
  | 86 => ⟨S16x256x1, .f32⟩
  | 87 => ⟨S_, .f32⟩
  | 88 => ⟨S16x256x1, .f32⟩
  | 89 => ⟨S16x256x1, .f32⟩
  | 90 => ⟨S_, .f32⟩
  | 91 => ⟨S16x256x1, .f32⟩
  | 92 => ⟨S16x256x1, .f32⟩
  | 93 => ⟨S16x256x1, .f32⟩
  | 94 => ⟨S16x256x1024, .f32⟩
  | 95 => ⟨S16x256x1024, .f32⟩
  | 96 => ⟨S1x1x1024, .f32⟩
  | 97 => ⟨S16x256x1024, .f32⟩
  | 98 => ⟨S16x256x1024, .f32⟩
  | 99 => ⟨S_, .f32⟩
  | 100 => ⟨S1x1x1024, .f32⟩
  | 101 => ⟨S1x1x1024, .f32⟩
  | 102 => ⟨S16x256x1024, .f32⟩
  | 103 => ⟨S16x256x1024, .f32⟩
  | 104 => ⟨S16x256x1024, .f32⟩
  | 105 => ⟨S16x256x1024, .f32⟩
  | 106 => ⟨S1x1024, .f32⟩
  | 107 => ⟨S1024, .f32⟩
  | 108 => ⟨S4x1024x1024, .f32⟩
  | 109 => ⟨S_, .f32⟩
  | 110 => ⟨S4x1024, .f32⟩
  | 111 => ⟨S4x1024x1, .f32⟩
  | 112 => ⟨S_, .f32⟩
  | 113 => ⟨S4x1024x1, .f32⟩
  | 114 => ⟨S4x1024x1, .f32⟩
  | 115 => ⟨S_, .f32⟩
  | 116 => ⟨S4x1024x1, .f32⟩
  | 117 => ⟨S4x1024x1, .f32⟩
  | 118 => ⟨S4x1024x1, .f32⟩
  | 119 => ⟨S4x1024x1024, .f32⟩
  | 120 => ⟨S4x1024x1024, .f32⟩
  | 121 => ⟨S1x1x1024, .f32⟩
  | 122 => ⟨S4x1024x1024, .f32⟩
  | 123 => ⟨S4x1024x1024, .f32⟩
  | 124 => ⟨S_, .f32⟩
  | 125 => ⟨S4x1x1024, .f32⟩
  | 126 => ⟨S4x1x1024, .f32⟩
  | 127 => ⟨S4x1024x1024, .f32⟩
  | _ => ⟨S8192x1024, .f32⟩

abbrev hbmTy0_2 (i : Nat) : BufTy := match i % 128 with
  | 0 => ⟨S4x1024x1024, .f32⟩
  | 1 => ⟨S4x1024x1024, .f32⟩
  | 2 => ⟨S4x1024x1024, .f32⟩
  | 3 => ⟨S4096x1024, .f32⟩
  | 4 => ⟨S4096x1024, .f32⟩
  | 5 => ⟨S8192x1024, .f32⟩
  | 6 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_cst_0 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_3 : Ref sig .tc := ⟨.hbm, 77, rfl⟩
abbrev main_v58 : Ref sig .tc := ⟨.hbm, 78, rfl⟩
abbrev main_v59 : Ref sig .tc := ⟨.hbm, 79, rfl⟩
abbrev main_cst_4 : Ref sig .tc := ⟨.hbm, 80, rfl⟩
abbrev main_v60 : Ref sig .tc := ⟨.hbm, 81, rfl⟩
abbrev main_v61 : Ref sig .tc := ⟨.hbm, 82, rfl⟩
abbrev main_cst_5 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_6 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_7 : Ref sig .tc := ⟨.hbm, 106, rfl⟩
abbrev main_v83 : Ref sig .tc := ⟨.hbm, 107, rfl⟩
abbrev main_v84 : Ref sig .tc := ⟨.hbm, 108, rfl⟩
abbrev main_cst_8 : Ref sig .tc := ⟨.hbm, 109, rfl⟩
abbrev main_v85 : Ref sig .tc := ⟨.hbm, 110, rfl⟩
abbrev main_v86 : Ref sig .tc := ⟨.hbm, 111, rfl⟩
abbrev main_cst_9 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_10 : Ref sig .tc := ⟨.hbm, 125, rfl⟩
abbrev main_v99 : Ref sig .tc := ⟨.hbm, 126, rfl⟩
abbrev main_v100 : Ref sig .tc := ⟨.hbm, 127, rfl⟩
abbrev main_cst_11 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_12 : Ref sig .tc := ⟨.hbm, 136, rfl⟩
abbrev main_v108 : Ref sig .tc := ⟨.hbm, 137, rfl⟩
abbrev main_v109 : Ref sig .tc := ⟨.hbm, 138, rfl⟩
abbrev main_cst_13 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_14 : Ref sig .tc := ⟨.hbm, 163, rfl⟩
abbrev main_v133 : Ref sig .tc := ⟨.hbm, 164, rfl⟩
abbrev main_v134 : Ref sig .tc := ⟨.hbm, 165, rfl⟩
abbrev main_cst_15 : Ref sig .tc := ⟨.hbm, 166, rfl⟩
abbrev main_v135 : Ref sig .tc := ⟨.hbm, 167, rfl⟩
abbrev main_v136 : Ref sig .tc := ⟨.hbm, 168, rfl⟩
abbrev main_cst_16 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_17 : Ref sig .tc := ⟨.hbm, 184, rfl⟩
abbrev main_v151 : Ref sig .tc := ⟨.hbm, 185, rfl⟩
abbrev main_v152 : Ref sig .tc := ⟨.hbm, 186, rfl⟩
abbrev main_cst_18 : Ref sig .tc := ⟨.hbm, 187, rfl⟩
abbrev main_v153 : Ref sig .tc := ⟨.hbm, 188, rfl⟩
abbrev main_v154 : Ref sig .tc := ⟨.hbm, 189, rfl⟩
abbrev main_cst_19 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_cst_20 : Ref sig .tc := ⟨.hbm, 212, rfl⟩
abbrev main_v176 : Ref sig .tc := ⟨.hbm, 213, rfl⟩
abbrev main_v177 : Ref sig .tc := ⟨.hbm, 214, rfl⟩
abbrev main_cst_21 : Ref sig .tc := ⟨.hbm, 215, rfl⟩
abbrev main_v178 : Ref sig .tc := ⟨.hbm, 216, rfl⟩
abbrev main_v179 : Ref sig .tc := ⟨.hbm, 217, rfl⟩
abbrev main_cst_22 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_cst_23 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_cst_24 : Ref sig .tc := ⟨.hbm, 237, rfl⟩
abbrev main_v197 : Ref sig .tc := ⟨.hbm, 238, rfl⟩
abbrev main_v198 : Ref sig .tc := ⟨.hbm, 239, rfl⟩
abbrev main_cst_25 : Ref sig .tc := ⟨.hbm, 240, rfl⟩
abbrev main_v199 : Ref sig .tc := ⟨.hbm, 241, rfl⟩
abbrev main_v200 : Ref sig .tc := ⟨.hbm, 242, rfl⟩
abbrev main_cst_26 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_cst_27 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩

abbrev nD : Nat := 1
abbrev τ : Topo := Topo.v7x

variable {F : FTy → Type} [FloatOps F]
-- ==== Gqa.lean ====
abbrev S8192x768 : Shape := ⟨2, ![8192, 768]⟩
abbrev S4x256x2x64 : Shape := ⟨4, ![4, 256, 2, 64]⟩
abbrev S2x64 : Shape := ⟨2, ![2, 64]⟩
abbrev S1024x2x16 : Shape := ⟨3, ![1024, 2, 16]⟩
abbrev S1024x1x16 : Shape := ⟨3, ![1024, 1, 16]⟩
abbrev S1024x16 : Shape := ⟨2, ![1024, 16]⟩
abbrev S1024x64 : Shape := ⟨2, ![1024, 64]⟩
abbrev S4x256x128 : Shape := ⟨3, ![4, 256, 128]⟩
abbrev S1x1024x1x64 : Shape := ⟨4, ![1, 1024, 1, 64]⟩
abbrev S1x1024x8x64 : Shape := ⟨4, ![1, 1024, 8, 64]⟩
abbrev S1024x512 : Shape := ⟨2, ![1024, 512]⟩
abbrev S1x1024x2x64 : Shape := ⟨4, ![1, 1024, 2, 64]⟩
abbrev S1024x128 : Shape := ⟨2, ![1024, 128]⟩
abbrev S4096x512 : Shape := ⟨2, ![4096, 512]⟩
abbrev S256x768 : Shape := ⟨2, ![256, 768]⟩
abbrev S1024x768 : Shape := ⟨2, ![1024, 768]⟩
abbrev S1x256x128 : Shape := ⟨3, ![1, 256, 128]⟩
abbrev S256x512 : Shape := ⟨2, ![256, 512]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S256x128 : Shape := ⟨2, ![256, 128]⟩
abbrev S256x1024 : Shape := ⟨2, ![256, 1024]⟩
abbrev S256x256 : Shape := ⟨2, ![256, 256]⟩

abbrev nBuf : Space → Nat
  | .hbm => 41
  | .vmem => 17
  | .smem => 0
  | _ => 0

abbrev bufTy : (tb : Table) → Fin (tcTables nBuf tb) → BufTy
  | .hbm, ⟨0, _⟩ => ⟨S8192x768, .f32⟩
  | .hbm, ⟨1, _⟩ => ⟨S4x256x2x64, .f32⟩
  | .hbm, ⟨2, _⟩ => ⟨S4x256x2x64, .f32⟩
  | .hbm, ⟨3, _⟩ => ⟨S2x64, .f32⟩
  | .hbm, ⟨4, _⟩ => ⟨S1024x2x16, .f32⟩
  | .hbm, ⟨5, _⟩ => ⟨S1024x2x16, .f32⟩
  | .hbm, ⟨6, _⟩ => ⟨S1024x1x16, .f32⟩
  | .hbm, ⟨7, _⟩ => ⟨S1024x16, .f32⟩
  | .hbm, ⟨8, _⟩ => ⟨S1024x1x16, .f32⟩
  | .hbm, ⟨9, _⟩ => ⟨S1024x16, .f32⟩
  | .hbm, ⟨10, _⟩ => ⟨S1024x1x16, .f32⟩
  | .hbm, ⟨11, _⟩ => ⟨S1024x16, .f32⟩
  | .hbm, ⟨12, _⟩ => ⟨S1024x1x16, .f32⟩
  | .hbm, ⟨13, _⟩ => ⟨S1024x16, .f32⟩
  | .hbm, ⟨14, _⟩ => ⟨S1024x64, .f32⟩
  | .hbm, ⟨15, _⟩ => ⟨S1024x1x16, .f32⟩
  | .hbm, ⟨16, _⟩ => ⟨S1024x16, .f32⟩
  | .hbm, ⟨17, _⟩ => ⟨S1024x16, .f32⟩
  | .hbm, ⟨18, _⟩ => ⟨S1024x1x16, .f32⟩
  | .hbm, ⟨19, _⟩ => ⟨S1024x16, .f32⟩
  | .hbm, ⟨20, _⟩ => ⟨S1024x1x16, .f32⟩
  | .hbm, ⟨21, _⟩ => ⟨S1024x16, .f32⟩
  | .hbm, ⟨22, _⟩ => ⟨S1024x16, .f32⟩
  | .hbm, ⟨23, _⟩ => ⟨S1024x1x16, .f32⟩
  | .hbm, ⟨24, _⟩ => ⟨S1024x16, .f32⟩
  | .hbm, ⟨25, _⟩ => ⟨S1024x64, .f32⟩
  | .hbm, ⟨26, _⟩ => ⟨S4x256x128, .f32⟩
  | .hbm, ⟨27, _⟩ => ⟨S4x256x128, .f32⟩
  | .hbm, ⟨28, _⟩ => ⟨S1x1024x1x64, .f32⟩
  | .hbm, ⟨29, _⟩ => ⟨S1x1024x8x64, .f32⟩
  | .hbm, ⟨30, _⟩ => ⟨S1024x512, .f32⟩
  | .hbm, ⟨31, _⟩ => ⟨S1x1024x1x64, .f32⟩
  | .hbm, ⟨32, _⟩ => ⟨S1x1024x8x64, .f32⟩
  | .hbm, ⟨33, _⟩ => ⟨S1024x512, .f32⟩
  | .hbm, ⟨34, _⟩ => ⟨S1x1024x1x64, .f32⟩
  | .hbm, ⟨35, _⟩ => ⟨S1x1024x2x64, .f32⟩
  | .hbm, ⟨36, _⟩ => ⟨S1024x128, .f32⟩
  | .hbm, ⟨37, _⟩ => ⟨S1x1024x1x64, .f32⟩
  | .hbm, ⟨38, _⟩ => ⟨S1x1024x2x64, .f32⟩
  | .hbm, ⟨39, _⟩ => ⟨S1024x128, .f32⟩
  | .hbm, ⟨40, _⟩ => ⟨S4096x512, .f32⟩
  | .local _ .vmem, ⟨0, _⟩ => ⟨S256x768, .f32⟩
  | .local _ .vmem, ⟨1, _⟩ => ⟨S256x768, .f32⟩
  | .local _ .vmem, ⟨2, _⟩ => ⟨S1024x768, .f32⟩
  | .local _ .vmem, ⟨3, _⟩ => ⟨S1024x768, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S2x64, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1024x128, .f32⟩
  | .local _ .vmem, ⟨14, _⟩ => ⟨S1024x128, .f32⟩
  | .local _ .vmem, ⟨15, _⟩ => ⟨S256x512, .f32⟩
  | .local _ .vmem, ⟨16, _⟩ => ⟨S256x512, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GqaRefIdeal.lean ====
abbrev S8192x768 : Shape := ⟨2, ![8192, 768]⟩
abbrev S4x256x2x64 : Shape := ⟨4, ![4, 256, 2, 64]⟩
abbrev S2x64 : Shape := ⟨2, ![2, 64]⟩
abbrev S1024x2x16 : Shape := ⟨3, ![1024, 2, 16]⟩
abbrev S4096x768 : Shape := ⟨2, ![4096, 768]⟩
abbrev S4096x512 : Shape := ⟨2, ![4096, 512]⟩
abbrev S4x1024x8x64 : Shape := ⟨4, ![4, 1024, 8, 64]⟩
abbrev S4096x128 : Shape := ⟨2, ![4096, 128]⟩
abbrev S4x1024x2x64 : Shape := ⟨4, ![4, 1024, 2, 64]⟩
abbrev S1x64 : Shape := ⟨2, ![1, 64]⟩
abbrev S64 : Shape := ⟨1, ![64]⟩
abbrev S_ : Shape := ⟨0, ![]⟩
abbrev S4x1024x8 : Shape := ⟨3, ![4, 1024, 8]⟩
abbrev S4x1024x8x1 : Shape := ⟨4, ![4, 1024, 8, 1]⟩
abbrev S1x1x1x64 : Shape := ⟨4, ![1, 1, 1, 64]⟩
abbrev S1x1024x1x2x16 : Shape := ⟨5, ![1, 1024, 1, 2, 16]⟩
abbrev S4x1024x8x2x2x16 : Shape := ⟨6, ![4, 1024, 8, 2, 2, 16]⟩
abbrev S4x1024x8x2x1x16 : Shape := ⟨6, ![4, 1024, 8, 2, 1, 16]⟩
abbrev S4x1024x8x2x16 : Shape := ⟨5, ![4, 1024, 8, 2, 16]⟩
abbrev S4x1024x2 : Shape := ⟨3, ![4, 1024, 2]⟩
abbrev S4x1024x2x1 : Shape := ⟨4, ![4, 1024, 2, 1]⟩
abbrev S4x1024x2x2x2x16 : Shape := ⟨6, ![4, 1024, 2, 2, 2, 16]⟩
abbrev S4x1024x2x2x1x16 : Shape := ⟨6, ![4, 1024, 2, 2, 1, 16]⟩
abbrev S4x1024x2x2x16 : Shape := ⟨5, ![4, 1024, 2, 2, 16]⟩
abbrev S4x1280x2x64 : Shape := ⟨4, ![4, 1280, 2, 64]⟩
abbrev S4x1024x2x4x64 : Shape := ⟨5, ![4, 1024, 2, 4, 64]⟩
abbrev S4x2x1280x1024x4 : Shape := ⟨5, ![4, 2, 1280, 1024, 4]⟩
abbrev S4x2x4x1024x1280 : Shape := ⟨5, ![4, 2, 4, 1024, 1280]⟩
abbrev S4x2x4x1024 : Shape := ⟨4, ![4, 2, 4, 1024]⟩
abbrev S4x2x4x1024x1 : Shape := ⟨5, ![4, 2, 4, 1024, 1]⟩
abbrev S4x2x64x4x1024 : Shape := ⟨5, ![4, 2, 64, 4, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S4x256x2x64, .f32⟩
  | .hbm, ⟨2, _⟩ => ⟨S4x256x2x64, .f32⟩
  | .hbm, ⟨3, _⟩ => ⟨S2x64, .f32⟩
  | .hbm, ⟨4, _⟩ => ⟨S1024x2x16, .f32⟩
  | .hbm, ⟨5, _⟩ => ⟨S1024x2x16, .f32⟩
  | .hbm, ⟨6, _⟩ => ⟨S4096x768, .f32⟩
  | .hbm, ⟨7, _⟩ => ⟨S4096x512, .f32⟩
  | .hbm, ⟨8, _⟩ => ⟨S4x1024x8x64, .f32⟩
  | .hbm, ⟨9, _⟩ => ⟨S4096x128, .f32⟩
  | .hbm, ⟨10, _⟩ => ⟨S4x1024x2x64, .f32⟩
  | .hbm, ⟨11, _⟩ => ⟨S4096x128, .f32⟩
  | .hbm, ⟨12, _⟩ => ⟨S4x1024x2x64, .f32⟩
  | .hbm, ⟨13, _⟩ => ⟨S1x64, .f32⟩
  | .hbm, ⟨14, _⟩ => ⟨S64, .f32⟩
  | .hbm, ⟨15, _⟩ => ⟨S4x1024x8x64, .f32⟩
  | .hbm, ⟨16, _⟩ => ⟨S_, .f32⟩
  | .hbm, ⟨17, _⟩ => ⟨S4x1024x8, .f32⟩
  | .hbm, ⟨18, _⟩ => ⟨S4x1024x8x1, .f32⟩
  | .hbm, ⟨19, _⟩ => ⟨S_, .f32⟩
  | .hbm, ⟨20, _⟩ => ⟨S4x1024x8x1, .f32⟩
  | .hbm, ⟨21, _⟩ => ⟨S4x1024x8x1, .f32⟩
  | .hbm, ⟨22, _⟩ => ⟨S_, .f32⟩
  | .hbm, ⟨23, _⟩ => ⟨S4x1024x8x1, .f32⟩
  | .hbm, ⟨24, _⟩ => ⟨S4x1024x8x1, .f32⟩
  | .hbm, ⟨25, _⟩ => ⟨S4x1024x8x1, .f32⟩
  | .hbm, ⟨26, _⟩ => ⟨S4x1024x8x64, .f32⟩
  | .hbm, ⟨27, _⟩ => ⟨S4x1024x8x64, .f32⟩
  | .hbm, ⟨28, _⟩ => ⟨S1x1x1x64, .f32⟩
  | .hbm, ⟨29, _⟩ => ⟨S4x1024x8x64, .f32⟩
  | .hbm, ⟨30, _⟩ => ⟨S4x1024x8x64, .f32⟩
  | .hbm, ⟨31, _⟩ => ⟨S1x1024x1x2x16, .f32⟩
  | .hbm, ⟨32, _⟩ => ⟨S1x1024x1x2x16, .f32⟩
  | .hbm, ⟨33, _⟩ => ⟨S4x1024x8x2x2x16, .f32⟩
  | .hbm, ⟨34, _⟩ => ⟨S4x1024x8x2x1x16, .f32⟩
  | .hbm, ⟨35, _⟩ => ⟨S4x1024x8x2x16, .f32⟩
  | .hbm, ⟨36, _⟩ => ⟨S4x1024x8x2x1x16, .f32⟩
  | .hbm, ⟨37, _⟩ => ⟨S4x1024x8x2x16, .f32⟩
  | .hbm, ⟨38, _⟩ => ⟨S4x1024x8x2x16, .f32⟩
  | .hbm, ⟨39, _⟩ => ⟨S4x1024x8x2x16, .f32⟩
  | .hbm, ⟨40, _⟩ => ⟨S4x1024x8x2x16, .f32⟩
  | .hbm, ⟨41, _⟩ => ⟨S4x1024x8x2x16, .f32⟩
  | .hbm, ⟨42, _⟩ => ⟨S4x1024x8x2x16, .f32⟩
  | .hbm, ⟨43, _⟩ => ⟨S4x1024x8x2x16, .f32⟩
  | .hbm, ⟨44, _⟩ => ⟨S4x1024x8x2x16, .f32⟩
  | .hbm, ⟨45, _⟩ => ⟨S4x1024x8x2x16, .f32⟩
  | .hbm, ⟨46, _⟩ => ⟨S4x1024x8x2x16, .f32⟩
  | .hbm, ⟨47, _⟩ => ⟨S4x1024x8x2x16, .f32⟩
  | .hbm, ⟨48, _⟩ => ⟨S4x1024x8x2x1x16, .f32⟩
  | .hbm, ⟨49, _⟩ => ⟨S4x1024x8x2x1x16, .f32⟩
  | .hbm, ⟨50, _⟩ => ⟨S4x1024x8x2x2x16, .f32⟩
  | .hbm, ⟨51, _⟩ => ⟨S4x1024x8x64, .f32⟩
  | .hbm, ⟨52, _⟩ => ⟨S1x64, .f32⟩
  | .hbm, ⟨53, _⟩ => ⟨S64, .f32⟩
  | .hbm, ⟨54, _⟩ => ⟨S4x1024x2x64, .f32⟩
  | .hbm, ⟨55, _⟩ => ⟨S_, .f32⟩
  | .hbm, ⟨56, _⟩ => ⟨S4x1024x2, .f32⟩
  | .hbm, ⟨57, _⟩ => ⟨S4x1024x2x1, .f32⟩
  | .hbm, ⟨58, _⟩ => ⟨S_, .f32⟩
  | .hbm, ⟨59, _⟩ => ⟨S4x1024x2x1, .f32⟩
  | .hbm, ⟨60, _⟩ => ⟨S4x1024x2x1, .f32⟩
  | .hbm, ⟨61, _⟩ => ⟨S_, .f32⟩
  | .hbm, ⟨62, _⟩ => ⟨S4x1024x2x1, .f32⟩
  | .hbm, ⟨63, _⟩ => ⟨S4x1024x2x1, .f32⟩
  | .hbm, ⟨64, _⟩ => ⟨S4x1024x2x1, .f32⟩
  | .hbm, ⟨65, _⟩ => ⟨S4x1024x2x64, .f32⟩
  | .hbm, ⟨66, _⟩ => ⟨S4x1024x2x64, .f32⟩
  | .hbm, ⟨67, _⟩ => ⟨S1x1x1x64, .f32⟩
  | .hbm, ⟨68, _⟩ => ⟨S4x1024x2x64, .f32⟩
  | .hbm, ⟨69, _⟩ => ⟨S4x1024x2x64, .f32⟩
  | .hbm, ⟨70, _⟩ => ⟨S1x1024x1x2x16, .f32⟩
  | .hbm, ⟨71, _⟩ => ⟨S1x1024x1x2x16, .f32⟩
  | .hbm, ⟨72, _⟩ => ⟨S4x1024x2x2x2x16, .f32⟩
  | .hbm, ⟨73, _⟩ => ⟨S4x1024x2x2x1x16, .f32⟩
  | .hbm, ⟨74, _⟩ => ⟨S4x1024x2x2x16, .f32⟩
  | .hbm, ⟨75, _⟩ => ⟨S4x1024x2x2x1x16, .f32⟩
  | .hbm, ⟨76, _⟩ => ⟨S4x1024x2x2x16, .f32⟩
  | .hbm, ⟨77, _⟩ => ⟨S4x1024x2x2x16, .f32⟩
  | .hbm, ⟨78, _⟩ => ⟨S4x1024x2x2x16, .f32⟩
  | .hbm, ⟨79, _⟩ => ⟨S4x1024x2x2x16, .f32⟩
  | .hbm, ⟨80, _⟩ => ⟨S4x1024x2x2x16, .f32⟩
  | .hbm, ⟨81, _⟩ => ⟨S4x1024x2x2x16, .f32⟩
  | .hbm, ⟨82, _⟩ => ⟨S4x1024x2x2x16, .f32⟩
  | .hbm, ⟨83, _⟩ => ⟨S4x1024x2x2x16, .f32⟩
  | .hbm, ⟨84, _⟩ => ⟨S4x1024x2x2x16, .f32⟩
  | .hbm, ⟨85, _⟩ => ⟨S4x1024x2x2x16, .f32⟩
  | .hbm, ⟨86, _⟩ => ⟨S4x1024x2x2x16, .f32⟩
  | .hbm, ⟨87, _⟩ => ⟨S4x1024x2x2x1x16, .f32⟩
  | .hbm, ⟨88, _⟩ => ⟨S4x1024x2x2x1x16, .f32⟩
  | .hbm, ⟨89, _⟩ => ⟨S4x1024x2x2x2x16, .f32⟩
  | .hbm, ⟨90, _⟩ => ⟨S4x1024x2x64, .f32⟩
  | .hbm, ⟨91, _⟩ => ⟨S4x1280x2x64, .f32⟩
  | .hbm, ⟨92, _⟩ => ⟨S4x1280x2x64, .f32⟩
  | .hbm, ⟨93, _⟩ => ⟨S4x1024x2x4x64, .f32⟩
  | .hbm, ⟨94, _⟩ => ⟨S4x2x1280x1024x4, .f32⟩
  | .hbm, ⟨95, _⟩ => ⟨S4x2x4x1024x1280, .f32⟩
  | .hbm, ⟨96, _⟩ => ⟨S_, .f32⟩
  | .hbm, ⟨97, _⟩ => ⟨S4x2x4x1024x1280, .f32⟩
  | .hbm, ⟨98, _⟩ => ⟨S4x2x4x1024x1280, .f32⟩
  | .hbm, ⟨99, _⟩ => ⟨S_, .f32⟩
  | .hbm, ⟨100, _⟩ => ⟨S4x2x4x1024, .f32⟩
  | .hbm, ⟨101, _⟩ => ⟨S_, .f32⟩
  | .hbm, ⟨102, _⟩ => ⟨S4x2x4x1024, .f32⟩
  | .hbm, ⟨103, _⟩ => ⟨S4x2x4x1024, .f32⟩
  | .hbm, ⟨104, _⟩ => ⟨S4x2x4x1024x1, .f32⟩
  | .hbm, ⟨105, _⟩ => ⟨S4x2x4x1024x1280, .f32⟩
  | .hbm, ⟨106, _⟩ => ⟨S4x2x4x1024x1280, .f32⟩
  | .hbm, ⟨107, _⟩ => ⟨S4x2x4x1024x1280, .f32⟩
  | .hbm, ⟨108, _⟩ => ⟨S_, .f32⟩
  | .hbm, ⟨109, _⟩ => ⟨S4x2x4x1024, .f32⟩
  | .hbm, ⟨110, _⟩ => ⟨S4x2x4x1024x1, .f32⟩
  | .hbm, ⟨111, _⟩ => ⟨S4x2x4x1024x1280, .f32⟩
  | .hbm, ⟨112, _⟩ => ⟨S4x2x4x1024x1280, .f32⟩
  | .hbm, ⟨113, _⟩ => ⟨S4x2x64x4x1024, .f32⟩
  | .hbm, ⟨114, _⟩ => ⟨S4x1024x2x4x64, .f32⟩
  | .hbm, ⟨115, _⟩ => ⟨S4096x512, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_5 : Ref sig .tc := ⟨.hbm, 96, rfl⟩
abbrev main_v84 : Ref sig .tc := ⟨.hbm, 97, rfl⟩
abbrev main_v85 : Ref sig .tc := ⟨.hbm, 98, rfl⟩
abbrev main_cst_6 : Ref sig .tc := ⟨.hbm, 99, rfl⟩
abbrev main_v86 : Ref sig .tc := ⟨.hbm, 100, rfl⟩
abbrev main_cst_7 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_8 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩

abbrev nD : Nat := 1
abbrev τ : Topo := Topo.v7x

variable {F : FTy → Type} [FloatOps F]
-- ==== Mod.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x8 : Shape := ⟨2, ![1024, 8]⟩
abbrev S2x1x6144 : Shape := ⟨3, ![2, 1, 6144]⟩
abbrev S2x8x6144 : Shape := ⟨3, ![2, 8, 6144]⟩
abbrev S1x1024x512 : Shape := ⟨3, ![1, 1024, 512]⟩
abbrev S1x1x512 : Shape := ⟨3, ![1, 1, 512]⟩
abbrev S1x8x512 : Shape := ⟨3, ![1, 8, 512]⟩
abbrev S8x512 : Shape := ⟨2, ![8, 512]⟩
abbrev S1x64x512 : Shape := ⟨3, ![1, 64, 512]⟩
abbrev S64x512 : Shape := ⟨2, ![64, 512]⟩
abbrev S64x8 : Shape := ⟨2, ![64, 8]⟩
abbrev S64x1 : Shape := ⟨2, ![64, 1]⟩
abbrev S8x8x512 : Shape := ⟨3, ![8, 8, 512]⟩
abbrev S512 : Shape := ⟨1, ![512]⟩
abbrev S1x512 : Shape := ⟨2, ![1, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1024x8, .f32⟩
  | .hbm, ⟨9, _⟩ => ⟨S2x1x6144, .f32⟩
  | .hbm, ⟨10, _⟩ => ⟨S2x8x6144, .f32⟩
  | .local _ .vmem, ⟨0, _⟩ => ⟨S1024x8, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c64_i32 : BitVec 32 := 64#32
  let v26 : BitVec 32 := Scalar.muli arg6 c64_i32
  v26
def k0_off1 (k0_t1 : Fin k0_t1_loop.trips) : Fin 3 → Nat :=
  let c0_16 : Index := 0#32
  let c0_i32 : BitVec 32 := 0#32
  let c1_i32 : BitVec 32 := 1#32
  let arg6 : BitVec 32 := Scf.iv c0_i32 c1_i32 k0_t1
  let c64_i32 : BitVec 32 := 64#32
  let v26 : BitVec 32 := Scalar.muli arg6 c64_i32
  let v27 : BitVec 32 := v26
  let v28 : Index := Scalar.indexCast v27
  let c0_17 : Index := 0#32
  ![0, v28.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c64_i32 : BitVec 32 := 64#32
  let v26 : BitVec 32 := Scalar.muli arg6 c64_i32
  let v27 : BitVec 32 := v26
  let v31 : Index := Scalar.indexCast v27
  let c0_18 : Index := 0#32
  ![v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S8x6144 : Shape := ⟨2, ![8, 6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x1024x6144, .f32⟩
  | .hbm, ⟨9, _⟩ => ⟨S1024x6144, .f32⟩
  | .hbm, ⟨10, _⟩ => ⟨S1x6144, .f32⟩
  | .hbm, ⟨11, _⟩ => ⟨S6144, .f32⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S1x1024x6144, .f32⟩
  | .hbm, ⟨26, _⟩ => ⟨S1024x6144, .f32⟩
  | .hbm, ⟨27, _⟩ => ⟨S1x6144, .f32⟩
  | .hbm, ⟨28, _⟩ => ⟨S6144, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S8x6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Nbr.lean ====
abbrev S8192x768 : Shape := ⟨2, ![8192, 768]⟩
abbrev S4x256x4x64 : Shape := ⟨4, ![4, 256, 4, 64]⟩
abbrev S4x8x64x512 : Shape := ⟨4, ![4, 8, 64, 512]⟩
abbrev S4x256x256 : Shape := ⟨3, ![4, 256, 256]⟩
abbrev S4096x256 : Shape := ⟨2, ![4096, 256]⟩
abbrev S64x768 : Shape := ⟨2, ![64, 768]⟩
abbrev S1024x768 : Shape := ⟨2, ![1024, 768]⟩
abbrev S1x256x256 : Shape := ⟨3, ![1, 256, 256]⟩
abbrev S4x1x64x512 : Shape := ⟨4, ![4, 1, 64, 512]⟩
abbrev S64x256 : Shape := ⟨2, ![64, 256]⟩
abbrev S512x256 : Shape := ⟨2, ![512, 256]⟩
abbrev S256x256 : Shape := ⟨2, ![256, 256]⟩
abbrev S64x64 : Shape := ⟨2, ![64, 64]⟩
abbrev S512x64 : Shape := ⟨2, ![512, 64]⟩
abbrev S64x512 : Shape := ⟨2, ![64, 512]⟩
abbrev S1x1x64x512 : Shape := ⟨4, ![1, 1, 64, 512]⟩
abbrev S256x64 : Shape := ⟨2, ![256, 64]⟩
abbrev S64 : Shape := ⟨1, ![64]⟩
abbrev S64x1 : Shape := ⟨2, ![64, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x768, .f32⟩
  | .hbm, ⟨1, _⟩ => ⟨S4x256x4x64, .f32⟩
  | .hbm, ⟨2, _⟩ => ⟨S4x256x4x64, .f32⟩
  | .hbm, ⟨3, _⟩ => ⟨S4x8x64x512, .f32⟩
  | .hbm, ⟨4, _⟩ => ⟨S4x256x256, .f32⟩
  | .hbm, ⟨5, _⟩ => ⟨S4x256x256, .f32⟩
  | .hbm, ⟨6, _⟩ => ⟨S4096x256, .f32⟩
  | .local _ .vmem, ⟨0, _⟩ => ⟨S64x768, .f32⟩
  | .local _ .vmem, ⟨1, _⟩ => ⟨S64x768, .f32⟩
  | .local _ .vmem, ⟨2, _⟩ => ⟨S1024x768, .f32⟩
  | .local _ .vmem, ⟨3, _⟩ => ⟨S1024x768, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S4x1x64x512, .f32⟩
  | .local _ .vmem, ⟨9, _⟩ => ⟨S4x1x64x512, .f32⟩
  | .local _ .vmem, ⟨10, _⟩ => ⟨S64x256, .f32⟩
  | .local _ .vmem, ⟨11, _⟩ => ⟨S64x256, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  v3
def k0_off1 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v5 : Index := Scalar.indexCast v4
  let c256 : Index := 256#32
  ![v5.toNat, 256]
def k0_off2 (i : grid0.Coords) : Fin 2 → Nat :=
  let c8_i32 : BitVec 32 := 8#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c8_i32 v1
  let c64_i32 : BitVec 32 := 64#32
  let v3 : BitVec 32 := Scalar.muli v2 c64_i32
  let v4 : BitVec 32 := v3
  let v7 : Index := Scalar.indexCast v4
  let c512 : Index := 512#32
  ![v7.toNat, 512]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c64_i32 : BitVec 32 := 64#32
  let v1 : BitVec 32 := Scalar.addi c64_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c8_i32 : BitVec 32 := 8#32
  let v1 : BitVec 32 := Scalar.maxsi c0_i32 v0
  let v2 : BitVec 32 := Scalar.minsi c8_i32 v1
  let v3 : BitVec 32 := Scalar.subi arg1 v2
  let c0_i32_0 : BitVec 32 := 0#32
  let c0_i32_1 : BitVec 32 := 0#32
  let c0_i32_2 : BitVec 32 := 0#32
  let c0_i32_3 : BitVec 32 := 0#32
  ![c0_i32_0.toNat, v3.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NbrRefIdeal.lean ====
abbrev S8192x768 : Shape := ⟨2, ![8192, 768]⟩
abbrev S4x256x4x64 : Shape := ⟨4, ![4, 256, 4, 64]⟩
abbrev S4x8x64x512 : Shape := ⟨4, ![4, 8, 64, 512]⟩
abbrev S4096x768 : Shape := ⟨2, ![4096, 768]⟩
abbrev S4096x256 : Shape := ⟨2, ![4096, 256]⟩
abbrev S4x16x64x4x64 : Shape := ⟨5, ![4, 16, 64, 4, 64]⟩
abbrev S16 : Shape := ⟨1, ![16]⟩
abbrev S_ : Shape := ⟨0, ![]⟩
abbrev S16x1 : Shape := ⟨2, ![16, 1]⟩
abbrev S8 : Shape := ⟨1, ![8]⟩
abbrev S1x8 : Shape := ⟨2, ![1, 8]⟩
abbrev S16x8 : Shape := ⟨2, ![16, 8]⟩
abbrev S16x8x1 : Shape := ⟨3, ![16, 8, 1]⟩
abbrev S4x16x8x64x4x64 : Shape := ⟨6, ![4, 16, 8, 64, 4, 64]⟩
abbrev S4x16x512x4x64 : Shape := ⟨5, ![4, 16, 512, 4, 64]⟩
abbrev S4x16x64x512 : Shape := ⟨4, ![4, 16, 64, 512]⟩
abbrev S4x4x16x64x512 : Shape := ⟨5, ![4, 4, 16, 64, 512]⟩
abbrev S1x4x16x64x512 : Shape := ⟨5, ![1, 4, 16, 64, 512]⟩
abbrev S4x4x16x64x256 : Shape := ⟨5, ![4, 4, 16, 64, 256]⟩
abbrev S4x4x16x64x768 : Shape := ⟨5, ![4, 4, 16, 64, 768]⟩
abbrev S4x4x16x64 : Shape := ⟨4, ![4, 4, 16, 64]⟩
abbrev S4x4x16x64x1 : Shape := ⟨5, ![4, 4, 16, 64, 1]⟩
abbrev S4x16x4x64x64 : Shape := ⟨5, ![4, 16, 4, 64, 64]⟩
abbrev S4x4x64x16x64 : Shape := ⟨5, ![4, 4, 64, 16, 64]⟩

abbrev nBuf : Space → Nat
  | .hbm => 72
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S4x256x4x64, .f32⟩
  | .hbm, ⟨2, _⟩ => ⟨S4x256x4x64, .f32⟩
  | .hbm, ⟨3, _⟩ => ⟨S4x8x64x512, .f32⟩
  | .hbm, ⟨4, _⟩ => ⟨S4096x768, .f32⟩
  | .hbm, ⟨5, _⟩ => ⟨S4096x256, .f32⟩
  | .hbm, ⟨6, _⟩ => ⟨S4x16x64x4x64, .f32⟩
  | .hbm, ⟨7, _⟩ => ⟨S4096x256, .f32⟩
  | .hbm, ⟨8, _⟩ => ⟨S4x16x64x4x64, .f32⟩
  | .hbm, ⟨9, _⟩ => ⟨S4096x256, .f32⟩
  | .hbm, ⟨10, _⟩ => ⟨S4x16x64x4x64, .f32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16x1, .i32⟩
  | .hbm, ⟨24, _⟩ => ⟨S8, .i32⟩
  | .hbm, ⟨25, _⟩ => ⟨S1x8, .i32⟩
  | .hbm, ⟨26, _⟩ => ⟨S16x8, .i32⟩
  | .hbm, ⟨27, _⟩ => ⟨S16x8, .i32⟩
  | .hbm, ⟨28, _⟩ => ⟨S16x8, .i32⟩
  | .hbm, ⟨29, _⟩ => ⟨S16x8x1, .i32⟩
  | .hbm, ⟨30, _⟩ => ⟨S4x16x8x64x4x64, .f32⟩
  | .hbm, ⟨31, _⟩ => ⟨S4x16x512x4x64, .f32⟩
  | .hbm, ⟨32, _⟩ => ⟨S16x8x1, .i32⟩
  | .hbm, ⟨33, _⟩ => ⟨S4x16x8x64x4x64, .f32⟩
  | .hbm, ⟨34, _⟩ => ⟨S4x16x512x4x64, .f32⟩
  | .hbm, ⟨35, _⟩ => ⟨S16, .i32⟩
  | .hbm, ⟨36, _⟩ => ⟨S16x1, .i32⟩
  | .hbm, ⟨37, _⟩ => ⟨S4x16x64x512, .f32⟩
  | .hbm, ⟨38, _⟩ => ⟨S4x4x16x64x512, .f32⟩
  | .hbm, ⟨39, _⟩ => ⟨S_, .f32⟩
  | .hbm, ⟨40, _⟩ => ⟨S4x4x16x64x512, .f32⟩
  | .hbm, ⟨41, _⟩ => ⟨S4x4x16x64x512, .f32⟩
  | .hbm, ⟨42, _⟩ => ⟨S1x4x16x64x512, .f32⟩
  | .hbm, ⟨43, _⟩ => ⟨S4x4x16x64x512, .f32⟩
  | .hbm, ⟨44, _⟩ => ⟨S4x4x16x64x512, .f32⟩
  | .hbm, ⟨45, _⟩ => ⟨S4x4x16x64x256, .f32⟩
  | .hbm, ⟨46, _⟩ => ⟨S_, .f32⟩
  | .hbm, ⟨47, _⟩ => ⟨S4x4x16x64x256, .f32⟩
  | .hbm, ⟨48, _⟩ => ⟨S4x4x16x64x256, .f32⟩
  | .hbm, ⟨49, _⟩ => ⟨S4x4x16x64x768, .f32⟩
  | .hbm, ⟨50, _⟩ => ⟨S_, .f32⟩
  | .hbm, ⟨51, _⟩ => ⟨S4x4x16x64, .f32⟩
  | .hbm, ⟨52, _⟩ => ⟨S_, .f32⟩
  | .hbm, ⟨53, _⟩ => ⟨S4x4x16x64, .f32⟩
  | .hbm, ⟨54, _⟩ => ⟨S4x4x16x64, .f32⟩
  | .hbm, ⟨55, _⟩ => ⟨S4x4x16x64x1, .f32⟩
  | .hbm, ⟨56, _⟩ => ⟨S4x4x16x64x768, .f32⟩
  | .hbm, ⟨57, _⟩ => ⟨S4x4x16x64x768, .f32⟩
  | .hbm, ⟨58, _⟩ => ⟨S4x4x16x64x768, .f32⟩
  | .hbm, ⟨59, _⟩ => ⟨S_, .f32⟩
  | .hbm, ⟨60, _⟩ => ⟨S4x4x16x64, .f32⟩
  | .hbm, ⟨61, _⟩ => ⟨S4x4x16x64x1, .f32⟩
  | .hbm, ⟨62, _⟩ => ⟨S4x4x16x64x768, .f32⟩
  | .hbm, ⟨63, _⟩ => ⟨S4x4x16x64x768, .f32⟩
  | .hbm, ⟨64, _⟩ => ⟨S4x4x16x64x512, .f32⟩
  | .hbm, ⟨65, _⟩ => ⟨S4x16x4x64x64, .f32⟩
  | .hbm, ⟨66, _⟩ => ⟨S4x16x64x4x64, .f32⟩
  | .hbm, ⟨67, _⟩ => ⟨S4x4x16x64x256, .f32⟩
  | .hbm, ⟨68, _⟩ => ⟨S4x4x64x16x64, .f32⟩
  | .hbm, ⟨69, _⟩ => ⟨S4x16x64x4x64, .f32⟩
  | .hbm, ⟨70, _⟩ => ⟨S4x16x64x4x64, .f32⟩
  | .hbm, ⟨71, _⟩ => ⟨S4096x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call3_v0 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Proof.Attn.lean ====
/-
  Softmax attention on the extended reals, free of any program: which numbers are finite, the row of a softmax with its
  quotient, the same row with the reciprocal of the normaliser, and a scale pulled out of a dot product.
-/
module

public import Idealize.ShloMosaic.Lib.Pointwise
public import Idealize.ShloMosaic.Lib.IdealHost

@[expose] public section

noncomputable section

namespace Cert.Attn

open Idealize.ShloMosaic
open scoped BigOperators

/-! ## Finite extended reals -/

/-- An extended real that is a real number. -/
def Fine (x : EReal) : Prop := x ≠ ⊥ ∧ x ≠ ⊤

/-- A real number is finite. -/
theorem Fine.coe (r : ℝ) : Fine (r : EReal) := ⟨EReal.coe_ne_bot r, EReal.coe_ne_top r⟩

/-- A finite extended real is a real number. -/
theorem Fine.lift {x : EReal} (h : Fine x) : ∃ r : ℝ, x = (r : EReal) := ⟨x.toReal, (EReal.coe_toReal h.2 h.1).symm⟩

/-- Finite numbers have a finite sum. -/
theorem Fine.add {x y : EReal} (hx : Fine x) (hy : Fine y) : Fine (x + y) := by
  obtain ⟨a, rfl⟩ := hx.lift; obtain ⟨b, rfl⟩ := hy.lift
  rw [← EReal.coe_add]; exact Fine.coe _

/-- Finite numbers have a finite difference. -/
theorem Fine.sub {x y : EReal} (hx : Fine x) (hy : Fine y) : Fine (x - y) := by
  obtain ⟨a, rfl⟩ := hx.lift; obtain ⟨b, rfl⟩ := hy.lift
  rw [← EReal.coe_sub]; exact Fine.coe _

/-- Finite numbers have a finite product. -/
theorem Fine.mul {x y : EReal} (hx : Fine x) (hy : Fine y) : Fine (x * y) := by
  obtain ⟨a, rfl⟩ := hx.lift; obtain ⟨b, rfl⟩ := hy.lift
  rw [← EReal.coe_mul]; exact Fine.coe _

/-- A sum of finitely many finite numbers is finite. -/
theorem Fine.sum {ι : Type} (s : Finset ι) (f : ι → EReal) (h : ∀ i ∈ s, Fine (f i)) : Fine (∑ i ∈ s, f i) := by
  classical
  induction s using Finset.induction_on with
  | empty => simpa using Fine.coe 0
  | insert a s ha ih =>
    rw [Finset.sum_insert ha]
    exact (h a (Finset.mem_insert_self _ _)).add (ih fun i hi => h i (Finset.mem_insert_of_mem hi))

/-- A number whose absolute value is below infinity is finite. -/
theorem Fine.of_abs {x : EReal} (h : max x (-x) < ⊤) : Fine x := by
  refine ⟨fun e => ?_, fun e => ?_⟩ <;> subst e <;> simp at h

/-! ## A scale pulled out of a dot product -/

/-- A finite factor that is not negative goes into a sum. -/
theorem sum_mul_scale {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, ← ih, mul_comm, EReal.left_distrib_of_nonneg_of_ne_top h0 h1,
      mul_comm c, mul_comm c]

/-- The scale applied to the queries is the scale applied to the scores. -/
theorem score_scale {n : ℕ} (q k : Fin n → EReal) {c : EReal} (h0 : 0 ≤ c) (h1 : c ≠ ⊤) :
    ∑ e, q e * c * k e = (∑ e, k e * q e) * c := by
  rw [sum_mul_scale _ _ h0 h1]
  exact Finset.sum_congr rfl fun e _ => by rw [mul_right_comm, mul_comm (q e)]

/-! ## The softmax row -/

/-- The greatest of finitely many numbers, from minus infinity. -/
def top {n : ℕ} (s : Fin n → EReal) : EReal := Finset.univ.fold max ⊥ s

/-- One entry of an attention's output: the scores' softmax against a column of values. -/
def soft {n : ℕ} (s v : Fin n → EReal) : EReal :=
  ∑ j, Ideal.div (Ideal.exp (s j - top s)) (∑ j', Ideal.exp (s j' - top s)) * v j

/-- The greatest of finitely many finite numbers is finite. -/
theorem fine_top {n : ℕ} (s : Fin n → EReal) (i : Fin n) (h : ∀ j, Fine (s j)) : Fine (top s) := by
  unfold top
  constructor
  · intro e
    have : s i ≤ Finset.univ.fold max ⊥ s := (Finset.le_fold_max _).mpr (Or.inr ⟨i, Finset.mem_univ _, le_rfl⟩)
    rw [e] at this
    exact (h i).1 (le_bot_iff.mp this)
  · intro e
    have : Finset.univ.fold max ⊥ s < ⊤ :=
      (Finset.fold_max_lt _).mpr ⟨bot_lt_top, fun j _ => lt_of_le_of_ne le_top (h j).2⟩
    rw [e] at this
    exact lt_irrefl _ this

/-- The exponential is not negative. -/
theorem exp_nonneg (x : EReal) : 0 ≤ Ideal.exp x := by
  induction x with
  | bot => exact le_rfl
  | top => exact le_top
  | coe r => exact EReal.coe_nonneg.mpr (Real.exp_pos r).le

/-- The exponential of a finite number is positive. -/
theorem exp_pos {x : EReal} (h : Fine x) : 0 < Ideal.exp x := by
  obtain ⟨r, rfl⟩ := h.lift
  exact EReal.coe_pos.mpr (Real.exp_pos r)

/-- The normaliser of finite scores is not zero. -/
theorem norm_ne_zero {n : ℕ} (s : Fin n → EReal) (i : Fin n) (h : ∀ j, Fine (s j)) :
    ∑ j, Ideal.exp (s j - top s) ≠ 0 := by
  refine ne_of_gt (lt_of_lt_of_le (exp_pos ((h i).sub (fine_top s i h))) ?_)
  exact Finset.single_le_sum (f := fun j => Ideal.exp (s j - top s)) (fun j _ => exp_nonneg _) (Finset.mem_univ i)

/-- The softmax row with the reciprocal of its normaliser is the row with the quotient, for finite scores. -/
theorem soft_recip {n : ℕ} (s v : Fin n → EReal) (i : Fin n) (h : ∀ j, Fine (s j)) :
    ∑ j, Ideal.exp (s j - top s) * Ideal.div 1 (∑ j', Ideal.exp (s j' - top s)) * v j = soft s v := by
  unfold soft
  exact Finset.sum_congr rfl fun j _ => by rw [Ideal.mul_one_div (norm_ne_zero s i h)]

/-! ## The RMS norm -/

/-- One entry of an RMS-normalised row of 64, times its gain: the divisor and the small constant as `n` and `ε`. -/
def rmsn (n ε : EReal) (x g : Fin 64 → EReal) (e : Fin 64) : EReal :=
  x e * Ideal.rsqrt (Ideal.div (∑ i, x i * x i) n + ε) * g e

/-- The reciprocal root of a positive finite number is finite. -/
theorem fine_rsqrt {r : ℝ} (h : 0 < r) : Fine (Ideal.rsqrt (r : EReal)) := by
  show Fine (if r < 0 then ⊥ else if r = 0 then ⊤ else (((Real.sqrt r)⁻¹ : ℝ) : EReal))
  rw [if_neg (not_lt.mpr h.le), if_neg (ne_of_gt h)]
  exact Fine.coe _

/-- A number's square is not negative. -/
theorem sq_nonneg_ereal {x : EReal} (h : Fine x) : ∃ r : ℝ, 0 ≤ r ∧ x * x = (r : EReal) := by
  obtain ⟨a, rfl⟩ := h.lift
  exact ⟨a * a, mul_self_nonneg a, by rw [EReal.coe_mul]⟩

/-- A sum of squares of finite numbers is a real number that is not negative. -/
theorem sum_sq {ι : Type} (s : Finset ι) (x : ι → EReal) (h : ∀ i, Fine (x i)) :
    ∃ r : ℝ, 0 ≤ r ∧ ∑ i ∈ s, x i * x i = (r : EReal) := by
  classical
  induction s using Finset.induction_on with
  | empty => exact ⟨0, le_rfl, by simp⟩
  | insert a s ha ih =>
    obtain ⟨r, hr, e⟩ := ih
    obtain ⟨t, ht, e'⟩ := sq_nonneg_ereal (h a)
    exact ⟨t + r, by positivity, by rw [Finset.sum_insert ha, e, e', EReal.coe_add]⟩

/-- The reciprocal root of a mean square plus a positive constant is finite. -/
theorem fine_rms {ι : Type} (s : Finset ι) (x : ι → EReal) (h : ∀ i, Fine (x i)) {n ε : ℝ} (hn : 0 < n) (hε : 0 < ε) :
    Fine (Ideal.rsqrt (Ideal.div (∑ i ∈ s, x i * x i) (n : EReal) + (ε : EReal))) := by
  obtain ⟨r, hr, e⟩ := sum_sq s x h
  have hn0 : (n : EReal) ≠ 0 := by exact_mod_cast hn.ne'
  rw [e, Ideal.div, if_neg hn0, ← EReal.coe_inv, ← EReal.coe_mul, ← EReal.coe_add]
  exact fine_rsqrt (by positivity)

/-- An RMS-normalised row of finite numbers with finite gains is finite. -/
theorem fine_rmsn {n ε : ℝ} (hn : 0 < n) (hε : 0 < ε) (x g : Fin 64 → EReal) (hx : ∀ i, Fine (x i)) (hg : ∀ i, Fine (g i))
    (e : Fin 64) : Fine (rmsn n ε x g e) :=
  ((hx e).mul (fine_rms _ x hx hn hε)).mul (hg e)

/-! ## Matrices at natural indices -/

/-- A matrix's entry at a row and a column given as natural numbers, zero outside the matrix. -/
def at2 {a b : ℕ} (x : (⟨2, ![a, b]⟩ : Shape).Idx → EReal) (i j : ℕ) : EReal :=
  if h : i < a ∧ j < b then x (ix2 ⟨i, h.1⟩ ⟨j, h.2⟩) else 0

/-- Inside the matrix it is the entry. -/
theorem at2_in {a b : ℕ} (x : (⟨2, ![a, b]⟩ : Shape).Idx → EReal) {i j : ℕ} (hi : i < a) (hj : j < b) :
    at2 x i j = x (ix2 ⟨i, hi⟩ ⟨j, hj⟩) := dif_pos ⟨hi, hj⟩

/-- At a matrix index it is the entry. -/
theorem at2_val {a b : ℕ} (x : (⟨2, ![a, b]⟩ : Shape).Idx → EReal) (i : Fin a) (j : Fin b) :
    at2 x i.val j.val = x (ix2 i j) := dif_pos ⟨i.isLt, j.isLt⟩

/-- The entries of a matrix of finite numbers are finite. -/
theorem fine_at2 {a b : ℕ} (x : (⟨2, ![a, b]⟩ : Shape).Idx → EReal) (h : ∀ i, Fine (x i)) (i j : ℕ) : Fine (at2 x i j) := by
  unfold at2
  split
  · exact h _
  · exact Fine.coe 0

/-! ## The context attention at a row and a column -/

/-- The plain heads: column `C` of row `R`, with the scores' scale `c`. -/
def plainAt (c : EReal) (na : ℕ → ℕ → EReal) (R C : ℕ) : EReal :=
  soft (fun j : Fin 256 => (∑ e : Fin 64, na (R / 256 * 256 + j) (256 + C / 64 * 64 + e) * na R (C / 64 * 64 + e)) * c)
    (fun j => na (R / 256 * 256 + j) (512 + C))

/-- A normalised head of 64 columns from column `o` on, at row `R`. -/
def normAt (n ε : EReal) (x : ℕ → ℕ → EReal) (g : Fin 64 → EReal) (R o : ℕ) (e : Fin 64) : EReal :=
  rmsn n ε (fun i => x R (o + i)) g e

/-- The grouped heads: column `C` of row `R`; eight query heads, two key heads, four queries to a key head. -/
def groupedAt (c n ε : EReal) (gqa : ℕ → ℕ → EReal) (gq gk : Fin 64 → EReal) (R C : ℕ) : EReal :=
  soft (fun j : Fin 256 => (∑ e : Fin 64, normAt n ε gqa gk (R / 256 * 256 + j) (512 + C / 256 * 64) e
      * normAt n ε gqa gq R (C / 64 * 64) e) * c)
    (fun j => gqa (R / 256 * 256 + j) (640 + C / 256 * 64 + C % 64))

/-! ## The constants -/

/-- The word `0x3E000000` is one eighth. -/
theorem eighth : Ideal.ofBits .f32 0x3E000000#32 = (((1 : ℝ) / 8 : ℝ) : EReal) := by
  simp [Ideal.ofBits, Ideal.ieee, -EReal.coe_mul]; norm_num

/-- The word `0x42800000` is sixty-four. -/
theorem sixtyfour : Ideal.ofBits .f32 0x42800000#32 = ((64 : ℝ) : EReal) := by
  simp [Ideal.ofBits, Ideal.ieee, -EReal.coe_mul]; norm_num

/-- The word `0x358637BD` is a positive number. -/
theorem eps_pos : ∃ r : ℝ, 0 < r ∧ Ideal.ofBits .f32 0x358637BD#32 = (r : EReal) :=
  ⟨8796093 * (2 : ℝ) ^ (-43 : ℤ), by positivity, by simp [Ideal.ofBits, Ideal.ieee, -EReal.coe_mul]⟩

/-- The word `0xFF800000` is minus infinity. -/
theorem negInf : Ideal.ofBits .f32 0xFF800000#32 = ⊥ := by
  simp [Ideal.ofBits, Ideal.ieee]

/-- The word `0x7F800000` is infinity. -/
theorem posInf : Ideal.ofBits .f32 0x7F800000#32 = ⊤ := by
  simp [Ideal.ofBits, Ideal.ieee]

/-- The constants of the norm. -/
abbrev n64 : EReal := Ideal.ofBits .f32 0x42800000#32
/-- The small constant under the root. -/
abbrev eps : EReal := Ideal.ofBits .f32 0x358637BD#32
/-- The scores' scale. -/
abbrev c8 : EReal := Ideal.ofBits .f32 0x3E000000#32

/-- A normalised entry depends only on the head it reads. -/
theorem normAt_congr {n ε : EReal} {x x' : ℕ → ℕ → EReal} {g g' : Fin 64 → EReal} {R R' o o' : ℕ} {e e' : Fin 64}
    (hx : ∀ i : Fin 64, x R (o + i.val) = x' R' (o' + i.val)) (hg : ∀ i, g i = g' i) (he : e = e') :
    normAt n ε x g R o e = normAt n ε x' g' R' o' e' := by
  subst he
  have h1 : (fun i : Fin 64 => x R (o + i.val)) = fun i : Fin 64 => x' R' (o' + i.val) := funext hx
  have h2 : g = g' := funext hg
  unfold normAt
  rw [h1, h2]

end Cert.Attn

end
-- ==== Proof.CtxHead.lean ====
/-
  One head of the context attention as the kernel's body writes it, and one RMS-normalised head, read at an index.
-/
module

public import proofs.«01_k».proof.Proof.Gen.CtxIdeal.Value
public import proofs.«01_k».proof.Proof.Attn

@[expose] public section

set_option maxRecDepth 16384

noncomputable section

namespace Cert.CtxIdeal.Head

open Cert.CtxIdeal Cert.CtxIdeal.Gen Cert.Attn Idealize.ShloMosaic Idealize.ShloMosaic.TcCoe Idealize.SL.Sem
open Idealize.ShloMosaic.Pointwise
open scoped BigOperators

/-- A head of a softmax attention over 256 keys, as the body's operations. -/
def head (q k v : FVec Ideal S256x64 .f32) : FVec Ideal S256x64 .f32 :=
  let s : FVec Ideal S256x256 .f32 := matmul dot_S256x64_S256x64_S256x256_1_1_0_0_n_n none
    (truncf .bf16 (mulf q (broadcast S256x64 (Scalar.ofBits (F := Ideal) .f32 0x3E000000#32))) bitsLt_bf16_f32)
    (truncf .bf16 k bitsLt_bf16_f32) (constant S256x256 .f32 0x00000000#32)
  let p : FVec Ideal S256x256 .f32 := exp (subf s (broadcastTo S256x256 (shapeCast S256x1
    (multiReduction .maximumf [1] S256 s 0xFF800000#32 reduces_S256x256_S256 (.inl rfl) rfl) shapeCasts_S256_S256x1)
    broadcasts_S256x1_S256x256))
  let l : FVec Ideal S256x1 .f32 := shapeCast S256x1
    (multiReduction .add [1] S256 p 0x00000000#32 reduces_S256x256_S256 (.inl rfl) rfl) shapeCasts_S256_S256x1
  matmul dot_S256x256_S256x64_S256x64_1_0_0_1_n_n none
    (truncf .bf16 (mulf p (broadcastTo S256x256
      (divf (broadcast S256x1 (Scalar.ofBits (F := Ideal) .f32 0x3F800000#32)) l) broadcasts_S256x1_S256x256)) bitsLt_bf16_f32)
    (truncf .bf16 v bitsLt_bf16_f32) (constant S256x64 .f32 0x00000000#32)

/-- A head normalised by the root of its mean square and multiplied by its gains, as the body's operations. -/
def rms (x : FVec Ideal S256x64 .f32) (g : Vec Ideal S1x64 .f32) : FVec Ideal S256x64 .f32 :=
  mulf (mulf x (broadcastTo S256x64 (rsqrt (addf (divf (shapeCast S256x1
    (multiReduction .add [1] S256 (mulf x x) 0x00000000#32 reduces_S256x64_S256 (.inl rfl) rfl) shapeCasts_S256_S256x1)
    (broadcast S256x1 (Scalar.ofBits (F := Ideal) .f32 0x42800000#32)))
    (broadcast S256x1 (Scalar.ofBits (F := Ideal) .f32 0x358637BD#32)))) broadcasts_S256x1_S256x64))
    (broadcastTo S256x64 g broadcasts_S1x64_S256x64)

/-- A normalised head at an index. -/
theorem rms_apply (x : FVec Ideal S256x64 .f32) (g : Vec Ideal S1x64 .f32) (r : Fin 256) (e : Fin 64) :
    rms x g (ix2 r e) = rmsn (Ideal.ofBits .f32 0x42800000#32) (Ideal.ofBits .f32 0x358637BD#32)
      (fun i => x (ix2 r i)) (fun i => g (ix2 0 i)) e := by
  unfold rms rmsn
  pointwise

/-- A head at an index: the softmax of the scaled scores against the values' column. -/
theorem head_apply (q k v : FVec Ideal S256x64 .f32) (r : Fin 256) (d : Fin 64)
    (hq : ∀ i, Fine (q i)) (hk : ∀ i, Fine (k i)) :
    head q k v (ix2 r d) = soft (fun j : Fin 256 => (∑ e, k (ix2 j e) * q (ix2 r e)) * Ideal.ofBits .f32 0x3E000000#32)
      (fun j => v (ix2 j d)) := by
  unfold head
  pointwise
  have h0 : (0 : EReal) ≤ Ideal.ofBits .f32 0x3E000000#32 := by rw [eighth]; exact EReal.coe_nonneg.mpr (by norm_num)
  have h1 : Ideal.ofBits .f32 0x3E000000#32 ≠ ⊤ := by rw [eighth]; exact EReal.coe_ne_top _
  have e : ∀ j : Fin 256, ∑ i, q (ix2 r i) * Ideal.ofBits .f32 0x3E000000#32 * k (ix2 j i)
      = (∑ i, k (ix2 j i) * q (ix2 r i)) * Ideal.ofBits .f32 0x3E000000#32 :=
    fun j => score_scale (fun i => q (ix2 r i)) (fun i => k (ix2 j i)) h0 h1
  simp only [e, negInf]
  refine soft_recip (fun j : Fin 256 => (∑ i, k (ix2 j i) * q (ix2 r i)) * Ideal.ofBits .f32 0x3E000000#32)
    (fun j => v (ix2 j d)) r fun j => ?_
  exact (Fine.sum _ _ fun i _ => (hk _).mul (hq _)).mul (by rw [eighth]; exact Fine.coe _)

/-! ## The body's block: twelve heads beside one another -/

/-- The normalised queries of the eight grouped heads, side by side. -/
def qn (x : Vec Ideal S256x512 .f32) (g : Vec Ideal S1x64 .f32) : FVec Ideal S256x512 .f32 :=
  concatenate S256x512 1 [
    ⟨S256x64, rms (extractStridedSlice S256x64 ![0, 0] x slices_S256x512_o0_0_S256x64) g⟩,
    ⟨S256x64, rms (extractStridedSlice S256x64 ![0, 64] x slices_S256x512_o0_64_S256x64) g⟩,
    ⟨S256x64, rms (extractStridedSlice S256x64 ![0, 128] x slices_S256x512_o0_128_S256x64) g⟩,
    ⟨S256x64, rms (extractStridedSlice S256x64 ![0, 192] x slices_S256x512_o0_192_S256x64) g⟩,
    ⟨S256x64, rms (extractStridedSlice S256x64 ![0, 256] x slices_S256x512_o0_256_S256x64) g⟩,
    ⟨S256x64, rms (extractStridedSlice S256x64 ![0, 320] x slices_S256x512_o0_320_S256x64) g⟩,
    ⟨S256x64, rms (extractStridedSlice S256x64 ![0, 384] x slices_S256x512_o0_384_S256x64) g⟩,
    ⟨S256x64, rms (extractStridedSlice S256x64 ![0, 448] x slices_S256x512_o0_448_S256x64) g⟩]
    concatenates_S256x64_S256x64_S256x64_S256x64_S256x64_S256x64_S256x64_S256x64_S256x512_d1

/-- The normalised keys of the two key heads, side by side. -/
def kn (x : Vec Ideal S256x128 .f32) (g : Vec Ideal S1x64 .f32) : FVec Ideal S256x128 .f32 :=
  concatenate S256x128 1 [
    ⟨S256x64, rms (extractStridedSlice S256x64 ![0, 0] x slices_S256x128_o0_0_S256x64) g⟩,
    ⟨S256x64, rms (extractStridedSlice S256x64 ![0, 64] x slices_S256x128_o0_64_S256x64) g⟩]
    concatenates_S256x64_S256x64_S256x128_d1

/-- The attention's block: four plain heads, then eight grouped ones. -/
def heads (x0 : Vec Ideal S256x768 .f32) (Q : Vec Ideal S256x512 .f32) (K V : Vec Ideal S256x128 .f32) : FVec Ideal S256x768 .f32 :=
  concatenate S256x768 1 [
    ⟨S256x64, head (extractStridedSlice S256x64 ![0, 0] x0 slices_S256x768_o0_0_S256x64)
      (extractStridedSlice S256x64 ![0, 256] x0 slices_S256x768_o0_256_S256x64)
      (extractStridedSlice S256x64 ![0, 512] x0 slices_S256x768_o0_512_S256x64)⟩,
    ⟨S256x64, head (extractStridedSlice S256x64 ![0, 64] x0 slices_S256x768_o0_64_S256x64)
      (extractStridedSlice S256x64 ![0, 320] x0 slices_S256x768_o0_320_S256x64)
      (extractStridedSlice S256x64 ![0, 576] x0 slices_S256x768_o0_576_S256x64)⟩,
    ⟨S256x64, head (extractStridedSlice S256x64 ![0, 128] x0 slices_S256x768_o0_128_S256x64)
      (extractStridedSlice S256x64 ![0, 384] x0 slices_S256x768_o0_384_S256x64)
      (extractStridedSlice S256x64 ![0, 640] x0 slices_S256x768_o0_640_S256x64)⟩,
    ⟨S256x64, head (extractStridedSlice S256x64 ![0, 192] x0 slices_S256x768_o0_192_S256x64)
      (extractStridedSlice S256x64 ![0, 448] x0 slices_S256x768_o0_448_S256x64)
      (extractStridedSlice S256x64 ![0, 704] x0 slices_S256x768_o0_704_S256x64)⟩,
    ⟨S256x64, head (extractStridedSlice S256x64 ![0, 0] Q slices_S256x512_o0_0_S256x64)
      (extractStridedSlice S256x64 ![0, 0] K slices_S256x128_o0_0_S256x64)
      (extractStridedSlice S256x64 ![0, 0] V slices_S256x128_o0_0_S256x64)⟩,
    ⟨S256x64, head (extractStridedSlice S256x64 ![0, 64] Q slices_S256x512_o0_64_S256x64)
      (extractStridedSlice S256x64 ![0, 0] K slices_S256x128_o0_0_S256x64)
      (extractStridedSlice S256x64 ![0, 0] V slices_S256x128_o0_0_S256x64)⟩,
    ⟨S256x64, head (extractStridedSlice S256x64 ![0, 128] Q slices_S256x512_o0_128_S256x64)
      (extractStridedSlice S256x64 ![0, 0] K slices_S256x128_o0_0_S256x64)
      (extractStridedSlice S256x64 ![0, 0] V slices_S256x128_o0_0_S256x64)⟩,
    ⟨S256x64, head (extractStridedSlice S256x64 ![0, 192] Q slices_S256x512_o0_192_S256x64)
      (extractStridedSlice S256x64 ![0, 0] K slices_S256x128_o0_0_S256x64)
      (extractStridedSlice S256x64 ![0, 0] V slices_S256x128_o0_0_S256x64)⟩,
    ⟨S256x64, head (extractStridedSlice S256x64 ![0, 256] Q slices_S256x512_o0_256_S256x64)
      (extractStridedSlice S256x64 ![0, 64] K slices_S256x128_o0_64_S256x64)
      (extractStridedSlice S256x64 ![0, 64] V slices_S256x128_o0_64_S256x64)⟩,
    ⟨S256x64, head (extractStridedSlice S256x64 ![0, 320] Q slices_S256x512_o0_320_S256x64)
      (extractStridedSlice S256x64 ![0, 64] K slices_S256x128_o0_64_S256x64)
      (extractStridedSlice S256x64 ![0, 64] V slices_S256x128_o0_64_S256x64)⟩,
    ⟨S256x64, head (extractStridedSlice S256x64 ![0, 384] Q slices_S256x512_o0_384_S256x64)
      (extractStridedSlice S256x64 ![0, 64] K slices_S256x128_o0_64_S256x64)
      (extractStridedSlice S256x64 ![0, 64] V slices_S256x128_o0_64_S256x64)⟩,
    ⟨S256x64, head (extractStridedSlice S256x64 ![0, 448] Q slices_S256x512_o0_448_S256x64)
      (extractStridedSlice S256x64 ![0, 64] K slices_S256x128_o0_64_S256x64)
      (extractStridedSlice S256x64 ![0, 64] V slices_S256x128_o0_64_S256x64)⟩]
    concatenates_S256x64_S256x64_S256x64_S256x64_S256x64_S256x64_S256x64_S256x64_S256x64_S256x64_S256x64_S256x64_S256x768_d1

/-- The offsets of a whole block are zero. -/
theorem hz : (![0, 0] : Fin 2 → Nat) = fun _ => 0 := funext fun a => by fin_cases a <;> rfl

/-- What the body leaves in the attention's block is the twelve heads of the loaded blocks. -/
theorem out3_eq (x0 x1 : Vec Ideal S256x768 .f32) (x2 : Vec Ideal S2x64 .f32) :
    out0_3 x0 x1 x2 = heads x0 (qn (View.ld x1 r0_1) (View.ld x2 r0_4)) (kn (View.ld x1 r0_2) (View.ld x2 r0_5)) (View.ld x1 r0_3) := by
  unfold_out out0_3
  rw [View.canon_unit_zero hz, View.ld_unit_zero hz]
  rfl

/-- What the body leaves in the keys' block is the two normalised key heads. -/
theorem out4_eq (x0 x1 : Vec Ideal S256x768 .f32) (x2 : Vec Ideal S2x64 .f32) :
    out0_4 x0 x1 x2 = kn (View.ld x1 r0_2) (View.ld x2 r0_5) := by
  unfold out0_4
  rw [View.canon_unit_zero hz]
  rfl

/-! ## The blocks at an index -/

/-- Sixty-four columns of a block of 256 rows, from column `o` on. -/
def cols {b : ℕ} (x : (⟨2, ![256, b]⟩ : Shape).Idx → EReal) (o : ℕ) : FVec Ideal S256x64 .f32 :=
  fun i => at2 x (i 0).val (o + (i 1).val)

/-- A slice of 64 columns is the columns from its offset on. -/
theorem slice768 (x : FVec Ideal S256x768 .f32) (o : ℕ) (h : S256x768.Slices ![0, o] S256x64) (ho : o + 64 ≤ 768) :
    extractStridedSlice S256x64 ![0, o] x h = cols x o := by
  funext i
  have h0 : (i 0).val < 256 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- The same of a block of 512 columns. -/
theorem slice512 (x : FVec Ideal S256x512 .f32) (o : ℕ) (h : S256x512.Slices ![0, o] S256x64) (ho : o + 64 ≤ 512) :
    extractStridedSlice S256x64 ![0, o] x h = cols x o := by
  funext i
  have h0 : (i 0).val < 256 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- The same of a block of 128 columns. -/
theorem slice128 (x : FVec Ideal S256x128 .f32) (o : ℕ) (h : S256x128.Slices ![0, o] S256x64) (ho : o + 64 ≤ 128) :
    extractStridedSlice S256x64 ![0, o] x h = cols x o := by
  funext i
  have h0 : (i 0).val < 256 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- The columns of finite numbers are finite. -/
theorem fine_cols {b : ℕ} (x : (⟨2, ![256, b]⟩ : Shape).Idx → EReal) (o : ℕ) (h : ∀ i j, Fine (at2 x i j)) (i : S256x64.Idx) :
    Fine (cols x o i) := h _ _

/-- A normalised head of finite numbers is finite. -/
theorem fine_norm (x : ℕ → ℕ → EReal) (g : Fin 64 → EReal) (R o : ℕ) (e : Fin 64) (hx : ∀ i j, Fine (x i j)) (hg : ∀ i, Fine (g i)) :
    Fine (normAt n64 eps x g R o e) := by
  obtain ⟨r, hr, he⟩ := eps_pos
  unfold normAt
  rw [show n64 = ((64 : ℝ) : EReal) from sixtyfour, show eps = (r : EReal) from he]
  exact fine_rmsn (by norm_num) hr _ _ (fun i => hx _ _) hg e

/-- Normalised columns at an index. -/
theorem rms_cols {b : ℕ} (x : (⟨2, ![256, b]⟩ : Shape).Idx → EReal) (g : Vec Ideal S1x64 .f32) (o r : ℕ) (hr : r < 256) (e : Fin 64) :
    rms (cols x o) g (ix2 ⟨r, hr⟩ e) = normAt n64 eps (at2 x) (fun i => g (ix2 0 i)) r o e := rms_apply _ _ _ _

/-- The normalised queries at a row and a column. -/
theorem qn_apply (x : Vec Ideal S256x512 .f32) (g : Vec Ideal S1x64 .f32) (r c : ℕ) (hr : r < 256) (hc : c < 512) :
    at2 (qn x g) r c = normAt n64 eps (at2 x) (fun i => g (ix2 0 i)) r (c / 64 * 64) ⟨c % 64, Nat.mod_lt _ (by norm_num)⟩ := by
  rw [at2_in _ hr hc]
  unfold qn
  rw [slice512 _ 0 _ (by norm_num), slice512 _ 64 _ (by norm_num), slice512 _ 128 _ (by norm_num), slice512 _ 192 _ (by norm_num),
    slice512 _ 256 _ (by norm_num), slice512 _ 320 _ (by norm_num), slice512 _ 384 _ (by norm_num), slice512 _ 448 _ (by norm_num)]
  refine Eq.trans ?_ (rms_cols x g (c / 64 * 64) r hr _)
  exact concatenate_ofFn_apply (t := S256x512) (s₁ := S256x64) (1 : Fin 2) (fun n : Fin 8 => rms (cols x (n.val * 64)) g) _ rfl 64 rfl
    (ix2 ⟨r, hr⟩ ⟨c, hc⟩) ⟨c / 64, by omega⟩ rfl (ix2 ⟨r, hr⟩ ⟨c % 64, _⟩) rfl
    (fun b hb => match b with | ⟨0, _⟩ => rfl | ⟨1, _⟩ => absurd rfl hb)

/-- The normalised keys at a row and a column. -/
theorem kn_apply (x : Vec Ideal S256x128 .f32) (g : Vec Ideal S1x64 .f32) (r c : ℕ) (hr : r < 256) (hc : c < 128) :
    at2 (kn x g) r c = normAt n64 eps (at2 x) (fun i => g (ix2 0 i)) r (c / 64 * 64) ⟨c % 64, Nat.mod_lt _ (by norm_num)⟩ := by
  rw [at2_in _ hr hc]
  unfold kn
  rw [slice128 _ 0 _ (by norm_num), slice128 _ 64 _ (by norm_num)]
  refine Eq.trans ?_ (rms_cols x g (c / 64 * 64) r hr _)
  exact concatenate_ofFn_apply (t := S256x128) (s₁ := S256x64) (1 : Fin 2) (fun n : Fin 2 => rms (cols x (n.val * 64)) g) _ rfl 64 rfl
    (ix2 ⟨r, hr⟩ ⟨c, hc⟩) ⟨c / 64, by omega⟩ rfl (ix2 ⟨r, hr⟩ ⟨c % 64, _⟩) rfl
    (fun b hb => match b with | ⟨0, _⟩ => rfl | ⟨1, _⟩ => absurd rfl hb)

/-- Head `n` of the twelve. -/
def headN (x0 : Vec Ideal S256x768 .f32) (Q : Vec Ideal S256x512 .f32) (K V : Vec Ideal S256x128 .f32) (n : Fin 12) :
    FVec Ideal S256x64 .f32 :=
  if n.val < 4 then head (cols x0 (n.val * 64)) (cols x0 (256 + n.val * 64)) (cols x0 (512 + n.val * 64))
  else head (cols Q ((n.val - 4) * 64)) (cols K ((n.val - 4) / 4 * 64)) (cols V ((n.val - 4) / 4 * 64))

/-- The attention's block at a row and a column is the head its column names, at the column within it. -/
theorem heads_apply (x0 : Vec Ideal S256x768 .f32) (Q : Vec Ideal S256x512 .f32) (K V : Vec Ideal S256x128 .f32)
    (r : Fin 256) (c : Fin 768) :
    heads x0 Q K V (ix2 r c)
      = headN x0 Q K V ⟨c.val / 64, by omega⟩ (ix2 r ⟨c.val % 64, Nat.mod_lt _ (by norm_num)⟩) := by
  unfold heads
  rw [slice768 x0 0 _ (by norm_num)]
  rw [slice768 x0 256 _ (by norm_num)]
  rw [slice768 x0 512 _ (by norm_num)]
  rw [slice768 x0 64 _ (by norm_num)]
  rw [slice768 x0 320 _ (by norm_num)]
  rw [slice768 x0 576 _ (by norm_num)]
  rw [slice768 x0 128 _ (by norm_num)]
  rw [slice768 x0 384 _ (by norm_num)]
  rw [slice768 x0 640 _ (by norm_num)]
  rw [slice768 x0 192 _ (by norm_num)]
  rw [slice768 x0 448 _ (by norm_num)]
  rw [slice768 x0 704 _ (by norm_num)]
  rw [slice512 Q 0 _ (by norm_num)]
  rw [slice512 Q 64 _ (by norm_num)]
  rw [slice512 Q 128 _ (by norm_num)]
  rw [slice512 Q 192 _ (by norm_num)]
  rw [slice512 Q 256 _ (by norm_num)]
  rw [slice512 Q 320 _ (by norm_num)]
  rw [slice512 Q 384 _ (by norm_num)]
  rw [slice512 Q 448 _ (by norm_num)]
  rw [slice128 K 0 _ (by norm_num)]
  rw [slice128 K 64 _ (by norm_num)]
  rw [slice128 V 0 _ (by norm_num)]
  rw [slice128 V 64 _ (by norm_num)]
  exact concatenate_ofFn_apply (t := S256x768) (s₁ := S256x64) (1 : Fin 2) (headN x0 Q K V) _ rfl 64 rfl
    (ix2 r c) ⟨c.val / 64, by omega⟩ rfl (ix2 r ⟨c.val % 64, _⟩) rfl
    (fun b hb => match b with | ⟨0, _⟩ => rfl | ⟨1, _⟩ => absurd rfl hb)

end Cert.CtxIdeal.Head

end
-- ==== Proof.CtxValue.lean ====
/-
  The context attention's kernel as one function of its argument arrays: what a grid point leaves in its two output
  blocks, and the two result arrays after the run.
-/
module

public import proofs.«01_k».proof.Proof.Gen.CtxIdeal.Value
public import proofs.«01_k».proof.Proof.CtxHead
public import Idealize.ShloMosaic.Lib.Pipeline.ValueKit

@[expose] public section

set_option maxRecDepth 16384

noncomputable section

namespace Cert.CtxIdeal.Head

open Cert.CtxIdeal Cert.CtxIdeal.Gen Cert.Attn Idealize.ShloMosaic Idealize.ShloMosaic.TcCoe Idealize.SL.Sem
open Idealize.ShloMosaic.Pipeline (Dat)

/-! ## One block -/

/-- The queries' columns of a block. -/
theorem ld_q (x1 : Vec Ideal S256x768 .f32) (r c : ℕ) (hr : r < 256) (hc : c < 512) :
    at2 (View.ld x1 r0_1) r c = at2 x1 r c := by
  rw [at2_in _ hr hc, at2_in _ hr (show c < 768 by omega)]
  pointwise

/-- The keys' columns of a block. -/
theorem ld_k (x1 : Vec Ideal S256x768 .f32) (r c : ℕ) (hr : r < 256) (hc : c < 128) :
    at2 (View.ld x1 r0_2) r c = at2 x1 r (512 + c) := by
  rw [at2_in _ hr hc, at2_in _ hr (show 512 + c < 768 by omega)]
  pointwise

/-- The values' columns of a block. -/
theorem ld_v (x1 : Vec Ideal S256x768 .f32) (r c : ℕ) (hr : r < 256) (hc : c < 128) :
    at2 (View.ld x1 r0_3) r c = at2 x1 r (640 + c) := by
  rw [at2_in _ hr hc, at2_in _ hr (show 640 + c < 768 by omega)]
  pointwise

/-- The queries' gain. -/
theorem ld_gq (x2 : Vec Ideal S2x64 .f32) (i : Fin 64) : View.ld x2 r0_4 (ix2 0 i) = x2 (ix2 0 i) := by pointwise

/-- The keys' gain. -/
theorem ld_gk (x2 : Vec Ideal S2x64 .f32) (i : Fin 64) : View.ld x2 r0_5 (ix2 0 i) = x2 (ix2 1 i) := by pointwise

section
variable (x0 x1 : Vec Ideal S256x768 .f32) (x2 : Vec Ideal S2x64 .f32) (X0 X1 : ℕ → ℕ → EReal) (T : ℕ)

/-- A normalised key of a block. -/
theorem key_at (h1 : ∀ r c, r < 256 → c < 768 → at2 x1 r c = X1 (T * 256 + r) c) (r c : ℕ) (hr : r < 256) (hc : c < 128) :
    at2 (kn (View.ld x1 r0_2) (View.ld x2 r0_5)) r c
      = normAt n64 eps X1 (fun i => x2 (ix2 1 i)) (T * 256 + r) (512 + c / 64 * 64) ⟨c % 64, Nat.mod_lt _ (by norm_num)⟩ := by
  rw [kn_apply _ _ _ _ hr hc]
  refine normAt_congr (fun i => ?_) (fun i => ld_gk x2 i) rfl
  rw [ld_k _ _ _ hr (by omega), h1 _ _ hr (by omega), Nat.add_assoc]

/-- A normalised query of a block. -/
theorem query_at (h1 : ∀ r c, r < 256 → c < 768 → at2 x1 r c = X1 (T * 256 + r) c) (r c : ℕ) (hr : r < 256) (hc : c < 512) :
    at2 (qn (View.ld x1 r0_1) (View.ld x2 r0_4)) r c
      = normAt n64 eps X1 (fun i => x2 (ix2 0 i)) (T * 256 + r) (c / 64 * 64) ⟨c % 64, Nat.mod_lt _ (by norm_num)⟩ := by
  rw [qn_apply _ _ _ _ hr hc]
  refine normAt_congr (fun i => ?_) (fun i => ld_gq x2 i) rfl
  rw [ld_q _ _ _ hr (by omega), h1 _ _ hr (by omega)]

/-- What the body leaves in the keys' block. -/
theorem block4 (h1 : ∀ r c, r < 256 → c < 768 → at2 x1 r c = X1 (T * 256 + r) c) (r : Fin 256) (c : Fin 128) :
    out0_4 x0 x1 x2 (ix2 r c)
      = normAt n64 eps X1 (fun i => x2 (ix2 1 i)) (T * 256 + r.val) (512 + c.val / 64 * 64) ⟨c.val % 64, Nat.mod_lt _ (by norm_num)⟩ := by
  rw [out4_eq, ← key_at x1 x2 X1 T h1 r.val c.val r.isLt c.isLt, at2_in _ r.isLt c.isLt]

/-- What the body leaves in the attention's block. -/
theorem block3 (h0 : ∀ r c, r < 256 → c < 768 → at2 x0 r c = X0 (T * 256 + r) c)
    (h1 : ∀ r c, r < 256 → c < 768 → at2 x1 r c = X1 (T * 256 + r) c)
    (f0 : ∀ i j, Fine (X0 i j)) (f1 : ∀ i j, Fine (X1 i j)) (f2 : ∀ i, Fine (x2 i)) (r : Fin 256) (c : Fin 768) :
    out0_3 x0 x1 x2 (ix2 r c)
      = if c.val < 256 then plainAt c8 X0 (T * 256 + r.val) c.val
        else groupedAt c8 n64 eps X1 (fun i => x2 (ix2 0 i)) (fun i => x2 (ix2 1 i)) (T * 256 + r.val) (c.val - 256) := by
  have hr := r.isLt
  have hc := c.isLt
  have er : (T * 256 + r.val) / 256 = T := by omega
  rw [out3_eq, heads_apply]
  unfold headN
  by_cases h : c.val < 256
  · rw [if_pos (show c.val / 64 < 4 by omega), if_pos h, head_apply]
    · unfold plainAt
      rw [er]
      refine congrArg₂ soft (funext fun j => congrArg (· * c8) (Finset.sum_congr rfl fun e _ => congrArg₂ (· * ·) ?_ ?_)) (funext fun j => ?_)
      · show at2 x0 j.val (256 + c.val / 64 * 64 + e.val) = _
        rw [h0 _ _ j.isLt (by omega)]
      · show at2 x0 r.val (c.val / 64 * 64 + e.val) = _
        rw [h0 _ _ hr (by omega)]
      · show at2 x0 j.val (512 + c.val / 64 * 64 + c.val % 64) = _
        rw [h0 _ _ j.isLt (by omega), show 512 + c.val / 64 * 64 + c.val % 64 = 512 + c.val by omega]
    · intro i
      have i0 : (i 0).val < 256 := (i 0).isLt
      have i1 : (i 1).val < 64 := (i 1).isLt
      show Fine (at2 x0 (i 0).val (c.val / 64 * 64 + (i 1).val))
      rw [h0 _ _ i0 (by omega)]
      exact f0 _ _
    · intro i
      have i0 : (i 0).val < 256 := (i 0).isLt
      have i1 : (i 1).val < 64 := (i 1).isLt
      show Fine (at2 x0 (i 0).val (256 + c.val / 64 * 64 + (i 1).val))
      rw [h0 _ _ i0 (by omega)]
      exact f0 _ _
  · rw [if_neg (show ¬c.val / 64 < 4 by omega), if_neg h, head_apply]
    · unfold groupedAt
      rw [er]
      refine congrArg₂ soft (funext fun j => congrArg (· * c8) (Finset.sum_congr rfl fun e _ => congrArg₂ (· * ·) ?_ ?_)) (funext fun j => ?_)
      · show at2 (kn _ _) j.val ((c.val / 64 - 4) / 4 * 64 + e.val) = _
        rw [key_at x1 x2 X1 T h1 _ _ j.isLt (by omega)]
        refine normAt_congr (fun i => ?_) (fun i => rfl) (Fin.ext ?_)
        · rw [show 512 + ((c.val / 64 - 4) / 4 * 64 + e.val) / 64 * 64 = 512 + (c.val - 256) / 256 * 64 by omega]
        · show ((c.val / 64 - 4) / 4 * 64 + e.val) % 64 = e.val
          omega
      · show at2 (qn _ _) r.val ((c.val / 64 - 4) * 64 + e.val) = _
        rw [query_at x1 x2 X1 T h1 _ _ hr (by omega)]
        refine normAt_congr (fun i => ?_) (fun i => rfl) (Fin.ext ?_)
        · rw [show ((c.val / 64 - 4) * 64 + e.val) / 64 * 64 = (c.val - 256) / 64 * 64 by omega]
        · show ((c.val / 64 - 4) * 64 + e.val) % 64 = e.val
          omega
      · show at2 (View.ld x1 r0_3) j.val ((c.val / 64 - 4) / 4 * 64 + c.val % 64) = _
        rw [ld_v _ _ _ j.isLt (by omega), h1 _ _ j.isLt (by omega),
          show 640 + ((c.val / 64 - 4) / 4 * 64 + c.val % 64) = 640 + (c.val - 256) / 256 * 64 + (c.val - 256) % 64 by omega]
    · intro i
      have i0 : (i 0).val < 256 := (i 0).isLt
      have i1 : (i 1).val < 64 := (i 1).isLt
      show Fine (at2 (qn _ _) (i 0).val ((c.val / 64 - 4) * 64 + (i 1).val))
      rw [query_at x1 x2 X1 T h1 _ _ i0 (by omega)]
      exact fine_norm _ _ _ _ _ f1 fun i => f2 _
    · intro i
      have i0 : (i 0).val < 256 := (i 0).isLt
      have i1 : (i 1).val < 64 := (i 1).isLt
      show Fine (at2 (kn _ _) (i 0).val ((c.val / 64 - 4) / 4 * 64 + (i 1).val))
      rw [key_at x1 x2 X1 T h1 _ _ i0 (by omega)]
      exact fine_norm _ _ _ _ _ f1 fun i => f2 _

end

/-! ## The arrays -/

section
variable (m : (ℓ : Loc nD τ sig) → Buf (Elt Ideal) ℓ) (ρ : Dev nD → PrngReg)

/-- The windows' block indices. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- The first argument. -/
abbrev a0 (c : Dev nD) : FVec Ideal S8192x768 .f32 := m ((c : Thread nD τ).loc main_arg0)
/-- The second argument. -/
abbrev a1 (c : Dev nD) : FVec Ideal S8192x768 .f32 := m ((c : Thread nD τ).loc main_arg1)
/-- The third argument. -/
abbrev a2 (c : Dev nD) : FVec Ideal S2x64 .f32 := m ((c : Thread nD τ).loc main_arg2)

/-- There are sixteen points. -/
theorem lt16 (t : Fin cfg0.N) : t.val < 16 := by
  have h := t.isLt
  have e : cfg0.N = 16 := N_0
  omega

/-- A point's block of the first argument. -/
theorem iblk0 (c : Dev nD) (t : Fin cfg0.N) (r k : ℕ) (hr : r < 256) (hk : k < 768) :
    at2 (a := 256) (b := 768) (iblk m c 0 t) r k = at2 (a0 m c) (t.val * 256 + r) k := by
  have ht := lt16 t
  rw [at2_in _ hr hk, at2_in _ (show t.val * 256 + r < 8192 by omega) hk]
  blk_ext! [iblk, V, idx t]

/-- A point's block of the second argument. -/
theorem iblk1 (c : Dev nD) (t : Fin cfg0.N) (r k : ℕ) (hr : r < 256) (hk : k < 768) :
    at2 (a := 256) (b := 768) (iblk m c 1 t) r k = at2 (a1 m c) (t.val * 256 + r) k := by
  have ht := lt16 t
  rw [at2_in _ hr hk, at2_in _ (show t.val * 256 + r < 8192 by omega) hk]
  blk_ext! [iblk, V, idx t]

/-- Every point's block of the third argument is the argument. -/
theorem iblk2 (c : Dev nD) (t : Fin cfg0.N) : iblk m c 2 t = a2 m c := by
  blk_ext! [iblk, V, idx t]

/-- What the attention's array holds after the run. -/
def G3 (c : Dev nD) : FVec Ideal S4096x768 .f32 := fun i =>
  if (i 1).val < 256 then plainAt c8 (at2 (a0 m c)) (i 0).val (i 1).val
  else groupedAt c8 n64 eps (at2 (a1 m c)) (fun e => a2 m c (ix2 0 e)) (fun e => a2 m c (ix2 1 e)) (i 0).val ((i 1).val - 256)

/-- What the keys' array holds after the run. -/
def G4 (c : Dev nD) : FVec Ideal S4096x128 .f32 := fun i =>
  normAt n64 eps (at2 (a1 m c)) (fun e => a2 m c (ix2 1 e)) (i 0).val (512 + (i 1).val / 64 * 64) ⟨(i 1).val % 64, Nat.mod_lt _ (by norm_num)⟩

/-- The attention's array after the run. -/
theorem final3 (c : Dev nD) (f0 : ∀ i, Fine (a0 m c i)) (f1 : ∀ i, Fine (a1 m c i)) (f2 : ∀ i, Fine (a2 m c i)) :
    (dats m 0 c).arrAt 3 cfg0.N = G3 m c := by
  refine (dats m 0 c).arrAt_eq_of_covers 3 (G3 m c) (by decide +kernel) (fun t hf y => ?_)
  rw [after0_3]
  blk_simp
  have ht := lt16 t
  have y0 : (y 0).val < 256 := (y 0).isLt
  have y1 : (y 1).val < 768 := (y 1).isLt
  have ey : y = ix2 ⟨(y 0).val, y0⟩ ⟨(y 1).val, y1⟩ := by blk_ext
  have ee : (win0_3.blk t).view.emb y = ix2 ⟨t.val * 256 + (y 0).val, show t.val * 256 + (y 0).val < 4096 by omega⟩ ⟨(y 1).val, y1⟩ := by
    blk_ext [idx t]
  rw [ee, iblk2]
  refine (congrArg _ ey).trans ?_
  exact block3 _ _ _ (at2 (a0 m c)) (at2 (a1 m c)) t.val (fun r k hr hk => iblk0 m c t r k hr hk) (fun r k hr hk => iblk1 m c t r k hr hk)
    (fine_at2 _ f0) (fine_at2 _ f1) f2 ⟨(y 0).val, y0⟩ ⟨(y 1).val, y1⟩

/-- The keys' array after the run. -/
theorem final4 (c : Dev nD) : (dats m 0 c).arrAt 4 cfg0.N = G4 m c := by
  refine (dats m 0 c).arrAt_eq_of_covers 4 (G4 m c) (by decide +kernel) (fun t hf y => ?_)
  rw [after0_4]
  blk_simp
  have ht := lt16 t
  have y0 : (y 0).val < 256 := (y 0).isLt
  have y1 : (y 1).val < 128 := (y 1).isLt
  have ey : y = ix2 ⟨(y 0).val, y0⟩ ⟨(y 1).val, y1⟩ := by blk_ext
  have ee : (win0_4.blk t).view.emb y = ix2 ⟨t.val * 256 + (y 0).val, show t.val * 256 + (y 0).val < 4096 by omega⟩ ⟨(y 1).val, y1⟩ := by
    blk_ext [idx t]
  rw [ee, iblk2]
  refine (congrArg _ ey).trans ?_
  exact block4 _ _ _ (at2 (a1 m c)) t.val (fun r k hr hk => iblk1 m c t r k hr hk) ⟨(y 0).val, y0⟩ ⟨(y 1).val, y1⟩

/-- The run: both result arrays, the arguments unchanged. -/
theorem run (h : ∀ c, (∀ i, Fine (a0 m c i)) ∧ (∀ i, Fine (a1 m c i)) ∧ ∀ i, Fine (a2 m c i)) :
    θ_run defs (onTc (τ := τ) (main (F := Ideal))) ⟨m, fun _ => 0, ρ⟩ fun r => ∀ c : Dev nD,
      r.2.mem ((c : Thread nD τ).loc main_v0_0) = G3 m c
      ∧ r.2.mem ((c : Thread nD τ).loc main_v0_1) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c => ⟨(hr c).1.trans (final3 m c (h c).1 (h c).2.1 (h c).2.2), (hr c).2.1.trans (final4 m c), (hr c).2.2⟩)
    (Value.run_blocks m ρ)

end

end Cert.CtxIdeal.Head

end
-- ==== Proof.CtxRead.lean ====
/-
  The reference of the context attention, read at a row and a column.
-/
module

public import proofs.«01_k».proof.Proof.Gen.CtxRefIdeal.Read
public import proofs.«01_k».proof.Proof.Attn

@[expose] public section

set_option maxRecDepth 16384

noncomputable section

namespace Cert.CtxRefIdeal.At

open Cert.CtxRefIdeal Cert.CtxRefIdeal.Gen Cert.CtxRefIdeal.Read Cert.Attn Idealize.ShloMosaic Idealize.ShloMosaic.TcCoe Idealize.SL.Sem
open Idealize.ShloMosaic.Pointwise
open scoped BigOperators

/-! ## The plain heads -/

/-- The plain heads' scores. -/
theorem scores (x0 : FVec Ideal S8192x768 .f32) (b : Fin 16) (h : Fin 4) (z : Fin 1) (r j : Fin 256) :
    val_main_v18 (F := Ideal) x0 (ix5 b h z r j)
      = (∑ e : Fin 64, at2 x0 (b.val * 256 + j.val) (256 + h.val * 64 + e.val) * at2 x0 (b.val * 256 + r.val) (h.val * 64 + e.val)) * c8 := by
  unfold val_main_v18 val_main_v17 val_main_v16 val_main_v15 val_main_v14 val_main_v5 val_main_v4 val_main_v3 val_main_v2 val_main_v0 val_main_cst
  pointwise
  simp only [← at2_val x0, Nat.add_assoc]

/-- The index a reduction over the keys reads. -/
theorem lift_keys (b : Fin 16) (h : Fin 4) (z : Fin 1) (r : Fin 256) (hr : S16x4x1x256x256.Reduces [4] S16x4x1x256) (k : Fin 256) :
    Shape.Reduces.lift (s := S16x4x1x256x256) (t := S16x4x1x256) (a := 4) hr (ix4 b h z r) k = ix5 b h z r k :=
  funext fun a => match a with
    | ⟨0, _⟩ => rfl
    | ⟨1, _⟩ => rfl
    | ⟨2, _⟩ => rfl
    | ⟨3, _⟩ => rfl
    | ⟨4, _⟩ => rfl

/-- The keys' axis is the one reduced. -/
theorem reduces_keys : S16x4x1x256x256.Reduces [4] S16x4x1x256 := by decide

/-- A reduction over the keys is a fold over them. -/
theorem fold_keys (f : EReal → EReal → EReal) [Std.Commutative f] [Std.Associative f] (y : FVec Ideal S16x4x1x256x256 .f32)
    (init : FVec Ideal S_ .f32) (b : Fin 16) (h : Fin 4) (z : Fin 1) (r : Fin 256) :
    Host.reduce f y init reducesTo_S16x4x1x256x256_S16x4x1x256_d4 h_S_ (ix4 b h z r)
      = Finset.fold f (init (Shape.Idx.first h_S_)) (fun j : Fin 256 => y (ix5 b h z r j)) Finset.univ := by
  refine (Host.reduce_eq_fold_single (s := S16x4x1x256x256) (t := S16x4x1x256) (a := 4) f y init
    reducesTo_S16x4x1x256x256_S16x4x1x256_d4 reduces_keys h_S_ (ix4 b h z r)).trans ?_
  exact congrArg (fun g => Finset.fold f (init (Shape.Idx.first h_S_)) g Finset.univ)
    (funext fun k => congrArg y (lift_keys b h z r reduces_keys k))

/-- The greatest score. -/
theorem maxes (x0 : FVec Ideal S8192x768 .f32) (b : Fin 16) (h : Fin 4) (z : Fin 1) (r : Fin 256) :
    val_main_v21 (F := Ideal) x0 (ix4 b h z r) = top fun j => val_main_v18 (F := Ideal) x0 (ix5 b h z r j) := by
  have e : val_main_v19 (F := Ideal) x0 (ix4 b h z r) = top fun j => val_main_v18 (F := Ideal) x0 (ix5 b h z r j) := by
    unfold val_main_v19
    refine (fold_keys max (val_main_v18 (F := Ideal) x0) (val_main_cst_0 (F := Ideal)) b h z r).trans ?_
    exact congrArg (fun i => Finset.fold max i (fun j : Fin 256 => val_main_v18 (F := Ideal) x0 (ix5 b h z r j)) Finset.univ) negInf
  rw [val_main_v21_apply, e]
  have e0 : val_main_v20 (F := Ideal) (ix4 b h z r) = (⊥ : EReal) := by
    rw [val_main_v20_apply]; exact negInf
  rw [e0]
  exact max_bot_left _

/-- The exponentials. -/
theorem exps (x0 : FVec Ideal S8192x768 .f32) (b : Fin 16) (h : Fin 4) (z : Fin 1) (r j : Fin 256) :
    val_main_v25 (F := Ideal) x0 (ix5 b h z r j)
      = Ideal.exp (val_main_v18 (F := Ideal) x0 (ix5 b h z r j) - val_main_v21 (F := Ideal) x0 (ix4 b h z r)) := by
  unfold val_main_v25 val_main_v24 val_main_v23 val_main_v22
  generalize val_main_v18 (F := Ideal) x0 = y
  generalize val_main_v21 (F := Ideal) x0 = w
  pointwise
  rw [Subsingleton.elim z 0]

/-- The probabilities. -/
theorem probs (x0 : FVec Ideal S8192x768 .f32) (b : Fin 16) (h : Fin 4) (z : Fin 1) (r j : Fin 256) :
    val_main_v29 (F := Ideal) x0 (ix5 b h z r j)
      = Ideal.div (val_main_v25 (F := Ideal) x0 (ix5 b h z r j)) (∑ k, val_main_v25 (F := Ideal) x0 (ix5 b h z r k)) := by
  unfold val_main_v29 val_main_v28 val_main_v27 val_main_v26 val_main_cst_2
  generalize val_main_v25 (F := Ideal) x0 = y
  pointwise
  rw [Subsingleton.elim z 0]

/-- The plain heads' output at a row and a column. -/
theorem plain (x0 : FVec Ideal S8192x768 .f32) (R : Fin 4096) (C : Fin 256) :
    val_main_v32 (F := Ideal) x0 (ix2 R C) = plainAt c8 (at2 x0) R.val C.val := by
  unfold val_main_v32 val_main_v31 val_main_v30 val_main_v7 val_main_v6 val_main_v0
  have hp := probs x0
  revert hp
  generalize val_main_v29 (F := Ideal) x0 = y
  intro hp
  pointwise
  rw [plainAt, soft]
  refine Finset.sum_congr rfl fun j _ => ?_
  rw [mul_comm, ← at2_val x0, hp]
  simp only [exps, maxes, scores]
  have e1 : R.val / 256 * 256 + R.val % 256 = R.val := by omega
  simp only [e1]

/-! ## The grouped heads -/

/-- A normalised query. -/
theorem queries (x1 : FVec Ideal S8192x768 .f32) (x2 : FVec Ideal S2x64 .f32) (b : Fin 16) (r : Fin 256) (h : Fin 8) (e : Fin 64) :
    val_main_v47 (F := Ideal) x1 x2 (ix4 b r h e)
      = normAt n64 eps (at2 x1) (fun i => x2 (ix2 0 i)) (b.val * 256 + r.val) (h.val * 64) e := by
  unfold val_main_v47 val_main_v46 val_main_v45 val_main_v34 val_main_v33 val_main_v44 val_main_v43 val_main_v42 val_main_v41 val_main_v40
    val_main_v39 val_main_v38 val_main_v37 val_main_v36 val_main_v35 val_main_v9 val_main_v8 val_main_v1 val_main_cst_3 val_main_cst_4 val_main_cst_5
  pointwise
  simp only [← at2_val x1]
  rfl

/-- A normalised key. -/
theorem keys (x1 : FVec Ideal S8192x768 .f32) (x2 : FVec Ideal S2x64 .f32) (b : Fin 16) (r : Fin 256) (h : Fin 2) (e : Fin 64) :
    val_main_v62 (F := Ideal) x1 x2 (ix4 b r h e)
      = normAt n64 eps (at2 x1) (fun i => x2 (ix2 1 i)) (b.val * 256 + r.val) (512 + h.val * 64) e := by
  unfold val_main_v62 val_main_v61 val_main_v60 val_main_v49 val_main_v48 val_main_v59 val_main_v58 val_main_v57 val_main_v56 val_main_v55
    val_main_v54 val_main_v53 val_main_v52 val_main_v51 val_main_v50 val_main_v11 val_main_v10 val_main_v1 val_main_cst_6 val_main_cst_7 val_main_cst_8
  pointwise
  simp only [← at2_val x1]
  simp only [normAt, rmsn, Nat.add_assoc]

/-- The grouped heads' scores. -/
theorem scoresG (x1 : FVec Ideal S8192x768 .f32) (x2 : FVec Ideal S2x64 .f32) (b : Fin 16) (g : Fin 2) (h : Fin 4) (r j : Fin 256) :
    val_main_v67 (F := Ideal) x1 x2 (ix5 b g h r j)
      = (∑ e : Fin 64, normAt n64 eps (at2 x1) (fun i => x2 (ix2 1 i)) (b.val * 256 + j.val) (512 + g.val * 64) e
          * normAt n64 eps (at2 x1) (fun i => x2 (ix2 0 i)) (b.val * 256 + r.val) ((g.val * 4 + h.val) * 64) e) * c8 := by
  unfold val_main_v67 val_main_v66 val_main_v65 val_main_v64 val_main_v63 val_main_cst_9
  have hq := queries x1 x2
  have hk := keys x1 x2
  revert hq hk
  generalize val_main_v47 (F := Ideal) x1 x2 = q
  generalize val_main_v62 (F := Ideal) x1 x2 = k
  intro hq hk
  pointwise
  simp only [hq, hk]

/-- The index a reduction over the grouped heads' keys reads. -/
theorem lift_keysG (b : Fin 16) (g : Fin 2) (h : Fin 4) (r : Fin 256) (hr : S16x2x4x256x256.Reduces [4] S16x2x4x256) (k : Fin 256) :
    Shape.Reduces.lift (s := S16x2x4x256x256) (t := S16x2x4x256) (a := 4) hr (ix4 b g h r) k = ix5 b g h r k :=
  funext fun a => match a with
    | ⟨0, _⟩ => rfl
    | ⟨1, _⟩ => rfl
    | ⟨2, _⟩ => rfl
    | ⟨3, _⟩ => rfl
    | ⟨4, _⟩ => rfl

/-- The grouped keys' axis is the one reduced. -/
theorem reduces_keysG : S16x2x4x256x256.Reduces [4] S16x2x4x256 := by decide

/-- A reduction over the grouped heads' keys is a fold over them. -/
theorem fold_keysG (f : EReal → EReal → EReal) [Std.Commutative f] [Std.Associative f] (y : FVec Ideal S16x2x4x256x256 .f32)
    (init : FVec Ideal S_ .f32) (b : Fin 16) (g : Fin 2) (h : Fin 4) (r : Fin 256) :
    Host.reduce f y init reducesTo_S16x2x4x256x256_S16x2x4x256_d4 h_S_ (ix4 b g h r)
      = Finset.fold f (init (Shape.Idx.first h_S_)) (fun j : Fin 256 => y (ix5 b g h r j)) Finset.univ := by
  refine (Host.reduce_eq_fold_single (s := S16x2x4x256x256) (t := S16x2x4x256) (a := 4) f y init
    reducesTo_S16x2x4x256x256_S16x2x4x256_d4 reduces_keysG h_S_ (ix4 b g h r)).trans ?_
  exact congrArg (fun g => Finset.fold f (init (Shape.Idx.first h_S_)) g Finset.univ)
    (funext fun k => congrArg y (lift_keysG b g h r reduces_keysG k))

/-- The grouped heads' greatest score. -/
theorem maxesG (x1 : FVec Ideal S8192x768 .f32) (x2 : FVec Ideal S2x64 .f32) (b : Fin 16) (g : Fin 2) (h : Fin 4) (r : Fin 256) :
    val_main_v70 (F := Ideal) x1 x2 (ix4 b g h r) = top fun j => val_main_v67 (F := Ideal) x1 x2 (ix5 b g h r j) := by
  have e : val_main_v68 (F := Ideal) x1 x2 (ix4 b g h r) = top fun j => val_main_v67 (F := Ideal) x1 x2 (ix5 b g h r j) := by
    unfold val_main_v68
    refine (fold_keysG max (val_main_v67 (F := Ideal) x1 x2) (val_main_cst_10 (F := Ideal)) b g h r).trans ?_
    exact congrArg (fun i => Finset.fold max i (fun j : Fin 256 => val_main_v67 (F := Ideal) x1 x2 (ix5 b g h r j)) Finset.univ) negInf
  rw [val_main_v70_apply, e]
  have e0 : val_main_v69 (F := Ideal) (ix4 b g h r) = (⊥ : EReal) := by
    rw [val_main_v69_apply]; exact negInf
  rw [e0]
  exact max_bot_left _

/-- The grouped heads' exponentials. -/
theorem expsG (x1 : FVec Ideal S8192x768 .f32) (x2 : FVec Ideal S2x64 .f32) (b : Fin 16) (g : Fin 2) (h : Fin 4) (r j : Fin 256) :
    val_main_v74 (F := Ideal) x1 x2 (ix5 b g h r j)
      = Ideal.exp (val_main_v67 (F := Ideal) x1 x2 (ix5 b g h r j) - val_main_v70 (F := Ideal) x1 x2 (ix4 b g h r)) := by
  unfold val_main_v74 val_main_v73 val_main_v72 val_main_v71
  generalize val_main_v67 (F := Ideal) x1 x2 = y
  generalize val_main_v70 (F := Ideal) x1 x2 = w
  pointwise

/-- The grouped heads' probabilities. -/
theorem probsG (x1 : FVec Ideal S8192x768 .f32) (x2 : FVec Ideal S2x64 .f32) (b : Fin 16) (g : Fin 2) (h : Fin 4) (r j : Fin 256) :
    val_main_v78 (F := Ideal) x1 x2 (ix5 b g h r j)
      = Ideal.div (val_main_v74 (F := Ideal) x1 x2 (ix5 b g h r j)) (∑ k, val_main_v74 (F := Ideal) x1 x2 (ix5 b g h r k)) := by
  unfold val_main_v78 val_main_v77 val_main_v76 val_main_v75 val_main_cst_12
  generalize val_main_v74 (F := Ideal) x1 x2 = y
  pointwise

/-- The grouped heads' output at a row and a column. -/
theorem grouped (x1 : FVec Ideal S8192x768 .f32) (x2 : FVec Ideal S2x64 .f32) (R : Fin 4096) (C : Fin 512) :
    val_main_v81 (F := Ideal) x1 x2 (ix2 R C)
      = groupedAt c8 n64 eps (at2 x1) (fun i => x2 (ix2 0 i)) (fun i => x2 (ix2 1 i)) R.val C.val := by
  unfold val_main_v81 val_main_v80 val_main_v79 val_main_v13 val_main_v12 val_main_v1
  have hp := probsG x1 x2
  revert hp
  generalize val_main_v78 (F := Ideal) x1 x2 = y
  intro hp
  pointwise
  rw [groupedAt, soft]
  refine Finset.sum_congr rfl fun j _ => ?_
  rw [mul_comm, ← at2_val x1, hp]
  simp only [expsG, maxesG, scoresG]
  have e1 : R.val / 256 * 256 + R.val % 256 = R.val := by omega
  simp only [e1]
  have e2 : (C.val / 256 * 4 + C.val / 64 % 4) * 64 = C.val / 64 * 64 := by omega
  simp only [e2, Nat.add_assoc]

/-- The normalised keys at a row and a column. -/
theorem newKeys (x1 : FVec Ideal S8192x768 .f32) (x2 : FVec Ideal S2x64 .f32) (R : Fin 4096) (C : Fin 128) :
    val_main_v83 (F := Ideal) x1 x2 (ix2 R C)
      = normAt n64 eps (at2 x1) (fun i => x2 (ix2 1 i)) R.val (512 + C.val / 64 * 64) ⟨C.val % 64, Nat.mod_lt _ (by decide)⟩ := by
  unfold val_main_v83
  have hk := keys x1 x2
  revert hk
  generalize val_main_v62 (F := Ideal) x1 x2 = k
  intro hk
  pointwise
  rw [hk]
  have e1 : R.val / 256 * 256 + R.val % 256 = R.val := by omega
  simp only [e1]

/-- The joined output at a row and a column. -/
theorem joined (x0 x1 : FVec Ideal S8192x768 .f32) (x2 : FVec Ideal S2x64 .f32) (R : Fin 4096) (C : Fin 768) :
    val_main_v82 (F := Ideal) x0 x1 x2 (ix2 R C)
      = if C.val < 256 then plainAt c8 (at2 x0) R.val C.val
        else groupedAt c8 n64 eps (at2 x1) (fun i => x2 (ix2 0 i)) (fun i => x2 (ix2 1 i)) R.val (C.val - 256) := by
  unfold val_main_v82
  have hp := plain x0
  have hg := grouped x1 x2
  revert hp hg
  generalize val_main_v32 (F := Ideal) x0 = y
  generalize val_main_v81 (F := Ideal) x1 x2 = w
  intro hp hg
  pointwise
  split_ifs with h <;> first | exact hp _ _ | exact hg _ _ | exact absurd rfl ‹_›

end Cert.CtxRefIdeal.At

end
-- ==== Proof.CtxClaim.lean ====
/-
  The claims about the context attention: the precondition read as finiteness, and the kernel's two results equal to the
  reference's.
-/
module

public import proofs.«01_k».proof.Defs
public import proofs.«01_k».proof.Proof.Gen.Ctx
public import proofs.«01_k».proof.Proof.Gen.CtxIdeal
public import proofs.«01_k».proof.Proof.Gen.CtxRefIdeal
public import proofs.«01_k».proof.Proof.Gen.CtxRefIdeal.Run
public import proofs.«01_k».proof.Proof.Gen.Pre_finite_ctx
public import proofs.«01_k».proof.Proof.CtxValue
public import proofs.«01_k».proof.Proof.CtxRead
public import Idealize.ShloMosaic.Lib.ReduceAll
public import Idealize.ShloMosaic.Lib.Quiescent

@[expose] public section

noncomputable section

namespace Cert.Proof

open Idealize.ShloMosaic Idealize.ShloMosaic.TcCoe Idealize.SL.Sem Cert.Attn

/-- Where the magnitude compares below infinity the entry is finite. -/
theorem fine_of_cmp {s : Shape} (x y : FVec Ideal s .f32) (i : s.Idx) (hy : y i = (⊤ : EReal))
    (h : cmpf .olt (Host.absf x) y i = 1#1) : Fine (x i) := by
  have h' : BitVec.ofBool (decide (max (x i) (-(x i)) < y i)) = 1#1 := h
  rw [hy] at h'
  refine Fine.of_abs ?_
  by_contra hn
  rw [decide_eq_false hn] at h'
  exact absurd h' (by decide)

/-- The precondition says that every entry of the three arguments is finite. -/
theorem pre_ctx (x0 x1 : FVec Ideal Cert.CtxIdeal.S8192x768 .f32) (x2 : FVec Ideal Cert.CtxIdeal.S2x64 .f32)
    (h : Cert.Pre_finite_ctx.fn (F := Ideal) x0 x1 x2 = fun _ => 1#1) :
    (∀ i, Fine (x0 i)) ∧ (∀ i, Fine (x1 i)) ∧ ∀ i, Fine (x2 i) := by
  have h1 := congrFun h (fun a => a.elim0)
  dsimp only [Cert.Pre_finite_ctx.fn] at h1
  have split : ∀ a b : BitVec 1, a &&& b = 1#1 → a = 1#1 ∧ b = 1#1 := by decide
  obtain ⟨h2, hc⟩ := split _ _ h1
  obtain ⟨ha, hb⟩ := split _ _ h2
  haveI : Subsingleton Cert.Pre_finite_ctx.S_.Idx := ⟨fun a b => funext fun k => k.elim0⟩
  exact ⟨fun i => fine_of_cmp _ _ i posInf (Host.reduce_andi_all _ _ _ _ _ ha i),
    fun i => fine_of_cmp _ _ i posInf (Host.reduce_andi_all _ _ _ _ _ hb i),
    fun i => fine_of_cmp _ _ i posInf (Host.reduce_andi_all _ _ _ _ _ hc i)⟩

/-- The reference's joined output is the function the kernel's first array holds. -/
theorem ref_v82 (x0 x1 : FVec Ideal Cert.CtxRefIdeal.S8192x768 .f32) (x2 : FVec Ideal Cert.CtxRefIdeal.S2x64 .f32) :
    Cert.CtxRefIdeal.Read.val_main_v82 (F := Ideal) x0 x1 x2 = fun i =>
      if (i 1).val < 256 then plainAt c8 (at2 x0) (i 0).val (i 1).val
      else groupedAt c8 n64 eps (at2 x1) (fun e => x2 (ix2 0 e)) (fun e => x2 (ix2 1 e)) (i 0).val ((i 1).val - 256) := by
  funext i
  have ei : i = ix2 (i 0) (i 1) := funext fun a => match a with
    | ⟨0, _⟩ => rfl
    | ⟨1, _⟩ => rfl
  refine (congrArg _ ei).trans ?_
  exact Cert.CtxRefIdeal.At.joined x0 x1 x2 (i 0) (i 1)

/-- The reference's normalised keys are the function the kernel's second array holds. -/
theorem ref_v83 (x1 : FVec Ideal Cert.CtxRefIdeal.S8192x768 .f32) (x2 : FVec Ideal Cert.CtxRefIdeal.S2x64 .f32) :
    Cert.CtxRefIdeal.Read.val_main_v83 (F := Ideal) x1 x2 = fun i =>
      normAt n64 eps (at2 x1) (fun e => x2 (ix2 1 e)) (i 0).val (512 + (i 1).val / 64 * 64) ⟨(i 1).val % 64, Nat.mod_lt _ (by norm_num)⟩ := by
  funext i
  have ei : i = ix2 (i 0) (i 1) := funext fun a => match a with
    | ⟨0, _⟩ => rfl
    | ⟨1, _⟩ => rfl
  refine (congrArg _ ei).trans ?_
  exact Cert.CtxRefIdeal.At.newKeys x1 x2 (i 0) (i 1)

/-- The reference runs, leaves its arguments as they were, and has no semaphore to leave raised. -/
theorem frame_ctxRef : Cert.quiescent_CtxRefIdeal := fun m g _ =>
  (θ_run _ _ _).mono (fun r h => ⟨fun c => (h c).2.2, sem_eq_zero_of_no_sems rfl r.2⟩) (Cert.CtxRefIdeal.Value.run (F := Ideal) m g)

/-- The kernel's results equal the reference's on finite arguments. -/
theorem algebraic_ctx : Cert.algebraic_CtxIdeal_CtxRefIdeal_pre_finite_ctx := by
  intro m g m' g' hpre hag
  have hf := fun c => pre_ctx _ _ _ (hpre c)
  refine ⟨fun c => Cert.CtxIdeal.Head.G3 m c, fun c => Cert.CtxIdeal.Head.G4 m c, Cert.CtxIdeal.Head.run m g hf, ?_⟩
  refine (θ_run _ _ _).mono (fun r h c => ?_) (Cert.CtxRefIdeal.Value.run (F := Ideal) m' g')
  obtain ⟨h82, h83, hrest⟩ := h c
  obtain ⟨e0, e1, e2⟩ := hag c
  refine ⟨h82.trans ?_, h83.trans ?_, hrest⟩
  · refine (Cert.CtxRefIdeal.Read.val_main_v82_eq m' c).trans ?_
    rw [ref_v82, e0, e1, e2]
    rfl
  · refine (Cert.CtxRefIdeal.Read.val_main_v83_eq _ _).trans ?_
    rw [ref_v83, e1, e2]
    rfl

end Cert.Proof

end
-- ==== Proof.MoeIKit.lean ====
/- The launch side of the mixture-of-experts pipeline, for ANY contents of its two prefetched tables the pipeline
   admits: the buffers at the region's entry, the tables read off them, the windows' blocks, the staging and scratch
   memrefs, the body as the pipeline calls it. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore's buffers when the region is entered: the launch memory, the program being the region alone. -/
abbrev V (c : Dev nD) (b : Ref sig .tc) : Buf (Elt F) ((c : Thread nD τ).loc b) := m ((c : Thread nD τ).loc b)

set_option maxHeartbeats 800000 in
/-- The program reaches its region with those buffers. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents at the region's entry. -/
def tbl : pre0.Contents (Elt F) := fun j => V m (0 : Dev nD) (pre0.ref j)

/-- There is one device, so every device's tables hold those contents. -/
theorem V_pre (c : Dev nD) (j : Fin 2) : V m c (pre0.ref j) = tbl m j := by
  obtain rfl : c = 0 := Subsingleton.elim _ _; rfl

/-- The tables are admitted: each window they place has its block inside its array at every point. -/
abbrev Ok : Prop := ok0 (F := F) (tbl m)
/-- The tables as admitted contents. -/
abbrev adm (hO : Ok m) : (pcfg0 (F := F)).Adm := ⟨tbl m, hO⟩
/-- The pipeline at those contents. -/
abbrev cfgM (hO : Ok m) : Pipeline.Cfg sig Λ₀ := cfg0 (adm m hO)

/-- The table of the tiles' experts, as the body is handed it. -/
abbrev tbM0_0 : Memref sig .tc .smem S160 .i32 := Memref.whole main_arg0
/-- The one-word table of the number of tiles in use. -/
abbrev tbM0_1 : Memref sig .tc .smem S1 .i32 := Memref.whole main_arg1

/-- Contents of a table's buffer. -/
abbrev TbBuf0 (c : Dev nD) {S : Shape} {e : EltTy} (M : Memref sig .tc .smem S e) : Type := Buf (Elt F) (M.view.loc (c : Thread nD τ))
/-- A table held for reading: half of the full share, the pipeline keeping the other. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the body gets, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array at the region's entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, fetched there or kept from the point before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or kept from the point before. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or kept from the point before. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or kept from the point before. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or kept from the point before. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or kept from the point before. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- A run that leaves every array of the pipeline at what its proof data says leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_arg0 (by decide : main_arg0 ∈ Pipeline.restRefs sig spec0),
      (h c).2 main_arg1 (by decide : main_arg1 ∈ Pipeline.restRefs sig spec0),
      ((h c).1 0).trans (((dats 0 c).arrAt_in 0 rfl _).trans (hA c 0)),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5))⟩) h

/-- Window 0's staging memref at point `t`. -/
abbrev ms0_0 (hO : Ok m) (t : Fin (cfgM m hO).N) : Memref sig .tc .vmem S256x1024 .bf16 := spec0_0.stage ((cfgM m hO).slots t 0)
/-- It is a whole buffer. -/
abbrev hs0_0 (hO : Ok m) (t : Fin (cfgM m hO).N) : (ms0_0 m hO t).IsWhole := hstage0_0 (((cfgM m hO).slots t 0).cast nbuf0_0)

/-- Window 1's staging memref at point `t`. -/
abbrev ms0_1 (hO : Ok m) (t : Fin (cfgM m hO).N) : Memref sig .tc .vmem S256x1 .f32 := spec0_1.stage ((cfgM m hO).slots t 1)
/-- It is a whole buffer. -/
abbrev hs0_1 (hO : Ok m) (t : Fin (cfgM m hO).N) : (ms0_1 m hO t).IsWhole := hstage0_1 (((cfgM m hO).slots t 1).cast nbuf0_1)

/-- Window 2's staging memref at point `t`. -/
abbrev ms0_2 (hO : Ok m) (t : Fin (cfgM m hO).N) : Memref sig .tc .vmem S1x1024x2048 .f32 := spec0_2.stage ((cfgM m hO).slots t 2)
/-- It is a whole buffer. -/
abbrev hs0_2 (hO : Ok m) (t : Fin (cfgM m hO).N) : (ms0_2 m hO t).IsWhole := hstage0_2 (((cfgM m hO).slots t 2).cast nbuf0_2)

/-- Window 3's staging memref at point `t`. -/
abbrev ms0_3 (hO : Ok m) (t : Fin (cfgM m hO).N) : Memref sig .tc .vmem S1x1x2048 .f32 := spec0_3.stage ((cfgM m hO).slots t 3)
/-- It is a whole buffer. -/
abbrev hs0_3 (hO : Ok m) (t : Fin (cfgM m hO).N) : (ms0_3 m hO t).IsWhole := hstage0_3 (((cfgM m hO).slots t 3).cast nbuf0_3)

/-- Window 4's staging memref at point `t`. -/
abbrev ms0_4 (hO : Ok m) (t : Fin (cfgM m hO).N) : Memref sig .tc .vmem S1x1024x1024 .f32 := spec0_4.stage ((cfgM m hO).slots t 4)
/-- It is a whole buffer. -/
abbrev hs0_4 (hO : Ok m) (t : Fin (cfgM m hO).N) : (ms0_4 m hO t).IsWhole := hstage0_4 (((cfgM m hO).slots t 4).cast nbuf0_4)

/-- Window 5's staging memref at point `t`. -/
abbrev ms0_5 (hO : Ok m) (t : Fin (cfgM m hO).N) : Memref sig .tc .vmem S1x1x1024 .f32 := spec0_5.stage ((cfgM m hO).slots t 5)
/-- It is a whole buffer. -/
abbrev hs0_5 (hO : Ok m) (t : Fin (cfgM m hO).N) : (ms0_5 m hO t).IsWhole := hstage0_5 (((cfgM m hO).slots t 5).cast nbuf0_5)

/-- Window 6's staging memref at point `t`. -/
abbrev ms0_6 (hO : Ok m) (t : Fin (cfgM m hO).N) : Memref sig .tc .vmem S256x1024 .f32 := spec0_6.stage ((cfgM m hO).slots t 6)
/-- It is a whole buffer. -/
abbrev hs0_6 (hO : Ok m) (t : Fin (cfgM m hO).N) : (ms0_6 m hO t).IsWhole := hstage0_6 (((cfgM m hO).slots t 6).cast nbuf0_6)

/-- The scratch that keeps the current expert's first weight matrix. -/
abbrev scM0_0 : Memref sig .tc .vmem S1024x2048 .bf16 := Memref.whole cc0_scratch0
/-- The scratch that keeps its second. -/
abbrev scM0_1 : Memref sig .tc .vmem S1024x1024 .bf16 := Memref.whole cc0_scratch1

/-- What the pipeline keeps for the body between points: the two scratches at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The body at point `t`, on the staging memrefs of that point. -/
abbrev bodyAt0 (hO : Ok m) (t : Fin (cfgM m hO).N) : Prog (TpuEff nD τ sig (Elt F) Λ₀ .tc) PUnit :=
  cc0_moe (grid0.coords t) tbM0_0 (Memref.isWhole_whole _) tbM0_1 (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _)

/-- The table of bodies has that body at point `t`. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

end Cert.MoeIdeal.Gen

end
-- ==== Proof.MoeILoop.lean ====
/- The loop of the mixture-of-experts body that copies the current expert's weights into the scratches: eight trips,
   each casting 128 rows of each matrix. After it the scratches hold the two matrices whole, cast. -/
module

public import proofs.«01_k».proof.Proof.MoeIKit
public import Idealize.ShloMosaic.Lib.WritesUnit
public import Idealize.ShloMosaic.Lib.VecWindow
public import Idealize.ShloMosaic.Lib.Pipeline.ValueKit

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An expert's first weight matrix, cast to the scratch's format. -/
def cast0 (x : Vec F S1x1024x2048 .f32) : Vec F S1024x2048 .bf16 :=
  fun y => FloatOps.truncf .bf16 bitsLt_bf16_f32 (x (Fin.cons ⟨0, Nat.one_pos⟩ y))

/-- An expert's second weight matrix, cast to the scratch's format. -/
def cast1 (x : Vec F S1x1024x1024 .f32) : Vec F S1024x1024 .bf16 :=
  fun y => FloatOps.truncf .bf16 bitsLt_bf16_f32 (x (Fin.cons ⟨0, Nat.one_pos⟩ y))

theorem pay1_apply (v : Vec F S1x128x2048 .f32) (y : S128x2048.Idx) :
    k0_pay1 v y = FloatOps.truncf .bf16 bitsLt_bf16_f32 (v (Fin.cons ⟨0, Nat.one_pos⟩ y)) := by
  unfold k0_pay1
  simp only [shapeCast_self, truncf]
  exact congrArg _ (shapeCast_dropUnit_apply ![128, 2048] v _ y)

theorem pay2_apply (v : Vec F S1x128x1024 .f32) (y : S128x1024.Idx) :
    k0_pay2 v y = FloatOps.truncf .bf16 bitsLt_bf16_f32 (v (Fin.cons ⟨0, Nat.one_pos⟩ y)) := by
  unfold k0_pay2
  simp only [shapeCast_self, truncf]
  exact congrArg _ (shapeCast_dropUnit_apply ![128, 1024] v _ y)

theorem off3_eq : ∀ k : Fin k0_t1_loop.trips, k0_off3 k = ![0, 128 * k.val, 0] := by decide +kernel
theorem off4_eq : ∀ k : Fin k0_t1_loop.trips, k0_off4 k = ![128 * k.val, 0] := by decide +kernel
theorem off5_eq : ∀ k : Fin k0_t1_loop.trips, k0_off5 k = ![0, 128 * k.val, 0] := by decide +kernel
theorem off6_eq : ∀ k : Fin k0_t1_loop.trips, k0_off6 k = ![128 * k.val, 0] := by decide +kernel

section
variable {arg5 : Memref sig .tc .vmem S1x1024x2048 .f32} {arg7 : Memref sig .tc .vmem S1x1024x1024 .f32}

/-- The rows trip `k` writes into the first scratch. -/
def piece0 (X : BufTy.Contents (Elt F) arg5.view.ty) (k : Fin k0_t1_loop.trips) : View.Piece (Elt F) S1024x2048 .bf16 :=
  ⟨Rect.unit (s := S1024x2048) (k0_off4 k) S128x2048.size (k0_off4_inb k),
    k0_pay1 (arg5.view.readAt (Elt F) (Rect.unit (s := S1x1024x2048) (k0_off3 k) S1x128x2048.size (k0_off3_inb k)).toLoadRect X)⟩
/-- The rows trip `k` writes into the second scratch. -/
def piece1 (X : BufTy.Contents (Elt F) arg7.view.ty) (k : Fin k0_t1_loop.trips) : View.Piece (Elt F) S1024x1024 .bf16 :=
  ⟨Rect.unit (s := S1024x1024) (k0_off6 k) S128x1024.size (k0_off6_inb k),
    k0_pay2 (arg7.view.readAt (Elt F) (Rect.unit (s := S1x1024x1024) (k0_off5 k) S1x128x1024.size (k0_off5_inb k)).toLoadRect X)⟩

/-- All the rows written before trip `k` into the first scratch, the last first. -/
def rows0 (X : BufTy.Contents (Elt F) arg5.view.ty) : ℕ → List (View.Piece (Elt F) S1024x2048 .bf16)
  | 0 => []
  | k + 1 => if h : k < k0_t1_loop.trips then piece0 X ⟨k, h⟩ :: rows0 X k else rows0 X k
/-- All the rows written before trip `k` into the second scratch, the last first. -/
def rows1 (X : BufTy.Contents (Elt F) arg7.view.ty) : ℕ → List (View.Piece (Elt F) S1024x1024 .bf16)
  | 0 => []
  | k + 1 => if h : k < k0_t1_loop.trips then piece1 X ⟨k, h⟩ :: rows1 X k else rows1 X k

theorem rows0_succ (X : BufTy.Contents (Elt F) arg5.view.ty) (k : Fin k0_t1_loop.trips) : rows0 X (k.val + 1) = piece0 X k :: rows0 X k.val := by
  rw [rows0]; exact dif_pos k.isLt
theorem rows1_succ (X : BufTy.Contents (Elt F) arg7.view.ty) (k : Fin k0_t1_loop.trips) : rows1 X (k.val + 1) = piece1 X k :: rows1 X k.val := by
  rw [rows1]; exact dif_pos k.isLt

/-- The rows below `128 k` of the first scratch are the cast matrix's once `k` trips have run. -/
theorem read_rows0 (X : BufTy.Contents (Elt F) arg5.view.ty) (v : View sig .tc .vmem S1024x2048 .bf16) (G : v.ty.Contents (Elt F)) :
    ∀ k : ℕ, k ≤ k0_t1_loop.trips → ∀ y : S1024x2048.Idx, (y 0).val < 128 * k →
      v.read (Elt F) (v.writes (Elt F) G (rows0 X k)) y = cast0 (arg5.view.read (Elt F) X) y
  | 0, _, y, h => absurd h (by omega)
  | k + 1, hk, y, h => by
    have hk' : k < k0_t1_loop.trips := hk
    rw [rows0, dif_pos hk']
    by_cases hlt : (y 0).val < 128 * k
    · unfold piece0
      exact (View.read_writes_cons_rows_of_not_mem (d := S1024x2048.size) (size := S128x2048.size) v G _ _ _ y (off4_eq ⟨k, hk'⟩) (W := 128) rfl (Or.inl hlt)).trans (read_rows0 X v G k (by omega) y hlt)
    · unfold piece0
      have h0 : (y 0).val - 128 * k < 128 := by omega
      refine (View.read_writes_cons_rows_of_mem (d := S1024x2048.size) (size := S128x2048.size) v G _ _ _ y (ix2 (⟨(y 0).val - 128 * k, h0⟩ : Fin 128) (⟨(y 1).val, (y 1).isLt⟩ : Fin 2048)) (off4_eq ⟨k, hk'⟩) (by show (y 0).val = 128 * k + ((y 0).val - 128 * k); omega) rfl).trans ?_
      rw [pay1_apply]
      unfold cast0
      refine congrArg _ (congrArg (arg5.view.read (Elt F) X) ?_)
      funext a
      apply Fin.ext
      have e := off3_eq ⟨k, hk'⟩
      match a with
      | ⟨0, _⟩ => show k0_off3 ⟨k, hk'⟩ 0 + 1 * 0 = 0; rw [e]; rfl
      | ⟨1, _⟩ => show k0_off3 ⟨k, hk'⟩ 1 + 1 * ((y 0).val - 128 * k) = (y 0).val; rw [e]; show 128 * k + _ = _; omega
      | ⟨2, _⟩ => show k0_off3 ⟨k, hk'⟩ 2 + 1 * (y 1).val = (y 1).val; rw [e]; show 0 + _ = _; omega

/-- The rows below `128 k` of the second scratch are the cast matrix's once `k` trips have run. -/
theorem read_rows1 (X : BufTy.Contents (Elt F) arg7.view.ty) (v : View sig .tc .vmem S1024x1024 .bf16) (G : v.ty.Contents (Elt F)) :
    ∀ k : ℕ, k ≤ k0_t1_loop.trips → ∀ y : S1024x1024.Idx, (y 0).val < 128 * k →
      v.read (Elt F) (v.writes (Elt F) G (rows1 X k)) y = cast1 (arg7.view.read (Elt F) X) y
  | 0, _, y, h => absurd h (by omega)
  | k + 1, hk, y, h => by
    have hk' : k < k0_t1_loop.trips := hk
    rw [rows1, dif_pos hk']
    by_cases hlt : (y 0).val < 128 * k
    · unfold piece1
      exact (View.read_writes_cons_rows_of_not_mem (d := S1024x1024.size) (size := S128x1024.size) v G _ _ _ y (off6_eq ⟨k, hk'⟩) (W := 128) rfl (Or.inl hlt)).trans (read_rows1 X v G k (by omega) y hlt)
    · unfold piece1
      have h0 : (y 0).val - 128 * k < 128 := by omega
      refine (View.read_writes_cons_rows_of_mem (d := S1024x1024.size) (size := S128x1024.size) v G _ _ _ y (ix2 (⟨(y 0).val - 128 * k, h0⟩ : Fin 128) (⟨(y 1).val, (y 1).isLt⟩ : Fin 1024)) (off6_eq ⟨k, hk'⟩) (by show (y 0).val = 128 * k + ((y 0).val - 128 * k); omega) rfl).trans ?_
      rw [pay2_apply]
      unfold cast1
      refine congrArg _ (congrArg (arg7.view.read (Elt F) X) ?_)
      funext a
      apply Fin.ext
      have e := off5_eq ⟨k, hk'⟩
      match a with
      | ⟨0, _⟩ => show k0_off5 ⟨k, hk'⟩ 0 + 1 * 0 = 0; rw [e]; rfl
      | ⟨1, _⟩ => show k0_off5 ⟨k, hk'⟩ 1 + 1 * ((y 0).val - 128 * k) = (y 0).val; rw [e]; show 128 * k + _ = _; omega
      | ⟨2, _⟩ => show k0_off5 ⟨k, hk'⟩ 2 + 1 * (y 1).val = (y 1).val; rw [e]; show 0 + _ = _; omega

/-- After the loop the first scratch reads the cast matrix. -/
theorem read_rows0_all (X : BufTy.Contents (Elt F) arg5.view.ty) (v : View sig .tc .vmem S1024x2048 .bf16) (G : v.ty.Contents (Elt F)) :
    v.read (Elt F) (v.writes (Elt F) G (rows0 X k0_t1_loop.trips)) = cast0 (arg5.view.read (Elt F) X) :=
  funext fun y => read_rows0 X v G _ le_rfl y (lt_of_lt_of_le (y 0).isLt (by decide +kernel))
/-- After the loop the second scratch reads the cast matrix. -/
theorem read_rows1_all (X : BufTy.Contents (Elt F) arg7.view.ty) (v : View sig .tc .vmem S1024x1024 .bf16) (G : v.ty.Contents (Elt F)) :
    v.read (Elt F) (v.writes (Elt F) G (rows1 X k0_t1_loop.trips)) = cast1 (arg7.view.read (Elt F) X) :=
  funext fun y => read_rows1 X v G _ le_rfl y (lt_of_lt_of_le (y 0).isLt (by decide +kernel))

end

section
variable (c : Dev nD) (i : grid0.Coords) (arg1 : Memref sig .tc .smem S160 .i32) (harg1 : arg1.IsWhole) (arg2 : Memref sig .tc .smem S1 .i32) (harg2 : arg2.IsWhole) (arg3 : Memref sig .tc .vmem S256x1024 .bf16) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1024x2048 .bf16) (harg10 : arg10.IsWhole) (arg11 : Memref sig .tc .vmem S1024x1024 .bf16) (harg11 : arg11.IsWhole)
  (X_arg5 : BufTy.Contents (Elt F) arg5.view.ty) (X_arg7 : BufTy.Contents (Elt F) arg7.view.ty) (G_arg10 : BufTy.Contents (Elt F) arg10.view.ty) (G_arg11 : BufTy.Contents (Elt F) arg11.view.ty)

/-- The four buffers a trip touches: the two matrices read, the two scratches written. -/
abbrev tripRes (f_arg10 : BufTy.Contents (Elt F) arg10.view.ty) (f_arg11 : BufTy.Contents (Elt F) arg11.view.ty) : sProp 𝕄 :=
  iprop((arg5.view.loc (c : Thread nD τ) ↦[arg5.view.set]{fullShare} X_arg5) ∗ (arg7.view.loc (c : Thread nD τ) ↦[arg7.view.set]{fullShare} X_arg7) ∗ (arg10.view.loc (c : Thread nD τ) ↦[arg10.view.set]{fullShare} f_arg10) ∗ (arg11.view.loc (c : Thread nD τ) ↦[arg11.view.set]{fullShare} f_arg11))

/-- One trip writes its rows into each scratch. -/
theorem one_trip (k : Fin k0_t1_loop.trips) (E : Set ℕ) (f_arg10 : BufTy.Contents (Elt F) arg10.view.ty) (f_arg11 : BufTy.Contents (Elt F) arg11.view.ty) :
    tripRes c arg5 arg7 arg10 arg11 X_arg5 X_arg7 f_arg10 f_arg11
    ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 k PUnit.unit)
        (fun _ => tripRes c arg5 arg7 arg10 arg11 X_arg5 X_arg7 (arg10.view.writes (Elt F) f_arg10 [piece0 X_arg5 k]) (arg11.view.writes (Elt F) f_arg11 [piece1 X_arg7 k])) := by
  have hk : k.val < 8 := Nat.lt_of_lt_of_le k.isLt k0_t1_abs.2.1
  unfold k0_t1_body
  iintro ⟨HR_arg5, HR_arg7, HW_arg10, HW_arg11⟩
  sl_exec
  sl_step
  sl_close

/-- Before trip `k`: the scratches hold, over what they held at the loop's entry, the rows of the trips before. -/
abbrev rowsInv (k : ℕ) (_u : PUnit) : sProp 𝕄 :=
  iprop((arg5.view.loc (c : Thread nD τ) ↦[arg5.view.set]{fullShare} X_arg5) ∗ (arg7.view.loc (c : Thread nD τ) ↦[arg7.view.set]{fullShare} X_arg7)
    ∗ (∃ f, (arg10.view.loc (c : Thread nD τ) ↦[arg10.view.set]{fullShare} f) ∗ ⌜f = arg10.view.writes (Elt F) G_arg10 (rows0 X_arg5 k)⌝)
    ∗ (∃ f, (arg11.view.loc (c : Thread nD τ) ↦[arg11.view.set]{fullShare} f) ∗ ⌜f = arg11.view.writes (Elt F) G_arg11 (rows1 X_arg7 k)⌝))

set_option warn.classDefReducibility false in
/-- The loop by that invariant. -/
@[sl_loop] def copyLoop (E : Set ℕ) :
    LoopInv (M := 𝕄) frame (wpE (defs₀ (F := F)) Variants.none (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11) where
  inv := rowsInv c arg5 arg7 arg10 arg11 X_arg5 X_arg7 G_arg10 G_arg11
  step k acc := by
    iintro ⟨HR_arg5, HR_arg7, ⟨%f_arg10, HW_arg10, %h_arg10⟩, ⟨%f_arg11, HW_arg11, %h_arg11⟩⟩
    iapply (wp_wand_r Idealize.ShloMosaic.frame (wpE (defs₀ (F := F)) Variants.none (c : Thread nD τ) none) E)
    isplitl [HR_arg5 HR_arg7 HW_arg10 HW_arg11]
    · iapply (one_trip c i arg1 harg1 arg2 harg2 arg3 harg3 arg4 harg4 arg5 harg5 arg6 harg6 arg7 harg7 arg8 harg8 arg9 harg9 arg10 harg10 arg11 harg11 X_arg5 X_arg7 k E f_arg10 f_arg11)
      isplitl [HR_arg5]; · iexact HR_arg5
      isplitl [HR_arg7]; · iexact HR_arg7
      isplitl [HW_arg10]; · iexact HW_arg10
      iexact HW_arg11
    · iintro %_ ⟨HR_arg5, HR_arg7, HW_arg10, HW_arg11⟩
      isplitl [HR_arg5]; · iexact HR_arg5
      isplitl [HR_arg7]; · iexact HR_arg7
      rw [rows0_succ, rows1_succ]
      isplitl [HW_arg10]
      · iexists _; isplitl [HW_arg10]; · iexact HW_arg10
        ipureintro; rw [h_arg10]; rfl
      iexists _; isplitl [HW_arg11]; · iexact HW_arg11
      ipureintro; rw [h_arg11]; rfl

end

end Cert.MoeIdeal.Gen

end
-- ==== Proof.MoeIBody.lean ====
/- One run of the mixture-of-experts body. Where the tile's expert is new the scratches are filled with its matrices;
   where it is the expert of the tile before, they hold them already. A tile in use gets its rows' outputs, the others
   zeros. -/
module

public import proofs.«01_k».proof.Proof.MoeILoop

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The expert of tile `i`. -/
abbrev wHere (T0 : S160.Idx → BitVec 32) (i : grid0.Coords) : BitVec 32 :=
  View.readAt (Elt F) tbM0_0.view (Rect.unit (s := S160) (k0_off1 i) S1.size (k0_off1_inb i)).toLoadRect T0 (Shape.Idx.first (numel1_S1.symm ▸ Nat.one_pos))
/-- The expert of the tile before tile `i` (of tile 0, at tile 0). -/
abbrev wPrev (T0 : S160.Idx → BitVec 32) (i : grid0.Coords) : BitVec 32 :=
  View.readAt (Elt F) tbM0_0.view (Rect.unit (s := S160) (k0_off2 i) S1.size (k0_off2_inb i)).toLoadRect T0 (Shape.Idx.first (numel1_S1.symm ▸ Nat.one_pos))
/-- The number of tiles in use. -/
abbrev wUsed (T1 : S1.Idx → BitVec 32) : BitVec 32 :=
  View.readAt (Elt F) tbM0_1.view (Rect.unit (s := S1) ![0] S1.size inb_S1_S1_0).toLoadRect T1 (Shape.Idx.first (numel1_S1.symm ▸ Nat.one_pos))

/-- Tile `i` is the first one or its expert differs from the tile before. -/
abbrev isNew (T0 : S160.Idx → BitVec 32) (i : grid0.Coords) : Prop :=
  Scalar.cmpi .ne (Scalar.extui (Scalar.ori (Scalar.cmpi .eq (BitVec.ofNat 32 (i 0).val) 0#32) (Scalar.cmpi .ne (wHere (F := F) T0 i) (wPrev (F := F) T0 i)))) 0#32 = 1#1

/-- What the body leaves in the output block of tile `i`. -/
def outB (i : grid0.Coords) (T1 : S1.Idx → BitVec 32) (x0 : Vec F S256x1024 .bf16) (x1 : Vec F S256x1 .f32) (x2 : Vec F S1x1024x2048 .f32) (x3 : Vec F S1x1x2048 .f32) (x4 : Vec F S1x1024x1024 .f32) (x5 : Vec F S1x1x1024 .f32) : Vec F S256x1024 .f32 :=
  if k0_cond2 i (wUsed (F := F) T1) = 1#1 then k0_pay3 x0 (cast0 x2) x3 (cast1 x4) x5 x1 else k0_pay4

/-- A tile is past the ones in use exactly when it is not in use. -/
theorem cond3_iff (i : grid0.Coords) (v : BitVec 32) : k0_cond3 i v = 1#1 ↔ ¬ k0_cond2 i v = 1#1 := by
  unfold k0_cond3 k0_cond2
  simp only [Scalar.cmpi, Scalar.extui, IntOp.cmpi, BitVec.sle_eq_not_slt]
  generalize BitVec.ofNat 32 (i 0).val = a
  cases a.slt v <;> decide

/-- A tile's outputs depend on what it reads alone. -/
theorem pay3_congr {a a' : Vec F S256x1024 .bf16} {b b' : Vec F S1024x2048 .bf16} {c c' : Vec F S1x1x2048 .f32} {d d' : Vec F S1024x1024 .bf16} {e e' : Vec F S1x1x1024 .f32} {g g' : Vec F S256x1 .f32}
    (ha : a = a') (hb : b = b') (hc : c = c') (hd : d = d') (he : e = e') (hg : g = g') : k0_pay3 a b c d e g = k0_pay3 a' b' c' d' e' g' := by
  rw [ha, hb, hc, hd, he, hg]

/-- A block stored whole reads back what was stored. -/
theorem read_one_store {sp : Space} {s : Shape} {e : EltTy} (v : View sig .tc sp s e) (f : v.ty.Contents (Elt F)) {off : Fin s.rank → ℕ} (inb : ∀ a, off a + s.size a ≤ s.size a)
    (w : (Rect.unit (s := s) off s.size inb).shape.Idx → Elt F e) :
    v.read (Elt F) (v.writes (Elt F) f [⟨Rect.unit (s := s) off s.size inb, w⟩]) = w :=
  View.read_writes_full v f inb w []

section
variable (c : Dev nD) (i : grid0.Coords) (arg3 : Memref sig .tc .vmem S256x1024 .bf16) (harg3 : arg3.IsWhole) (arg4 : Memref sig .tc .vmem S256x1 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1024x2048 .bf16) (harg10 : arg10.IsWhole) (arg11 : Memref sig .tc .vmem S1024x1024 .bf16) (harg11 : arg11.IsWhole)
  (x0 : Vec F S256x1024 .bf16) (x1 : Vec F S256x1 .f32) (x2 : Vec F S1x1024x2048 .f32) (x3 : Vec F S1x1x2048 .f32) (x4 : Vec F S1x1024x1024 .f32) (x5 : Vec F S1x1x1024 .f32)
  (s0 : Vec F S1024x2048 .bf16) (s1 : Vec F S1024x1024 .bf16) (T0 : S160.Idx → BitVec 32) (T1 : S1.Idx → BitVec 32)

/-- What the body leaves: its inputs as they were, the tile's output block, the current expert's matrices in the scratches. -/
abbrev bodyLeft : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
    ∗ owns (c : Thread nD τ) arg9 fullShare (outB i T1 x0 x1 x2 x3 x4 x5) ∗ owns (c : Thread nD τ) arg10 fullShare (cast0 x2) ∗ owns (c : Thread nD τ) arg11 fullShare (cast1 x4)
    ∗ tbPt0 c tbM0_0 T0 ∗ tbPt0 c tbM0_1 T1)

/-- What the body is given. -/
abbrev bodyGiven : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
    ∗ (∃ d, owns (c : Thread nD τ) arg9 fullShare d) ∗ owns (c : Thread nD τ) arg10 fullShare s0 ∗ owns (c : Thread nD τ) arg11 fullShare s1
    ∗ tbPt0 c tbM0_0 T0 ∗ tbPt0 c tbM0_1 T1)

/-- A tile in use with a new expert. -/
theorem run_new_used (hn : isNew (F := F) T0 i) (hu : k0_cond2 i (wUsed (F := F) T1) = 1#1) (E : Set ℕ) (K : PUnit → sProp 𝕄) :
    iprop(bodyGiven c arg3 arg4 arg5 arg6 arg7 arg8 arg9 arg10 arg11 x0 x1 x2 x3 x4 x5 s0 s1 T0 T1
        ∗ (bodyLeft c i arg3 arg4 arg5 arg6 arg7 arg8 arg9 arg10 arg11 x0 x1 x2 x3 x4 x5 T0 T1 -∗ K ⟨⟩))
      ⊢ wp frame (wpE (defs₀ (F := F)) Variants.none c none) E (cc0_moe i tbM0_0 (Memref.isWhole_whole _) tbM0_1 (Memref.isWhole_whole _) arg3 harg3 arg4 harg4 arg5 harg5 arg6 harg6 arg7 harg7 arg8 harg8 arg9 harg9 arg10 harg10 arg11 harg11) K := by
  have h3 : ¬ k0_cond3 i (wUsed (F := F) T1) = 1#1 := fun h => (cond3_iff i _).1 h hu
  simp only [cc0_moe_eq_skeleton]; unfold cc0_moe_skel
  unfold bodyGiven bodyLeft owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1⟩, Hk⟩
  sl_exec! (disch := first | (guard_target = Scalar.cmpi = _; exact hn) | (guard_target = k0_cond2 _ _ = _; exact hu) | (guard_target = ¬(k0_cond3 _ _ = _); exact h3))
  sl_step
  subst hf0 hf1 hf2 hf3 hf4 hf5
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    sl_unfold_run_names
    rw [outB, if_pos hu]
    refine (read_one_store arg9.view _ inb_S256x1024_S256x1024_0_0 _).trans ?_
    exact pay3_congr (View.readAt_full _ _ _) ((View.readAt_full arg10.view _ _).trans (read_rows0_all f2 _ _)) (View.readAt_full _ _ _) ((View.readAt_full arg11.view _ _).trans (read_rows1_all f4 _ _)) (View.readAt_full _ _ _) (View.readAt_full _ _ _)
  isplitl [HS0]
  · iexists _; isplitr; swap; · iexact HS0
    ipureintro
    exact read_rows0_all f2 _ _
  isplitl [HS1]
  · iexists _; isplitr; swap; · iexact HS1
    ipureintro
    exact read_rows1_all f4 _ _
  isplitl [HT0]; · iexact HT0
  iexact HT1

/-- A tile past the ones in use, with a new expert. -/
theorem run_new_rest (hn : isNew (F := F) T0 i) (hu : ¬ k0_cond2 i (wUsed (F := F) T1) = 1#1) (E : Set ℕ) (K : PUnit → sProp 𝕄) :
    iprop(bodyGiven c arg3 arg4 arg5 arg6 arg7 arg8 arg9 arg10 arg11 x0 x1 x2 x3 x4 x5 s0 s1 T0 T1
        ∗ (bodyLeft c i arg3 arg4 arg5 arg6 arg7 arg8 arg9 arg10 arg11 x0 x1 x2 x3 x4 x5 T0 T1 -∗ K ⟨⟩))
      ⊢ wp frame (wpE (defs₀ (F := F)) Variants.none c none) E (cc0_moe i tbM0_0 (Memref.isWhole_whole _) tbM0_1 (Memref.isWhole_whole _) arg3 harg3 arg4 harg4 arg5 harg5 arg6 harg6 arg7 harg7 arg8 harg8 arg9 harg9 arg10 harg10 arg11 harg11) K := by
  have h3 : k0_cond3 i (wUsed (F := F) T1) = 1#1 := (cond3_iff i _).2 hu
  simp only [cc0_moe_eq_skeleton]; unfold cc0_moe_skel
  unfold bodyGiven bodyLeft owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1⟩, Hk⟩
  sl_exec! (disch := first | (guard_target = Scalar.cmpi = _; exact hn) | (guard_target = ¬(k0_cond2 _ _ = _); exact hu) | (guard_target = k0_cond3 _ _ = _; exact h3))
  sl_step
  subst hf0 hf1 hf2 hf3 hf4 hf5
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    sl_unfold_run_names
    rw [outB, if_neg hu]
    exact read_one_store arg9.view _ inb_S256x1024_S256x1024_0_0 _
  isplitl [HS0]
  · iexists _; isplitr; swap; · iexact HS0
    ipureintro
    exact read_rows0_all f2 _ _
  isplitl [HS1]
  · iexists _; isplitr; swap; · iexact HS1
    ipureintro
    exact read_rows1_all f4 _ _
  isplitl [HT0]; · iexact HT0
  iexact HT1

/-- A tile in use with the expert of the tile before. -/
theorem run_old_used (hn : ¬ isNew (F := F) T0 i) (hu : k0_cond2 i (wUsed (F := F) T1) = 1#1) (hc0 : s0 = cast0 x2) (hc1 : s1 = cast1 x4) (E : Set ℕ) (K : PUnit → sProp 𝕄) :
    iprop(bodyGiven c arg3 arg4 arg5 arg6 arg7 arg8 arg9 arg10 arg11 x0 x1 x2 x3 x4 x5 s0 s1 T0 T1
        ∗ (bodyLeft c i arg3 arg4 arg5 arg6 arg7 arg8 arg9 arg10 arg11 x0 x1 x2 x3 x4 x5 T0 T1 -∗ K ⟨⟩))
      ⊢ wp frame (wpE (defs₀ (F := F)) Variants.none c none) E (cc0_moe i tbM0_0 (Memref.isWhole_whole _) tbM0_1 (Memref.isWhole_whole _) arg3 harg3 arg4 harg4 arg5 harg5 arg6 harg6 arg7 harg7 arg8 harg8 arg9 harg9 arg10 harg10 arg11 harg11) K := by
  have h3 : ¬ k0_cond3 i (wUsed (F := F) T1) = 1#1 := fun h => (cond3_iff i _).1 h hu
  subst hc0 hc1
  simp only [cc0_moe_eq_skeleton]; unfold cc0_moe_skel
  unfold bodyGiven bodyLeft owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1⟩, Hk⟩
  sl_exec! (disch := first | (guard_target = ¬(Scalar.cmpi = _); exact hn) | (guard_target = k0_cond2 _ _ = _; exact hu) | (guard_target = ¬(k0_cond3 _ _ = _); exact h3))
  sl_step
  subst hf0 hf1 hf2 hf3 hf4 hf5
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    sl_unfold_run_names
    rw [outB, if_pos hu]
    refine (read_one_store arg9.view _ inb_S256x1024_S256x1024_0_0 _).trans ?_
    exact pay3_congr (View.readAt_full _ _ _) ((View.readAt_full _ _ _).trans hs0) (View.readAt_full _ _ _) ((View.readAt_full _ _ _).trans hs1) (View.readAt_full _ _ _) (View.readAt_full _ _ _)
  isplitl [HS0]
  · iexists _; isplitr; swap; · iexact HS0
    ipureintro
    exact hs0
  isplitl [HS1]
  · iexists _; isplitr; swap; · iexact HS1
    ipureintro
    exact hs1
  isplitl [HT0]; · iexact HT0
  iexact HT1

/-- A tile past the ones in use, with the expert of the tile before. -/
theorem run_old_rest (hn : ¬ isNew (F := F) T0 i) (hu : ¬ k0_cond2 i (wUsed (F := F) T1) = 1#1) (hc0 : s0 = cast0 x2) (hc1 : s1 = cast1 x4) (E : Set ℕ) (K : PUnit → sProp 𝕄) :
    iprop(bodyGiven c arg3 arg4 arg5 arg6 arg7 arg8 arg9 arg10 arg11 x0 x1 x2 x3 x4 x5 s0 s1 T0 T1
        ∗ (bodyLeft c i arg3 arg4 arg5 arg6 arg7 arg8 arg9 arg10 arg11 x0 x1 x2 x3 x4 x5 T0 T1 -∗ K ⟨⟩))
      ⊢ wp frame (wpE (defs₀ (F := F)) Variants.none c none) E (cc0_moe i tbM0_0 (Memref.isWhole_whole _) tbM0_1 (Memref.isWhole_whole _) arg3 harg3 arg4 harg4 arg5 harg5 arg6 harg6 arg7 harg7 arg8 harg8 arg9 harg9 arg10 harg10 arg11 harg11) K := by
  have h3 : k0_cond3 i (wUsed (F := F) T1) = 1#1 := (cond3_iff i _).2 hu
  subst hc0 hc1
  simp only [cc0_moe_eq_skeleton]; unfold cc0_moe_skel
  unfold bodyGiven bodyLeft owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1⟩, Hk⟩
  sl_exec! (disch := first | (guard_target = ¬(Scalar.cmpi = _); exact hn) | (guard_target = ¬(k0_cond2 _ _ = _); exact hu) | (guard_target = k0_cond3 _ _ = _; exact h3))
  sl_step
  subst hf0 hf1 hf2 hf3 hf4 hf5
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    sl_unfold_run_names
    rw [outB, if_neg hu]
    exact read_one_store arg9.view _ inb_S256x1024_S256x1024_0_0 _
  isplitl [HS0]
  · iexists _; isplitr; swap; · iexact HS0
    ipureintro
    exact hs0
  isplitl [HS1]
  · iexists _; isplitr; swap; · iexact HS1
    ipureintro
    exact hs1
  isplitl [HT0]; · iexact HT0
  iexact HT1

/-- The body at any tile: its scratches may hold anything where the expert is new, and hold that expert's matrices
    where it is not. -/
theorem run_body (hcar : ¬ isNew (F := F) T0 i → s0 = cast0 x2 ∧ s1 = cast1 x4) (E : Set ℕ) (K : PUnit → sProp 𝕄) :
    iprop(bodyGiven c arg3 arg4 arg5 arg6 arg7 arg8 arg9 arg10 arg11 x0 x1 x2 x3 x4 x5 s0 s1 T0 T1
        ∗ (bodyLeft c i arg3 arg4 arg5 arg6 arg7 arg8 arg9 arg10 arg11 x0 x1 x2 x3 x4 x5 T0 T1 -∗ K ⟨⟩))
      ⊢ wp frame (wpE (defs₀ (F := F)) Variants.none c none) E (cc0_moe i tbM0_0 (Memref.isWhole_whole _) tbM0_1 (Memref.isWhole_whole _) arg3 harg3 arg4 harg4 arg5 harg5 arg6 harg6 arg7 harg7 arg8 harg8 arg9 harg9 arg10 harg10 arg11 harg11) K := by
  by_cases hn : isNew (F := F) T0 i <;> by_cases hu : k0_cond2 i (wUsed (F := F) T1) = 1#1
  · exact run_new_used c i arg3 harg3 arg4 harg4 arg5 harg5 arg6 harg6 arg7 harg7 arg8 harg8 arg9 harg9 arg10 harg10 arg11 harg11 x0 x1 x2 x3 x4 x5 s0 s1 T0 T1 hn hu E K
  · exact run_new_rest c i arg3 harg3 arg4 harg4 arg5 harg5 arg6 harg6 arg7 harg7 arg8 harg8 arg9 harg9 arg10 harg10 arg11 harg11 x0 x1 x2 x3 x4 x5 s0 s1 T0 T1 hn hu E K
  · exact run_old_used c i arg3 harg3 arg4 harg4 arg5 harg5 arg6 harg6 arg7 harg7 arg8 harg8 arg9 harg9 arg10 harg10 arg11 harg11 x0 x1 x2 x3 x4 x5 s0 s1 T0 T1 hn hu (hcar hn).1 (hcar hn).2 E K
  · exact run_old_rest c i arg3 harg3 arg4 harg4 arg5 harg5 arg6 harg6 arg7 harg7 arg8 harg8 arg9 harg9 arg10 harg10 arg11 harg11 x0 x1 x2 x3 x4 x5 s0 s1 T0 T1 hn hu (hcar hn).1 (hcar hn).2 E K

end

end Cert.MoeIdeal.Gen

end
-- ==== Proof.MoeIIdx.lean ====
/- Where each window of the mixture-of-experts pipeline reads at each point: tile `t`'s rows, and the weights and the
   biases of the expert the table names for tile `t`. -/
module

public import proofs.«01_k».proof.Proof.MoeIBody

@[expose] public section

set_option maxRecDepth 16384

noncomputable section

namespace Cert.MoeIdeal.Gen

open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

theorem off1_at : ∀ t : Fin grid0.N, k0_off1 (grid0.coords t) = ![t.val] := by decide +kernel
theorem off2_at : ∀ t : Fin grid0.N, k0_off2 (grid0.coords t) = ![t.val - 1] := by decide +kernel
theorem coords_at : ∀ t : Fin grid0.N, (grid0.coords t 0).val = t.val := by decide +kernel

/-- The expert of tile `k`, as the table names it. -/
def te (k : Fin 160) : BitVec 32 := tbl m 0 (ix1 k)

theorem wHere_at (t : Fin grid0.N) : wHere (F := F) (tbl m 0) (grid0.coords t) = te m ⟨t.val, t.isLt⟩ := by
  refine congrArg (tbl m 0) (funext fun a => Fin.ext ?_)
  match a with
  | ⟨0, _⟩ => show k0_off1 (grid0.coords t) 0 + 1 * 0 = t.val; rw [off1_at]; rfl

theorem wPrev_at (t : Fin grid0.N) (s : Fin grid0.N) (h : s.val + 1 = t.val) : wPrev (F := F) (tbl m 0) (grid0.coords t) = te m ⟨s.val, s.isLt⟩ := by
  refine congrArg (tbl m 0) (funext fun a => Fin.ext ?_)
  match a with
  | ⟨0, _⟩ => show k0_off2 (grid0.coords t) 0 + 1 * 0 = s.val; rw [off2_at]; show t.val - 1 + 0 = _; omega

/-- A tile whose expert is not new is not the first, and its expert is that of the tile before. -/
theorem not_isNew (t : Fin grid0.N) (h : ¬ isNew (F := F) (tbl m 0) (grid0.coords t)) :
    t.val ≠ 0 ∧ wHere (F := F) (tbl m 0) (grid0.coords t) = wPrev (F := F) (tbl m 0) (grid0.coords t) := by
  revert h
  unfold isNew
  generalize wHere (F := F) (tbl m 0) (grid0.coords t) = a
  generalize wPrev (F := F) (tbl m 0) (grid0.coords t) = b
  rw [coords_at]
  intro h
  constructor
  · intro h0
    rw [h0] at h
    apply h
    simp only [Scalar.cmpi, Scalar.extui, Scalar.ori, IntOp.cmpi]
    cases (a != b) <;> decide
  · by_contra hab
    apply h
    have : (a != b) = true := by simpa using hab
    simp only [Scalar.cmpi, Scalar.extui, Scalar.ori, IntOp.cmpi, this]
    cases (BitVec.ofNat 32 t.val == 0#32) <;> decide

theorem word_at (t : Fin grid0.N) (inb) (h1) :
    (tbl m).at 0 (Rect.unit (s := S160) ![(Scalar.indexCast (BitVec.ofNat 32 (grid0.coords t 0).val)).toNat] S1.size inb) h1 = te m ⟨t.val, t.isLt⟩ := wHere_at m t

variable (hO : Ok m)
include hO

/-- An admitted table names one of the 32 experts for every tile. -/
theorem te_lt (k : Fin 160) : (te m k).toNat < 32 := by
  obtain ⟨h, -⟩ := hO.1 (grid0.coords ⟨k.val, k.isLt⟩)
  have e := h 0
  have hw := wHere_at m ⟨k.val, k.isLt⟩
  have e' : ((wHere (F := F) (tbl m 0) (grid0.coords ⟨k.val, k.isLt⟩)).toNat + 1) * 1 ≤ 32 := e
  rw [hw] at e'
  have e2 : (te m k).toNat + 1 ≤ 32 := by rw [Nat.mul_one] at e'; exact e'
  omega

/-- The expert of tile `k`. -/
def ex (k : Fin 160) : Fin 32 := ⟨(te m k).toNat, te_lt m hO k⟩

theorem row_of {w : BitVec 32} (k : Fin 160) (e : w = te m k) : (![w.toNat, 0, 0] : Fin 3 → ℕ) = ![(ex m hO k).val, 0, 0] := by
  rw [e]; rfl

theorem ix2_at (t : Fin grid0.N) : cc0_transform_2 k0_off1_inb numel1_S1 (tbl m) (grid0.coords t) = ![(ex m hO ⟨t.val, t.isLt⟩).val, 0, 0] :=
  row_of m hO _ (word_at m t _ _)
theorem ix3_at (t : Fin grid0.N) : cc0_transform_3 k0_off1_inb numel1_S1 (tbl m) (grid0.coords t) = ![(ex m hO ⟨t.val, t.isLt⟩).val, 0, 0] :=
  row_of m hO _ (word_at m t _ _)
theorem ix4_at (t : Fin grid0.N) : cc0_transform_4 k0_off1_inb numel1_S1 (tbl m) (grid0.coords t) = ![(ex m hO ⟨t.val, t.isLt⟩).val, 0, 0] :=
  row_of m hO _ (word_at m t _ _)
theorem ix5_at (t : Fin grid0.N) : cc0_transform_5 k0_off1_inb numel1_S1 (tbl m) (grid0.coords t) = ![(ex m hO ⟨t.val, t.isLt⟩).val, 0, 0] :=
  row_of m hO _ (word_at m t _ _)

theorem iblk2_at (c : Dev nD) (t : Fin (cfgM m hO).N) (y : S1x1024x2048.Idx) :
    (iblk m hO c 2 t : Vec F S1x1024x2048 .f32) y = V m c main_arg4 (ix3 (ex m hO ⟨t.val, t.isLt⟩) (⟨(y 1).val, (y 1).isLt⟩ : Fin 1024) (⟨(y 2).val, (y 2).isLt⟩ : Fin 2048)) := by
  refine congrArg (V m c main_arg4) (funext fun a => Fin.ext ?_)
  have e := ix2_at m hO t
  have y0 : (y 0).val < 1 := (y 0).isLt
  match a with
  | ⟨0, _⟩ => show cc0_transform_2 k0_off1_inb numel1_S1 (tbl m) (grid0.coords t) 0 * 1 + 1 * (y 0).val = _; rw [e]; show (ex m hO ⟨t.val, t.isLt⟩).val * 1 + 1 * (y 0).val = (ex m hO ⟨t.val, t.isLt⟩).val; omega
  | ⟨1, _⟩ => show cc0_transform_2 k0_off1_inb numel1_S1 (tbl m) (grid0.coords t) 1 * 1024 + 1 * (y 1).val = (y 1).val; rw [e]; show 0 * 1024 + 1 * (y 1).val = (y 1).val; omega
  | ⟨2, _⟩ => show cc0_transform_2 k0_off1_inb numel1_S1 (tbl m) (grid0.coords t) 2 * 2048 + 1 * (y 2).val = (y 2).val; rw [e]; show 0 * 2048 + 1 * (y 2).val = (y 2).val; omega

theorem iblk4_at (c : Dev nD) (t : Fin (cfgM m hO).N) (y : S1x1024x1024.Idx) :
    (iblk m hO c 4 t : Vec F S1x1024x1024 .f32) y = V m c main_arg6 (ix3 (ex m hO ⟨t.val, t.isLt⟩) (⟨(y 1).val, (y 1).isLt⟩ : Fin 1024) (⟨(y 2).val, (y 2).isLt⟩ : Fin 1024)) := by
  refine congrArg (V m c main_arg6) (funext fun a => Fin.ext ?_)
  have e := ix4_at m hO t
  have y0 : (y 0).val < 1 := (y 0).isLt
  match a with
  | ⟨0, _⟩ => show cc0_transform_4 k0_off1_inb numel1_S1 (tbl m) (grid0.coords t) 0 * 1 + 1 * (y 0).val = _; rw [e]; show (ex m hO ⟨t.val, t.isLt⟩).val * 1 + 1 * (y 0).val = (ex m hO ⟨t.val, t.isLt⟩).val; omega
  | ⟨1, _⟩ => show cc0_transform_4 k0_off1_inb numel1_S1 (tbl m) (grid0.coords t) 1 * 1024 + 1 * (y 1).val = (y 1).val; rw [e]; show 0 * 1024 + 1 * (y 1).val = (y 1).val; omega
  | ⟨2, _⟩ => show cc0_transform_4 k0_off1_inb numel1_S1 (tbl m) (grid0.coords t) 2 * 1024 + 1 * (y 2).val = (y 2).val; rw [e]; show 0 * 1024 + 1 * (y 2).val = (y 2).val; omega

/-- Where a tile's expert is not new, its weights are those of the tile before. -/
theorem kept (c : Dev nD) (t s : Fin (cfgM m hO).N) (hs : s.val + 1 = t.val) (h : ¬ isNew (F := F) (tbl m 0) (grid0.coords t)) :
    (iblk m hO c 2 t : Vec F S1x1024x2048 .f32) = iblk m hO c 2 s ∧ (iblk m hO c 4 t : Vec F S1x1024x1024 .f32) = iblk m hO c 4 s := by
  have h1 := (not_isNew m t h).2
  rw [wHere_at, wPrev_at m t s hs] at h1
  have h2 : ex m hO ⟨t.val, t.isLt⟩ = ex m hO ⟨s.val, s.isLt⟩ := Fin.ext (show (te m ⟨t.val, t.isLt⟩).toNat = (te m ⟨s.val, s.isLt⟩).toNat from congrArg (fun w : BitVec 32 => w.toNat) h1)
  exact ⟨funext fun (y : S1x1024x2048.Idx) => (iblk2_at m hO c t y).trans ((congrArg (fun e => V m c main_arg4 (ix3 e (⟨(y 1).val, (y 1).isLt⟩ : Fin 1024) (⟨(y 2).val, (y 2).isLt⟩ : Fin 2048))) h2).trans (iblk2_at m hO c s y).symm),
    funext fun (y : S1x1024x1024.Idx) => (iblk4_at m hO c t y).trans ((congrArg (fun e => V m c main_arg6 (ix3 e (⟨(y 1).val, (y 1).isLt⟩ : Fin 1024) (⟨(y 2).val, (y 2).isLt⟩ : Fin 1024))) h2).trans (iblk4_at m hO c s y).symm)⟩

end Cert.MoeIdeal.Gen

end
-- ==== Proof.MoeIFrame.lean ====
/- Where each window of the mixture-of-experts pipeline reads at each point: tile `t`'s rows, and the weights and the
   biases of the expert the table names for tile `t`. -/
module

public import proofs.«01_k».proof.Proof.MoeIBody
public import proofs.«01_k».proof.Proof.MoeIIdx
public import Idealize.ShloMosaic.Lib.Claim

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratches hold between two tiles: the matrices of the tile just computed (anything before the first). -/
def holds (hO : Ok m) (c : Dev nD) (t : Fin ((cfgM m hO).N + 1)) (s0 : Vec F S1024x2048 .bf16) (s1 : Vec F S1024x1024 .bf16) : Prop :=
  ∀ s : Fin (cfgM m hO).N, s.val + 1 = t.val → s0 = cast0 (iblk m hO c 2 s) ∧ s1 = cast1 (iblk m hO c 4 s)

/-- The invariant between two tiles: the scratches at the matrices of the tile just computed, the generator's register, the tables. -/
def PhiM (hO : Ok m) (c : Dev nD) (t : Fin ((cfgM m hO).N + 1)) : sProp 𝕄 :=
  iprop(∃ s0 s1, ⌜holds m hO c t s0 s1⌝ ∗ owns (c : Thread nD τ) scM0_0 fullShare s0 ∗ owns (c : Thread nD τ) scM0_1 fullShare s1
    ∗ (∃ r, prngReg c r) ∗ tbPt0 c tbM0_0 (tbl m 0) ∗ tbPt0 c tbM0_1 (tbl m 1))

/-- The output block of tile `t`. -/
def outsAt (hO : Ok m) (c : Dev nD) (t : Fin (cfgM m hO).N) : Vec F S256x1024 .f32 :=
  outB (grid0.coords t) (tbl m 1) (iblk m hO c 0 t) (iblk m hO c 1 t) (iblk m hO c 2 t) (iblk m hO c 3 t) (iblk m hO c 4 t) (iblk m hO c 5 t)

/-- The pipeline's contents on core `c`: each input's buffer at its block, the output's at the tile's block. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outsAt m hO c t
  Φ t := PhiM m hO c t
  q _ := fullShare
  owed _ := 0

/-- The pipeline's arrays are what the region finds. -/
theorem A_eq (hO : Ok m) (c : Dev nD) (w : Fin (cfgM m hO).W) : (dats m hO 0 c).A w = V m c (Pipeline.arrRef spec0 w) := by
  dsimp only [dats]

/-- What the body leaves in each window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt m hO c t) := by dsimp only [dats]; try rfl

/-- Each input's buffer holds its block at every tile. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at tile `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- What the body returns at tile `t`. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t))

/-- The body at any tile: the scratches hold the matrices of the tile before, which are this tile's where its expert is not new. -/
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6]
  rw [show (dats m hO 0 c).Φ t.castSucc = PhiM m hO c t.castSucc from rfl, show (dats m hO 0 c).Φ t.succ = PhiM m hO c t.succ from rfl]
  unfold PhiM outsAt
  iintro ⟨⟨%s0, %s1, %hh, HS0, HS1, Hg, HT0, HT1⟩, Ho, ⟨%d0, H0⟩, ⟨%d1, H1⟩, ⟨%d2, H2⟩, ⟨%d3, H3⟩, ⟨%d4, H4⟩, ⟨%d5, H5⟩, ⟨%d6, H6⟩⟩
  have hcar : ¬ isNew (F := F) (tbl m 0) (grid0.coords t) → s0 = cast0 (iblk m hO c 2 t) ∧ s1 = cast1 (iblk m hO c 4 t) := fun hn => by
    have h0 := (not_isNew m t hn).1
    have hlt : t.val - 1 < (cfgM m hO).N := by have := t.isLt; omega
    have hs : (⟨t.val - 1, hlt⟩ : Fin (cfgM m hO).N).val + 1 = t.val := by show t.val - 1 + 1 = t.val; omega
    have hk := kept m hO c t ⟨t.val - 1, hlt⟩ hs hn
    have hp := hh ⟨t.val - 1, hlt⟩ hs
    exact ⟨hp.1.trans (congrArg cast0 hk.1.symm), hp.2.trans (congrArg cast1 hk.2.symm)⟩
  iapply (run_body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _)
    (iblk m hO c 0 t) (iblk m hO c 1 t) (iblk m hO c 2 t) (iblk m hO c 3 t) (iblk m hO c 4 t) (iblk m hO c 5 t) s0 s1 (tbl m 0) (tbl m 1) hcar Set.univ _)
  unfold bodyGiven bodyLeft
  isplitl [H0 H1 H2 H3 H4 H5 H6 HS0 HS1 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    iexact HT1
  iintro ⟨H0, H1, H2, H3, H4, H5, H6, HS0, HS1, HT0, HT1⟩
  isplitl [HS0 HS1 Hg HT0 HT1]
  · iexists _; iexists _
    isplitr
    swap
    · isplitl [HS0]; · iexact HS0
      isplitl [HS1]; · iexact HS1
      isplitl [Hg]; · iexact Hg
      isplitl [HT0]; · iexact HT0
      iexact HT1
    ipureintro
    intro s hs
    have : s = t := Fin.ext (by have e : s.val + 1 = t.val + 1 := hs; omega)
    subst this
    exact ⟨rfl, rfl⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- No tile leaves its output block unwritten: it is in use, or past the ones in use. -/
theorem live6 (hO : Ok m) (t : Fin (cfgM m hO).N) : (cfgM m hO).idle 6 ((cfgM m hO).grid.coords t) = false := by
  show (!(k0_cond2 (grid0.coords t) ((tbl m).atD 1 ![0]) == 1#1) && !(k0_cond3 (grid0.coords t) ((tbl m).atD 1 ![0]) == 1#1)) = false
  have h := cond3_iff (grid0.coords t) ((tbl m).atD 1 ![0])
  by_cases h2 : k0_cond2 (grid0.coords t) ((tbl m).atD 1 ![0]) = 1#1
  · rw [h2]; rfl
  · rw [h.2 h2]; exact Bool.and_false _

/-- The obligation of the body at every tile. -/
theorem body_obligation (hO : Ok m) (c : Dev nD) : BodyObligation (dats (F := F) m hO 0 c) (defs₀ (F := F)) Variants.none () Set.univ := fun t => by
  rw [bigSep_W0, bigSep_W0, defs₀_row m hO]
  simp only [show idle0 (tbl m) 6 ((pcfg0.gridAt (tbl m)).coords t) = false from live6 m hO t]
  exact triple_restated (sound_body m hO c t) rfl .rfl fun _ => .rfl

/-- The region's start gives the invariant before the first tile. -/
theorem enter (hO : Ok m) (c : Dev nD) : iprop(Pipeline.ΦA spec0 c ∗ Pipeline.ΦT pre0 (tbl m) c) ⊢ (dats m hO 0 c).Φ 0 := by
  rw [show (dats m hO 0 c).Φ 0 = PhiM m hO c 0 from rfl, PhiT0_eq, PhiA0_eq]
  unfold PhiM
  iintro ⟨⟨⟨⟨%s0, HS0⟩, ⟨%s1, HS1⟩⟩, Hg⟩, ⟨HT0, HT1⟩⟩
  iexists s0; iexists s1
  isplitr
  · ipureintro
    intro s hs
    exact absurd hs (Nat.succ_ne_zero _)
  isplitl [HS0]; · iexact HS0
  isplitl [HS1]; · iexact HS1
  isplitl [Hg]; · iexact Hg
  isplitl [HT0]; · iexact HT0
  iexact HT1

/-- The invariant after the last tile gives back what the region started with. -/
theorem leave (hO : Ok m) (c : Dev nD) : (dats m hO 0 c).Φ (Fin.last _) ⊢ Pipeline.ΦA spec0 c := by
  rw [show (dats m hO 0 c).Φ (Fin.last _) = PhiM m hO c (Fin.last _) from rfl, PhiA0_eq]
  unfold PhiM
  iintro ⟨%s0, %s1, -, HS0, HS1, Hg, -, -⟩
  isplitl [HS0 HS1]
  · isplitl [HS0]
    · iexists _; iexact HS0
    iexists _; iexact HS1
  iexact Hg

set_option backward.isDefEq.respectTransparency.types false in
/-- The run from any memory with counters at zero: it ends, as above, with the counters at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- Every final state has each array of the pipeline as computed tile by tile, and the rest as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The frame, for every admitted table of experts. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.MoeIdeal.Gen

end
-- ==== Proof.MoeIOk.lean ====
/- The tables of experts the precondition admits. -/
module

public import proofs.«01_k».proof.Proof.MoeIFrame
public import proofs.«01_k».proof.Proof.Gen.Pre_experts_in_range

@[expose] public section

set_option maxRecDepth 16384

noncomputable section

namespace Cert.MoeIdeal.Gen

open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-- A table whose words are below 32 is admitted: every window it places lies inside its array. -/
theorem ok_of_range (h : ∀ y : S160.Idx, BitVec.toNat (w := 32) (tbl m 0 y) < 32) : Ok m := by
  have hw : ∀ (i : grid0.Coords) (inb) (h1), BitVec.toNat (w := 32) ((tbl m).at 0 (Rect.unit (s := S160) ![(Scalar.indexCast (BitVec.ofNat 32 (i 0).val)).toNat] S1.size inb) h1) + 1 ≤ 32 := fun i _ _ => h _
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · match a with
    | ⟨0, _⟩ => exact (Nat.mul_one _).le.trans (hw i _ _)
    | ⟨1, _⟩ => exact Nat.le_refl 1024
    | ⟨2, _⟩ => exact Nat.le_refl 2048
  · match a with
    | ⟨0, _⟩ => exact (Nat.mul_one _).le.trans (hw i _ _)
    | ⟨1, _⟩ => exact Nat.le_refl 1
    | ⟨2, _⟩ => exact Nat.le_refl 2048
  · match a with
    | ⟨0, _⟩ => exact (Nat.mul_one _).le.trans (hw i _ _)
    | ⟨1, _⟩ => exact Nat.le_refl 1024
    | ⟨2, _⟩ => exact Nat.le_refl 1024
  · match a with
    | ⟨0, _⟩ => exact (Nat.mul_one _).le.trans (hw i _ _)
    | ⟨1, _⟩ => exact Nat.le_refl 1
    | ⟨2, _⟩ => exact Nat.le_refl 1024

/-- A word at least 0 and below 32, signed, is below 32. -/
theorem word_range (w : BitVec 32) (h : (IntOp.cmpi .sge w 0#32 &&& IntOp.cmpi .slt w 32#32) = 1#1) : w.toNat < 32 := by
  have h0 : (0#32).sle w = true ∧ w.slt 32#32 = true := by
    revert h
    simp only [IntOp.cmpi]
    cases (0#32).sle w <;> cases w.slt 32#32 <;> decide
  obtain ⟨h1, h2⟩ := h0
  simp only [BitVec.sle, BitVec.slt, decide_eq_true_eq] at h1 h2
  have e0 : (0#32).toInt = 0 := rfl
  have e1 : (32#32).toInt = 32 := rfl
  rw [e0] at h1
  rw [e1] at h2
  have := BitVec.toInt_eq_toNat_cond w
  split at this <;> omega

/-- The precondition's tables are admitted. -/
theorem ok_of_pre (h : ∀ c : Dev nD, Cert.Pre_experts_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = (fun _ => 1#1)) : Ok m :=
  ok_of_range m fun y => word_range _ (congrFun (h 0) y)

end Cert.MoeIdeal.Gen

end
-- ==== Proof.MoeSpec.lean ====
/-
  One expert's feed-forward at one token and one column, over the extended reals.
-/
module

public import Idealize.ShloMosaic.Lib.Pointwise
public import Idealize.ShloMosaic.Lib.IdealHost

@[expose] public section

noncomputable section

namespace Cert.Experts

open Idealize.ShloMosaic
open scoped BigOperators

/-- The clamp's upper bound. -/
def hi : EReal := Ideal.ofBits .f32 0x40E00000#32
/-- The clamp's lower bound. -/
def lo : EReal := Ideal.ofBits .f32 0xC0E00000#32
/-- The slope inside the gate's sigmoid. -/
def slope : EReal := Ideal.ofBits .f32 0x3FD9DB23#32

/-- The activation of a gate and a linear entry. -/
def act (g u : EReal) : EReal := (min hi (max lo u) + 1) * (min g hi * Ideal.logistic (slope * min g hi))

/-- A hidden entry: the token's row against a column of the first matrix, and its bias. -/
def hid (x : Fin 1024 → EReal) (W : Fin 1024 → Fin 2048 → EReal) (b : Fin 2048 → EReal) (f : Fin 2048) : EReal := ∑ d, x d * W d f + b f

/-- The expert's output at a column: the activations against a column of the second matrix, and its bias. -/
def expert (x : Fin 1024 → EReal) (W : Fin 1024 → Fin 2048 → EReal) (b : Fin 2048 → EReal) (W2 : Fin 1024 → Fin 1024 → EReal) (b2 : Fin 1024 → EReal) (q : Fin 1024) : EReal :=
  ∑ k : Fin 1024, act (hid x W b ⟨k.val, by have := k.isLt; omega⟩) (hid x W b ⟨1024 + k.val, by have := k.isLt; omega⟩) * W2 k q + b2 q

end Cert.Experts

end
-- ==== Proof.MoeValue.lean ====
/-
  The mixture of experts' output array: a token's row is its tile's expert at the token, weighted, and zero past the
  tiles in use.
-/
module

public import proofs.«01_k».proof.Proof.MoeIOk
public import proofs.«01_k».proof.Proof.MoeSpec
public import Idealize.ShloMosaic.Lib.Pipeline.ValueKit

@[expose] public section

set_option maxRecDepth 16384

noncomputable section

namespace Cert.MoeIdeal.Val

open Cert.MoeIdeal Cert.MoeIdeal.Gen Cert.Experts Idealize.ShloMosaic Idealize.ShloMosaic.TcCoe Idealize.ShloMosaic.Tactic
open Idealize.SL Idealize.SL.Sem
open scoped BigOperators

/-- A tile in use: the expert at each of its tokens, weighted. -/
theorem tile (x : Vec Ideal S256x1024 .bf16) (w : Vec Ideal S1024x2048 .bf16) (b : Vec Ideal S1x1x2048 .f32) (w2 : Vec Ideal S1024x1024 .bf16) (b2 : Vec Ideal S1x1x1024 .f32) (r : Vec Ideal S256x1 .f32) (p : Fin 256) (q : Fin 1024) :
    k0_pay3 (F := Ideal) x w b w2 b2 r (ix2 p q)
      = expert (fun d => x (ix2 p d)) (fun d f => w (ix2 d f)) (fun f => b (ix3 0 0 f)) (fun k q => w2 (ix2 k q)) (fun q => b2 (ix3 0 0 q)) q * r (ix2 p 0) := by
  unfold k0_pay3
  pointwise
  rfl

/-- A tile past the ones in use: zero. -/
theorem rest (p : Fin 256) (q : Fin 1024) : k0_pay4 (F := Ideal) (ix2 p q) = (0 : EReal) := by
  unfold k0_pay4
  pointwise

/-- Whether a tile is in use, as a comparison of its number with the word. -/
theorem used_iff (t : Fin grid0.N) (v : BitVec 32) : k0_cond2 (grid0.coords t) v = 1#1 ↔ (BitVec.ofNat 32 t.val).slt v = true := by
  unfold k0_cond2
  rw [coords_at]
  simp only [Scalar.cmpi, Scalar.extui, IntOp.cmpi]
  cases (BitVec.ofNat 32 t.val).slt v <;> decide

/-- A stored first matrix is the argument's, its leading axis dropped. -/
theorem cast0_at (x : Vec Ideal S1x1024x2048 .f32) (d : Fin 1024) (f : Fin 2048) : cast0 (F := Ideal) x (ix2 d f) = x (ix3 0 d f) := by
  refine congrArg x (funext fun a => ?_)
  match a with
  | ⟨0, _⟩ => rfl
  | ⟨1, _⟩ => rfl
  | ⟨2, _⟩ => rfl

/-- A stored second matrix is the argument's, its leading axis dropped. -/
theorem cast1_at (x : Vec Ideal S1x1024x1024 .f32) (d : Fin 1024) (f : Fin 1024) : cast1 (F := Ideal) x (ix2 d f) = x (ix3 0 d f) := by
  refine congrArg x (funext fun a => ?_)
  match a with
  | ⟨0, _⟩ => rfl
  | ⟨1, _⟩ => rfl
  | ⟨2, _⟩ => rfl

section
variable (m : (ℓ : Loc nD τ sig) → Buf (Elt Ideal) ℓ) (ρ : Dev nD → PrngReg) (hO : Ok m)

theorem ix0_at : ∀ t : Fin grid0.N, cc0_transform_0 (grid0.coords t) = ![t.val, 0] := by decide +kernel
theorem ix1_at : ∀ t : Fin grid0.N, cc0_transform_1 (grid0.coords t) = ![t.val, 0] := by decide +kernel
theorem ix6_at : ∀ t : Fin grid0.N, cc0_transform_6 (grid0.coords t) = ![t.val, 0] := by decide +kernel

/-- A tile's tokens are 256 rows of the gathered tokens. -/
theorem iblk0_at (c : Dev nD) (t : Fin (cfgM m hO).N) (T : Fin 40960) (p : Fin 256) (hT : T.val = t.val * 256 + p.val) (d : Fin 1024) :
    (iblk m hO c 0 t : Vec Ideal S256x1024 .bf16) (ix2 p d) = V m c main_arg2 (ix2 T d) := by
  refine congrArg (V m c main_arg2) (funext fun a => Fin.ext ?_)
  have e := ix0_at t
  match a with
  | ⟨0, _⟩ => show cc0_transform_0 (grid0.coords t) 0 * 256 + 1 * p.val = T.val; rw [e]; show t.val * 256 + 1 * p.val = _; omega
  | ⟨1, _⟩ => show cc0_transform_0 (grid0.coords t) 1 * 1024 + 1 * d.val = d.val; rw [e]; show 0 * 1024 + 1 * d.val = _; omega

/-- A tile's weights are 256 rows of the tokens' weights. -/
theorem iblk1_at (c : Dev nD) (t : Fin (cfgM m hO).N) (T : Fin 40960) (p : Fin 256) (hT : T.val = t.val * 256 + p.val) :
    (iblk m hO c 1 t : Vec Ideal S256x1 .f32) (ix2 p 0) = V m c main_arg3 (ix2 T 0) := by
  refine congrArg (V m c main_arg3) (funext fun a => Fin.ext ?_)
  have e := ix1_at t
  match a with
  | ⟨0, _⟩ => show cc0_transform_1 (grid0.coords t) 0 * 256 + 1 * p.val = T.val; rw [e]; show t.val * 256 + 1 * p.val = _; omega
  | ⟨1, _⟩ => show cc0_transform_1 (grid0.coords t) 1 * 1 + 1 * 0 = 0; rw [e]; rfl

/-- A tile's first bias is its expert's. -/
theorem iblk3_at (c : Dev nD) (t : Fin (cfgM m hO).N) (f : Fin 2048) :
    (iblk m hO c 3 t : Vec Ideal S1x1x2048 .f32) (ix3 0 0 f) = V m c main_arg5 (ix3 (ex m hO ⟨t.val, t.isLt⟩) 0 f) := by
  refine congrArg (V m c main_arg5) (funext fun a => Fin.ext ?_)
  have e := ix3_at m hO t
  match a with
  | ⟨0, _⟩ => show cc0_transform_3 k0_off1_inb numel1_S1 (tbl m) (grid0.coords t) 0 * 1 + 1 * 0 = _; rw [e]; show (ex m hO ⟨t.val, t.isLt⟩).val * 1 + 1 * 0 = (ex m hO ⟨t.val, t.isLt⟩).val; omega
  | ⟨1, _⟩ => show cc0_transform_3 k0_off1_inb numel1_S1 (tbl m) (grid0.coords t) 1 * 1 + 1 * 0 = 0; rw [e]; rfl
  | ⟨2, _⟩ => show cc0_transform_3 k0_off1_inb numel1_S1 (tbl m) (grid0.coords t) 2 * 2048 + 1 * f.val = f.val; rw [e]; show 0 * 2048 + 1 * f.val = f.val; omega

/-- A tile's second bias is its expert's. -/
theorem iblk5_at (c : Dev nD) (t : Fin (cfgM m hO).N) (f : Fin 1024) :
    (iblk m hO c 5 t : Vec Ideal S1x1x1024 .f32) (ix3 0 0 f) = V m c main_arg7 (ix3 (ex m hO ⟨t.val, t.isLt⟩) 0 f) := by
  refine congrArg (V m c main_arg7) (funext fun a => Fin.ext ?_)
  have e := ix5_at m hO t
  match a with
  | ⟨0, _⟩ => show cc0_transform_5 k0_off1_inb numel1_S1 (tbl m) (grid0.coords t) 0 * 1 + 1 * 0 = _; rw [e]; show (ex m hO ⟨t.val, t.isLt⟩).val * 1 + 1 * 0 = (ex m hO ⟨t.val, t.isLt⟩).val; omega
  | ⟨1, _⟩ => show cc0_transform_5 k0_off1_inb numel1_S1 (tbl m) (grid0.coords t) 1 * 1 + 1 * 0 = 0; rw [e]; rfl
  | ⟨2, _⟩ => show cc0_transform_5 k0_off1_inb numel1_S1 (tbl m) (grid0.coords t) 2 * 1024 + 1 * f.val = f.val; rw [e]; show 0 * 1024 + 1 * f.val = f.val; omega

/-- The word in use, as the table holds it. -/
def inUse : BitVec 32 := tbl m 1 (ix1 0)

/-- The word the body reads is the table's. -/
theorem wUsed_at : wUsed (F := Ideal) (tbl m 1) = inUse m := by
  refine congrArg (tbl m 1) (funext fun a => Fin.ext ?_)
  match a with
  | ⟨0, _⟩ => rfl

/-- The output array: a token's tile `k`, its expert, the token's weight; zero past the tiles in use. -/
def outAt (c : Dev nD) (T : Fin 40960) (q : Fin 1024) (k : Fin 160) : EReal :=
  if (BitVec.ofNat 32 k.val).slt (inUse m) = true then
    expert (fun d => V m c main_arg2 (ix2 T d)) (fun d f => V m c main_arg4 (ix3 (ex m hO k) d f)) (fun f => V m c main_arg5 (ix3 (ex m hO k) 0 f))
      (fun d f => V m c main_arg6 (ix3 (ex m hO k) d f)) (fun f => V m c main_arg7 (ix3 (ex m hO k) 0 f)) q * V m c main_arg3 (ix2 T 0)
  else 0

/-- An expert's weighted output depends on what it reads alone. -/
theorem expert_congr {x x' : Fin 1024 → EReal} {W W' : Fin 1024 → Fin 2048 → EReal} {b b' : Fin 2048 → EReal} {W2 W2' : Fin 1024 → Fin 1024 → EReal} {b2 b2' : Fin 1024 → EReal}
    (hx : ∀ d, x d = x' d) (hW : ∀ d f, W d f = W' d f) (hb : ∀ f, b f = b' f) (hW2 : ∀ d f, W2 d f = W2' d f) (hb2 : ∀ f, b2 f = b2' f) (q : Fin 1024) {r r' : EReal} (hr : r = r') :
    expert x W b W2 b2 q * r = expert x' W' b' W2' b2' q * r' := by
  obtain rfl : x = x' := funext hx
  obtain rfl : W = W' := funext fun d => funext (hW d)
  obtain rfl : b = b' := funext hb
  obtain rfl : W2 = W2' := funext fun d => funext (hW2 d)
  obtain rfl : b2 = b2' := funext hb2
  rw [hr]

/-- A tile's block at a row and a column. -/
theorem block (c : Dev nD) (t : Fin (cfgM m hO).N) (T : Fin 40960) (p : Fin 256) (hT : T.val = t.val * 256 + p.val) (q : Fin 1024) :
    outsAt m hO c t (ix2 p q) = outAt m hO c T q ⟨t.val, t.isLt⟩ := by
  unfold outsAt outB outAt
  rw [wUsed_at]
  have hu := used_iff t (inUse m)
  by_cases h : k0_cond2 (grid0.coords t) (inUse m) = 1#1
  · rw [if_pos h, if_pos (hu.1 h)]
    refine (tile _ _ _ _ _ _ p q).trans ?_
    exact expert_congr (fun d => iblk0_at m hO c t T p hT d) (fun d f => (cast0_at _ d f).trans (iblk2_at m hO c t (ix3 0 d f)))
      (fun f => iblk3_at m hO c t f) (fun d f => (cast1_at _ d f).trans (iblk4_at m hO c t (ix3 0 d f))) (fun f => iblk5_at m hO c t f) q (iblk1_at m hO c t T p hT)
  · rw [if_neg h, if_neg (fun h' => h (hu.2 h'))]
    exact rest p q

/-- The output array after the run. -/
def G6 (c : Dev nD) : FVec Ideal S40960x1024 .f32 := fun i =>
  outAt m hO c (i 0) (i 1) ⟨(i 0).val / 256, by have h : (i 0).val < 40960 := (i 0).isLt; omega⟩

/-- Every tile's block is written back. -/
theorem flush6 (t : Fin (cfgM m hO).N) : ((cfgM m hO).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true) t

/-- The tiles' blocks cover the array. -/
theorem covers6 : ((cfgM m hO).win 6).Covers := by
  have n0 : ((cfgM m hO).win 6).nblk (0 : Fin 2) = 160 := (show (40960 + 256 - 1) / 256 = 160 by decide)
  have n1 : ((cfgM m hO).win 6).nblk (1 : Fin 2) = 1 := (show (1024 + 1024 - 1) / 1024 = 1 by decide)
  have hN : (cfgM m hO).N = 160 := rfl
  refine ⟨fun a => ?_, fun β => ?_⟩
  · match a with
    | ⟨0, _⟩ => exact (by decide : 0 < 256)
    | ⟨1, _⟩ => exact (by decide : 0 < 1024)
  · have l0 : (β (0 : Fin 2)).val < 160 := lt_of_lt_of_eq (β (0 : Fin 2)).isLt n0
    have l1 : (β (1 : Fin 2)).val < 1 := lt_of_lt_of_eq (β (1 : Fin 2)).isLt n1
    refine ⟨⟨(β (0 : Fin 2)).val, l0⟩, flush6 m hO _, fun a => ⟨?_, Or.inl rfl⟩⟩
    match a with
    | ⟨0, _⟩ => exact congrFun (ix6_at ⟨(β (0 : Fin 2)).val, l0⟩) 0
    | ⟨1, _⟩ => exact (congrFun (ix6_at ⟨(β (0 : Fin 2)).val, l0⟩) 1).trans (by show 0 = (β (1 : Fin 2)).val; omega)

/-- The output array after the run, computed tile by tile. -/
theorem final6 (c : Dev nD) : (dats m hO 0 c).arrAt 6 (cfgM m hO).N = G6 m hO c := by
  refine (dats m hO 0 c).arrAt_eq_of_covers 6 (G6 m hO c) (covers6 m hO) (fun t hf y => ?_)
  rw [after0_6]
  have ht : t.val < 160 := t.isLt
  have y0 : (y (0 : Fin 2)).val < 256 := (y (0 : Fin 2)).isLt
  have y1 : (y (1 : Fin 2)).val < 1024 := (y (1 : Fin 2)).isLt
  have hT : t.val * 256 + (y (0 : Fin 2)).val < 40960 := by omega
  have ey : y = ix2 ⟨(y (0 : Fin 2)).val, y0⟩ ⟨(y (1 : Fin 2)).val, y1⟩ := funext fun a => match a with
    | ⟨0, _⟩ => rfl
    | ⟨1, _⟩ => rfl
  have ee : (((cfgM m hO).win 6).blk t).view.emb y = ix2 ⟨t.val * 256 + (y (0 : Fin 2)).val, hT⟩ ⟨(y (1 : Fin 2)).val, y1⟩ := by
    refine funext fun a => Fin.ext ?_
    have e := ix6_at t
    match a with
    | ⟨0, _⟩ => show cc0_transform_6 (grid0.coords t) 0 * 256 + 1 * (y (0 : Fin 2)).val = _; rw [e]; show t.val * 256 + 1 * (y (0 : Fin 2)).val = t.val * 256 + (y (0 : Fin 2)).val; omega
    | ⟨1, _⟩ => show cc0_transform_6 (grid0.coords t) 1 * 1024 + 1 * (y (1 : Fin 2)).val = _; rw [e]; show 0 * 1024 + 1 * (y (1 : Fin 2)).val = (y (1 : Fin 2)).val; omega
  rw [ee]
  refine (congrArg (outsAt m hO c t) ey).trans ?_
  refine (block m hO c t ⟨t.val * 256 + (y (0 : Fin 2)).val, hT⟩ ⟨(y (0 : Fin 2)).val, y0⟩ rfl ⟨(y (1 : Fin 2)).val, y1⟩).trans ?_
  refine congrArg (outAt m hO c _ _) (Fin.ext ?_)
  show t.val = (t.val * 256 + (y (0 : Fin 2)).val) / 256
  omega

/-- The run ends with the output computed tile by tile and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v0) = G6 m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 6).trans (final6 m hO c), h.2 c⟩) (θ_run_and (run_main m ρ hO) (unchanged m ρ hO))

end

end Cert.MoeIdeal.Val

end
-- ==== Proof.MoeRead.lean ====
/-
  The reference of the mixture of experts, read at a token and a column.
-/
module

public import proofs.«01_k».proof.Proof.Gen.MoeRefIdeal.Run
public import proofs.«01_k».proof.Proof.Gen.MoeRefIdeal.Read
public import proofs.«01_k».proof.Proof.MoeSpec

@[expose] public section

set_option maxRecDepth 16384

noncomputable section

namespace Cert.MoeRefIdeal.At

open Cert.MoeRefIdeal Cert.MoeRefIdeal.Gen Cert.MoeRefIdeal.Read Cert.Experts Idealize.ShloMosaic Idealize.ShloMosaic.TcCoe Idealize.SL.Sem
open Idealize.ShloMosaic.Pointwise
open scoped BigOperators

variable (x0 : IVec S160 32) (x1 : IVec S1 32) (x2 : FVec Ideal S40960x1024 .bf16) (x3 : FVec Ideal S40960x1 .f32) (x4 : FVec Ideal S32x1024x2048 .f32) (x5 : FVec Ideal S32x1x2048 .f32) (x6 : FVec Ideal S32x1024x1024 .f32) (x7 : FVec Ideal S32x1x1024 .f32)

/-- Every expert's hidden entries. -/
theorem hidden (e : Fin 32) (t : Fin 40960) (f : Fin 2048) :
    val_main_v22 (F := Ideal) x2 x4 x5 (ix3 e t f) = hid (fun d => x2 (ix2 t d)) (fun d f => x4 (ix3 e d f)) (fun f => x5 (ix3 e 0 f)) f := by
  unfold val_main_v22 val_main_v21 val_main_v20 val_main_v19 val_main_v18
  pointwise
  unfold hid
  simp only [mul_comm]

/-- Every expert's activations. -/
theorem acts (e : Fin 32) (t : Fin 40960) (f : Fin 1024) :
    val_main_v39 (F := Ideal) x2 x4 x5 (ix3 e t f)
      = act (val_main_v22 (F := Ideal) x2 x4 x5 (ix3 e t ⟨f.val, by have := f.isLt; omega⟩)) (val_main_v22 (F := Ideal) x2 x4 x5 (ix3 e t ⟨1024 + f.val, by have := f.isLt; omega⟩)) := by
  unfold val_main_v39 val_main_v38 val_main_v37 val_main_v36 val_main_v35 val_main_v34 val_main_v33 val_main_v32 val_main_v31 val_main_v30 val_main_v29 val_main_v28 val_main_v27 val_main_call1_v4 val_main_call1_v3 val_main_call1_v2 val_main_call1_v1 val_main_call1_v0 val_main_v26 val_main_v25 val_main_v24 val_main_v23 val_main_cst_0 val_main_cst_1 val_main_cst_2 val_main_cst_3 val_main_cst_4 val_main_cst_5 val_main_cst_6
  generalize val_main_v22 (F := Ideal) x2 x4 x5 = y
  simp only [id]
  pointwise
  rfl

/-- Every expert's outputs. -/
theorem outs (e : Fin 32) (t : Fin 40960) (q : Fin 1024) :
    val_main_v42 (F := Ideal) x2 x4 x5 x6 x7 (ix3 e t q)
      = expert (fun d => x2 (ix2 t d)) (fun d f => x4 (ix3 e d f)) (fun f => x5 (ix3 e 0 f)) (fun k q => x6 (ix3 e k q)) (fun q => x7 (ix3 e 0 q)) q := by
  have h : val_main_v42 (F := Ideal) x2 x4 x5 x6 x7 (ix3 e t q) = ∑ k : Fin 1024, val_main_v39 (F := Ideal) x2 x4 x5 (ix3 e t k) * x6 (ix3 e k q) + x7 (ix3 e 0 q) := by
    unfold val_main_v42 val_main_v41 val_main_v40
    generalize val_main_v39 (F := Ideal) x2 x4 x5 = y
    pointwise
  rw [h]
  unfold expert
  refine congrArg (· + x7 (ix3 e 0 q)) (Finset.sum_congr rfl fun k _ => ?_)
  rw [acts, hidden, hidden]

/-- A choice on two tests joined is the choice on their conjunction. -/
theorem pick (w v : BitVec 32) (u : Bool) (a b : EReal) :
    (if BitVec.ofBool (w == v) &&& BitVec.ofBool u = 1 then a else b) = if w = v ∧ u = true then a else b := by
  by_cases hw : w = v
  · rw [hw]
    cases u <;> simp
  · have hb : (w == v) = false := by simpa using hw
    have hc : ¬ BitVec.ofBool false &&& BitVec.ofBool u = 1 := by cases u <;> decide
    rw [hb, if_neg hc, if_neg (fun h : w = v ∧ u = true => hw h.1)]

/-- Each expert's weight at a token: the token's own where its tile is in use and names the expert, else zero. -/
theorem comb (e : Fin 32) (t : Fin 40960) :
    val_main_v17 (F := Ideal) x0 x1 x3 (ix2 t e)
      = if x0 (ix1 ⟨t.val / 256, by have := t.isLt; omega⟩) = BitVec.ofNat 32 e.val ∧ (BitVec.ofNat 32 (t.val / 256)).slt (x1 (ix1 0)) = true then x3 (ix2 t 0) else (0 : EReal) := by
  unfold val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_call0_v2 val_main_call0_v1 val_main_call0_v0 val_main_cst
  simp only [id]
  pointwise
  unfold Scalar.select IntOp.andi
  simp only [IntOp.cmpi]
  exact pick _ _ _ _ _

/-- The weighted sum of the experts' outputs. -/
theorem total (t : Fin 40960) (q : Fin 1024) :
    val_main_v47 (F := Ideal) x0 x1 x2 x3 x4 x5 x6 x7 (ix2 t q) = ∑ e : Fin 32, val_main_v17 (F := Ideal) x0 x1 x3 (ix2 t e) * val_main_v42 (F := Ideal) x2 x4 x5 x6 x7 (ix3 e t q) := by
  unfold val_main_v47 val_main_v46 val_main_v45 val_main_v44 val_main_v43 val_main_cst_7
  generalize val_main_v17 (F := Ideal) x0 x1 x3 = y
  generalize val_main_v42 (F := Ideal) x2 x4 x5 x6 x7 = z
  pointwise

/-- With every tile's expert in range, the sum is the one term of the tile's expert, where the tile is in use. -/
theorem mixture (h : ∀ y, (x0 y : BitVec 32).toNat < 32) (t : Fin 40960) (q : Fin 1024) (k : Fin 160) (hk : k.val = t.val / 256) (e : Fin 32) (he : e.val = (x0 (ix1 k) : BitVec 32).toNat) :
    val_main_v47 (F := Ideal) x0 x1 x2 x3 x4 x5 x6 x7 (ix2 t q)
      = if (BitVec.ofNat 32 k.val).slt (x1 (ix1 0)) = true then
          expert (fun d => x2 (ix2 t d)) (fun d f => x4 (ix3 e d f)) (fun f => x5 (ix3 e 0 f)) (fun k q => x6 (ix3 e k q)) (fun q => x7 (ix3 e 0 q)) q * x3 (ix2 t 0)
        else (0 : EReal) := by
  have ek : (⟨t.val / 256, by have := t.isLt; omega⟩ : Fin 160) = k := Fin.ext hk.symm
  rw [total]
  simp only [comb, ek, ← hk]
  split
  next hu =>
    refine (Finset.sum_eq_single e (fun e' _ hne => ?_) (fun hn => absurd (Finset.mem_univ _) hn)).trans ?_
    · rw [if_neg, zero_mul]
      rintro ⟨hx, -⟩
      apply hne
      apply Fin.ext
      rw [he, hx, BitVec.toNat_ofNat]
      have := e'.isLt
      omega
    · rw [if_pos, outs, mul_comm]
      refine ⟨?_, hu⟩
      apply BitVec.eq_of_toNat_eq
      rw [BitVec.toNat_ofNat, he]
      exact (Nat.mod_eq_of_lt (lt_trans (h (ix1 k)) (by norm_num))).symm
  next hu =>
    refine Finset.sum_eq_zero fun e' _ => ?_
    rw [if_neg (fun hh => hu hh.2), zero_mul]

end Cert.MoeRefIdeal.At

end
-- ==== Proof.MoeClaim.lean ====
/-
  The claims about the mixture of experts: the kernel's output equal to the reference's, for every table of experts in range.
-/
module

public import proofs.«01_k».proof.Defs
public import proofs.«01_k».proof.Proof.Gen.Moe
public import proofs.«01_k».proof.Proof.Gen.MoeIdeal
public import proofs.«01_k».proof.Proof.Gen.MoeRefIdeal
public import proofs.«01_k».proof.Proof.Gen.MoeRefIdeal.Run
public import proofs.«01_k».proof.Proof.Gen.Pre_experts_in_range
public import proofs.«01_k».proof.Proof.MoeOk
public import proofs.«01_k».proof.Proof.MoeIOk
public import proofs.«01_k».proof.Proof.MoeFrame
public import proofs.«01_k».proof.Proof.MoeValue
public import proofs.«01_k».proof.Proof.MoeRead
public import Idealize.ShloMosaic.Lib.Quiescent

@[expose] public section

noncomputable section

namespace Cert.Proof

open Idealize.ShloMosaic Idealize.ShloMosaic.TcCoe Idealize.SL.Sem Cert.Experts

/-- The kernel runs, leaves its arguments as they were and no semaphore raised, for tables of experts in range. -/
theorem frame_moe : Cert.quiescent_Moe := fun m g h => Cert.Moe.Gen.frame m g (Cert.Moe.Gen.ok_of_pre m h)

/-- The same of the kernel over the extended reals. -/
theorem frame_moeIdeal : Cert.quiescent_MoeIdeal := fun m g h => Cert.MoeIdeal.Gen.frame m g (Cert.MoeIdeal.Gen.ok_of_pre m h)

/-- The reference runs, leaves its arguments as they were, and has no semaphore to leave raised. -/
theorem frame_moeRef : Cert.quiescent_MoeRefIdeal := fun m g _ =>
  (θ_run _ _ _).mono (fun r h => ⟨fun c => (h c).2, sem_eq_zero_of_no_sems rfl r.2⟩) (Cert.MoeRefIdeal.Value.run (F := Ideal) m g)

/-- The kernel's output equals the reference's, for tables of experts in range. -/
theorem algebraic_moe : Cert.algebraic_MoeIdeal_MoeRefIdeal := by
  intro m g m' g' hpre hag
  have hO := Cert.MoeIdeal.Gen.ok_of_pre m hpre
  refine ⟨fun c => Cert.MoeIdeal.Val.G6 m hO c, Cert.MoeIdeal.Val.run m hO g, ?_⟩
  refine (θ_run _ _ _).mono (fun r h c => ?_) (Cert.MoeRefIdeal.Value.run (F := Ideal) m' g')
  obtain ⟨h47, hrest⟩ := h c
  obtain ⟨e0, e1, e2, e3, e4, e5, e6, e7⟩ := hag c
  refine ⟨h47.trans ?_, hrest⟩
  refine (Cert.MoeRefIdeal.Read.val_main_v47_eq _ _ _ _ _ _ _ _).trans ?_
  rw [e0, e1, e2, e3, e4, e5, e6, e7]
  obtain rfl : c = 0 := Subsingleton.elim c 0
  funext i
  have ei : i = ix2 (i 0) (i 1) := funext fun a => match a with
    | ⟨0, _⟩ => rfl
    | ⟨1, _⟩ => rfl
  have hr : ∀ y : Cert.MoeIdeal.S160.Idx, BitVec.toNat (w := 32) (m (((0 : Dev Cert.MoeIdeal.nD).tc : Thread Cert.MoeIdeal.nD Cert.MoeIdeal.τ).loc Cert.MoeIdeal.main_arg0) y) < 32 :=
    fun y => Cert.MoeIdeal.Gen.word_range _ (congrFun (hpre 0) y)
  have h0 : (i 0).val < 40960 := (i 0).isLt
  have hk : (i 0).val / 256 < 160 := by omega
  refine (congrArg _ ei).trans ?_
  exact Cert.MoeRefIdeal.At.mixture _ _ _ _ _ _ _ _ hr (i 0) (i 1) ⟨(i 0).val / 256, hk⟩ rfl (Cert.MoeIdeal.Gen.ex m hO ⟨(i 0).val / 256, hk⟩) rfl

end Cert.Proof

end
-- ==== Proof.Rows.lean ====
/-
  A row of the residual stream: its root mean square norm, its modulation, and which modulation a row takes.
-/
module

public import Idealize.ShloMosaic.Lib.Pointwise
public import Idealize.ShloMosaic.Lib.IdealHost

@[expose] public section

noncomputable section

namespace Cert.Row

open Idealize.ShloMosaic
open scoped BigOperators

/-- One entry of an RMS-normalised row of `k` entries, `n` their number and `ε` the small constant. -/
def unitN {k : ℕ} (n ε : EReal) (x : Fin k → EReal) (e : Fin k) : EReal :=
  x e * Ideal.rsqrt (Ideal.div (∑ i, x i * x i) n + ε)

/-- One entry of an RMS-normalised row of 1024. -/
def unit (x : Fin 1024 → EReal) (e : Fin 1024) : EReal :=
  unitN (Ideal.ofBits .f32 0x44800000#32) (Ideal.ofBits .f32 0x358637BD#32) x e

/-- The one the modulations add to the scale. -/
def one : EReal := Ideal.ofBits .f32 0x3F800000#32

/-- One entry of a row normalised, multiplied by its gains, scaled and shifted. -/
def modulated (x g shift scale : Fin 1024 → EReal) (e : Fin 1024) : EReal :=
  unit x e * g e * (one + scale e) + shift e

/-- The modulation of a row: row 0 for the context, one row for each latent sequence. -/
def cond (R : ℕ) : Fin 8 := if R < 4096 then 0 else ⟨(1 + (R - 4096) / 1024) % 8, Nat.mod_lt _ (by norm_num)⟩

/-- A row of the context takes modulation 0. -/
theorem cond_ctx {R : ℕ} (h : R < 4096) : cond R = 0 := if_pos h

/-- A latent row takes its sequence's modulation. -/
theorem cond_lat {R : ℕ} (h : 4096 ≤ R) (hR : R < 8192) : (cond R).val = 1 + (R - 4096) / 1024 := by
  unfold cond
  rw [if_neg (by omega)]
  exact Nat.mod_eq_of_lt (by omega)

/-- Rows of one tile of 256 take one modulation. -/
theorem cond_tile (t r : ℕ) (hr : r < 256) : cond (t * 256 + r) = if t < 16 then 0 else ⟨(1 + (t - 16) / 4) % 8, Nat.mod_lt _ (by norm_num)⟩ := by
  unfold cond
  by_cases h : t < 16
  · rw [if_pos (by omega), if_pos h]
  · rw [if_neg (by omega), if_neg h]
    refine Fin.ext ?_
    show (1 + (t * 256 + r - 4096) / 1024) % 8 = (1 + (t - 16) / 4) % 8
    rw [show (t * 256 + r - 4096) / 1024 = (t - 16) / 4 by omega]

end Cert.Row

end
-- ==== Proof.InpSpec.lean ====
/-
  The input projection of a row: the modulated normalised row against the projection's columns.
-/
module

public import proofs.«01_k».proof.Proof.Rows

@[expose] public section

noncomputable section

namespace Cert.Row

open Idealize.ShloMosaic
open scoped BigOperators

/-- A row against a column. -/
def lin {k : ℕ} (h w : Fin k → EReal) : EReal := ∑ d, h d * w d

/-- The modulation depends on what it reads alone. -/
theorem modulated_congr {x x' g g' sh sh' sc sc' : Fin 1024 → EReal} (hx : ∀ e, x e = x' e) (hg : ∀ e, g e = g' e) (hh : ∀ e, sh e = sh' e) (hc : ∀ e, sc e = sc' e) :
    modulated x g sh sc = modulated x' g' sh' sc' := by
  obtain rfl : x = x' := funext hx
  obtain rfl : g = g' := funext hg
  obtain rfl : sh = sh' := funext hh
  obtain rfl : sc = sc' := funext hc
  rfl

/-- So does a row against a column. -/
theorem lin_congr {k : ℕ} {h h' w w' : Fin k → EReal} (hh : h = h') (hw : ∀ d, w d = w' d) : lin h w = lin h' w' := by
  obtain rfl : w = w' := funext hw
  rw [hh]

/-- A row against a column of zeros. -/
theorem lin_zero {k : ℕ} (h : Fin k → EReal) {w : Fin k → EReal} (hw : ∀ d, w d = 0) : lin h w = 0 := by
  unfold lin
  simp only [hw, mul_zero, Finset.sum_const_zero]

end Cert.Row

end
-- ==== Proof.InpBlock.lean ====
/-
  The input projection's blocks: what a grid point leaves in each of the five outputs, at a row and a column.
-/
module

public import proofs.«01_k».proof.Proof.Gen.InpIdeal.Value
public import proofs.«01_k».proof.Proof.InpSpec
public import Idealize.ShloMosaic.Lib.Pipeline.ValueKit

@[expose] public section

set_option maxRecDepth 16384

noncomputable section

namespace Cert.InpIdeal.Val

open Cert.InpIdeal Cert.InpIdeal.Gen Cert.Row Idealize.ShloMosaic Idealize.ShloMosaic.TcCoe Idealize.SL.Sem
open Idealize.ShloMosaic.Pipeline (Dat)
open Idealize.ShloMosaic.Pointwise
open scoped BigOperators

/-- The offsets of a whole block are zero. -/
theorem hz : (![0, 0] : Fin 2 → Nat) = fun _ => 0 := funext fun a => by fin_cases a <;> rfl

/-- A block's modulated rows. -/
theorem rows (v0 : Vec Ideal S256x1024 .f32) (v1 : Vec Ideal S1x1024 .f32) (v2 v3 : Vec Ideal S1x1x1024 .f32) (r : Fin 256) (d : Fin 1024) :
    k0_pay3 v0 v1 v2 v3 (ix2 r d)
      = modulated (fun i => v0 (ix2 r i)) (fun i => v1 (ix2 0 i)) (fun i => v3 (ix3 0 0 i)) (fun i => v2 (ix3 0 0 i)) d := by
  unfold k0_pay3 modulated unit unitN one
  pointwise

/-- The projected columns. -/
theorem project (v0 : Vec Ideal S256x1024 .f32) (v1 : Vec Ideal S1x1024 .f32) (v2 v3 : Vec Ideal S1x1x1024 .f32) (w : Vec Ideal S1024x2560 .bf16) (r : Fin 256) (c : Fin 2560) :
    k0_pay4 v0 v1 v2 v3 w (ix2 r c) = lin (fun d => k0_pay3 v0 v1 v2 v3 (ix2 r d)) (fun d => w (ix2 d c)) := by
  unfold k0_pay4 lin
  generalize k0_pay3 v0 v1 v2 v3 = h
  pointwise

/-- The gates. -/
theorem gates (h : FVec Ideal S256x1024 .f32) (w : Vec Ideal S1024x128 .f32) (b : Vec Ideal S1x128 .f32) (r : Fin 256) (c : Fin 128) :
    k0_pay1 h w b (ix2 r c) = lin (fun d => h (ix2 r d)) (fun d => w (ix2 d c)) + b (ix2 0 c) := by
  unfold k0_pay1 lin
  pointwise

/-- The gates, transposed. -/
theorem gatesT (h : FVec Ideal S256x1024 .f32) (w : Vec Ideal S16x1024 .f32) (b : Vec Ideal S16x1 .f32) (r : Fin 256) (c : Fin 16) :
    k0_pay2 h w b (ix2 c r) = lin (fun d => h (ix2 r d)) (fun d => w (ix2 c d)) + b (ix2 c 0) := by
  unfold k0_pay2 lin
  have e : ∀ d : Fin 1024, h (ix2 r d) * w (ix2 c d) = w (ix2 c d) * h (ix2 r d) := fun d => mul_comm _ _
  simp only [e]
  pointwise

section
variable (x0 : Vec Ideal S256x1024 .f32) (x1 : Vec Ideal S1x8x1024 .f32) (x2 : Vec Ideal S4x1024 .f32) (x3 : Vec Ideal S1024x2560 .bf16)
  (x4 : Vec Ideal S1024x128 .f32) (x5 : Vec Ideal S16x1024 .f32) (x6 : Vec Ideal S1x128 .f32) (x7 : Vec Ideal S16x1 .f32)

/-- A block's row, modulated. -/
abbrev hrow (r : Fin 256) : Fin 1024 → EReal :=
  modulated (fun i => x0 (ix2 r i)) (fun i => x2 (ix2 0 i)) (fun i => x1 (ix3 0 0 i)) (fun i => x1 (ix3 0 1 i))

/-- The loaded rows are the block's. -/
theorem loaded (r : Fin 256) : (fun d => k0_pay3 x0 (View.ld x2 r0_1) (View.ld x1 r0_2) (View.ld x1 r0_3) (ix2 r d)) = hrow x0 x1 x2 r := by
  funext d
  rw [rows]
  refine congrFun (modulated_congr (fun e => rfl) (fun e => ?_) (fun e => ?_) (fun e => ?_)) d
  · pointwise
  · pointwise
  · pointwise

/-- The first output's block. -/
theorem block8 (r : Fin 256) (c : Fin 768) :
    out0_8 x0 x1 x2 x3 x4 x5 x6 x7 (ix2 r c) = lin (hrow x0 x1 x2 r) (fun d => x3 (ix2 d ⟨c.val, by omega⟩)) := by
  unfold out0_8
  rw [View.canon_unit_zero hz, View.ld_unit_zero hz, View.ld_unit_zero hz, ← loaded]
  refine Eq.trans ?_ (project _ _ _ _ _ _ _)
  unfold k0_pay5
  generalize k0_pay4 (F := Ideal) _ _ _ _ _ = y
  pointwise

/-- The second output's block. -/
theorem block9 (r : Fin 256) (c : Fin 768) :
    out0_9 x0 x1 x2 x3 x4 x5 x6 x7 (ix2 r c) = lin (hrow x0 x1 x2 r) (fun d => x3 (ix2 d ⟨768 + c.val, by omega⟩)) := by
  unfold out0_9
  rw [View.canon_unit_zero hz, View.ld_unit_zero hz, View.ld_unit_zero hz, ← loaded]
  refine Eq.trans ?_ (project _ _ _ _ _ _ _)
  unfold k0_pay6
  generalize k0_pay4 (F := Ideal) _ _ _ _ _ = y
  pointwise

/-- The third output's block. -/
theorem block10 (r : Fin 256) (c : Fin 1024) :
    out0_10 x0 x1 x2 x3 x4 x5 x6 x7 (ix2 r c) = lin (hrow x0 x1 x2 r) (fun d => x3 (ix2 d ⟨1536 + c.val, by omega⟩)) := by
  unfold out0_10
  rw [View.canon_unit_zero hz, View.ld_unit_zero hz, View.ld_unit_zero hz, ← loaded]
  refine Eq.trans ?_ (project _ _ _ _ _ _ _)
  unfold k0_pay7
  generalize k0_pay4 (F := Ideal) _ _ _ _ _ = y
  pointwise

/-- The gates' block. -/
theorem block11 (r : Fin 256) (c : Fin 128) :
    out0_11 x0 x1 x2 x3 x4 x5 x6 x7 (ix2 r c) = lin (hrow x0 x1 x2 r) (fun d => x4 (ix2 d c)) + x6 (ix2 0 c) := by
  unfold out0_11 k0_pay8
  rw [View.canon_unit_zero hz, View.ld_unit_zero hz, View.ld_unit_zero hz, View.ld_unit_zero hz, ← loaded]
  exact gates _ _ _ _ _

/-- The transposed gates' block. -/
theorem block12 (r : Fin 256) (c : Fin 16) :
    out0_12 x0 x1 x2 x3 x4 x5 x6 x7 (ix2 c r) = lin (hrow x0 x1 x2 r) (fun d => x5 (ix2 c d)) + x7 (ix2 c 0) := by
  unfold out0_12 k0_pay8
  rw [View.canon_unit_zero hz, View.ld_unit_zero hz, View.ld_unit_zero hz, View.ld_unit_zero hz, ← loaded]
  exact gatesT _ _ _ _ _

end

end Cert.InpIdeal.Val

end
-- ==== Proof.InpHost.lean ====
/-
  What the host prepares for the input projection: the columns of the projection's matrix in the kernel's shapes.
-/
module

public import proofs.«01_k».proof.Proof.InpBlock

@[expose] public section

set_option maxRecDepth 16384

noncomputable section

namespace Cert.InpIdeal.Val

open Cert.InpIdeal Cert.InpIdeal.Gen Cert.Row Idealize.ShloMosaic Idealize.ShloMosaic.TcCoe Idealize.SL.Sem Idealize.ShloMosaic.StableHlo
open Idealize.ShloMosaic.Pointwise
open scoped BigOperators

variable (m : (ℓ : Loc nD τ sig) → Buf (Elt Ideal) ℓ)

/-- The rows. -/
abbrev a0 (c : Dev nD) : FVec Ideal S8192x1024 .f32 := m ((c : Thread nD τ).loc main_arg0)
/-- The modulations. -/
abbrev a1 (c : Dev nD) : FVec Ideal S8x8x1024 .f32 := m ((c : Thread nD τ).loc main_arg1)
/-- The gains. -/
abbrev a2 (c : Dev nD) : FVec Ideal S4x1024 .f32 := m ((c : Thread nD τ).loc main_arg2)
/-- The projection's matrix. -/
abbrev a3 (c : Dev nD) : FVec Ideal S1024x5648 .f32 := m ((c : Thread nD τ).loc main_arg3)
/-- The gates' bias. -/
abbrev a4 (c : Dev nD) : FVec Ideal S4x4 .f32 := m ((c : Thread nD τ).loc main_arg4)

/-- The first 2560 columns, narrowed. -/
theorem V1 (c : Dev nD) : (V m c main_v1 : FVec Ideal S1024x2560 .bf16) = truncf .bf16 (extractStridedSlice S1024x2560 ![0, 0] (a3 m c) slices_S1024x5648_S1024x2560_0_0) bitsLt_bf16_f32 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The gates' columns, padded. -/
theorem V3 (c : Dev nD) : (V m c main_v3 : FVec Ideal S1024x128 .f32) = pad S1024x128 ![0, 0] ![0, 112] ![0, 0] (extractStridedSlice S1024x16 ![0, 2560] (a3 m c) slices_S1024x5648_S1024x16_0_2560) (sitofp .f32 (constantI S_ 32 0#32)) pads_S1024x16_S1024x128_000_01120 h_S_ := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The gates' columns, transposed. -/
theorem V5 (c : Dev nD) : (V m c main_v5 : FVec Ideal S16x1024 .f32) = transpose S16x1024 [1, 0] (extractStridedSlice S1024x16 ![0, 2560] (a3 m c) slices_S1024x5648_S1024x16_0_2560) transposes_S1024x16_S16x1024_1_0 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The bias, padded. -/
theorem V7 (c : Dev nD) : (V m c main_v7 : FVec Ideal S1x128 .f32) = pad S1x128 ![0, 0] ![0, 112] ![0, 0] (shapeCast S1x16 (a4 m c) shapeCasts_S4x4_S1x16) (sitofp .f32 (constantI S_ 32 0#32)) pads_S1x16_S1x128_000_01120 h_S_ := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The bias, a column. -/
theorem V8 (c : Dev nD) : (V m c main_v8 : FVec Ideal S16x1 .f32) = transpose S16x1 [1, 0] (shapeCast S1x16 (a4 m c) shapeCasts_S4x4_S1x16) transposes_S1x16_S16x1_1_0 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- A column of the first. -/
theorem V1_at (c : Dev nD) (d : Fin 1024) (j : Fin 2560) : (V m c main_v1 : FVec Ideal S1024x2560 .bf16) (ix2 d j) = a3 m c (ix2 d ⟨j.val, by omega⟩) := by
  rw [V1]
  generalize a3 m c = w
  pointwise

/-- A gates' column of the padded. -/
theorem V3_at (c : Dev nD) (d : Fin 1024) (j : Fin 128) (h : j.val < 16) : (V m c main_v3 : FVec Ideal S1024x128 .f32) (ix2 d j) = a3 m c (ix2 d ⟨2560 + j.val, by omega⟩) := by
  rw [V3]
  generalize a3 m c = w
  pointwise
  split_ifs <;> rfl

/-- The integer zero, converted, is zero. -/
theorem sitofp0 : (FloatOps.sitofp (F := Ideal) .f32 (0#32 : BitVec 32) : EReal) = 0 := by
  show (((0#32 : BitVec 32).toInt : ℝ) : EReal) = 0
  simp

/-- A padding column of the padded. -/
theorem V3_pad (c : Dev nD) (d : Fin 1024) (j : Fin 128) (h : ¬ j.val < 16) : (V m c main_v3 : FVec Ideal S1024x128 .f32) (ix2 d j) = (0 : EReal) := by
  rw [V3]
  generalize a3 m c = w
  pointwise
  split_ifs <;> first | exact sitofp0 | (simp; done) | (simp; exact sitofp0)

/-- A gates' column of the transposed. -/
theorem V5_at (c : Dev nD) (d : Fin 1024) (j : Fin 16) : (V m c main_v5 : FVec Ideal S16x1024 .f32) (ix2 j d) = a3 m c (ix2 d ⟨2560 + j.val, by omega⟩) := by
  rw [V5]
  generalize a3 m c = w
  pointwise

/-- An entry of the padded bias. -/
theorem V7_at (c : Dev nD) (j : Fin 128) (h : j.val < 16) : (V m c main_v7 : FVec Ideal S1x128 .f32) (ix2 0 j) = a4 m c (ix2 ⟨j.val / 4, by omega⟩ ⟨j.val % 4, by omega⟩) := by
  rw [V7]
  generalize a4 m c = w
  pointwise
  split_ifs <;> rfl

/-- A padding entry of the padded bias. -/
theorem V7_pad (c : Dev nD) (j : Fin 128) (h : ¬ j.val < 16) : (V m c main_v7 : FVec Ideal S1x128 .f32) (ix2 0 j) = (0 : EReal) := by
  rw [V7]
  generalize a4 m c = w
  pointwise
  split_ifs <;> first | exact sitofp0 | (simp; done) | (simp; exact sitofp0)

/-- An entry of the bias column. -/
theorem V8_at (c : Dev nD) (j : Fin 16) : (V m c main_v8 : FVec Ideal S16x1 .f32) (ix2 j 0) = a4 m c (ix2 ⟨j.val / 4, by omega⟩ ⟨j.val % 4, by omega⟩) := by
  rw [V8]
  generalize a4 m c = w
  pointwise

end Cert.InpIdeal.Val

end
-- ==== Proof.InpValue.lean ====
/-
  The input projection's value: each output array, after the run, holds the modulated rows against its columns.
-/
module

public import proofs.«01_k».proof.Proof.InpHost

@[expose] public section

set_option maxRecDepth 16384

noncomputable section

namespace Cert.InpIdeal.Val

open Cert.InpIdeal Cert.InpIdeal.Gen Cert.Row Idealize.ShloMosaic Idealize.ShloMosaic.TcCoe Idealize.SL.Sem
open Idealize.ShloMosaic.Pipeline (Dat)
open Idealize.ShloMosaic.Pointwise
open scoped BigOperators

section
variable (m : (ℓ : Loc nD τ sig) → Buf (Elt Ideal) ℓ) (ρ : Dev nD → PrngReg)

/-- The windows' block indices. -/
theorem idx : ∀ t : Fin cfg0.N, win0_0.index t = ![t.val, 0]
    ∧ win0_1.index t = ![(if t.val < 16 then 0 else (1 + (t.val - 16) / 4) % 8), 0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The output windows' block indices. -/
theorem odx : ∀ t : Fin cfg0.N, win0_8.index t = ![t.val, 0] ∧ win0_9.index t = ![t.val, 0] ∧ win0_10.index t = ![t.val, 0]
    ∧ win0_11.index t = ![t.val, 0] ∧ win0_12.index t = ![0, t.val] :=
  (by decide +kernel : ∀ t : Fin grid0.N, _)

/-- There are thirty-two points. -/
theorem lt32 (t : Fin cfg0.N) : t.val < 32 := by
  have h := t.isLt
  have e : cfg0.N = 32 := N_0
  omega

/-- Row `R`, modulated. -/
def mrow (c : Dev nD) (R : Fin 8192) : Fin 1024 → EReal :=
  modulated (fun e => a0 m c (ix2 R e)) (fun e => a2 m c (ix2 0 e)) (fun e => a1 m c (ix3 (cond R.val) 0 e)) (fun e => a1 m c (ix3 (cond R.val) 1 e))

/-- Column `j` of the projection. -/
def wcol (c : Dev nD) (j : Fin 5648) : Fin 1024 → EReal := fun d => a3 m c (ix2 d j)

/-- Gate `j` of row `R`. -/
def gate (c : Dev nD) (R : Fin 8192) (j : Fin 16) : EReal :=
  lin (mrow m c R) (wcol m c ⟨2560 + j.val, by omega⟩) + a4 m c (ix2 ⟨j.val / 4, by omega⟩ ⟨j.val % 4, by omega⟩)

/-- The first output. -/
def G8 (c : Dev nD) : FVec Ideal S8192x768 .f32 := fun i => lin (mrow m c (i 0)) (wcol m c ⟨(i 1).val, lt_of_lt_of_le (i 1).isLt (by decide)⟩)
/-- The second output. -/
def G9 (c : Dev nD) : FVec Ideal S8192x768 .f32 := fun i => lin (mrow m c (i 0)) (wcol m c ⟨768 + (i 1).val, lt_of_lt_of_le (Nat.add_lt_add_left (i 1).isLt 768) (by decide)⟩)
/-- The third output. -/
def G10 (c : Dev nD) : FVec Ideal S8192x1024 .f32 := fun i => lin (mrow m c (i 0)) (wcol m c ⟨1536 + (i 1).val, lt_of_lt_of_le (Nat.add_lt_add_left (i 1).isLt 1536) (by decide)⟩)
/-- The gates, padded. -/
def G11 (c : Dev nD) : FVec Ideal S8192x128 .f32 := fun i => if h : (i 1).val < 16 then gate m c (i 0) ⟨(i 1).val, h⟩ else 0
/-- The gates, transposed. -/
def G12 (c : Dev nD) : FVec Ideal S16x8192 .f32 := fun i => gate m c (i 1) (i 0)

/-- A block's modulated row is the array's. -/
theorem hrow_eq (c : Dev nD) (t : Fin cfg0.N) (r : Fin 256) (hR : t.val * 256 + r.val < 8192) :
    hrow (iblk m c 0 t : Vec Ideal S256x1024 .f32) (iblk m c 1 t : Vec Ideal S1x8x1024 .f32) (iblk m c 2 t : Vec Ideal S4x1024 .f32) r
      = mrow m c ⟨t.val * 256 + r.val, hR⟩ := by
  have ht := lt32 t
  have b0 : ∀ e : Fin 1024, (iblk m c 0 t : Vec Ideal S256x1024 .f32) (ix2 r e) = a0 m c (ix2 ⟨t.val * 256 + r.val, hR⟩ e) := fun e => by
    refine Eq.trans ?_ (congrFun (V_main_arg0 m c) _)
    blk_ext! [iblk, idx t]
  have b2 : (iblk m c 2 t : Vec Ideal S4x1024 .f32) = a2 m c := by
    refine Eq.trans ?_ (V_main_arg2 m c)
    blk_ext! [iblk, idx t]
  have b1 : ∀ (k : Fin 8) (e : Fin 1024), (iblk m c 1 t : Vec Ideal S1x8x1024 .f32) (ix3 0 k e) = a1 m c (ix3 (cond (t.val * 256 + r.val)) k e) := fun k e => by
    rw [cond_tile _ _ r.isLt]
    refine Eq.trans ?_ (congrFun (V_main_arg1 m c) _)
    by_cases h : t.val < 16
    · rw [if_pos h]
      blk_ext! [iblk, idx t, h]
      simp
    · rw [if_neg h]
      blk_ext! [iblk, idx t, h]
      simp
  unfold hrow mrow
  exact modulated_congr b0 (fun e => congrFun b2 _) (b1 0) (b1 1)

/-- The projection's matrix is one block. -/
theorem b3 (c : Dev nD) (t : Fin cfg0.N) : (iblk m c 3 t : Vec Ideal S1024x2560 .bf16) = V m c main_v1 := by
  blk_ext! [iblk, idx t]
/-- So are the gates' columns. -/
theorem b4 (c : Dev nD) (t : Fin cfg0.N) : (iblk m c 4 t : Vec Ideal S1024x128 .f32) = V m c main_v3 := by
  blk_ext! [iblk, idx t]
/-- So are the gates' columns, transposed. -/
theorem b5 (c : Dev nD) (t : Fin cfg0.N) : (iblk m c 5 t : Vec Ideal S16x1024 .f32) = V m c main_v5 := by
  blk_ext! [iblk, idx t]
/-- So is the bias. -/
theorem b6 (c : Dev nD) (t : Fin cfg0.N) : (iblk m c 6 t : Vec Ideal S1x128 .f32) = V m c main_v7 := by
  blk_ext! [iblk, idx t]
/-- So is the bias, a column. -/
theorem b7 (c : Dev nD) (t : Fin cfg0.N) : (iblk m c 7 t : Vec Ideal S16x1 .f32) = V m c main_v8 := by
  blk_ext! [iblk, idx t]

/-- The first output after the run. -/
theorem final8 (c : Dev nD) : (dats m 0 c).arrAt 8 cfg0.N = G8 m c := by
  refine (dats m 0 c).arrAt_eq_of_covers 8 (G8 m c) (by decide +kernel) (fun t hf y => ?_)
  rw [after0_8]
  blk_simp
  have ht := lt32 t
  have y0 : (y 0).val < 256 := (y 0).isLt
  have y1 : (y 1).val < 768 := (y 1).isLt
  have hR : t.val * 256 + (y 0).val < 8192 := by omega
  have ey : y = ix2 ⟨(y 0).val, y0⟩ ⟨(y 1).val, y1⟩ := by blk_ext
  have ee : (win0_8.blk t).view.emb y = ix2 ⟨t.val * 256 + (y 0).val, hR⟩ ⟨(y 1).val, y1⟩ := by
    blk_ext [odx t]
  rw [ee]
  refine (congrArg _ ey).trans ?_
  refine (block8 _ _ _ _ _ _ _ _ _ _).trans ?_
  rw [b3]
  exact lin_congr (hrow_eq m c t _ hR) (fun d => V1_at m c d _)

/-- The second output after the run. -/
theorem final9 (c : Dev nD) : (dats m 0 c).arrAt 9 cfg0.N = G9 m c := by
  refine (dats m 0 c).arrAt_eq_of_covers 9 (G9 m c) (by decide +kernel) (fun t hf y => ?_)
  rw [after0_9]
  blk_simp
  have ht := lt32 t
  have y0 : (y 0).val < 256 := (y 0).isLt
  have y1 : (y 1).val < 768 := (y 1).isLt
  have hR : t.val * 256 + (y 0).val < 8192 := by omega
  have ey : y = ix2 ⟨(y 0).val, y0⟩ ⟨(y 1).val, y1⟩ := by blk_ext
  have ee : (win0_9.blk t).view.emb y = ix2 ⟨t.val * 256 + (y 0).val, hR⟩ ⟨(y 1).val, y1⟩ := by
    blk_ext [odx t]
  rw [ee]
  refine (congrArg _ ey).trans ?_
  refine (block9 _ _ _ _ _ _ _ _ _ _).trans ?_
  rw [b3]
  exact lin_congr (hrow_eq m c t _ hR) (fun d => V1_at m c d _)

/-- The third output after the run. -/
theorem final10 (c : Dev nD) : (dats m 0 c).arrAt 10 cfg0.N = G10 m c := by
  refine (dats m 0 c).arrAt_eq_of_covers 10 (G10 m c) (by decide +kernel) (fun t hf y => ?_)
  rw [after0_10]
  blk_simp
  have ht := lt32 t
  have y0 : (y 0).val < 256 := (y 0).isLt
  have y1 : (y 1).val < 1024 := (y 1).isLt
  have hR : t.val * 256 + (y 0).val < 8192 := by omega
  have ey : y = ix2 ⟨(y 0).val, y0⟩ ⟨(y 1).val, y1⟩ := by blk_ext
  have ee : (win0_10.blk t).view.emb y = ix2 ⟨t.val * 256 + (y 0).val, hR⟩ ⟨(y 1).val, y1⟩ := by
    blk_ext [odx t]
  rw [ee]
  refine (congrArg _ ey).trans ?_
  refine (block10 _ _ _ _ _ _ _ _ _ _).trans ?_
  rw [b3]
  exact lin_congr (hrow_eq m c t _ hR) (fun d => V1_at m c d _)

/-- The padded gates after the run. -/
theorem final11 (c : Dev nD) : (dats m 0 c).arrAt 11 cfg0.N = G11 m c := by
  refine (dats m 0 c).arrAt_eq_of_covers 11 (G11 m c) (by decide +kernel) (fun t hf y => ?_)
  rw [after0_11]
  blk_simp
  have ht := lt32 t
  have y0 : (y 0).val < 256 := (y 0).isLt
  have y1 : (y 1).val < 128 := (y 1).isLt
  have hR : t.val * 256 + (y 0).val < 8192 := by omega
  have ey : y = ix2 ⟨(y 0).val, y0⟩ ⟨(y 1).val, y1⟩ := by blk_ext
  have ee : (win0_11.blk t).view.emb y = ix2 ⟨t.val * 256 + (y 0).val, hR⟩ ⟨(y 1).val, y1⟩ := by
    blk_ext [odx t]
  rw [ee]
  refine (congrArg _ ey).trans ?_
  refine (block11 _ _ _ _ _ _ _ _ _ _).trans ?_
  rw [b4, b6]
  by_cases h : (y 1).val < 16
  · refine Eq.trans ?_ (dif_pos h).symm
    exact congrArg₂ (· + ·) (lin_congr (hrow_eq m c t _ hR) (fun d => V3_at m c d _ h)) (V7_at m c _ h)
  · refine Eq.trans ?_ (dif_neg h).symm
    exact (congrArg₂ (· + ·) (lin_zero _ (fun d => V3_pad m c d _ h)) (V7_pad m c _ h)).trans (add_zero _)

/-- The transposed gates after the run. -/
theorem final12 (c : Dev nD) : (dats m 0 c).arrAt 12 cfg0.N = G12 m c := by
  refine (dats m 0 c).arrAt_eq_of_covers 12 (G12 m c) (by decide +kernel) (fun t hf y => ?_)
  rw [after0_12]
  blk_simp
  have ht := lt32 t
  have y0 : (y 0).val < 16 := (y 0).isLt
  have y1 : (y 1).val < 256 := (y 1).isLt
  have hR : t.val * 256 + (y 1).val < 8192 := by omega
  have ey : y = ix2 ⟨(y 0).val, y0⟩ ⟨(y 1).val, y1⟩ := by blk_ext
  have ee : (win0_12.blk t).view.emb y = ix2 ⟨(y 0).val, y0⟩ ⟨t.val * 256 + (y 1).val, hR⟩ := by
    blk_ext [odx t]
  rw [ee]
  refine (congrArg _ ey).trans ?_
  refine (block12 _ _ _ _ _ _ _ _ _ _).trans ?_
  rw [b5, b7]
  exact congrArg₂ (· + ·) (lin_congr (hrow_eq m c t _ hR) (fun d => V5_at m c d _)) (V8_at m c _)

/-- The run: the result arrays, the arguments unchanged. -/
theorem run : θ_run defs (onTc (τ := τ) (main (F := Ideal))) ⟨m, fun _ => 0, ρ⟩ fun r => ∀ c : Dev nD,
      r.2.mem ((c : Thread nD τ).loc main_v9_0) = G8 m c
      ∧ r.2.mem ((c : Thread nD τ).loc main_v9_1) = G9 m c
      ∧ r.2.mem ((c : Thread nD τ).loc main_v9_2) = G10 m c
      ∧ r.2.mem ((c : Thread nD τ).loc main_v9_3) = G11 m c
      ∧ r.2.mem ((c : Thread nD τ).loc main_v9_4) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final8 m c), (h c).2.1.trans (final9 m c), (h c).2.2.1.trans (final10 m c),
    (h c).2.2.2.1.trans (final11 m c), (h c).2.2.2.2.1.trans (final12 m c), (h c).2.2.2.2.2⟩) (Cert.InpIdeal.Value.run_blocks m ρ)

end

end Cert.InpIdeal.Val

end
-- ==== Proof.InpRead.lean ====
/-
  The reference of the input projection, read at a row and a column.
-/
module

public import proofs.«01_k».proof.Proof.Gen.InpRefIdeal.Read
public import proofs.«01_k».proof.Proof.InpSpec

@[expose] public section

set_option maxRecDepth 16384

noncomputable section

namespace Cert.InpRefIdeal.At

open Cert.InpRefIdeal Cert.InpRefIdeal.Gen Cert.InpRefIdeal.Read Cert.Row Idealize.ShloMosaic Idealize.ShloMosaic.TcCoe Idealize.SL.Sem
open Idealize.ShloMosaic.Pointwise
open scoped BigOperators

variable (x0 : FVec Ideal S8192x1024 .f32) (x1 : FVec Ideal S8x8x1024 .f32) (x2 : FVec Ideal S4x1024 .f32) (x3 : FVec Ideal S1024x5648 .f32) (x4 : FVec Ideal S4x4 .f32)

/-- Row `R`, modulated. -/
abbrev mrow (R : Fin 8192) (k : Fin 8) : Fin 1024 → EReal :=
  modulated (fun e => x0 (ix2 R e)) (fun e => x2 (ix2 0 e)) (fun e => x1 (ix3 k 0 e)) (fun e => x1 (ix3 k 1 e))

/-- A context row. -/
theorem ctx (b : Fin 16) (s : Fin 256) (c : Fin 1024) (R : Fin 8192) (hR : R.val = b.val * 256 + s.val) :
    val_main_v36 (F := Ideal) x0 x1 x2 (ix3 b s c) = mrow x0 x1 x2 R 0 c := by
  obtain rfl : R = ⟨b.val * 256 + s.val, by clear hR; omega⟩ := Fin.ext hR
  have e : ∀ k : Fin 1024, val_main_v13 (F := Ideal) x0 (ix3 b s k) = x0 (ix2 ⟨b.val * 256 + s.val, by clear hR; omega⟩ k) := fun k => by
    unfold val_main_v13 val_main_v12
    pointwise
  unfold val_main_v36 val_main_v34 val_main_v30 val_main_v27 val_main_v26 val_main_v25 val_main_v24 val_main_v22 val_main_v20 val_main_v19 val_main_v18 val_main_cst val_main_v21 val_main_cst_0 val_main_v23 val_main_cst_1 val_main_v29 val_main_v28 val_main_v17 val_main_v16 val_main_v33 val_main_v32 val_main_v31 val_main_cst_2 val_main_v8 val_main_v7 val_main_v6 val_main_v35 val_main_v2 val_main_v1 val_main_v0 mrow modulated Row.unit unitN one
  pointwise
  simp only [e]

/-- A latent row. -/
theorem lat (b : Fin 4) (s : Fin 1024) (c : Fin 1024) (R : Fin 8192) (hR : R.val = 4096 + (b.val * 1024 + s.val)) (k : Fin 8) (hk : k.val = 1 + b.val) :
    val_main_v57 (F := Ideal) x0 x1 x2 (ix3 b s c) = mrow x0 x1 x2 R k c := by
  obtain rfl : k = ⟨1 + b.val, by clear hk hR; omega⟩ := Fin.ext hk
  obtain rfl : R = ⟨4096 + (b.val * 1024 + s.val), by clear hR; omega⟩ := Fin.ext hR
  have e : ∀ k : Fin 1024, val_main_v15 (F := Ideal) x0 (ix3 b s k) = x0 (ix2 ⟨4096 + (b.val * 1024 + s.val), by clear hR; omega⟩ k) := fun k => by
    unfold val_main_v15 val_main_v14
    pointwise
  unfold val_main_v57 val_main_v55 val_main_v51 val_main_v48 val_main_v47 val_main_v46 val_main_v45 val_main_v43 val_main_v41 val_main_v40 val_main_v39 val_main_cst_3 val_main_v42 val_main_cst_4 val_main_v44 val_main_cst_5 val_main_v50 val_main_v49 val_main_v38 val_main_v37 val_main_v54 val_main_v53 val_main_v52 val_main_cst_6 val_main_v11 val_main_v10 val_main_v9 val_main_v56 val_main_v5 val_main_v4 val_main_v3 mrow modulated Row.unit unitN one
  pointwise
  simp only [e]

/-- A row. -/
theorem row (R : Fin 8192) (c : Fin 1024) : val_main_v60 (F := Ideal) x0 x1 x2 (ix2 R c) = mrow x0 x1 x2 R (cond R.val) c := by
  have h1 := ctx x0 x1 x2
  have h2 := lat x0 x1 x2
  unfold val_main_v60 val_main_v58 val_main_v59
  revert h1 h2
  generalize val_main_v36 (F := Ideal) x0 x1 x2 = y
  generalize val_main_v57 (F := Ideal) x0 x1 x2 = w
  intro h1 h2
  pointwise
  have hR := R.isLt
  split_ifs with h
  · rw [cond_ctx h]
    exact h1 _ _ _ R (by show R.val = R.val / 256 * 256 + R.val % 256; omega)
  · refine h2 _ _ _ R ?_ _ ?_
    · show R.val = 4096 + ((R.val - 4096) / 1024 * 1024 + (R.val - 4096) % 1024); omega
    · rw [cond_lat (by omega) hR]
  all_goals exact absurd rfl ‹_›

/-- A projected entry. -/
theorem proj (R : Fin 8192) (j : Fin 2576) :
    val_main_v62 (F := Ideal) x0 x1 x2 x3 (ix2 R j) = lin (mrow x0 x1 x2 R (cond R.val)) (fun d => x3 (ix2 d ⟨j.val, by omega⟩)) := by
  refine Eq.trans ?_ (lin_congr (funext fun d => row x0 x1 x2 R d) (fun d => rfl))
  unfold val_main_v62 val_main_v61 lin
  generalize val_main_v60 (F := Ideal) x0 x1 x2 = h
  pointwise

/-- A gate. -/
theorem gate (R : Fin 8192) (j : Fin 16) :
    val_main_v67 (F := Ideal) x0 x1 x2 x3 x4 (ix2 R j)
      = lin (mrow x0 x1 x2 R (cond R.val)) (fun d => x3 (ix2 d ⟨2560 + j.val, by omega⟩)) + x4 (ix2 ⟨j.val / 4, by omega⟩ ⟨j.val % 4, by omega⟩) := by
  refine Eq.trans ?_ (congrArg₂ (· + ·) (proj x0 x1 x2 x3 R ⟨2560 + j.val, by omega⟩) rfl)
  unfold val_main_v67 val_main_v63 val_main_v66 val_main_v65 val_main_v64
  generalize val_main_v62 (F := Ideal) x0 x1 x2 x3 = y
  pointwise

/-- The first result. -/
theorem r68 (R : Fin 8192) (j : Fin 768) :
    val_main_v68 (F := Ideal) x0 x1 x2 x3 (ix2 R j) = lin (mrow x0 x1 x2 R (cond R.val)) (fun d => x3 (ix2 d ⟨j.val, by omega⟩)) := by
  refine Eq.trans ?_ (proj x0 x1 x2 x3 R ⟨j.val, by omega⟩)
  unfold val_main_v68
  generalize val_main_v62 (F := Ideal) x0 x1 x2 x3 = y
  pointwise

/-- The second result. -/
theorem r69 (R : Fin 8192) (j : Fin 768) :
    val_main_v69 (F := Ideal) x0 x1 x2 x3 (ix2 R j) = lin (mrow x0 x1 x2 R (cond R.val)) (fun d => x3 (ix2 d ⟨768 + j.val, by omega⟩)) := by
  refine Eq.trans ?_ (proj x0 x1 x2 x3 R ⟨768 + j.val, by omega⟩)
  unfold val_main_v69
  generalize val_main_v62 (F := Ideal) x0 x1 x2 x3 = y
  pointwise

/-- The third result. -/
theorem r70 (R : Fin 8192) (j : Fin 1024) :
    val_main_v70 (F := Ideal) x0 x1 x2 x3 (ix2 R j) = lin (mrow x0 x1 x2 R (cond R.val)) (fun d => x3 (ix2 d ⟨1536 + j.val, by omega⟩)) := by
  refine Eq.trans ?_ (proj x0 x1 x2 x3 R ⟨1536 + j.val, by omega⟩)
  unfold val_main_v70
  generalize val_main_v62 (F := Ideal) x0 x1 x2 x3 = y
  pointwise

/-- The integer zero, converted, is zero. -/
theorem sitofp0 : (FloatOps.sitofp (F := Ideal) .f32 (0#32 : BitVec 32) : EReal) = 0 := by
  show (((0#32 : BitVec 32).toInt : ℝ) : EReal) = 0
  simp

/-- A padded gate that is one. -/
theorem r71 (R : Fin 8192) (j : Fin 128) (h : j.val < 16) :
    val_main_v71 (F := Ideal) x0 x1 x2 x3 x4 (ix2 R j) = val_main_v67 (F := Ideal) x0 x1 x2 x3 x4 (ix2 R ⟨j.val, h⟩) := by
  unfold val_main_v71 val_main_call0_v0 val_main_c
  generalize val_main_v67 (F := Ideal) x0 x1 x2 x3 x4 = y
  pointwise
  split_ifs <;> rfl

/-- A padded gate that is padding. -/
theorem r71_pad (R : Fin 8192) (j : Fin 128) (h : ¬ j.val < 16) :
    val_main_v71 (F := Ideal) x0 x1 x2 x3 x4 (ix2 R j) = (0 : EReal) := by
  unfold val_main_v71 val_main_call0_v0 val_main_c
  generalize val_main_v67 (F := Ideal) x0 x1 x2 x3 x4 = y
  pointwise
  split_ifs <;> first | exact sitofp0 | (simp; done) | (simp; exact sitofp0)

/-- A transposed gate. -/
theorem r72 (R : Fin 8192) (j : Fin 16) :
    val_main_v72 (F := Ideal) x0 x1 x2 x3 x4 (ix2 j R) = val_main_v67 (F := Ideal) x0 x1 x2 x3 x4 (ix2 R j) := by
  unfold val_main_v72
  generalize val_main_v67 (F := Ideal) x0 x1 x2 x3 x4 = y
  pointwise

end Cert.InpRefIdeal.At

end
-- ==== Proof.InpClaim.lean ====
/-
  The claims about the input projection: its five results equal the reference's.
-/
module

public import proofs.«01_k».proof.Defs
public import proofs.«01_k».proof.Proof.Gen.Inp
public import proofs.«01_k».proof.Proof.Gen.InpIdeal
public import proofs.«01_k».proof.Proof.Gen.InpRefIdeal
public import proofs.«01_k».proof.Proof.Gen.InpRefIdeal.Run
public import proofs.«01_k».proof.Proof.InpValue
public import proofs.«01_k».proof.Proof.InpRead
public import Idealize.ShloMosaic.Lib.Quiescent

@[expose] public section

noncomputable section

namespace Cert.Proof

open Idealize.ShloMosaic Idealize.ShloMosaic.TcCoe Idealize.SL.Sem Cert.Row

section
variable (m : (ℓ : Loc Cert.InpIdeal.nD Cert.InpIdeal.τ Cert.InpIdeal.sig) → Buf (Elt Ideal) ℓ) (c : Dev Cert.InpIdeal.nD)

open Cert.InpIdeal.Val (a0 a1 a2 a3 a4)

/-- The reference's first result is the function the kernel's array holds. -/
theorem ref_inp8 : Cert.InpRefIdeal.Read.val_main_v68 (F := Ideal) (a0 m c) (a1 m c) (a2 m c) (a3 m c) = Cert.InpIdeal.Val.G8 m c := by
  funext i
  have ei : i = ix2 (i 0) (i 1) := funext fun a => match a with
    | ⟨0, _⟩ => rfl
    | ⟨1, _⟩ => rfl
  refine (congrArg _ ei).trans ?_
  exact Cert.InpRefIdeal.At.r68 _ _ _ _ (i 0) (i 1)

/-- So is its second. -/
theorem ref_inp9 : Cert.InpRefIdeal.Read.val_main_v69 (F := Ideal) (a0 m c) (a1 m c) (a2 m c) (a3 m c) = Cert.InpIdeal.Val.G9 m c := by
  funext i
  have ei : i = ix2 (i 0) (i 1) := funext fun a => match a with
    | ⟨0, _⟩ => rfl
    | ⟨1, _⟩ => rfl
  refine (congrArg _ ei).trans ?_
  exact Cert.InpRefIdeal.At.r69 _ _ _ _ (i 0) (i 1)

/-- So is its third. -/
theorem ref_inp10 : Cert.InpRefIdeal.Read.val_main_v70 (F := Ideal) (a0 m c) (a1 m c) (a2 m c) (a3 m c) = Cert.InpIdeal.Val.G10 m c := by
  funext i
  have ei : i = ix2 (i 0) (i 1) := funext fun a => match a with
    | ⟨0, _⟩ => rfl
    | ⟨1, _⟩ => rfl
  refine (congrArg _ ei).trans ?_
  exact Cert.InpRefIdeal.At.r70 _ _ _ _ (i 0) (i 1)

/-- So are its padded gates. -/
theorem ref_inp11 : Cert.InpRefIdeal.Read.val_main_v71 (F := Ideal) (a0 m c) (a1 m c) (a2 m c) (a3 m c) (a4 m c) = Cert.InpIdeal.Val.G11 m c := by
  funext i
  have ei : i = ix2 (i 0) (i 1) := funext fun a => match a with
    | ⟨0, _⟩ => rfl
    | ⟨1, _⟩ => rfl
  refine (congrArg _ ei).trans ?_
  by_cases h : (i 1).val < 16
  · refine Eq.trans ?_ (dif_pos h).symm
    exact (Cert.InpRefIdeal.At.r71 _ _ _ _ _ (i 0) (i 1) h).trans (Cert.InpRefIdeal.At.gate _ _ _ _ _ _ _)
  · refine Eq.trans ?_ (dif_neg h).symm
    exact Cert.InpRefIdeal.At.r71_pad _ _ _ _ _ (i 0) (i 1) h

/-- So are its transposed gates. -/
theorem ref_inp12 : Cert.InpRefIdeal.Read.val_main_v72 (F := Ideal) (a0 m c) (a1 m c) (a2 m c) (a3 m c) (a4 m c) = Cert.InpIdeal.Val.G12 m c := by
  funext i
  have ei : i = ix2 (i 0) (i 1) := funext fun a => match a with
    | ⟨0, _⟩ => rfl
    | ⟨1, _⟩ => rfl
  refine (congrArg _ ei).trans ?_
  exact (Cert.InpRefIdeal.At.r72 _ _ _ _ _ (i 1) (i 0)).trans (Cert.InpRefIdeal.At.gate _ _ _ _ _ _ _)

end

/-- The reference runs, leaves its arguments as they were, and has no semaphore to leave raised. -/
theorem frame_inpRef : Cert.quiescent_InpRefIdeal := fun m g _ =>
  (θ_run _ _ _).mono (fun r h => ⟨fun c => (h c).2.2.2.2.2, sem_eq_zero_of_no_sems rfl r.2⟩) (Cert.InpRefIdeal.Value.run (F := Ideal) m g)

/-- The kernel's results equal the reference's. -/
theorem algebraic_inp : Cert.algebraic_InpIdeal_InpRefIdeal := by
  intro m g m' g' _ hag
  refine ⟨fun c => Cert.InpIdeal.Val.G8 m c, fun c => Cert.InpIdeal.Val.G9 m c, fun c => Cert.InpIdeal.Val.G10 m c, fun c => Cert.InpIdeal.Val.G11 m c,
    fun c => Cert.InpIdeal.Val.G12 m c, Cert.InpIdeal.Val.run m g, ?_⟩
  refine (θ_run _ _ _).mono (fun r h c => ?_) (Cert.InpRefIdeal.Value.run (F := Ideal) m' g')
  obtain ⟨h8, h9, h10, h11, h12, hrest⟩ := h c
  obtain ⟨e0, e1, e2, e3, e4⟩ := hag c
  refine ⟨h8.trans ?_, h9.trans ?_, h10.trans ?_, h11.trans ?_, h12.trans ?_, hrest⟩
  · rw [Cert.InpRefIdeal.Read.val_main_v68_eq m' c, e0, e1, e2, e3]
    exact ref_inp8 m c
  · rw [Cert.InpRefIdeal.Read.val_main_v69_eq m' c, e0, e1, e2, e3]
    exact ref_inp9 m c
  · rw [Cert.InpRefIdeal.Read.val_main_v70_eq m' c, e0, e1, e2, e3]
    exact ref_inp10 m c
  · rw [Cert.InpRefIdeal.Read.val_main_v71_eq m' c, e0, e1, e2, e3, e4]
    exact ref_inp11 m c
  · rw [Cert.InpRefIdeal.Read.val_main_v72_eq m' c, e0, e1, e2, e3, e4]
    exact ref_inp12 m c

end Cert.Proof

end
-- ==== Proof.FinSpec.lean ====
/-
  A row of the layer's result: the residual row plus the gated normalised row of the mixture.
-/
module

public import proofs.«01_k».proof.Proof.Rows

@[expose] public section

noncomputable section

namespace Cert.Row

open Idealize.ShloMosaic

/-- One entry of the last call's result, from the rows it reads. -/
def last (x y g gate : Fin 1024 → EReal) (e : Fin 1024) : EReal := x e + gate e * (unit y e * g e)

/-- It depends on what it reads alone. -/
theorem last_congr {x x' y y' g g' k k' : Fin 1024 → EReal} (hx : ∀ e, x e = x' e) (hy : ∀ e, y e = y' e) (hg : ∀ e, g e = g' e) (hk : ∀ e, k e = k' e)
    (e : Fin 1024) : last x y g k e = last x' y' g' k' e := by
  obtain rfl : x = x' := funext hx
  obtain rfl : y = y' := funext hy
  obtain rfl : g = g' := funext hg
  obtain rfl : k = k' := funext hk
  rfl

end Cert.Row

end
-- ==== Proof.FinValue.lean ====
/-
  The last call of the layer as one function of its arguments: the residual row plus the gated normalised row of the mixture.
-/
module

public import proofs.«01_k».proof.Proof.Gen.FinIdeal.Value
public import proofs.«01_k».proof.Proof.FinSpec
public import Idealize.ShloMosaic.Lib.Pipeline.ValueKit

@[expose] public section

set_option maxRecDepth 16384

noncomputable section

namespace Cert.FinIdeal.Val

open Cert.FinIdeal Cert.FinIdeal.Gen Cert.Row Idealize.ShloMosaic Idealize.ShloMosaic.TcCoe Idealize.SL.Sem
open Idealize.ShloMosaic.Pipeline (Dat)
open Idealize.ShloMosaic.Pointwise
open scoped BigOperators

/-- The offsets of a whole block are zero. -/
theorem hz : (![0, 0] : Fin 2 → Nat) = fun _ => 0 := funext fun a => by fin_cases a <;> rfl

/-- What the body leaves in its block, at a row and a column. -/
theorem block4 (x0 x1 : Vec Ideal S256x1024 .f32) (x2 : Vec Ideal S1x8x1024 .f32) (x3 : Vec Ideal S4x1024 .f32) (r : Fin 256) (c : Fin 1024) :
    out0_4 x0 x1 x2 x3 (ix2 r c) = last (fun i => x0 (ix2 r i)) (fun i => x1 (ix2 r i)) (fun i => x3 (ix2 3 i)) (fun i => x2 (ix3 0 5 i)) c := by
  unfold out0_4
  rw [View.canon_unit_zero hz, View.ld_unit_zero hz, View.ld_unit_zero hz]
  have e1 : ∀ i : Fin 1024, View.ld x3 r0_2 (ix2 0 i) = x3 (ix2 3 i) := fun i => by pointwise
  have e2 : ∀ i : Fin 1024, View.ld x2 r0_1 (ix3 0 0 i) = x2 (ix3 0 5 i) := fun i => by pointwise
  unfold last unit unitN k0_pay1
  simp only [← e1, ← e2]
  pointwise

section
variable (m : (ℓ : Loc nD τ sig) → Buf (Elt Ideal) ℓ) (ρ : Dev nD → PrngReg)

/-- The windows' block indices. -/
theorem idx : ∀ t : Fin cfg0.N, win0_0.index t = ![t.val, 0] ∧ win0_1.index t = ![t.val, 0]
    ∧ win0_2.index t = ![(if t.val < 16 then 0 else (1 + (t.val - 16) / 4) % 8), 0, 0] ∧ win0_3.index t = ![0, 0] ∧ win0_4.index t = ![t.val, 0] :=
  (by decide +kernel : ∀ t : Fin grid0.N, _)

/-- The argument arrays. -/
abbrev a0 (c : Dev nD) : FVec Ideal S8192x1024 .f32 := m ((c : Thread nD τ).loc main_arg0)
/-- The mixture's output. -/
abbrev a1 (c : Dev nD) : FVec Ideal S8192x1024 .f32 := m ((c : Thread nD τ).loc main_arg1)
/-- The modulations. -/
abbrev a2 (c : Dev nD) : FVec Ideal S8x8x1024 .f32 := m ((c : Thread nD τ).loc main_arg2)
/-- The gains. -/
abbrev a3 (c : Dev nD) : FVec Ideal S4x1024 .f32 := m ((c : Thread nD τ).loc main_arg3)

/-- There are thirty-two points. -/
theorem lt32 (t : Fin cfg0.N) : t.val < 32 := by
  have h := t.isLt
  have e : cfg0.N = 32 := N_0
  omega

/-- The result array. -/
def G4 (c : Dev nD) : FVec Ideal S8192x1024 .f32 := fun i =>
  last (fun e => a0 m c (ix2 (i 0) e)) (fun e => a1 m c (ix2 (i 0) e)) (fun e => a3 m c (ix2 3 e))
    (fun e => a2 m c (ix3 (cond (i 0).val) 5 e)) (i 1)

/-- The result array after the run. -/
theorem final4 (c : Dev nD) : (dats m 0 c).arrAt 4 cfg0.N = G4 m c := by
  refine (dats m 0 c).arrAt_eq_of_covers 4 (G4 m c) (by decide +kernel) (fun t hf y => ?_)
  rw [after0_4]
  blk_simp
  have ht := lt32 t
  have y0 : (y 0).val < 256 := (y 0).isLt
  have y1 : (y 1).val < 1024 := (y 1).isLt
  have hR : t.val * 256 + (y 0).val < 8192 := by omega
  have ey : y = ix2 ⟨(y 0).val, y0⟩ ⟨(y 1).val, y1⟩ := by blk_ext
  have ee : (win0_4.blk t).view.emb y = ix2 ⟨t.val * 256 + (y 0).val, hR⟩ ⟨(y 1).val, y1⟩ := by
    blk_ext [idx t]
  rw [ee]
  refine (congrArg _ ey).trans ?_
  refine (block4 _ _ _ _ _ _).trans ?_
  have b0 : ∀ e : Fin 1024, (iblk m c 0 t : Vec Ideal S256x1024 .f32) (ix2 ⟨(y 0).val, y0⟩ e) = a0 m c (ix2 ⟨t.val * 256 + (y 0).val, hR⟩ e) := fun e => by
    blk_ext! [iblk, V, idx t]
  have b1 : ∀ e : Fin 1024, (iblk m c 1 t : Vec Ideal S256x1024 .f32) (ix2 ⟨(y 0).val, y0⟩ e) = a1 m c (ix2 ⟨t.val * 256 + (y 0).val, hR⟩ e) := fun e => by
    blk_ext! [iblk, V, idx t]
  have b3 : iblk m c 3 t = a3 m c := by blk_ext! [iblk, V, idx t]
  have b2 : ∀ e : Fin 1024, (iblk m c 2 t : Vec Ideal S1x8x1024 .f32) (ix3 0 5 e) = a2 m c (ix3 (cond (t.val * 256 + (y 0).val)) 5 e) := fun e => by
    rw [cond_tile _ _ y0]
    by_cases h : t.val < 16
    · rw [if_pos h]
      blk_ext! [iblk, V, idx t, h]
      simp
    · rw [if_neg h]
      blk_ext! [iblk, V, idx t, h]
      simp
  exact last_congr b0 b1 (fun e => congrFun b3 _) b2 _

/-- The run: the result array, the arguments unchanged. -/
theorem run : θ_run defs (onTc (τ := τ) (main (F := Ideal))) ⟨m, fun _ => 0, ρ⟩ fun r => ∀ c : Dev nD,
      r.2.mem ((c : Thread nD τ).loc main_v0) = G4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2⟩) (Cert.FinIdeal.Value.run_blocks m ρ)

end

end Cert.FinIdeal.Val

end
-- ==== Proof.FinRead.lean ====
/-
  The reference of the layer's last call, read at a row and a column.
-/
module

public import proofs.«01_k».proof.Proof.Gen.FinRefIdeal.Read
public import proofs.«01_k».proof.Proof.FinSpec

@[expose] public section

set_option maxRecDepth 16384

noncomputable section

namespace Cert.FinRefIdeal.At

open Cert.FinRefIdeal Cert.FinRefIdeal.Gen Cert.FinRefIdeal.Read Cert.Row Idealize.ShloMosaic Idealize.ShloMosaic.TcCoe Idealize.SL.Sem
open Idealize.ShloMosaic.Pointwise
open scoped BigOperators

variable (x0 x1 : FVec Ideal S8192x1024 .f32) (x2 : FVec Ideal S8x8x1024 .f32) (x3 : FVec Ideal S4x1024 .f32)

/-- A context row. -/
theorem ctx (b : Fin 16) (s : Fin 256) (c : Fin 1024) (R : Fin 8192) (hR : R.val = b.val * 256 + s.val) :
    val_main_v31 (F := Ideal) x0 x1 x2 x3 (ix3 b s c)
      = last (fun i => x0 (ix2 R i)) (fun i => x1 (ix2 R i)) (fun i => x3 (ix2 3 i)) (fun i => x2 (ix3 0 5 i)) c := by
  obtain rfl : R = ⟨b.val * 256 + s.val, by clear hR; omega⟩ := Fin.ext hR
  have e : ∀ k : Fin 1024, val_main_v11 (F := Ideal) x1 (ix3 b s k) = x1 (ix2 ⟨b.val * 256 + s.val, by clear hR; omega⟩ k) := fun k => by
    unfold val_main_v11 val_main_v10
    pointwise
  unfold val_main_v31 val_main_v7 val_main_v6 val_main_v30 val_main_v29 val_main_v2 val_main_v1 val_main_v0 val_main_v28 val_main_v25 val_main_v24 val_main_v23 val_main_v22 val_main_v20 val_main_v18 val_main_v17 val_main_v16 val_main_cst val_main_v19 val_main_cst_0 val_main_v21 val_main_cst_1 val_main_v27 val_main_v26 val_main_v15 val_main_v14 last Row.unit unitN
  pointwise
  simp only [e]

/-- A latent row. -/
theorem lat (b : Fin 4) (s : Fin 1024) (c : Fin 1024) (R : Fin 8192) (hR : R.val = 4096 + (b.val * 1024 + s.val)) (k : Fin 8) (hk : k.val = 1 + b.val) :
    val_main_v49 (F := Ideal) x0 x1 x2 x3 (ix3 b s c)
      = last (fun i => x0 (ix2 R i)) (fun i => x1 (ix2 R i)) (fun i => x3 (ix2 3 i)) (fun i => x2 (ix3 k 5 i)) c := by
  obtain rfl : k = ⟨1 + b.val, by clear hk hR; omega⟩ := Fin.ext hk
  obtain rfl : R = ⟨4096 + (b.val * 1024 + s.val), by clear hR; omega⟩ := Fin.ext hR
  have e : ∀ k : Fin 1024, val_main_v13 (F := Ideal) x1 (ix3 b s k) = x1 (ix2 ⟨4096 + (b.val * 1024 + s.val), by clear hR; omega⟩ k) := fun k => by
    unfold val_main_v13 val_main_v12
    pointwise
  unfold val_main_v49 val_main_v9 val_main_v8 val_main_v48 val_main_v47 val_main_v5 val_main_v4 val_main_v3 val_main_v46 val_main_v43 val_main_v42 val_main_v41 val_main_v40 val_main_v38 val_main_v36 val_main_v35 val_main_v34 val_main_cst_2 val_main_v37 val_main_cst_3 val_main_v39 val_main_cst_4 val_main_v45 val_main_v44 val_main_v33 val_main_v32 last Row.unit unitN
  pointwise
  simp only [e]

/-- The result at a row and a column. -/
theorem result (R : Fin 8192) (c : Fin 1024) :
    val_main_v52 (F := Ideal) x0 x1 x2 x3 (ix2 R c)
      = last (fun i => x0 (ix2 R i)) (fun i => x1 (ix2 R i)) (fun i => x3 (ix2 3 i)) (fun i => x2 (ix3 (cond R.val) 5 i)) c := by
  have h1 := ctx x0 x1 x2 x3
  have h2 := lat x0 x1 x2 x3
  unfold val_main_v52 val_main_v50 val_main_v51
  revert h1 h2
  generalize val_main_v31 (F := Ideal) x0 x1 x2 x3 = y
  generalize val_main_v49 (F := Ideal) x0 x1 x2 x3 = w
  intro h1 h2
  pointwise
  have hR := R.isLt
  split_ifs with h
  · rw [cond_ctx h]
    exact h1 _ _ _ R (by show R.val = R.val / 256 * 256 + R.val % 256; omega)
  · refine h2 _ _ _ R ?_ _ ?_
    · show R.val = 4096 + ((R.val - 4096) / 1024 * 1024 + (R.val - 4096) % 1024); omega
    · rw [cond_lat (by omega) hR]
  all_goals exact absurd rfl ‹_›

end Cert.FinRefIdeal.At

end
-- ==== Proof.FinClaim.lean ====
/-
  The claims about the last call: its result equals the reference's.
-/
module

public import proofs.«01_k».proof.Defs
public import proofs.«01_k».proof.Proof.Gen.Fin
public import proofs.«01_k».proof.Proof.Gen.FinIdeal
public import proofs.«01_k».proof.Proof.Gen.FinRefIdeal
public import proofs.«01_k».proof.Proof.Gen.FinRefIdeal.Run
public import proofs.«01_k».proof.Proof.FinValue
public import proofs.«01_k».proof.Proof.FinRead
public import Idealize.ShloMosaic.Lib.Quiescent

@[expose] public section

noncomputable section

namespace Cert.Proof

open Idealize.ShloMosaic Idealize.ShloMosaic.TcCoe Idealize.SL.Sem Cert.Row

/-- The reference's result is the function the kernel's array holds. -/
theorem ref_fin (x0 x1 : FVec Ideal Cert.FinRefIdeal.S8192x1024 .f32) (x2 : FVec Ideal Cert.FinRefIdeal.S8x8x1024 .f32) (x3 : FVec Ideal Cert.FinRefIdeal.S4x1024 .f32) :
    Cert.FinRefIdeal.Read.val_main_v52 (F := Ideal) x0 x1 x2 x3 = fun i =>
      last (fun e => x0 (ix2 (i 0) e)) (fun e => x1 (ix2 (i 0) e)) (fun e => x3 (ix2 3 e)) (fun e => x2 (ix3 (cond (i 0).val) 5 e)) (i 1) := by
  funext i
  have ei : i = ix2 (i 0) (i 1) := funext fun a => match a with
    | ⟨0, _⟩ => rfl
    | ⟨1, _⟩ => rfl
  refine (congrArg _ ei).trans ?_
  exact Cert.FinRefIdeal.At.result x0 x1 x2 x3 (i 0) (i 1)

/-- The reference runs, leaves its arguments as they were, and has no semaphore to leave raised. -/
theorem frame_finRef : Cert.quiescent_FinRefIdeal := fun m g _ =>
  (θ_run _ _ _).mono (fun r h => ⟨fun c => (h c).2, sem_eq_zero_of_no_sems rfl r.2⟩) (Cert.FinRefIdeal.Value.run (F := Ideal) m g)

/-- The kernel's result equals the reference's. -/
theorem algebraic_fin : Cert.algebraic_FinIdeal_FinRefIdeal := by
  intro m g m' g' _ hag
  refine ⟨fun c => Cert.FinIdeal.Val.G4 m c, Cert.FinIdeal.Val.run m g, ?_⟩
  refine (θ_run _ _ _).mono (fun r h c => ?_) (Cert.FinRefIdeal.Value.run (F := Ideal) m' g')
  obtain ⟨h52, hrest⟩ := h c
  obtain ⟨e0, e1, e2, e3⟩ := hag c
  refine ⟨h52.trans ?_, hrest⟩
  refine (Cert.FinRefIdeal.Read.val_main_v52_eq _ _ _ _).trans ?_
  rw [ref_fin, e0, e1, e2, e3]
  rfl

end Cert.Proof

end
-- ==== Proof.MrgSpec.lean ====
/-
  The merge of a row's branches: the memory branch's normalised heads, the gated sum of the three branches, and the
  output projection.
-/
module

public import proofs.«01_k».proof.Proof.InpSpec
public import proofs.«01_k».proof.Proof.FinSpec

@[expose] public section

noncomputable section

namespace Cert.Row

open Idealize.ShloMosaic
open scoped BigOperators

/-- One entry of a row of four heads of 64, each head RMS-normalised. -/
def normed (s : Fin 256 → EReal) (j : Fin 256) : EReal :=
  unitN (k := 64) (Ideal.ofBits .f32 0x42800000#32) (Ideal.ofBits .f32 0x358637BD#32) (fun i => s ⟨j.val / 64 * 64 + i.val, by omega⟩) ⟨j.val % 64, by omega⟩

/-- The head an entry lies in, by its number. -/
theorem normed_of (s : Fin 256 → EReal) (j : Fin 256) (q : ℕ) (hq : j.val / 64 = q) :
    normed s j = unitN (k := 64) (Ideal.ofBits .f32 0x42800000#32) (Ideal.ofBits .f32 0x358637BD#32) (fun i => s ⟨q * 64 + i.val, by omega⟩)
      ⟨j.val - q * 64, by omega⟩ := by
  subst hq
  unfold normed
  congr 1
  refine Fin.ext ?_
  show j.val % 64 = j.val - j.val / 64 * 64
  omega

/-- One entry of the memory branch: the normalised heads times their gains times the output gate. -/
def memory (s g o : Fin 256 → EReal) (j : Fin 256) : EReal := normed s j * g j * Ideal.logistic (o j)

/-- It depends on what it reads alone. -/
theorem memory_congr {s s' g g' o o' : Fin 256 → EReal} (hs : ∀ j, s j = s' j) (hg : ∀ j, g j = g' j) (ho : ∀ j, o j = o' j) :
    memory s g o = memory s' g' o' := by
  obtain rfl : s = s' := funext hs
  obtain rfl : g = g' := funext hg
  obtain rfl : o = o' := funext ho
  rfl

/-- One entry of the gated sum of the branches. The gates are the modulated row against three groups of columns. -/
def gated (h : Fin 1024 → EReal) (a : Fin 256 → EReal) (b : Fin 512 → EReal) (c : Fin 256 → EReal) (G : Fin 1024 → Fin 3072 → EReal)
    (A : Fin 256 → Fin 1024 → EReal) (B : Fin 512 → Fin 1024 → EReal) (C : Fin 256 → Fin 1024 → EReal) (e : Fin 1024) : EReal :=
  Ideal.logistic (lin h (fun d => G d ⟨e.val, by omega⟩)) * lin a (fun d => A d e)
    + Ideal.logistic (lin h (fun d => G d ⟨1024 + e.val, by omega⟩)) * lin b (fun d => B d e)
    + Ideal.logistic (lin h (fun d => G d ⟨2048 + e.val, by omega⟩)) * lin c (fun d => C d e)

/-- It depends on what it reads alone. -/
theorem gated_congr {h h' : Fin 1024 → EReal} {a a' : Fin 256 → EReal} {b b' : Fin 512 → EReal} {c c' : Fin 256 → EReal} {G G' : Fin 1024 → Fin 3072 → EReal}
    {A A' : Fin 256 → Fin 1024 → EReal} {B B' : Fin 512 → Fin 1024 → EReal} {C C' : Fin 256 → Fin 1024 → EReal} (hh : h = h') (ha : ∀ d, a d = a' d)
    (hb : ∀ d, b d = b' d) (hc : c = c') (hG : ∀ d e, G d e = G' d e) (hA : ∀ d e, A d e = A' d e) (hB : ∀ d e, B d e = B' d e) (hC : ∀ d e, C d e = C' d e) :
    gated h a b c G A B C = gated h' a' b' c' G' A' B' C' := by
  obtain rfl : a = a' := funext ha
  obtain rfl : b = b' := funext hb
  obtain rfl : G = G' := funext fun d => funext (hG d)
  obtain rfl : A = A' := funext fun d => funext (hA d)
  obtain rfl : B = B' := funext fun d => funext (hB d)
  obtain rfl : C = C' := funext fun d => funext (hC d)
  rw [hh, hc]

end Cert.Row

end
-- ==== Proof.MrgBlock.lean ====
/-
  The merge's blocks: what a grid point leaves in the residual's block and in the mixture's input, at a row and a column.
-/
module

public import proofs.«01_k».proof.Proof.Gen.MrgIdeal.Frame
public import proofs.«01_k».proof.Proof.MrgSpec
public import Idealize.ShloMosaic.Lib.Pipeline.ValueKit

@[expose] public section

set_option maxRecDepth 16384

noncomputable section

namespace Cert.MrgIdeal.Val

open Cert.MrgIdeal Cert.MrgIdeal.Gen Cert.Row Idealize.ShloMosaic Idealize.ShloMosaic.TcCoe Idealize.SL.Sem
open Idealize.ShloMosaic.Pipeline (Dat)
open Idealize.ShloMosaic.Pointwise
open scoped BigOperators

/-- The offsets of a whole block are zero. -/
theorem hz : (![0, 0] : Fin 2 → Nat) = fun _ => 0 := funext fun a => by fin_cases a <;> rfl

/-- A block's modulated rows. -/
theorem rows (v0 : Vec Ideal S256x1024 .f32) (v1 : Vec Ideal S1x1024 .f32) (v2 v3 : Vec Ideal S1x1x1024 .f32) (r : Fin 256) (d : Fin 1024) :
    k0_pay4 v0 v1 v2 v3 (ix2 r d)
      = modulated (fun i => v0 (ix2 r i)) (fun i => v1 (ix2 0 i)) (fun i => v3 (ix3 0 0 i)) (fun i => v2 (ix3 0 0 i)) d := by
  unfold k0_pay4 modulated unit unitN one
  pointwise

/-- The memory branch. -/
theorem memory_at (u v : Vec Ideal S256x256 .f32) (g : Vec Ideal S1x256 .f32) (o : Vec Ideal S256x256 .f32) (r : Fin 256) (j : Fin 256) :
    k0_pay8 (k0_pay5 u v) (k0_pay6 u v) (k0_pay7 u v) g o (ix2 r j)
      = memory (fun i => u (ix2 r i) + v (ix2 r i)) (fun i => g (ix2 0 i)) (fun i => o (ix2 r i)) j := by
  have hj := j.isLt
  have hq : j.val / 64 = 0 ∨ j.val / 64 = 1 ∨ j.val / 64 = 2 ∨ j.val / 64 = 3 := by omega
  unfold memory
  rcases hq with hq | hq | hq | hq <;>
  · rw [normed_of _ _ _ hq]
    unfold k0_pay8 k0_pay7 k0_pay6 k0_pay5 unitN
    pointwise
    split_ifs <;> first | omega | rfl

/-- The branches, gated and projected. -/
theorem mixed (h : FVec Ideal S256x1024 .bf16) (c : FVec Ideal S256x256 .f32) (a : Vec Ideal S256x256 .f32) (b : Vec Ideal S256x512 .f32)
    (g0 g1 g2 : Vec Ideal S1024x1024 .bf16) (A C : Vec Ideal S256x1024 .bf16) (B : Vec Ideal S512x1024 .bf16) (W : Vec Ideal S1024x1024 .bf16) (r : Fin 256) (e : Fin 1024) :
    k0_pay9 h c a b g0 A g1 B g2 C W (ix2 r e)
      = lin (fun k => Ideal.logistic (lin (fun d => h (ix2 r d)) (fun d => g0 (ix2 d k))) * lin (fun d => a (ix2 r d)) (fun d => A (ix2 d k))
          + Ideal.logistic (lin (fun d => h (ix2 r d)) (fun d => g1 (ix2 d k))) * lin (fun d => b (ix2 r d)) (fun d => B (ix2 d k))
          + Ideal.logistic (lin (fun d => h (ix2 r d)) (fun d => g2 (ix2 d k))) * lin (fun d => c (ix2 r d)) (fun d => C (ix2 d k)))
        (fun k => W (ix2 k e)) := by
  unfold k0_pay9 lin
  pointwise

/-- The residual. -/
theorem residual (v0 y : Vec Ideal S256x1024 .f32) (k : Vec Ideal S1x1x1024 .f32) (g : Vec Ideal S1x1024 .f32) (r : Fin 256) (e : Fin 1024) :
    k0_pay11 v0 y (k0_pay10 k) g (ix2 r e)
      = last (fun i => v0 (ix2 r i)) (fun i => y (ix2 r i)) (fun i => g (ix2 0 i)) (fun i => k (ix3 0 0 i)) e := by
  unfold k0_pay11 k0_pay10 last unit unitN
  pointwise

/-- The mixture's input. -/
theorem inputs (v0 y : Vec Ideal S256x1024 .f32) (k : FVec Ideal S1x1024 .f32) (g v1 : Vec Ideal S1x1024 .f32) (v2 v3 : Vec Ideal S1x1x1024 .f32) (r : Fin 256) (e : Fin 1024) :
    k0_pay12 v0 y k g v1 v2 v3 (ix2 r e)
      = modulated (fun i => k0_pay11 v0 y k g (ix2 r i)) (fun i => v1 (ix2 0 i)) (fun i => v3 (ix3 0 0 i)) (fun i => v2 (ix3 0 0 i)) e := by
  unfold k0_pay12 modulated unit unitN one
  generalize k0_pay11 v0 y k g = w
  pointwise

section
variable (x0 : Vec Ideal S256x1024 .f32) (x1 : Vec Ideal S1x8x1024 .f32) (x2 : Vec Ideal S4x1024 .f32) (x3 : Vec Ideal S256x768 .f32)
  (x4 x5 x6 : Vec Ideal S256x256 .f32) (x7 : Vec Ideal S1x256 .f32) (x8 : Vec Ideal S1024x3072 .bf16) (x9 : Vec Ideal S256x1024 .bf16)
  (x10 : Vec Ideal S512x1024 .bf16) (x11 : Vec Ideal S256x1024 .bf16) (x12 : Vec Ideal S1024x1024 .bf16) (x13 : Vec Ideal S1024x128 .f32) (x14 : Vec Ideal S1x128 .f32)

/-- A block's row, modulated. -/
abbrev hrow (r : Fin 256) : Fin 1024 → EReal :=
  modulated (fun i => x0 (ix2 r i)) (fun i => x2 (ix2 0 i)) (fun i => x1 (ix3 0 0 i)) (fun i => x1 (ix3 0 1 i))

/-- A block's row of gated branches. -/
abbrev zrow (r : Fin 256) : Fin 1024 → EReal :=
  gated (hrow x0 x1 x2 r) (fun d => x3 (ix2 r ⟨d.val, by omega⟩)) (fun d => x3 (ix2 r ⟨256 + d.val, by omega⟩))
    (memory (fun i => x4 (ix2 r i) + x5 (ix2 r i)) (fun i => x7 (ix2 0 i)) (fun i => x6 (ix2 r i)))
    (fun d e => x8 (ix2 d e)) (fun d e => x9 (ix2 d e)) (fun d e => x10 (ix2 d e)) (fun d e => x11 (ix2 d e))

/-- A block's row of the output projection. -/
abbrev yrow (r : Fin 256) : Fin 1024 → EReal :=
  fun e => lin (zrow x0 x1 x2 x3 x4 x5 x6 x7 x8 x9 x10 x11 r) (fun d => x12 (ix2 d e))

/-- A block's row of the residual. -/
abbrev xrow (r : Fin 256) : Fin 1024 → EReal :=
  last (fun i => x0 (ix2 r i)) (yrow x0 x1 x2 x3 x4 x5 x6 x7 x8 x9 x10 x11 x12 r) (fun i => x2 (ix2 1 i)) (fun i => x1 (ix3 0 2 i))

/-- The loaded rows are the block's. -/
theorem loaded (r : Fin 256) : (fun d => k0_pay4 x0 (View.ld x2 r0_1) (View.ld x1 r0_2) (View.ld x1 r0_3) (ix2 r d)) = hrow x0 x1 x2 r := by
  funext d
  rw [rows]
  refine congrFun (modulated_congr (fun e => rfl) (fun e => ?_) (fun e => ?_) (fun e => ?_)) d
  · pointwise
  · pointwise
  · pointwise

/-- The output projection's rows are the block's. -/
theorem mixes (r : Fin 256) (e : Fin 1024) :
    k0_pay35 x0 x1 x2 x3 x4 x5 x6 x7 x8 x9 x10 x11 x12 x13 x14 (ix2 r e) = yrow x0 x1 x2 x3 x4 x5 x6 x7 x8 x9 x10 x11 x12 r e := by
  unfold k0_pay35
  rw [View.ld_unit_zero hz, View.ld_unit_zero hz, View.ld_unit_zero hz, View.ld_unit_zero hz, View.ld_unit_zero hz, View.ld_unit_zero hz, View.ld_unit_zero hz, View.ld_unit_zero hz, View.ld_unit_zero hz]
  rw [mixed]
  refine lin_congr (funext fun k => ?_) (fun d => rfl)
  rw [loaded]
  refine congrArg₂ (· + ·) (congrArg₂ (· + ·) (congrArg₂ (· * ·) (congrArg Ideal.logistic (lin_congr rfl fun d => ?_)) (lin_congr (funext fun d => ?_) fun d => rfl))
    (congrArg₂ (· * ·) (congrArg Ideal.logistic (lin_congr rfl fun d => ?_)) (lin_congr (funext fun d => ?_) fun d => rfl)))
    (congrArg₂ (· * ·) (congrArg Ideal.logistic (lin_congr rfl fun d => ?_)) (lin_congr (funext fun d => memory_at _ _ _ _ _ _) fun d => rfl))
  all_goals pointwise

/-- The residual's block is the block's rows. -/
theorem residuals (r : Fin 256) (e : Fin 1024) :
    k0_pay11 x0 (k0_pay35 x0 x1 x2 x3 x4 x5 x6 x7 x8 x9 x10 x11 x12 x13 x14) (k0_pay36 x0 x1 x2 x3 x4 x5 x6 x7 x8 x9 x10 x11 x12 x13 x14) (View.ld x2 r0_14) (ix2 r e)
      = xrow x0 x1 x2 x3 x4 x5 x6 x7 x8 x9 x10 x11 x12 r e := by
  unfold k0_pay36
  rw [residual]
  refine last_congr (fun e => rfl) (fun e => mixes _ _ _ _ _ _ _ _ _ _ _ _ _ _ _ _ _) (fun e => ?_) (fun e => ?_) e
  · pointwise
  · pointwise

/-- The residual's block. -/
theorem block15 (r : Fin 256) (e : Fin 1024) :
    out0_15 x0 x1 x2 x3 x4 x5 x6 x7 x8 x9 x10 x11 x12 x13 x14 (ix2 r e) = xrow x0 x1 x2 x3 x4 x5 x6 x7 x8 x9 x10 x11 x12 r e := by
  unfold out0_15
  rw [View.canon_unit_zero hz, View.ld_unit_zero hz]
  exact residuals _ _ _ _ _ _ _ _ _ _ _ _ _ _ _ _ _

/-- The mixture's input's block. -/
theorem block16 (r : Fin 256) (e : Fin 1024) :
    out0_16 x0 x1 x2 x3 x4 x5 x6 x7 x8 x9 x10 x11 x12 x13 x14 (ix2 r e)
      = modulated (xrow x0 x1 x2 x3 x4 x5 x6 x7 x8 x9 x10 x11 x12 r) (fun i => x2 (ix2 2 i)) (fun i => x1 (ix3 0 3 i)) (fun i => x1 (ix3 0 4 i)) e := by
  unfold out0_16 k0_pay37
  rw [View.canon_unit_zero hz, View.ld_unit_zero hz]
  refine Eq.trans (b := k0_pay12 (F := Ideal) _ _ _ _ _ _ _ (ix2 r e)) rfl ?_
  rw [inputs]
  refine congrFun (modulated_congr (fun e => residuals _ _ _ _ _ _ _ _ _ _ _ _ _ _ _ _ _) (fun e => ?_) (fun e => ?_) (fun e => ?_)) e
  · pointwise
  · pointwise
  · pointwise

end

end Cert.MrgIdeal.Val

end
-- ==== Proof.MrgHost.lean ====
/-
  What the host prepares for the merge: the gates' columns, the memory branch's gains and the branches' matrices.
-/
module

public import proofs.«01_k».proof.Proof.MrgBlock

@[expose] public section

set_option maxRecDepth 16384

noncomputable section

namespace Cert.MrgIdeal.Val

open Cert.MrgIdeal Cert.MrgIdeal.Gen Cert.Row Idealize.ShloMosaic Idealize.ShloMosaic.TcCoe Idealize.SL.Sem Idealize.ShloMosaic.StableHlo
open Idealize.ShloMosaic.Pipeline (Dat)
open Idealize.ShloMosaic.Pointwise
open scoped BigOperators

variable (m : (ℓ : Loc nD τ sig) → Buf (Elt Ideal) ℓ)

/-- The rows. -/
abbrev a0 (c : Dev nD) : FVec Ideal S8192x1024 .f32 := m ((c : Thread nD τ).loc main_arg0)
/-- The modulations. -/
abbrev a1 (c : Dev nD) : FVec Ideal S8x8x1024 .f32 := m ((c : Thread nD τ).loc main_arg1)
/-- The gains. -/
abbrev a2 (c : Dev nD) : FVec Ideal S4x1024 .f32 := m ((c : Thread nD τ).loc main_arg2)
/-- The attention branches. -/
abbrev a3 (c : Dev nD) : FVec Ideal S8192x768 .f32 := m ((c : Thread nD τ).loc main_arg3)
/-- The forward scan. -/
abbrev a4 (c : Dev nD) : FVec Ideal S8192x256 .f32 := m ((c : Thread nD τ).loc main_arg4)
/-- The backward scan. -/
abbrev a5 (c : Dev nD) : FVec Ideal S8192x256 .f32 := m ((c : Thread nD τ).loc main_arg5)
/-- The memory branch's projection. -/
abbrev a6 (c : Dev nD) : FVec Ideal S8192x1024 .f32 := m ((c : Thread nD τ).loc main_arg6)
/-- The memory branch's gains. -/
abbrev a7 (c : Dev nD) : FVec Ideal S256 .f32 := m ((c : Thread nD τ).loc main_arg7)
/-- The input projection's matrix. -/
abbrev a8 (c : Dev nD) : FVec Ideal S1024x5648 .f32 := m ((c : Thread nD τ).loc main_arg8)
/-- The first branch's matrix. -/
abbrev a9 (c : Dev nD) : FVec Ideal S256x1024 .f32 := m ((c : Thread nD τ).loc main_arg9)
/-- The second branch's matrix. -/
abbrev a10 (c : Dev nD) : FVec Ideal S512x1024 .f32 := m ((c : Thread nD τ).loc main_arg10)
/-- The third branch's matrix. -/
abbrev a11 (c : Dev nD) : FVec Ideal S256x1024 .f32 := m ((c : Thread nD τ).loc main_arg11)
/-- The output projection's matrix. -/
abbrev a12 (c : Dev nD) : FVec Ideal S1024x1024 .f32 := m ((c : Thread nD τ).loc main_arg12)

/-- The gates' columns, narrowed. -/
theorem V1 (c : Dev nD) : (V m c main_v1 : FVec Ideal S1024x3072 .bf16) = truncf .bf16 (extractStridedSlice S1024x3072 ![0, 2576] (a8 m c) slices_S1024x5648_S1024x3072_0_2576) bitsLt_bf16_f32 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- A gate's column. -/
theorem V1_at (c : Dev nD) (d : Fin 1024) (j : Fin 3072) : (V m c main_v1 : FVec Ideal S1024x3072 .bf16) (ix2 d j) = a8 m c (ix2 d ⟨2576 + j.val, by omega⟩) := by
  rw [V1]
  generalize a8 m c = w
  pointwise

/-- The memory branch's gains, a row. -/
theorem V5 (c : Dev nD) : (V m c main_v5 : FVec Ideal S1x256 .f32) = shapeCast S1x256 (a7 m c) shapeCasts_S256_S1x256 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- One of the gains. -/
theorem V5_at (c : Dev nD) (j : Fin 256) : (V m c main_v5 : FVec Ideal S1x256 .f32) (ix2 0 j) = a7 m c (ix1 j) := by
  rw [V5]
  generalize a7 m c = w
  pointwise

/-- The first branch's matrix, narrowed. -/
theorem V6 (c : Dev nD) : (V m c main_v6 : FVec Ideal S256x1024 .bf16) = truncf .bf16 (a9 m c) bitsLt_bf16_f32 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The second branch's matrix, narrowed. -/
theorem V7 (c : Dev nD) : (V m c main_v7 : FVec Ideal S512x1024 .bf16) = truncf .bf16 (a10 m c) bitsLt_bf16_f32 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The third branch's matrix, narrowed. -/
theorem V8 (c : Dev nD) : (V m c main_v8 : FVec Ideal S256x1024 .bf16) = truncf .bf16 (a11 m c) bitsLt_bf16_f32 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

/-- The output projection's matrix, narrowed. -/
theorem V9 (c : Dev nD) : (V m c main_v9 : FVec Ideal S1024x1024 .bf16) = truncf .bf16 (a12 m c) bitsLt_bf16_f32 := by
  unfold V
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> rfl

end Cert.MrgIdeal.Val

end
-- ==== Proof.MrgValue.lean ====
/-
  The merge's value: the residual and the mixture's input, after the run, as functions of the arguments.
-/
module

public import proofs.«01_k».proof.Proof.MrgHost

@[expose] public section

set_option maxRecDepth 16384

noncomputable section

namespace Cert.MrgIdeal.Val

open Cert.MrgIdeal Cert.MrgIdeal.Gen Cert.Row Idealize.ShloMosaic Idealize.ShloMosaic.TcCoe Idealize.SL.Sem
open Idealize.ShloMosaic.Pipeline (Dat)
open Idealize.ShloMosaic.Pointwise
open scoped BigOperators

section
variable (m : (ℓ : Loc nD τ sig) → Buf (Elt Ideal) ℓ) (ρ : Dev nD → PrngReg)

/-- The windows' block indices. -/
theorem idx : ∀ t : Fin cfg0.N, win0_0.index t = ![t.val, 0]
    ∧ win0_1.index t = ![(if t.val < 16 then 0 else (1 + (t.val - 16) / 4) % 8), 0, 0] ∧ win0_2.index t = ![0, 0] ∧ win0_3.index t = ![t.val, 0]
    ∧ win0_4.index t = ![t.val, 0] ∧ win0_5.index t = ![t.val, 0] ∧ win0_6.index t = ![t.val, 3] :=
  (by decide +kernel : ∀ t : Fin grid0.N, _)

/-- The weights' block indices. -/
theorem wdx : ∀ t : Fin cfg0.N, win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The output windows' block indices. -/
theorem odx : ∀ t : Fin cfg0.N, win0_15.index t = ![t.val, 0] ∧ win0_16.index t = ![t.val, 0] :=
  (by decide +kernel : ∀ t : Fin grid0.N, _)

/-- There are thirty-two points. -/
theorem lt32 (t : Fin cfg0.N) : t.val < 32 := by
  have h := t.isLt
  have e : cfg0.N = 32 := N_0
  omega

/-- Row `R`, modulated. -/
def mrow (c : Dev nD) (R : Fin 8192) : Fin 1024 → EReal :=
  modulated (fun e => a0 m c (ix2 R e)) (fun e => a2 m c (ix2 0 e)) (fun e => a1 m c (ix3 (cond R.val) 0 e)) (fun e => a1 m c (ix3 (cond R.val) 1 e))

/-- Row `R` of the memory branch. -/
def crow (c : Dev nD) (R : Fin 8192) : Fin 256 → EReal :=
  memory (fun i => a4 m c (ix2 R i) + a5 m c (ix2 R i)) (fun i => a7 m c (ix1 i)) (fun i => a6 m c (ix2 R ⟨768 + i.val, by omega⟩))

/-- Row `R` of the gated branches. -/
def zed (c : Dev nD) (R : Fin 8192) : Fin 1024 → EReal :=
  gated (mrow m c R) (fun d => a3 m c (ix2 R ⟨d.val, by omega⟩)) (fun d => a3 m c (ix2 R ⟨256 + d.val, by omega⟩)) (crow m c R)
    (fun d e => a8 m c (ix2 d ⟨2576 + e.val, by omega⟩)) (fun d e => a9 m c (ix2 d e)) (fun d e => a10 m c (ix2 d e)) (fun d e => a11 m c (ix2 d e))

/-- Row `R` of the residual. -/
def res (c : Dev nD) (R : Fin 8192) : Fin 1024 → EReal :=
  last (fun i => a0 m c (ix2 R i)) (fun e => lin (zed m c R) (fun d => a12 m c (ix2 d e))) (fun i => a2 m c (ix2 1 i)) (fun i => a1 m c (ix3 (cond R.val) 2 i))

/-- The residual. -/
def G15 (c : Dev nD) : FVec Ideal S8192x1024 .f32 := fun i => res m c (i 0) (i 1)
/-- The mixture's input. -/
def G16 (c : Dev nD) : FVec Ideal S8192x1024 .bf16 := fun i =>
  modulated (res m c (i 0)) (fun e => a2 m c (ix2 2 e)) (fun e => a1 m c (ix3 (cond (i 0).val) 3 e)) (fun e => a1 m c (ix3 (cond (i 0).val) 4 e)) (i 1)

section
variable (c : Dev nD) (t : Fin cfg0.N) (r : Fin 256) (hR : t.val * 256 + r.val < 8192)

/-- A row's block. -/
theorem b0 (e : Fin 1024) : (iblk m c 0 t : Vec Ideal S256x1024 .f32) (ix2 r e) = a0 m c (ix2 ⟨t.val * 256 + r.val, hR⟩ e) := by
  refine Eq.trans ?_ (congrFun (V_main_arg0 m c) _)
  blk_ext! [iblk, idx t]
/-- A row's modulations. -/
theorem b1 (k : Fin 8) (e : Fin 1024) : (iblk m c 1 t : Vec Ideal S1x8x1024 .f32) (ix3 0 k e) = a1 m c (ix3 (cond (t.val * 256 + r.val)) k e) := by
  have ht := lt32 t
  rw [cond_tile _ _ r.isLt]
  refine Eq.trans ?_ (congrFun (V_main_arg1 m c) _)
  by_cases h : t.val < 16
  · rw [if_pos h]
    blk_ext! [iblk, idx t, h]
    simp
  · rw [if_neg h]
    blk_ext! [iblk, idx t, h]
    simp
/-- The gains are one block. -/
theorem b2 : (iblk m c 2 t : Vec Ideal S4x1024 .f32) = a2 m c := by
  refine Eq.trans ?_ (V_main_arg2 m c)
  blk_ext! [iblk, idx t]
/-- A row of the attention branches. -/
theorem b3 (e : Fin 768) : (iblk m c 3 t : Vec Ideal S256x768 .f32) (ix2 r e) = a3 m c (ix2 ⟨t.val * 256 + r.val, hR⟩ e) := by
  refine Eq.trans ?_ (congrFun (V_main_arg3 m c) _)
  blk_ext! [iblk, idx t]
/-- A row of the forward scan. -/
theorem b4 (e : Fin 256) : (iblk m c 4 t : Vec Ideal S256x256 .f32) (ix2 r e) = a4 m c (ix2 ⟨t.val * 256 + r.val, hR⟩ e) := by
  refine Eq.trans ?_ (congrFun (V_main_arg4 m c) _)
  blk_ext! [iblk, idx t]
/-- A row of the backward scan. -/
theorem b5 (e : Fin 256) : (iblk m c 5 t : Vec Ideal S256x256 .f32) (ix2 r e) = a5 m c (ix2 ⟨t.val * 256 + r.val, hR⟩ e) := by
  refine Eq.trans ?_ (congrFun (V_main_arg5 m c) _)
  blk_ext! [iblk, idx t]
/-- A row of the memory branch's output gates. -/
theorem b6 (e : Fin 256) : (iblk m c 6 t : Vec Ideal S256x256 .f32) (ix2 r e) = a6 m c (ix2 ⟨t.val * 256 + r.val, hR⟩ ⟨768 + e.val, by omega⟩) := by
  refine Eq.trans ?_ (congrFun (V_main_arg6 m c) _)
  blk_ext! [iblk, idx t]
/-- One block: the memory branch's gains. -/
theorem b7 : (iblk m c 7 t : Vec Ideal S1x256 .f32) = V m c main_v5 := by
  blk_ext! [iblk, wdx t]
/-- One block: the gates' columns. -/
theorem b8 : (iblk m c 8 t : Vec Ideal S1024x3072 .bf16) = V m c main_v1 := by
  blk_ext! [iblk, wdx t]
/-- One block: the first branch's matrix. -/
theorem b9 : (iblk m c 9 t : Vec Ideal S256x1024 .bf16) = V m c main_v6 := by
  blk_ext! [iblk, wdx t]
/-- One block: the second branch's matrix. -/
theorem b10 : (iblk m c 10 t : Vec Ideal S512x1024 .bf16) = V m c main_v7 := by
  blk_ext! [iblk, wdx t]
/-- One block: the third branch's matrix. -/
theorem b11 : (iblk m c 11 t : Vec Ideal S256x1024 .bf16) = V m c main_v8 := by
  blk_ext! [iblk, wdx t]
/-- One block: the output projection's matrix. -/
theorem b12 : (iblk m c 12 t : Vec Ideal S1024x1024 .bf16) = V m c main_v9 := by
  blk_ext! [iblk, wdx t]

/-- A block's row of the residual is the array's. -/
theorem xrow_eq : xrow (iblk m c 0 t : Vec Ideal S256x1024 .f32) (iblk m c 1 t : Vec Ideal S1x8x1024 .f32) (iblk m c 2 t : Vec Ideal S4x1024 .f32) (iblk m c 3 t : Vec Ideal S256x768 .f32) (iblk m c 4 t : Vec Ideal S256x256 .f32) (iblk m c 5 t : Vec Ideal S256x256 .f32) (iblk m c 6 t : Vec Ideal S256x256 .f32) (iblk m c 7 t : Vec Ideal S1x256 .f32) (iblk m c 8 t : Vec Ideal S1024x3072 .bf16) (iblk m c 9 t : Vec Ideal S256x1024 .bf16) (iblk m c 10 t : Vec Ideal S512x1024 .bf16) (iblk m c 11 t : Vec Ideal S256x1024 .bf16) (iblk m c 12 t : Vec Ideal S1024x1024 .bf16) r
      = res m c ⟨t.val * 256 + r.val, hR⟩ := by
  have hh : hrow (iblk m c 0 t : Vec Ideal S256x1024 .f32) (iblk m c 1 t : Vec Ideal S1x8x1024 .f32) (iblk m c 2 t : Vec Ideal S4x1024 .f32) r
      = mrow m c ⟨t.val * 256 + r.val, hR⟩ :=
    modulated_congr (b0 m c t r hR) (fun e => congrFun (b2 m c t) _) (b1 m c t r 0) (b1 m c t r 1)
  funext e
  unfold res
  refine last_congr (b0 m c t r hR) (fun e => ?_) (fun e => congrFun (b2 m c t) _) (b1 m c t r 2) e
  refine lin_congr ?_ (fun d => (congrFun (b12 m c t) _).trans (congrFun (V9 m c) _))
  refine gated_congr hh (fun d => b3 m c t r hR _) (fun d => b3 m c t r hR _)
    (memory_congr (fun j => congrArg₂ (· + ·) (b4 m c t r hR _) (b5 m c t r hR _)) (fun j => (congrFun (b7 m c t) _).trans (V5_at m c _)) (b6 m c t r hR))
    (fun d e => (congrFun (b8 m c t) _).trans (V1_at m c _ _)) (fun d e => (congrFun (b9 m c t) _).trans (congrFun (V6 m c) _))
    (fun d e => (congrFun (b10 m c t) _).trans (congrFun (V7 m c) _)) (fun d e => (congrFun (b11 m c t) _).trans (congrFun (V8 m c) _))

end

/-- The residual after the run. -/
theorem final15 (c : Dev nD) : (dats m 0 c).arrAt 15 cfg0.N = G15 m c := by
  refine (dats m 0 c).arrAt_eq_of_covers 15 (G15 m c) (by decide +kernel) (fun t hf y => ?_)
  rw [after0_15]
  blk_simp
  have ht := lt32 t
  have y0 : (y 0).val < 256 := (y 0).isLt
  have y1 : (y 1).val < 1024 := (y 1).isLt
  have hR : t.val * 256 + (y 0).val < 8192 := by omega
  have ey : y = ix2 ⟨(y 0).val, y0⟩ ⟨(y 1).val, y1⟩ := by blk_ext
  have ee : (win0_15.blk t).view.emb y = ix2 ⟨t.val * 256 + (y 0).val, hR⟩ ⟨(y 1).val, y1⟩ := by
    blk_ext [odx t]
  rw [ee]
  refine (congrArg _ ey).trans ?_
  refine (block15 _ _ _ _ _ _ _ _ _ _ _ _ _ _ _ _ _).trans ?_
  exact congrFun (xrow_eq m c t _ hR) _

/-- The mixture's input after the run. -/
theorem final16 (c : Dev nD) : (dats m 0 c).arrAt 16 cfg0.N = G16 m c := by
  refine (dats m 0 c).arrAt_eq_of_covers 16 (G16 m c) (by decide +kernel) (fun t hf y => ?_)
  rw [after0_16]
  blk_simp
  have ht := lt32 t
  have y0 : (y 0).val < 256 := (y 0).isLt
  have y1 : (y 1).val < 1024 := (y 1).isLt
  have hR : t.val * 256 + (y 0).val < 8192 := by omega
  have ey : y = ix2 ⟨(y 0).val, y0⟩ ⟨(y 1).val, y1⟩ := by blk_ext
  have ee : (win0_16.blk t).view.emb y = ix2 ⟨t.val * 256 + (y 0).val, hR⟩ ⟨(y 1).val, y1⟩ := by
    blk_ext [odx t]
  rw [ee]
  refine (congrArg _ ey).trans ?_
  refine (block16 _ _ _ _ _ _ _ _ _ _ _ _ _ _ _ _ _).trans ?_
  exact congrFun (modulated_congr (congrFun (xrow_eq m c t _ hR)) (fun e => congrFun (b2 m c t) _) (b1 m c t ⟨(y 0).val, y0⟩ 3) (b1 m c t ⟨(y 0).val, y0⟩ 4)) _

/-- The run: the two result arrays, the arguments unchanged. -/
theorem run : θ_run defs (onTc (τ := τ) (main (F := Ideal))) ⟨m, fun _ => 0, ρ⟩ fun r => ∀ c : Dev nD,
      r.2.mem ((c : Thread nD τ).loc main_v10_0) = G15 m c
      ∧ r.2.mem ((c : Thread nD τ).loc main_v10_1) = G16 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨((h c).1 15).trans (final15 m c), ((h c).1 16).trans (final16 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩) (run_main m ρ)

end

end Cert.MrgIdeal.Val

end
-- ==== Proof.MrgRead.lean ====
/-
  The reference of the merge, read at a row and a column.
-/
module

public import proofs.«01_k».proof.Proof.Gen.MrgRefIdeal.Read
public import proofs.«01_k».proof.Proof.MrgSpec

@[expose] public section

set_option maxRecDepth 16384

noncomputable section

namespace Cert.MrgRefIdeal.At

open Cert.MrgRefIdeal Cert.MrgRefIdeal.Gen Cert.MrgRefIdeal.Read Cert.Row Idealize.ShloMosaic Idealize.ShloMosaic.TcCoe Idealize.SL.Sem
open Idealize.ShloMosaic.Pointwise
open scoped BigOperators

variable (x0 : FVec Ideal S8192x1024 .f32) (x1 : FVec Ideal S8x8x1024 .f32) (x2 : FVec Ideal S4x1024 .f32) (x3 : FVec Ideal S8192x768 .f32)
  (x4 x5 : FVec Ideal S8192x256 .f32) (x6 : FVec Ideal S8192x1024 .f32) (x7 : FVec Ideal S256 .f32) (x8 : FVec Ideal S1024x5648 .f32)
  (x9 : FVec Ideal S256x1024 .f32) (x10 : FVec Ideal S512x1024 .f32) (x11 : FVec Ideal S256x1024 .f32) (x12 : FVec Ideal S1024x1024 .f32)

/-- Row `R`, modulated. -/
abbrev mrow (R : Fin 8192) (k : Fin 8) : Fin 1024 → EReal :=
  modulated (fun e => x0 (ix2 R e)) (fun e => x2 (ix2 0 e)) (fun e => x1 (ix3 k 0 e)) (fun e => x1 (ix3 k 1 e))

/-- A modulated row, of the context. -/
theorem row_ctx (b : Fin 16) (s : Fin 256) (c : Fin 1024) (R : Fin 8192) (hR : R.val = b.val * 256 + s.val) :
    val_main_v54 (F := Ideal) x0 x1 x2 (ix3 b s c) = mrow x0 x1 x2 R 0 c := by
  obtain rfl : R = ⟨b.val * 256 + s.val, by clear hR; omega⟩ := Fin.ext hR
  have e : ∀ k : Fin 1024, val_main_v31 (F := Ideal) x0 (ix3 b s k) = x0 (ix2 ⟨b.val * 256 + s.val, by clear hR; omega⟩ k) := fun k => by
    unfold val_main_v31 val_main_v30
    pointwise
  unfold val_main_v54 val_main_v52 val_main_v48 val_main_v45 val_main_v44 val_main_v43 val_main_v42 val_main_v40 val_main_v38 val_main_v37 val_main_v36 val_main_cst val_main_v39 val_main_cst_0 val_main_v41 val_main_cst_1 val_main_v47 val_main_v46 val_main_v35 val_main_v34 val_main_v51 val_main_v50 val_main_v49 val_main_cst_2 val_main_v8 val_main_v7 val_main_v6 val_main_v53 val_main_v2 val_main_v1 val_main_v0 mrow modulated Row.unit unitN one
  pointwise
  simp only [e]

/-- A modulated row, of the latents. -/
theorem row_lat (b : Fin 4) (s : Fin 1024) (c : Fin 1024) (R : Fin 8192) (hR : R.val = 4096 + (b.val * 1024 + s.val)) (k : Fin 8) (hk : k.val = 1 + b.val) :
    val_main_v75 (F := Ideal) x0 x1 x2 (ix3 b s c) = mrow x0 x1 x2 R k c := by
  obtain rfl : k = ⟨1 + b.val, by clear hk hR; omega⟩ := Fin.ext hk
  obtain rfl : R = ⟨4096 + (b.val * 1024 + s.val), by clear hR; omega⟩ := Fin.ext hR
  have e : ∀ k : Fin 1024, val_main_v33 (F := Ideal) x0 (ix3 b s k) = x0 (ix2 ⟨4096 + (b.val * 1024 + s.val), by clear hR; omega⟩ k) := fun k => by
    unfold val_main_v33 val_main_v32
    pointwise
  unfold val_main_v75 val_main_v73 val_main_v69 val_main_v66 val_main_v65 val_main_v64 val_main_v63 val_main_v61 val_main_v59 val_main_v58 val_main_v57 val_main_cst_3 val_main_v60 val_main_cst_4 val_main_v62 val_main_cst_5 val_main_v68 val_main_v67 val_main_v56 val_main_v55 val_main_v72 val_main_v71 val_main_v70 val_main_cst_6 val_main_v11 val_main_v10 val_main_v9 val_main_v74 val_main_v5 val_main_v4 val_main_v3 mrow modulated Row.unit unitN one
  pointwise
  simp only [e]

/-- A modulated row. -/
theorem row (R : Fin 8192) (c : Fin 1024) : val_main_v78 (F := Ideal) x0 x1 x2 (ix2 R c) = mrow x0 x1 x2 R (cond R.val) c := by
  have h1 := row_ctx x0 x1 x2
  have h2 := row_lat x0 x1 x2
  unfold val_main_v78 val_main_v76 val_main_v77
  revert h1 h2
  generalize val_main_v54 (F := Ideal) x0 x1 x2 = y
  generalize val_main_v75 (F := Ideal) x0 x1 x2 = w
  intro h1 h2
  pointwise
  have hR := R.isLt
  split_ifs with h
  · rw [cond_ctx h]
    exact h1 _ _ _ R (by show R.val = R.val / 256 * 256 + R.val % 256; omega)
  · refine h2 _ _ _ R ?_ _ ?_
    · show R.val = 4096 + ((R.val - 4096) / 1024 * 1024 + (R.val - 4096) % 1024); omega
    · rw [cond_lat (by omega) hR]
  all_goals exact absurd rfl ‹_›

/-- Row `R` of the memory branch. -/
abbrev crow (R : Fin 8192) : Fin 256 → EReal :=
  memory (fun i => x4 (ix2 R i) + x5 (ix2 R i)) (fun i => x7 (ix1 i)) (fun i => x6 (ix2 R ⟨768 + i.val, by omega⟩))

/-- The memory branch. -/
theorem branch (R : Fin 8192) (j : Fin 256) : val_main_v103 (F := Ideal) x4 x5 x6 x7 (ix2 R j) = crow x4 x5 x6 x7 R j := by
  have e : ∀ (q : Fin 4) (k : Fin 64), val_main_v80 (F := Ideal) x4 x5 (ix3 R q k)
      = x4 (ix2 R ⟨q.val * 64 + k.val, by omega⟩) + x5 (ix2 R ⟨q.val * 64 + k.val, by omega⟩) := fun q k => by
    unfold val_main_v80 val_main_v79
    pointwise
  unfold val_main_v103 val_main_v95 val_main_v94 val_main_v91 val_main_v90 val_main_v89 val_main_v88 val_main_v86 val_main_v84 val_main_v83 val_main_v82 val_main_cst_7 val_main_v85 val_main_cst_8 val_main_v87 val_main_cst_9 val_main_v93 val_main_v92 val_main_v81 val_main_v102 val_main_v101 val_main_cst_11 val_main_v100 val_main_v99 val_main_cst_10 val_main_v98 val_main_v97 val_main_v96 crow memory normed unitN Ideal.logistic
  pointwise
  simp only [e]

/-- Row `R` of the gated branches. -/
abbrev zrow (R : Fin 8192) : Fin 1024 → EReal :=
  gated (mrow x0 x1 x2 R (cond R.val)) (fun d => x3 (ix2 R ⟨d.val, by omega⟩)) (fun d => x3 (ix2 R ⟨256 + d.val, by omega⟩)) (crow x4 x5 x6 x7 R)
    (fun d e => x8 (ix2 d ⟨2576 + e.val, by omega⟩)) (fun d e => x9 (ix2 d e)) (fun d e => x10 (ix2 d e)) (fun d e => x11 (ix2 d e))

/-- A gate. -/
theorem gate (R : Fin 8192) (j : Fin 3072) : val_main_v111 (F := Ideal) x0 x1 x2 x8 (ix2 R j)
    = Ideal.logistic (lin (mrow x0 x1 x2 R (cond R.val)) (fun d => x8 (ix2 d ⟨2576 + j.val, by omega⟩))) := by
  refine Eq.trans ?_ (congrArg Ideal.logistic (lin_congr (funext fun d => row x0 x1 x2 R d) (fun d => rfl)))
  unfold val_main_v111 val_main_v110 val_main_cst_13 val_main_v109 val_main_v108 val_main_cst_12 val_main_v107 val_main_v106 val_main_v105 val_main_v104 lin Ideal.logistic
  generalize val_main_v78 (F := Ideal) x0 x1 x2 = h
  pointwise

/-- The gated branches. -/
theorem gatedAt (R : Fin 8192) (e : Fin 1024) : val_main_v124 (F := Ideal) x0 x1 x2 x3 x4 x5 x6 x7 x8 x9 x10 x11 (ix2 R e) = zrow x0 x1 x2 x3 x4 x5 x6 x7 x8 x9 x10 x11 R e := by
  have hg := gate x0 x1 x2 x8 R
  have hc : crow x4 x5 x6 x7 R = fun j => val_main_v103 (F := Ideal) x4 x5 x6 x7 (ix2 R j) := funext fun j => (branch x4 x5 x6 x7 R j).symm
  unfold zrow gated
  rw [hc]
  refine Eq.trans ?_ (congrArg₂ (· + ·) (congrArg₂ (· + ·) (congrArg₂ (· * ·) (hg _) rfl) (congrArg₂ (· * ·) (hg _) rfl)) (congrArg₂ (· * ·) (hg _) rfl))
  clear hg hc
  unfold val_main_v124 val_main_v120 val_main_v115 val_main_v112 val_main_v114 val_main_v113 val_main_v119 val_main_v116 val_main_v118 val_main_v117 val_main_v123 val_main_v121 val_main_v122 lin
  generalize val_main_v111 (F := Ideal) x0 x1 x2 x8 = g
  generalize val_main_v103 (F := Ideal) x4 x5 x6 x7 = h
  pointwise

/-- Row `R` of the output projection. -/
abbrev yrow (R : Fin 8192) : Fin 1024 → EReal := fun e => lin (zrow x0 x1 x2 x3 x4 x5 x6 x7 x8 x9 x10 x11 R) (fun d => x12 (ix2 d e))

/-- The output projection. -/
theorem projected (R : Fin 8192) (e : Fin 1024) : val_main_v125 (F := Ideal) x0 x1 x2 x3 x4 x5 x6 x7 x8 x9 x10 x11 x12 (ix2 R e) = yrow x0 x1 x2 x3 x4 x5 x6 x7 x8 x9 x10 x11 x12 R e := by
  refine Eq.trans ?_ (lin_congr (funext fun d => gatedAt x0 x1 x2 x3 x4 x5 x6 x7 x8 x9 x10 x11 R d) (fun d => rfl))
  unfold val_main_v125 lin
  generalize val_main_v124 (F := Ideal) x0 x1 x2 x3 x4 x5 x6 x7 x8 x9 x10 x11 = h
  pointwise

/-- Row `R` of the residual, from the projected row. -/
abbrev xrow' (R : Fin 8192) (k : Fin 8) : Fin 1024 → EReal :=
  last (fun i => x0 (ix2 R i)) (fun i => val_main_v125 (F := Ideal) x0 x1 x2 x3 x4 x5 x6 x7 x8 x9 x10 x11 x12 (ix2 R i)) (fun i => x2 (ix2 1 i)) (fun i => x1 (ix3 k 2 i))

/-- The residual, from the projected row, of the context. -/
theorem res_ctx (b : Fin 16) (s : Fin 256) (c : Fin 1024) (R : Fin 8192) (hR : R.val = b.val * 256 + s.val) :
    val_main_v147 (F := Ideal) x0 x1 x2 x3 x4 x5 x6 x7 x8 x9 x10 x11 x12 (ix3 b s c) = xrow' x0 x1 x2 x3 x4 x5 x6 x7 x8 x9 x10 x11 x12 R 0 c := by
  obtain rfl : R = ⟨b.val * 256 + s.val, by clear hR; omega⟩ := Fin.ext hR
  have e : ∀ k : Fin 1024, val_main_v127 (F := Ideal) x0 x1 x2 x3 x4 x5 x6 x7 x8 x9 x10 x11 x12 (ix3 b s k) = val_main_v125 (F := Ideal) x0 x1 x2 x3 x4 x5 x6 x7 x8 x9 x10 x11 x12 (ix2 ⟨b.val * 256 + s.val, by clear hR; omega⟩ k) := fun k => by
    unfold val_main_v127 val_main_v126
    generalize val_main_v125 (F := Ideal) x0 x1 x2 x3 x4 x5 x6 x7 x8 x9 x10 x11 x12 = y
    pointwise
  unfold val_main_v147 val_main_v31 val_main_v30 val_main_v146 val_main_v145 val_main_v14 val_main_v13 val_main_v12 val_main_v144 val_main_v141 val_main_v140 val_main_v139 val_main_v138 val_main_v136 val_main_v134 val_main_v133 val_main_v132 val_main_cst_14 val_main_v135 val_main_cst_15 val_main_v137 val_main_cst_16 val_main_v143 val_main_v142 val_main_v131 val_main_v130 xrow' last Row.unit unitN
  pointwise
  simp only [e]

/-- The residual, from the projected row, of the latents. -/
theorem res_lat (b : Fin 4) (s : Fin 1024) (c : Fin 1024) (R : Fin 8192) (hR : R.val = 4096 + (b.val * 1024 + s.val)) (k : Fin 8) (hk : k.val = 1 + b.val) :
    val_main_v165 (F := Ideal) x0 x1 x2 x3 x4 x5 x6 x7 x8 x9 x10 x11 x12 (ix3 b s c) = xrow' x0 x1 x2 x3 x4 x5 x6 x7 x8 x9 x10 x11 x12 R k c := by
  obtain rfl : k = ⟨1 + b.val, by clear hk hR; omega⟩ := Fin.ext hk
  obtain rfl : R = ⟨4096 + (b.val * 1024 + s.val), by clear hR; omega⟩ := Fin.ext hR
  have e : ∀ k : Fin 1024, val_main_v129 (F := Ideal) x0 x1 x2 x3 x4 x5 x6 x7 x8 x9 x10 x11 x12 (ix3 b s k) = val_main_v125 (F := Ideal) x0 x1 x2 x3 x4 x5 x6 x7 x8 x9 x10 x11 x12 (ix2 ⟨4096 + (b.val * 1024 + s.val), by clear hR; omega⟩ k) := fun k => by
    unfold val_main_v129 val_main_v128
    generalize val_main_v125 (F := Ideal) x0 x1 x2 x3 x4 x5 x6 x7 x8 x9 x10 x11 x12 = y
    pointwise
  unfold val_main_v165 val_main_v33 val_main_v32 val_main_v164 val_main_v163 val_main_v17 val_main_v16 val_main_v15 val_main_v162 val_main_v159 val_main_v158 val_main_v157 val_main_v156 val_main_v154 val_main_v152 val_main_v151 val_main_v150 val_main_cst_17 val_main_v153 val_main_cst_18 val_main_v155 val_main_cst_19 val_main_v161 val_main_v160 val_main_v149 val_main_v148 xrow' last Row.unit unitN
  pointwise
  simp only [e]

/-- The residual, from the projected row. -/
theorem res (R : Fin 8192) (c : Fin 1024) : val_main_v168 (F := Ideal) x0 x1 x2 x3 x4 x5 x6 x7 x8 x9 x10 x11 x12 (ix2 R c) = xrow' x0 x1 x2 x3 x4 x5 x6 x7 x8 x9 x10 x11 x12 R (cond R.val) c := by
  have h1 := res_ctx x0 x1 x2 x3 x4 x5 x6 x7 x8 x9 x10 x11 x12
  have h2 := res_lat x0 x1 x2 x3 x4 x5 x6 x7 x8 x9 x10 x11 x12
  unfold val_main_v168 val_main_v166 val_main_v167
  revert h1 h2
  generalize val_main_v147 (F := Ideal) x0 x1 x2 x3 x4 x5 x6 x7 x8 x9 x10 x11 x12 = y
  generalize val_main_v165 (F := Ideal) x0 x1 x2 x3 x4 x5 x6 x7 x8 x9 x10 x11 x12 = w
  intro h1 h2
  pointwise
  have hR := R.isLt
  split_ifs with h
  · rw [cond_ctx h]
    exact h1 _ _ _ R (by show R.val = R.val / 256 * 256 + R.val % 256; omega)
  · refine h2 _ _ _ R ?_ _ ?_
    · show R.val = 4096 + ((R.val - 4096) / 1024 * 1024 + (R.val - 4096) % 1024); omega
    · rw [cond_lat (by omega) hR]
  all_goals exact absurd rfl ‹_›

/-- Row `R` of the residual. -/
abbrev xrow (R : Fin 8192) : Fin 1024 → EReal :=
  last (fun i => x0 (ix2 R i)) (yrow x0 x1 x2 x3 x4 x5 x6 x7 x8 x9 x10 x11 x12 R) (fun i => x2 (ix2 1 i)) (fun i => x1 (ix3 (cond R.val) 2 i))

/-- The residual at a row and a column. -/
theorem r168 (R : Fin 8192) (c : Fin 1024) : val_main_v168 (F := Ideal) x0 x1 x2 x3 x4 x5 x6 x7 x8 x9 x10 x11 x12 (ix2 R c) = xrow x0 x1 x2 x3 x4 x5 x6 x7 x8 x9 x10 x11 x12 R c :=
  (res x0 x1 x2 x3 x4 x5 x6 x7 x8 x9 x10 x11 x12 R c).trans (last_congr (fun _ => rfl) (projected x0 x1 x2 x3 x4 x5 x6 x7 x8 x9 x10 x11 x12 R) (fun _ => rfl) (fun _ => rfl) c)

/-- Row `R` of the mixture's input, from the residual. -/
abbrev hrow' (R : Fin 8192) (k : Fin 8) : Fin 1024 → EReal :=
  modulated (fun i => val_main_v168 (F := Ideal) x0 x1 x2 x3 x4 x5 x6 x7 x8 x9 x10 x11 x12 (ix2 R i)) (fun e => x2 (ix2 2 e)) (fun e => x1 (ix3 k 3 e)) (fun e => x1 (ix3 k 4 e))

/-- The mixture's input, from the residual, of the context. -/
theorem inp_ctx (b : Fin 16) (s : Fin 256) (c : Fin 1024) (R : Fin 8192) (hR : R.val = b.val * 256 + s.val) :
    val_main_v193 (F := Ideal) x0 x1 x2 x3 x4 x5 x6 x7 x8 x9 x10 x11 x12 (ix3 b s c) = hrow' x0 x1 x2 x3 x4 x5 x6 x7 x8 x9 x10 x11 x12 R 0 c := by
  obtain rfl : R = ⟨b.val * 256 + s.val, by clear hR; omega⟩ := Fin.ext hR
  have e : ∀ k : Fin 1024, val_main_v170 (F := Ideal) x0 x1 x2 x3 x4 x5 x6 x7 x8 x9 x10 x11 x12 (ix3 b s k) = val_main_v168 (F := Ideal) x0 x1 x2 x3 x4 x5 x6 x7 x8 x9 x10 x11 x12 (ix2 ⟨b.val * 256 + s.val, by clear hR; omega⟩ k) := fun k => by
    unfold val_main_v170 val_main_v169
    generalize val_main_v168 (F := Ideal) x0 x1 x2 x3 x4 x5 x6 x7 x8 x9 x10 x11 x12 = y
    pointwise
  unfold val_main_v193 val_main_v191 val_main_v187 val_main_v184 val_main_v183 val_main_v182 val_main_v181 val_main_v179 val_main_v177 val_main_v176 val_main_v175 val_main_cst_20 val_main_v178 val_main_cst_21 val_main_v180 val_main_cst_22 val_main_v186 val_main_v185 val_main_v174 val_main_v173 val_main_v190 val_main_v189 val_main_v188 val_main_cst_23 val_main_v26 val_main_v25 val_main_v24 val_main_v192 val_main_v20 val_main_v19 val_main_v18 hrow' modulated Row.unit unitN one
  pointwise
  simp only [e]

/-- The mixture's input, from the residual, of the latents. -/
theorem inp_lat (b : Fin 4) (s : Fin 1024) (c : Fin 1024) (R : Fin 8192) (hR : R.val = 4096 + (b.val * 1024 + s.val)) (k : Fin 8) (hk : k.val = 1 + b.val) :
    val_main_v214 (F := Ideal) x0 x1 x2 x3 x4 x5 x6 x7 x8 x9 x10 x11 x12 (ix3 b s c) = hrow' x0 x1 x2 x3 x4 x5 x6 x7 x8 x9 x10 x11 x12 R k c := by
  obtain rfl : k = ⟨1 + b.val, by clear hk hR; omega⟩ := Fin.ext hk
  obtain rfl : R = ⟨4096 + (b.val * 1024 + s.val), by clear hR; omega⟩ := Fin.ext hR
  have e : ∀ k : Fin 1024, val_main_v172 (F := Ideal) x0 x1 x2 x3 x4 x5 x6 x7 x8 x9 x10 x11 x12 (ix3 b s k) = val_main_v168 (F := Ideal) x0 x1 x2 x3 x4 x5 x6 x7 x8 x9 x10 x11 x12 (ix2 ⟨4096 + (b.val * 1024 + s.val), by clear hR; omega⟩ k) := fun k => by
    unfold val_main_v172 val_main_v171
    generalize val_main_v168 (F := Ideal) x0 x1 x2 x3 x4 x5 x6 x7 x8 x9 x10 x11 x12 = y
    pointwise
  unfold val_main_v214 val_main_v212 val_main_v208 val_main_v205 val_main_v204 val_main_v203 val_main_v202 val_main_v200 val_main_v198 val_main_v197 val_main_v196 val_main_cst_24 val_main_v199 val_main_cst_25 val_main_v201 val_main_cst_26 val_main_v207 val_main_v206 val_main_v195 val_main_v194 val_main_v211 val_main_v210 val_main_v209 val_main_cst_27 val_main_v29 val_main_v28 val_main_v27 val_main_v213 val_main_v23 val_main_v22 val_main_v21 hrow' modulated Row.unit unitN one
  pointwise
  simp only [e]

/-- The mixture's input, from the residual. -/
theorem inp (R : Fin 8192) (c : Fin 1024) : val_main_v217 (F := Ideal) x0 x1 x2 x3 x4 x5 x6 x7 x8 x9 x10 x11 x12 (ix2 R c) = hrow' x0 x1 x2 x3 x4 x5 x6 x7 x8 x9 x10 x11 x12 R (cond R.val) c := by
  have h1 := inp_ctx x0 x1 x2 x3 x4 x5 x6 x7 x8 x9 x10 x11 x12
  have h2 := inp_lat x0 x1 x2 x3 x4 x5 x6 x7 x8 x9 x10 x11 x12
  unfold val_main_v217 val_main_v215 val_main_v216
  revert h1 h2
  generalize val_main_v193 (F := Ideal) x0 x1 x2 x3 x4 x5 x6 x7 x8 x9 x10 x11 x12 = y
  generalize val_main_v214 (F := Ideal) x0 x1 x2 x3 x4 x5 x6 x7 x8 x9 x10 x11 x12 = w
  intro h1 h2
  pointwise
  have hR := R.isLt
  split_ifs with h
  · rw [cond_ctx h]
    exact h1 _ _ _ R (by show R.val = R.val / 256 * 256 + R.val % 256; omega)
  · refine h2 _ _ _ R ?_ _ ?_
    · show R.val = 4096 + ((R.val - 4096) / 1024 * 1024 + (R.val - 4096) % 1024); omega
    · rw [cond_lat (by omega) hR]
  all_goals exact absurd rfl ‹_›

/-- The mixture's input at a row and a column. -/
theorem r218 (R : Fin 8192) (c : Fin 1024) : val_main_v218 (F := Ideal) x0 x1 x2 x3 x4 x5 x6 x7 x8 x9 x10 x11 x12 (ix2 R c)
    = modulated (xrow x0 x1 x2 x3 x4 x5 x6 x7 x8 x9 x10 x11 x12 R) (fun e => x2 (ix2 2 e)) (fun e => x1 (ix3 (cond R.val) 3 e)) (fun e => x1 (ix3 (cond R.val) 4 e)) c := by
  refine Eq.trans ?_ ((inp x0 x1 x2 x3 x4 x5 x6 x7 x8 x9 x10 x11 x12 R c).trans (congrFun (modulated_congr (r168 x0 x1 x2 x3 x4 x5 x6 x7 x8 x9 x10 x11 x12 R) (fun _ => rfl) (fun _ => rfl) (fun _ => rfl)) c))
  unfold val_main_v218
  generalize val_main_v217 (F := Ideal) x0 x1 x2 x3 x4 x5 x6 x7 x8 x9 x10 x11 x12 = w
  pointwise

end Cert.MrgRefIdeal.At

end
-- ==== Proof.MrgClaim.lean ====
/-
  The claims about the merge: the residual and the mixture's input equal the reference's.
-/
module

public import proofs.«01_k».proof.Defs
public import proofs.«01_k».proof.Proof.Gen.Mrg
public import proofs.«01_k».proof.Proof.Gen.MrgIdeal
public import proofs.«01_k».proof.Proof.Gen.MrgRefIdeal
public import proofs.«01_k».proof.Proof.Gen.MrgRefIdeal.Run
public import proofs.«01_k».proof.Proof.MrgValue
public import proofs.«01_k».proof.Proof.MrgRead
public import Idealize.ShloMosaic.Lib.Quiescent

@[expose] public section

noncomputable section

namespace Cert.Proof

open Idealize.ShloMosaic Idealize.ShloMosaic.TcCoe Idealize.SL.Sem Cert.Row

section
variable (m : (ℓ : Loc Cert.MrgIdeal.nD Cert.MrgIdeal.τ Cert.MrgIdeal.sig) → Buf (Elt Ideal) ℓ) (c : Dev Cert.MrgIdeal.nD)

open Cert.MrgIdeal.Val (a0 a1 a2 a3 a4 a5 a6 a7 a8 a9 a10 a11 a12)

/-- The reference's residual is the function the kernel's array holds. -/
theorem ref_mrg15 : Cert.MrgRefIdeal.Read.val_main_v168 (F := Ideal) (a0 m c) (a1 m c) (a2 m c) (a3 m c) (a4 m c) (a5 m c) (a6 m c) (a7 m c) (a8 m c) (a9 m c) (a10 m c) (a11 m c) (a12 m c) = Cert.MrgIdeal.Val.G15 m c := by
  funext i
  have ei : i = ix2 (i 0) (i 1) := funext fun a => match a with
    | ⟨0, _⟩ => rfl
    | ⟨1, _⟩ => rfl
  refine (congrArg _ ei).trans ?_
  exact Cert.MrgRefIdeal.At.r168 _ _ _ _ _ _ _ _ _ _ _ _ _ (i 0) (i 1)

/-- So is its mixture's input. -/
theorem ref_mrg16 : Cert.MrgRefIdeal.Read.val_main_v218 (F := Ideal) (a0 m c) (a1 m c) (a2 m c) (a3 m c) (a4 m c) (a5 m c) (a6 m c) (a7 m c) (a8 m c) (a9 m c) (a10 m c) (a11 m c) (a12 m c) = Cert.MrgIdeal.Val.G16 m c := by
  funext i
  have ei : i = ix2 (i 0) (i 1) := funext fun a => match a with
    | ⟨0, _⟩ => rfl
    | ⟨1, _⟩ => rfl
  refine (congrArg _ ei).trans ?_
  exact Cert.MrgRefIdeal.At.r218 _ _ _ _ _ _ _ _ _ _ _ _ _ (i 0) (i 1)

end

/-- The reference runs, leaves its arguments as they were, and has no semaphore to leave raised. -/
theorem frame_mrgRef : Cert.quiescent_MrgRefIdeal := fun m g _ =>
  (θ_run _ _ _).mono (fun r h => ⟨fun c => (h c).2.2, sem_eq_zero_of_no_sems rfl r.2⟩) (Cert.MrgRefIdeal.Value.run (F := Ideal) m g)

/-- The kernel's results equal the reference's. -/
theorem algebraic_mrg : Cert.algebraic_MrgIdeal_MrgRefIdeal := by
  intro m g m' g' _ hag
  refine ⟨fun c => Cert.MrgIdeal.Val.G15 m c, fun c => Cert.MrgIdeal.Val.G16 m c, Cert.MrgIdeal.Val.run m g, ?_⟩
  refine (θ_run _ _ _).mono (fun r h c => ?_) (Cert.MrgRefIdeal.Value.run (F := Ideal) m' g')
  obtain ⟨h15, h16, hrest⟩ := h c
  obtain ⟨e0, e1, e2, e3, e4, e5, e6, e7, e8, e9, e10, e11, e12, e13, e14⟩ := hag c
  refine ⟨h15.trans ?_, h16.trans ?_, hrest⟩
  · refine (Cert.MrgRefIdeal.Read.val_main_v168_eq _).trans ?_
    rw [show StableHlo.launchContents m' c (Proc.tc.devRef Cert.MrgRefIdeal.main_arg0) = Cert.MrgIdeal.Val.a0 m c from e0, show StableHlo.launchContents m' c (Proc.tc.devRef Cert.MrgRefIdeal.main_arg1) = Cert.MrgIdeal.Val.a1 m c from e1, show StableHlo.launchContents m' c (Proc.tc.devRef Cert.MrgRefIdeal.main_arg2) = Cert.MrgIdeal.Val.a2 m c from e2, show StableHlo.launchContents m' c (Proc.tc.devRef Cert.MrgRefIdeal.main_arg3) = Cert.MrgIdeal.Val.a3 m c from e3, show StableHlo.launchContents m' c (Proc.tc.devRef Cert.MrgRefIdeal.main_arg4) = Cert.MrgIdeal.Val.a4 m c from e4, show StableHlo.launchContents m' c (Proc.tc.devRef Cert.MrgRefIdeal.main_arg5) = Cert.MrgIdeal.Val.a5 m c from e5, show StableHlo.launchContents m' c (Proc.tc.devRef Cert.MrgRefIdeal.main_arg6) = Cert.MrgIdeal.Val.a6 m c from e6, show StableHlo.launchContents m' c (Proc.tc.devRef Cert.MrgRefIdeal.main_arg7) = Cert.MrgIdeal.Val.a7 m c from e7, show StableHlo.launchContents m' c (Proc.tc.devRef Cert.MrgRefIdeal.main_arg8) = Cert.MrgIdeal.Val.a8 m c from e8, show StableHlo.launchContents m' c (Proc.tc.devRef Cert.MrgRefIdeal.main_arg9) = Cert.MrgIdeal.Val.a9 m c from e9, show StableHlo.launchContents m' c (Proc.tc.devRef Cert.MrgRefIdeal.main_arg10) = Cert.MrgIdeal.Val.a10 m c from e10, show StableHlo.launchContents m' c (Proc.tc.devRef Cert.MrgRefIdeal.main_arg11) = Cert.MrgIdeal.Val.a11 m c from e11, show StableHlo.launchContents m' c (Proc.tc.devRef Cert.MrgRefIdeal.main_arg12) = Cert.MrgIdeal.Val.a12 m c from e12]
    exact ref_mrg15 m c
  · refine (Cert.MrgRefIdeal.Read.val_main_v218_eq _).trans ?_
    rw [show StableHlo.launchContents m' c (Proc.tc.devRef Cert.MrgRefIdeal.main_arg0) = Cert.MrgIdeal.Val.a0 m c from e0, show StableHlo.launchContents m' c (Proc.tc.devRef Cert.MrgRefIdeal.main_arg1) = Cert.MrgIdeal.Val.a1 m c from e1, show StableHlo.launchContents m' c (Proc.tc.devRef Cert.MrgRefIdeal.main_arg2) = Cert.MrgIdeal.Val.a2 m c from e2, show StableHlo.launchContents m' c (Proc.tc.devRef Cert.MrgRefIdeal.main_arg3) = Cert.MrgIdeal.Val.a3 m c from e3, show StableHlo.launchContents m' c (Proc.tc.devRef Cert.MrgRefIdeal.main_arg4) = Cert.MrgIdeal.Val.a4 m c from e4, show StableHlo.launchContents m' c (Proc.tc.devRef Cert.MrgRefIdeal.main_arg5) = Cert.MrgIdeal.Val.a5 m c from e5, show StableHlo.launchContents m' c (Proc.tc.devRef Cert.MrgRefIdeal.main_arg6) = Cert.MrgIdeal.Val.a6 m c from e6, show StableHlo.launchContents m' c (Proc.tc.devRef Cert.MrgRefIdeal.main_arg7) = Cert.MrgIdeal.Val.a7 m c from e7, show StableHlo.launchContents m' c (Proc.tc.devRef Cert.MrgRefIdeal.main_arg8) = Cert.MrgIdeal.Val.a8 m c from e8, show StableHlo.launchContents m' c (Proc.tc.devRef Cert.MrgRefIdeal.main_arg9) = Cert.MrgIdeal.Val.a9 m c from e9, show StableHlo.launchContents m' c (Proc.tc.devRef Cert.MrgRefIdeal.main_arg10) = Cert.MrgIdeal.Val.a10 m c from e10, show StableHlo.launchContents m' c (Proc.tc.devRef Cert.MrgRefIdeal.main_arg11) = Cert.MrgIdeal.Val.a11 m c from e11, show StableHlo.launchContents m' c (Proc.tc.devRef Cert.MrgRefIdeal.main_arg12) = Cert.MrgIdeal.Val.a12 m c from e12]
    exact ref_mrg16 m c

end Cert.Proof

end
-- ==== Proof.GqaSpec.lean ====
/-
  The latent pass's grouped attention, free of any program: a head rotated by its position's cosines and sines, a softmax
  row in two parts, and the attention at a row and a column.
-/
module

public import proofs.«01_k».proof.Proof.Attn

@[expose] public section

noncomputable section

namespace Cert.Attn

open Idealize.ShloMosaic
open scoped BigOperators

/-! ## Arrays of three and four axes at natural indices -/

/-- An entry of an array of three axes at natural indices, zero outside the array. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- Inside the array it is the entry. -/
theorem at3_in {a b c : ℕ} (x : (⟨3, ![a, b, c]⟩ : Shape).Idx → EReal) {i j k : ℕ} (hi : i < a) (hj : j < b) (hk : k < c) :
    at3 x i j k = x (ix3 ⟨i, hi⟩ ⟨j, hj⟩ ⟨k, hk⟩) := dif_pos ⟨hi, hj, hk⟩

/-- The entries of an array of finite numbers are finite. -/
theorem fine_at3 {a b c : ℕ} (x : (⟨3, ![a, b, c]⟩ : Shape).Idx → EReal) (h : ∀ i, Fine (x i)) (i j k : ℕ) : Fine (at3 x i j k) := by
  unfold at3
  split
  · exact h _
  · exact Fine.coe 0

/-- An entry of an array of four axes at natural indices, zero outside the array. -/
def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

/-- Inside the array it is the entry. -/
theorem at4_in {a b c d : ℕ} (x : (⟨4, ![a, b, c, d]⟩ : Shape).Idx → EReal) {i j k l : ℕ} (hi : i < a) (hj : j < b) (hk : k < c)
    (hl : l < d) : at4 x i j k l = x (ix4 ⟨i, hi⟩ ⟨j, hj⟩ ⟨k, hk⟩ ⟨l, hl⟩) := dif_pos ⟨hi, hj, hk, hl⟩

/-- The entries of an array of finite numbers are finite. -/
theorem fine_at4 {a b c d : ℕ} (x : (⟨4, ![a, b, c, d]⟩ : Shape).Idx → EReal) (h : ∀ i, Fine (x i)) (i j k l : ℕ) :
    Fine (at4 x i j k l) := by
  unfold at4
  split
  · exact h _
  · exact Fine.coe 0

/-! ## The rotation -/

/-- A head of 64 rotated: each half of 32 pairs its first 16 entries with its last 16, and a pair turns by the angle
    whose cosine and sine the tables hold at the half and the entry. -/
def rot (cs sn : ℕ → ℕ → EReal) (x : Fin 64 → EReal) (e : Fin 64) : EReal :=
  if h : e.val % 32 < 16 then x e * cs (e.val / 32) (e.val % 16) - x ⟨e.val + 16, by omega⟩ * sn (e.val / 32) (e.val % 16)
  else x ⟨e.val - 16, by omega⟩ * sn (e.val / 32) (e.val % 16) + x e * cs (e.val / 32) (e.val % 16)

/-- The rotation of finite numbers by finite tables is finite. -/
theorem fine_rot {cs sn : ℕ → ℕ → EReal} {x : Fin 64 → EReal} (hc : ∀ i j, Fine (cs i j)) (hs : ∀ i j, Fine (sn i j))
    (hx : ∀ e, Fine (x e)) (e : Fin 64) : Fine (rot cs sn x e) := by
  unfold rot
  split
  · exact ((hx _).mul (hc _ _)).sub ((hx _).mul (hs _ _))
  · exact ((hx _).mul (hs _ _)).add ((hx _).mul (hc _ _))

/-- The rotation with the sine's sign in the table and the partner chosen by the lane. -/
theorem rot_partner (cs sn : ℕ → ℕ → EReal) (x : Fin 64 → EReal) (e : Fin 64) (p c s : EReal) (hc : c = cs (e.val / 32) (e.val % 16))
    (hs : s = if e.val % 32 < 16 then -sn (e.val / 32) (e.val % 16) else sn (e.val / 32) (e.val % 16))
    (hp : ∀ f : Fin 64, f.val = (if e.val % 32 < 16 then e.val + 16 else e.val - 16) → p = x f) :
    x e * c + p * s = rot cs sn x e := by
  unfold rot
  subst hc hs
  split
  · rename_i h
    rw [mul_neg, ← sub_eq_add_neg, hp ⟨e.val + 16, by omega⟩ (by simp [h])]
  · rename_i h
    rw [add_comm, hp ⟨e.val - 16, by omega⟩ (by simp [h])]

/-! ## A softmax row in two parts -/

/-- A row of `a` entries followed by a row of `b` entries. -/
def join {a b n : ℕ} (h : n = a + b) (s : Fin a → EReal) (t : Fin b → EReal) (j : Fin n) : EReal :=
  if hj : j.val < a then s ⟨j.val, hj⟩ else t ⟨j.val - a, by omega⟩

/-- A sum over the whole row is the sum over its two parts. -/
theorem sum_parts {a b n : ℕ} (h : n = a + b) (f : Fin n → EReal) :
    ∑ j, f j = ∑ i : Fin a, f ⟨i.val, by omega⟩ + ∑ i : Fin b, f ⟨a + i.val, by omega⟩ := by
  subst h
  exact Fin.sum_univ_add f

/-- The first part of the joined row. -/
theorem join_left {a b n : ℕ} (h : n = a + b) (s : Fin a → EReal) (t : Fin b → EReal) (i : Fin a) (hi : i.val < n) :
    join h s t ⟨i.val, hi⟩ = s i := dif_pos i.isLt

/-- The second part of the joined row. -/
theorem join_right {a b n : ℕ} (h : n = a + b) (s : Fin a → EReal) (t : Fin b → EReal) (i : Fin b) (hi : a + i.val < n) :
    join h s t ⟨a + i.val, hi⟩ = t i := by
  unfold join
  rw [dif_neg (by simp)]
  exact congrArg t (Fin.ext (Nat.add_sub_cancel_left _ _))

/-- An entry of the joined row is an entry of one of its parts. -/
theorem fine_join {a b n : ℕ} (h : n = a + b) {s : Fin a → EReal} {t : Fin b → EReal} (hs : ∀ i, Fine (s i)) (ht : ∀ i, Fine (t i))
    (j : Fin n) : Fine (join h s t j) := by
  unfold join
  split
  · exact hs _
  · exact ht _

/-- The greatest of the joined row is the greater of the parts' greatest. -/
theorem top_join {a b n : ℕ} (h : n = a + b) (s : Fin a → EReal) (t : Fin b → EReal) :
    top (join h s t) = max (top s) (top t) := by
  unfold top
  apply le_antisymm
  · refine (Finset.fold_max_le _).mpr ⟨bot_le, fun j _ => ?_⟩
    unfold join
    split
    · exact le_max_of_le_left ((Finset.le_fold_max _).mpr (Or.inr ⟨_, Finset.mem_univ _, le_rfl⟩))
    · exact le_max_of_le_right ((Finset.le_fold_max _).mpr (Or.inr ⟨_, Finset.mem_univ _, le_rfl⟩))
  · refine max_le ?_ ?_
    · refine (Finset.fold_max_le _).mpr ⟨bot_le, fun i _ => ?_⟩
      exact (Finset.le_fold_max _).mpr (Or.inr ⟨⟨i.val, by omega⟩, Finset.mem_univ _, (join_left h s t i _).ge⟩)
    · refine (Finset.fold_max_le _).mpr ⟨bot_le, fun i _ => ?_⟩
      exact (Finset.le_fold_max _).mpr (Or.inr ⟨⟨a + i.val, by omega⟩, Finset.mem_univ _, (join_right h s t i _).ge⟩)

/-- The softmax row summed in two parts, with the reciprocal of the common normaliser, is the joined row's softmax, for
    finite scores. -/
theorem soft_parts {a b n : ℕ} (h : n = a + b) (s v : Fin a → EReal) (t w : Fin b → EReal) (i : Fin n)
    (hs : ∀ j, Fine (s j)) (ht : ∀ j, Fine (t j)) :
    ∑ j, Ideal.exp (s j - max (top s) (top t)) * Ideal.div 1 (∑ j', Ideal.exp (s j' - max (top s) (top t))
        + ∑ j', Ideal.exp (t j' - max (top s) (top t))) * v j
      + ∑ j, Ideal.exp (t j - max (top s) (top t)) * Ideal.div 1 (∑ j', Ideal.exp (s j' - max (top s) (top t))
        + ∑ j', Ideal.exp (t j' - max (top s) (top t))) * w j
      = soft (join h s t) (join h v w) := by
  rw [← soft_recip (join h s t) (join h v w) i (fine_join h hs ht), top_join, sum_parts h, sum_parts h]
  simp only [join_left, join_right]

/-! ## The latent grouped attention at a row and a column -/

/-- A rotated normalised head: row `R` of the matrix, the 64 columns from `o` on, at position `p`. -/
def rotAt (n ε : EReal) (x : ℕ → ℕ → EReal) (g : Fin 64 → EReal) (cs sn : ℕ → ℕ → ℕ → EReal) (R o p : ℕ) (e : Fin 64) : EReal :=
  rot (cs p) (sn p) (normAt n ε x g R o) e

/-- The score of row `R` in the head of column `C` against key `j` of its sequence: 1024 latent keys, then 256 cached ones. -/
def latScore (c n ε : EReal) (gqa : ℕ → ℕ → EReal) (ck : ℕ → ℕ → ℕ → ℕ → EReal) (gq gk : Fin 64 → EReal) (cs sn : ℕ → ℕ → ℕ → EReal)
    (R C : ℕ) : Fin 1280 → EReal :=
  join (a := 1024) (b := 256) rfl
    (fun j => (∑ e : Fin 64, rotAt n ε gqa gk cs sn (4096 + R / 1024 * 1024 + j.val) (512 + C / 256 * 64) j.val e
      * rotAt n ε gqa gq cs sn (4096 + R) (C / 64 * 64) (R % 1024) e) * c)
    (fun j => (∑ e : Fin 64, ck (R / 1024) j.val (C / 256) e.val * rotAt n ε gqa gq cs sn (4096 + R) (C / 64 * 64) (R % 1024) e) * c)

/-- The values of the column of head `C`: 1024 latent ones, then 256 cached ones. -/
def latValue (gqa : ℕ → ℕ → EReal) (cv : ℕ → ℕ → ℕ → ℕ → EReal) (R C : ℕ) : Fin 1280 → EReal :=
  join (a := 1024) (b := 256) rfl (fun j => gqa (4096 + R / 1024 * 1024 + j.val) (640 + C / 256 * 64 + C % 64))
    (fun j => cv (R / 1024) j.val (C / 256) (C % 64))

/-- The attention's output at row `R` and column `C`. -/
def latAt (c n ε : EReal) (gqa : ℕ → ℕ → EReal) (ck cv : ℕ → ℕ → ℕ → ℕ → EReal) (gq gk : Fin 64 → EReal) (cs sn : ℕ → ℕ → ℕ → EReal)
    (R C : ℕ) : EReal :=
  soft (latScore c n ε gqa ck gq gk cs sn R C) (latValue gqa cv R C)

end Cert.Attn

end
-- ==== Proof.GqaHead.lean ====
/-
  One head of the latent grouped attention as the kernel's body writes it, the normalised and rotated heads, and the
  body's block, read at an index.
-/
module

public import proofs.«01_k».proof.Proof.Gen.GqaIdeal.Value
public import proofs.«01_k».proof.Proof.GqaSpec

@[expose] public section

set_option maxRecDepth 16384

noncomputable section

namespace Cert.GqaIdeal.Head

open Cert.GqaIdeal Cert.GqaIdeal.Gen Cert.Attn Idealize.ShloMosaic Idealize.ShloMosaic.TcCoe Idealize.SL.Sem
open Idealize.ShloMosaic.Pointwise
open scoped BigOperators

/-- A head of a softmax attention over 1024 keys and 256 further ones, as the body's operations. -/
def head (q : FVec Ideal S256x64 .f32) (k : FVec Ideal S1024x64 .f32) (ck : FVec Ideal S256x64 .f32) (v : FVec Ideal S1024x64 .f32)
    (cv : FVec Ideal S256x64 .f32) : FVec Ideal S256x64 .f32 :=
  let qs := truncf .bf16 (mulf q (broadcast S256x64 (Scalar.ofBits (F := Ideal) .f32 0x3E000000#32))) bitsLt_bf16_f32
  let s : FVec Ideal S256x1024 .f32 := matmul dot_S256x64_S1024x64_S256x1024_1_1_0_0_n_n none qs
    (truncf .bf16 k bitsLt_bf16_f32) (constant S256x1024 .f32 0x00000000#32)
  let t : FVec Ideal S256x256 .f32 := matmul dot_S256x64_S256x64_S256x256_1_1_0_0_n_n none qs
    (truncf .bf16 ck bitsLt_bf16_f32) (constant S256x256 .f32 0x00000000#32)
  let m : FVec Ideal S256x1 .f32 := maximumf (shapeCast S256x1
    (multiReduction .maximumf [1] S256 s 0xFF800000#32 reduces_S256x1024_S256 (.inl rfl) rfl) shapeCasts_S256_S256x1)
    (shapeCast S256x1 (multiReduction .maximumf [1] S256 t 0xFF800000#32 reduces_S256x256_S256 (.inl rfl) rfl) shapeCasts_S256_S256x1)
  let p : FVec Ideal S256x1024 .f32 := exp (subf s (broadcastTo S256x1024 m broadcasts_S256x1_S256x1024))
  let r : FVec Ideal S256x256 .f32 := exp (subf t (broadcastTo S256x256 m broadcasts_S256x1_S256x256))
  let l : FVec Ideal S256x1 .f32 := divf (broadcast S256x1 (Scalar.ofBits (F := Ideal) .f32 0x3F800000#32)) (addf (shapeCast S256x1
    (multiReduction .add [1] S256 p 0x00000000#32 reduces_S256x1024_S256 (.inl rfl) rfl) shapeCasts_S256_S256x1)
    (shapeCast S256x1 (multiReduction .add [1] S256 r 0x00000000#32 reduces_S256x256_S256 (.inl rfl) rfl) shapeCasts_S256_S256x1))
  addf (matmul dot_S256x1024_S1024x64_S256x64_1_0_0_1_n_n none
      (truncf .bf16 (mulf p (broadcastTo S256x1024 l broadcasts_S256x1_S256x1024)) bitsLt_bf16_f32)
      (truncf .bf16 v bitsLt_bf16_f32) (constant S256x64 .f32 0x00000000#32))
    (matmul dot_S256x256_S256x64_S256x64_1_0_0_1_n_n none
      (truncf .bf16 (mulf r (broadcastTo S256x256 l broadcasts_S256x1_S256x256)) bitsLt_bf16_f32)
      (truncf .bf16 cv bitsLt_bf16_f32) (constant S256x64 .f32 0x00000000#32))

/-- A head at an index: the softmax of the scaled scores of both parts against the values' column. -/
theorem head_apply (q : FVec Ideal S256x64 .f32) (k : FVec Ideal S1024x64 .f32) (ck : FVec Ideal S256x64 .f32)
    (v : FVec Ideal S1024x64 .f32) (cv : FVec Ideal S256x64 .f32) (r : Fin 256) (d : Fin 64)
    (hq : ∀ i, Fine (q i)) (hk : ∀ i, Fine (k i)) (hck : ∀ i, Fine (ck i)) :
    head q k ck v cv (ix2 r d)
      = soft (join (a := 1024) (b := 256) (n := 1280) rfl (fun j => (∑ e, k (ix2 j e) * q (ix2 r e)) * c8)
          (fun j => (∑ e, ck (ix2 j e) * q (ix2 r e)) * c8))
        (join (a := 1024) (b := 256) (n := 1280) rfl (fun j => v (ix2 j d)) (fun j => cv (ix2 j d))) := by
  unfold head
  pointwise
  have h0 : (0 : EReal) ≤ Ideal.ofBits .f32 0x3E000000#32 := by rw [eighth]; exact EReal.coe_nonneg.mpr (by norm_num)
  have h1 : Ideal.ofBits .f32 0x3E000000#32 ≠ ⊤ := by rw [eighth]; exact EReal.coe_ne_top _
  have e1 : ∀ j : Fin 1024, ∑ i, q (ix2 r i) * Ideal.ofBits .f32 0x3E000000#32 * k (ix2 j i)
      = (∑ i, k (ix2 j i) * q (ix2 r i)) * Ideal.ofBits .f32 0x3E000000#32 :=
    fun j => score_scale (fun i => q (ix2 r i)) (fun i => k (ix2 j i)) h0 h1
  have e2 : ∀ j : Fin 256, ∑ i, q (ix2 r i) * Ideal.ofBits .f32 0x3E000000#32 * ck (ix2 j i)
      = (∑ i, ck (ix2 j i) * q (ix2 r i)) * Ideal.ofBits .f32 0x3E000000#32 :=
    fun j => score_scale (fun i => q (ix2 r i)) (fun i => ck (ix2 j i)) h0 h1
  simp only [e1, e2, negInf]
  have fc : Fine (Ideal.ofBits .f32 0x3E000000#32) := by rw [eighth]; exact Fine.coe _
  exact soft_parts (a := 1024) (b := 256) (n := 1280) rfl
    (fun j => (∑ i, k (ix2 j i) * q (ix2 r i)) * Ideal.ofBits .f32 0x3E000000#32) (fun j => v (ix2 j d))
    (fun j => (∑ i, ck (ix2 j i) * q (ix2 r i)) * Ideal.ofBits .f32 0x3E000000#32) (fun j => cv (ix2 j d)) ⟨0, by norm_num⟩
    (fun j => (Fine.sum _ _ fun i _ => (hk _).mul (hq _)).mul fc) (fun j => (Fine.sum _ _ fun i _ => (hck _).mul (hq _)).mul fc)

/-- A head of 256 rows normalised by the root of its mean square and multiplied by its gains, as the body's operations. -/
def rmsQ (x : FVec Ideal S256x64 .f32) (g : Vec Ideal S1x64 .f32) : FVec Ideal S256x64 .f32 :=
  mulf (mulf x (broadcastTo S256x64 (rsqrt (addf (divf (shapeCast S256x1
    (multiReduction .add [1] S256 (mulf x x) 0x00000000#32 reduces_S256x64_S256 (.inl rfl) rfl) shapeCasts_S256_S256x1)
    (broadcast S256x1 (Scalar.ofBits (F := Ideal) .f32 0x42800000#32)))
    (broadcast S256x1 (Scalar.ofBits (F := Ideal) .f32 0x358637BD#32)))) broadcasts_S256x1_S256x64))
    (broadcastTo S256x64 g broadcasts_S1x64_S256x64)

/-- Such a head at an index. -/
theorem rmsQ_apply (x : FVec Ideal S256x64 .f32) (g : Vec Ideal S1x64 .f32) (r : Fin 256) (e : Fin 64) :
    rmsQ x g (ix2 r e) = rmsn n64 eps (fun i => x (ix2 r i)) (fun i => g (ix2 0 i)) e := by
  unfold rmsQ rmsn
  pointwise

/-- A head of 1024 rows normalised by the root of its mean square and multiplied by its gains, as the body's operations. -/
def rmsK (x : FVec Ideal S1024x64 .f32) (g : Vec Ideal S1x64 .f32) : FVec Ideal S1024x64 .f32 :=
  mulf (mulf x (broadcastTo S1024x64 (rsqrt (addf (divf (shapeCast S1024x1
    (multiReduction .add [1] S1024 (mulf x x) 0x00000000#32 reduces_S1024x64_S1024 (.inl rfl) rfl) shapeCasts_S1024_S1024x1)
    (broadcast S1024x1 (Scalar.ofBits (F := Ideal) .f32 0x42800000#32)))
    (broadcast S1024x1 (Scalar.ofBits (F := Ideal) .f32 0x358637BD#32)))) broadcasts_S1024x1_S1024x64))
    (broadcastTo S1024x64 g broadcasts_S1x64_S1024x64)

/-- Such a head at an index. -/
theorem rmsK_apply (x : FVec Ideal S1024x64 .f32) (g : Vec Ideal S1x64 .f32) (r : Fin 1024) (e : Fin 64) :
    rmsK x g (ix2 r e) = rmsn n64 eps (fun i => x (ix2 r i)) (fun i => g (ix2 0 i)) e := by
  unfold rmsK rmsn
  pointwise

/-- Which of 512 lanes come first in their pair, as the body's operations. -/
def mask256x512 : IVec S256x512 1 :=
  let c : BitVec 32 := Scalar.select (Scalar.cmpi .eq 32#32 0#32) 1#32 32#32
  let l : IVec S256x512 32 := remsi (iota .tc S256x512 32 [1] iota_S256x512_d1_w32) (broadcast S256x512 c)
  cmpi .slt (select (andi (xori (cmpi .slt l (broadcast S256x512 0#32))
    (broadcastTo S256x512 (broadcast S256x512 (Scalar.cmpi .slt c 0#32)) broadcasts_S256x512_S256x512))
    (cmpi .ne l (broadcast S256x512 0#32))) (addi l (broadcast S256x512 c)) l) (broadcast S256x512 16#32)

/-- The mask at an index. -/
theorem mask256x512_apply (r : Fin 256) (c : Fin 512) : mask256x512 (ix2 r c) = if c.val % 32 < 16 then 1#1 else 0#1 := by
  unfold mask256x512
  pointwise
  revert c
  decide +kernel

/-- A rotation of 512 lanes, as the body's operations. -/
def rope256x512 (x : FVec Ideal S256x512 .f32) (cs sn : Vec Ideal S256x512 .f32) : FVec Ideal S256x512 .f32 :=
  addf (mulf x (shapeCast S256x512 cs shapeCasts_S256x512_S256x512))
    (mulf (select (mask256x512) (dynamicRotate 1 496#32 none x rotates_S256x512_d1) (dynamicRotate 1 16#32 none x rotates_S256x512_d1))
      (shapeCast S256x512 sn shapeCasts_S256x512_S256x512))

/-- The rotation at an index. -/
theorem rope256x512_apply (x : FVec Ideal S256x512 .f32) (cs sn : Vec Ideal S256x512 .f32) (r c : ℕ) (hr : r < 256) (hc : c < 512)
    (C S : ℕ → ℕ → EReal) (hC : at2 cs r c = C (c % 64 / 32) (c % 16))
    (hS : at2 sn r c = if c % 32 < 16 then -S (c % 64 / 32) (c % 16) else S (c % 64 / 32) (c % 16)) :
    at2 (rope256x512 x cs sn) r c = rot C S (fun e => at2 x r (c / 64 * 64 + e.val)) ⟨c % 64, Nat.mod_lt _ (by norm_num)⟩ := by
  rw [at2_in _ hr hc] at hC hS ⊢
  rw [← rot_partner C S (fun e : Fin 64 => at2 x r (c / 64 * 64 + e.val)) ⟨c % 64, Nat.mod_lt _ (by norm_num)⟩
    (if c % 32 < 16 then at2 x r (c + 16) else at2 x r (c - 16)) (cs (ix2 ⟨r, hr⟩ ⟨c, hc⟩)) (sn (ix2 ⟨r, hr⟩ ⟨c, hc⟩))
    (by rw [hC]; exact congrArg₂ C rfl (by show c % 16 = c % 64 % 16; omega))
    (by rw [hS]; simp only [show c % 64 % 32 = c % 32 by omega, show c % 64 % 16 = c % 16 by omega])
    (fun f hf => by
      simp only [show c % 64 % 32 = c % 32 by omega] at hf
      split
      · rename_i h
        rw [if_pos h] at hf
        exact congrArg (at2 x r) (by omega)
      · rename_i h
        rw [if_neg h] at hf
        exact congrArg (at2 x r) (by omega))]
  unfold rope256x512
  have hm := mask256x512_apply
  revert hm
  generalize mask256x512 = mk
  intro hm
  pointwise
  rw [hm]
  by_cases h : c % 32 < 16
  · have h2 : c + 16 < 512 := by omega
    simp only [h, if_true, ite_true]
    rw [at2_in x hr (show c / 64 * 64 + c % 64 < 512 by omega), at2_in x hr h2]
    simp only [show c / 64 * 64 + c % 64 = c by omega, show (c + 512 - 496) % 512 = c + 16 by omega]
    rfl
  · simp only [h, if_false, ite_false]
    rw [at2_in x hr (show c / 64 * 64 + c % 64 < 512 by omega), at2_in x hr (show c - 16 < 512 by omega)]
    simp only [show c / 64 * 64 + c % 64 = c by omega, show (c + 512 - 16) % 512 = c - 16 by omega]
    rfl

/-- Which of 128 lanes come first in their pair, as the body's operations. -/
def mask1024x128 : IVec S1024x128 1 :=
  let c : BitVec 32 := Scalar.select (Scalar.cmpi .eq 32#32 0#32) 1#32 32#32
  let l : IVec S1024x128 32 := remsi (iota .tc S1024x128 32 [1] iota_S1024x128_d1_w32) (broadcast S1024x128 c)
  cmpi .slt (select (andi (xori (cmpi .slt l (broadcast S1024x128 0#32))
    (broadcastTo S1024x128 (broadcast S1024x128 (Scalar.cmpi .slt c 0#32)) broadcasts_S1024x128_S1024x128))
    (cmpi .ne l (broadcast S1024x128 0#32))) (addi l (broadcast S1024x128 c)) l) (broadcast S1024x128 16#32)

/-- The mask at an index. -/
theorem mask1024x128_apply (r : Fin 1024) (c : Fin 128) : mask1024x128 (ix2 r c) = if c.val % 32 < 16 then 1#1 else 0#1 := by
  unfold mask1024x128
  pointwise
  revert c
  decide +kernel

/-- A rotation of 128 lanes, as the body's operations. -/
def rope1024x128 (x : FVec Ideal S1024x128 .f32) (cs sn : Vec Ideal S1024x128 .f32) : FVec Ideal S1024x128 .f32 :=
  addf (mulf x (shapeCast S1024x128 cs shapeCasts_S1024x128_S1024x128))
    (mulf (select (mask1024x128) (dynamicRotate 1 112#32 none x rotates_S1024x128_d1) (dynamicRotate 1 16#32 none x rotates_S1024x128_d1))
      (shapeCast S1024x128 sn shapeCasts_S1024x128_S1024x128))

/-- The rotation at an index. -/
theorem rope1024x128_apply (x : FVec Ideal S1024x128 .f32) (cs sn : Vec Ideal S1024x128 .f32) (r c : ℕ) (hr : r < 1024) (hc : c < 128)
    (C S : ℕ → ℕ → EReal) (hC : at2 cs r c = C (c % 64 / 32) (c % 16))
    (hS : at2 sn r c = if c % 32 < 16 then -S (c % 64 / 32) (c % 16) else S (c % 64 / 32) (c % 16)) :
    at2 (rope1024x128 x cs sn) r c = rot C S (fun e => at2 x r (c / 64 * 64 + e.val)) ⟨c % 64, Nat.mod_lt _ (by norm_num)⟩ := by
  rw [at2_in _ hr hc] at hC hS ⊢
  rw [← rot_partner C S (fun e : Fin 64 => at2 x r (c / 64 * 64 + e.val)) ⟨c % 64, Nat.mod_lt _ (by norm_num)⟩
    (if c % 32 < 16 then at2 x r (c + 16) else at2 x r (c - 16)) (cs (ix2 ⟨r, hr⟩ ⟨c, hc⟩)) (sn (ix2 ⟨r, hr⟩ ⟨c, hc⟩))
    (by rw [hC]; exact congrArg₂ C rfl (by show c % 16 = c % 64 % 16; omega))
    (by rw [hS]; simp only [show c % 64 % 32 = c % 32 by omega, show c % 64 % 16 = c % 16 by omega])
    (fun f hf => by
      simp only [show c % 64 % 32 = c % 32 by omega] at hf
      split
      · rename_i h
        rw [if_pos h] at hf
        exact congrArg (at2 x r) (by omega)
      · rename_i h
        rw [if_neg h] at hf
        exact congrArg (at2 x r) (by omega))]
  unfold rope1024x128
  have hm := mask1024x128_apply
  revert hm
  generalize mask1024x128 = mk
  intro hm
  pointwise
  rw [hm]
  by_cases h : c % 32 < 16
  · have h2 : c + 16 < 128 := by omega
    simp only [h, if_true, ite_true]
    rw [at2_in x hr (show c / 64 * 64 + c % 64 < 128 by omega), at2_in x hr h2]
    simp only [show c / 64 * 64 + c % 64 = c by omega, show (c + 128 - 112) % 128 = c + 16 by omega]
    rfl
  · simp only [h, if_false, ite_false]
    rw [at2_in x hr (show c / 64 * 64 + c % 64 < 128 by omega), at2_in x hr (show c - 16 < 128 by omega)]
    simp only [show c / 64 * 64 + c % 64 = c by omega, show (c + 128 - 16) % 128 = c - 16 by omega]
    rfl

/-! ## The body's block: eight heads beside one another -/

/-- The normalised queries of the eight heads, side by side. -/
def qn (x : Vec Ideal S256x512 .f32) (g : Vec Ideal S1x64 .f32) : FVec Ideal S256x512 .f32 :=
  concatenate S256x512 1 [
    ⟨S256x64, rmsQ (extractStridedSlice S256x64 ![0, 0] x slices_S256x512_o0_0_S256x64) g⟩,
    ⟨S256x64, rmsQ (extractStridedSlice S256x64 ![0, 64] x slices_S256x512_o0_64_S256x64) g⟩,
    ⟨S256x64, rmsQ (extractStridedSlice S256x64 ![0, 128] x slices_S256x512_o0_128_S256x64) g⟩,
    ⟨S256x64, rmsQ (extractStridedSlice S256x64 ![0, 192] x slices_S256x512_o0_192_S256x64) g⟩,
    ⟨S256x64, rmsQ (extractStridedSlice S256x64 ![0, 256] x slices_S256x512_o0_256_S256x64) g⟩,
    ⟨S256x64, rmsQ (extractStridedSlice S256x64 ![0, 320] x slices_S256x512_o0_320_S256x64) g⟩,
    ⟨S256x64, rmsQ (extractStridedSlice S256x64 ![0, 384] x slices_S256x512_o0_384_S256x64) g⟩,
    ⟨S256x64, rmsQ (extractStridedSlice S256x64 ![0, 448] x slices_S256x512_o0_448_S256x64) g⟩]
    concatenates_S256x64_S256x64_S256x64_S256x64_S256x64_S256x64_S256x64_S256x64_S256x512_d1

/-- The normalised keys of the two key heads, side by side. -/
def kn (x : Vec Ideal S1024x128 .f32) (g : Vec Ideal S1x64 .f32) : FVec Ideal S1024x128 .f32 :=
  concatenate S1024x128 1 [
    ⟨S1024x64, rmsK (extractStridedSlice S1024x64 ![0, 0] x slices_S1024x128_o0_0_S1024x64) g⟩,
    ⟨S1024x64, rmsK (extractStridedSlice S1024x64 ![0, 64] x slices_S1024x128_o0_64_S1024x64) g⟩]
    concatenates_S1024x64_S1024x64_S1024x128_d1

/-- The attention's block: eight heads, four to a key head. -/
def heads (Q : Vec Ideal S256x512 .f32) (K V : Vec Ideal S1024x128 .f32) (CK CV : Vec Ideal S1x256x128 .f32) : FVec Ideal S256x512 .f32 :=
  concatenate S256x512 1 [
    ⟨S256x64, head (extractStridedSlice S256x64 ![0, 0] Q slices_S256x512_o0_0_S256x64)
      (extractStridedSlice S1024x64 ![0, 0] K slices_S1024x128_o0_0_S1024x64)
      (extractStridedSlice S256x64 ![0, 0] (shapeCast S256x128 CK shapeCasts_S1x256x128_S256x128) slices_S256x128_o0_0_S256x64)
      (extractStridedSlice S1024x64 ![0, 0] V slices_S1024x128_o0_0_S1024x64)
      (extractStridedSlice S256x64 ![0, 0] (shapeCast S256x128 CV shapeCasts_S1x256x128_S256x128) slices_S256x128_o0_0_S256x64)⟩,
    ⟨S256x64, head (extractStridedSlice S256x64 ![0, 64] Q slices_S256x512_o0_64_S256x64)
      (extractStridedSlice S1024x64 ![0, 0] K slices_S1024x128_o0_0_S1024x64)
      (extractStridedSlice S256x64 ![0, 0] (shapeCast S256x128 CK shapeCasts_S1x256x128_S256x128) slices_S256x128_o0_0_S256x64)
      (extractStridedSlice S1024x64 ![0, 0] V slices_S1024x128_o0_0_S1024x64)
      (extractStridedSlice S256x64 ![0, 0] (shapeCast S256x128 CV shapeCasts_S1x256x128_S256x128) slices_S256x128_o0_0_S256x64)⟩,
    ⟨S256x64, head (extractStridedSlice S256x64 ![0, 128] Q slices_S256x512_o0_128_S256x64)
      (extractStridedSlice S1024x64 ![0, 0] K slices_S1024x128_o0_0_S1024x64)
      (extractStridedSlice S256x64 ![0, 0] (shapeCast S256x128 CK shapeCasts_S1x256x128_S256x128) slices_S256x128_o0_0_S256x64)
      (extractStridedSlice S1024x64 ![0, 0] V slices_S1024x128_o0_0_S1024x64)
      (extractStridedSlice S256x64 ![0, 0] (shapeCast S256x128 CV shapeCasts_S1x256x128_S256x128) slices_S256x128_o0_0_S256x64)⟩,
    ⟨S256x64, head (extractStridedSlice S256x64 ![0, 192] Q slices_S256x512_o0_192_S256x64)
      (extractStridedSlice S1024x64 ![0, 0] K slices_S1024x128_o0_0_S1024x64)
      (extractStridedSlice S256x64 ![0, 0] (shapeCast S256x128 CK shapeCasts_S1x256x128_S256x128) slices_S256x128_o0_0_S256x64)
      (extractStridedSlice S1024x64 ![0, 0] V slices_S1024x128_o0_0_S1024x64)
      (extractStridedSlice S256x64 ![0, 0] (shapeCast S256x128 CV shapeCasts_S1x256x128_S256x128) slices_S256x128_o0_0_S256x64)⟩,
    ⟨S256x64, head (extractStridedSlice S256x64 ![0, 256] Q slices_S256x512_o0_256_S256x64)
      (extractStridedSlice S1024x64 ![0, 64] K slices_S1024x128_o0_64_S1024x64)
      (extractStridedSlice S256x64 ![0, 64] (shapeCast S256x128 CK shapeCasts_S1x256x128_S256x128) slices_S256x128_o0_64_S256x64)
      (extractStridedSlice S1024x64 ![0, 64] V slices_S1024x128_o0_64_S1024x64)
      (extractStridedSlice S256x64 ![0, 64] (shapeCast S256x128 CV shapeCasts_S1x256x128_S256x128) slices_S256x128_o0_64_S256x64)⟩,
    ⟨S256x64, head (extractStridedSlice S256x64 ![0, 320] Q slices_S256x512_o0_320_S256x64)
      (extractStridedSlice S1024x64 ![0, 64] K slices_S1024x128_o0_64_S1024x64)
      (extractStridedSlice S256x64 ![0, 64] (shapeCast S256x128 CK shapeCasts_S1x256x128_S256x128) slices_S256x128_o0_64_S256x64)
      (extractStridedSlice S1024x64 ![0, 64] V slices_S1024x128_o0_64_S1024x64)
      (extractStridedSlice S256x64 ![0, 64] (shapeCast S256x128 CV shapeCasts_S1x256x128_S256x128) slices_S256x128_o0_64_S256x64)⟩,
    ⟨S256x64, head (extractStridedSlice S256x64 ![0, 384] Q slices_S256x512_o0_384_S256x64)
      (extractStridedSlice S1024x64 ![0, 64] K slices_S1024x128_o0_64_S1024x64)
      (extractStridedSlice S256x64 ![0, 64] (shapeCast S256x128 CK shapeCasts_S1x256x128_S256x128) slices_S256x128_o0_64_S256x64)
      (extractStridedSlice S1024x64 ![0, 64] V slices_S1024x128_o0_64_S1024x64)
      (extractStridedSlice S256x64 ![0, 64] (shapeCast S256x128 CV shapeCasts_S1x256x128_S256x128) slices_S256x128_o0_64_S256x64)⟩,
    ⟨S256x64, head (extractStridedSlice S256x64 ![0, 448] Q slices_S256x512_o0_448_S256x64)
      (extractStridedSlice S1024x64 ![0, 64] K slices_S1024x128_o0_64_S1024x64)
      (extractStridedSlice S256x64 ![0, 64] (shapeCast S256x128 CK shapeCasts_S1x256x128_S256x128) slices_S256x128_o0_64_S256x64)
      (extractStridedSlice S1024x64 ![0, 64] V slices_S1024x128_o0_64_S1024x64)
      (extractStridedSlice S256x64 ![0, 64] (shapeCast S256x128 CV shapeCasts_S1x256x128_S256x128) slices_S256x128_o0_64_S256x64)⟩]
    concatenates_S256x64_S256x64_S256x64_S256x64_S256x64_S256x64_S256x64_S256x64_S256x512_d1

/-- The offsets of a whole block are zero. -/
theorem hz : (![0, 0] : Fin 2 → Nat) = fun _ => 0 := funext fun a => by fin_cases a <;> rfl

/-- The same of three axes. -/
theorem hz3 : (![0, 0, 0] : Fin 3 → Nat) = fun _ => 0 := funext fun a => by fin_cases a <;> rfl

/-- What the body leaves in the output's block is the eight heads of the loaded blocks. -/
theorem out9_eq (x0 : Vec Ideal S256x768 .f32) (x1 : Vec Ideal S1024x768 .f32) (x2 x3 : Vec Ideal S1x256x128 .f32) (x4 : Vec Ideal S2x64 .f32)
    (x5 x6 : Vec Ideal S256x512 .f32) (x7 x8 : Vec Ideal S1024x128 .f32) :
    out0_9 x0 x1 x2 x3 x4 x5 x6 x7 x8
      = heads (rope256x512 (qn (View.ld x0 r0_0) (View.ld x4 r0_3)) x5 x6) (rope1024x128 (kn (View.ld x1 r0_1) (View.ld x4 r0_5)) x7 x8)
        (View.ld x1 r0_2) x2 x3 := by
  unfold_out out0_9
  rw [View.canon_unit_zero hz]
  have l2 : ∀ x : Vec Ideal S1x256x128 .f32, View.ld x r0_7 = x := fun x => View.ld_unit_zero (S := S1x256x128) hz3 _ x
  have l5 : ∀ x : Vec Ideal S256x512 .f32, View.ld x r0_4 = x := fun x => View.ld_unit_zero (S := S256x512) hz _ x
  have l7 : ∀ x : Vec Ideal S1024x128 .f32, View.ld x r0_6 = x := fun x => View.ld_unit_zero (S := S1024x128) hz _ x
  rw [l2, l2, l5, l5, l7, l7]
  rfl

end Cert.GqaIdeal.Head

end
-- ==== Proof.GqaBlock.lean ====
/-
  The latent grouped attention's block at an index, as a function of the blocks the body loads.
-/
module

public import proofs.«01_k».proof.Proof.GqaHead

@[expose] public section

set_option maxRecDepth 16384

noncomputable section

namespace Cert.GqaIdeal.Head

open Cert.GqaIdeal Cert.GqaIdeal.Gen Cert.Attn Idealize.ShloMosaic Idealize.ShloMosaic.TcCoe Idealize.SL.Sem
open Idealize.ShloMosaic.Pointwise
open scoped BigOperators

/-- Sixty-four columns of a block of `n` rows, from column `o` on. -/
def cols (n : ℕ) {b : ℕ} (x : (⟨2, ![n, b]⟩ : Shape).Idx → EReal) (o : ℕ) : FVec Ideal (⟨2, ![n, 64]⟩ : Shape) .f32 :=
  fun i => at2 x (i 0).val (o + (i 1).val)

/-- A slice of 64 columns is the columns from its offset on. -/
theorem slice256x512 (x : FVec Ideal S256x512 .f32) (o : ℕ) (h : S256x512.Slices ![0, o] S256x64) (ho : o + 64 ≤ 512) :
    extractStridedSlice S256x64 ![0, o] x h = cols 256 x o := by
  funext i
  have h0 : (i 0).val < 256 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- A slice of 64 columns is the columns from its offset on. -/
theorem slice1024x128 (x : FVec Ideal S1024x128 .f32) (o : ℕ) (h : S1024x128.Slices ![0, o] S1024x64) (ho : o + 64 ≤ 128) :
    extractStridedSlice S1024x64 ![0, o] x h = cols 1024 x o := by
  funext i
  have h0 : (i 0).val < 1024 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- A slice of 64 columns is the columns from its offset on. -/
theorem slice256x128 (x : FVec Ideal S256x128 .f32) (o : ℕ) (h : S256x128.Slices ![0, o] S256x64) (ho : o + 64 ≤ 128) :
    extractStridedSlice S256x64 ![0, o] x h = cols 256 x o := by
  funext i
  have h0 : (i 0).val < 256 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- The normalised queries at a row and a column. -/
theorem qn_apply (x : Vec Ideal S256x512 .f32) (g : Vec Ideal S1x64 .f32) (r c : ℕ) (hr : r < 256) (hc : c < 512) :
    at2 (qn x g) r c = normAt n64 eps (at2 x) (fun i => g (ix2 0 i)) r (c / 64 * 64) ⟨c % 64, Nat.mod_lt _ (by norm_num)⟩ := by
  rw [at2_in _ hr hc]
  unfold qn
  rw [slice256x512 _ 0 _ (by norm_num), slice256x512 _ 64 _ (by norm_num), slice256x512 _ 128 _ (by norm_num), slice256x512 _ 192 _ (by norm_num), slice256x512 _ 256 _ (by norm_num), slice256x512 _ 320 _ (by norm_num), slice256x512 _ 384 _ (by norm_num), slice256x512 _ 448 _ (by norm_num)]
  refine Eq.trans ?_ (rmsQ_apply (cols 256 x (c / 64 * 64)) g ⟨r, hr⟩ _)
  exact concatenate_ofFn_apply (t := S256x512) (s₁ := S256x64) (1 : Fin 2) (fun n : Fin 8 => rmsQ (cols 256 x (n.val * 64)) g) _ rfl 64 rfl
    (ix2 ⟨r, hr⟩ ⟨c, hc⟩) ⟨c / 64, by omega⟩ rfl (ix2 ⟨r, hr⟩ ⟨c % 64, _⟩) rfl
    (fun b hb => match b with | ⟨0, _⟩ => rfl | ⟨1, _⟩ => absurd rfl hb)

/-- The normalised keys at a row and a column. -/
theorem kn_apply (x : Vec Ideal S1024x128 .f32) (g : Vec Ideal S1x64 .f32) (r c : ℕ) (hr : r < 1024) (hc : c < 128) :
    at2 (kn x g) r c = normAt n64 eps (at2 x) (fun i => g (ix2 0 i)) r (c / 64 * 64) ⟨c % 64, Nat.mod_lt _ (by norm_num)⟩ := by
  rw [at2_in _ hr hc]
  unfold kn
  rw [slice1024x128 _ 0 _ (by norm_num), slice1024x128 _ 64 _ (by norm_num)]
  refine Eq.trans ?_ (rmsK_apply (cols 1024 x (c / 64 * 64)) g ⟨r, hr⟩ _)
  exact concatenate_ofFn_apply (t := S1024x128) (s₁ := S1024x64) (1 : Fin 2) (fun n : Fin 2 => rmsK (cols 1024 x (n.val * 64)) g) _ rfl 64 rfl
    (ix2 ⟨r, hr⟩ ⟨c, hc⟩) ⟨c / 64, by omega⟩ rfl (ix2 ⟨r, hr⟩ ⟨c % 64, _⟩) rfl
    (fun b hb => match b with | ⟨0, _⟩ => rfl | ⟨1, _⟩ => absurd rfl hb)

/-- Head `n` of the eight. -/
def headN (Q : Vec Ideal S256x512 .f32) (K V : Vec Ideal S1024x128 .f32) (CK CV : Vec Ideal S1x256x128 .f32) (n : Fin 8) :
    FVec Ideal S256x64 .f32 :=
  head (cols 256 Q (n.val * 64)) (cols 1024 K (n.val / 4 * 64)) (cols 256 (shapeCast S256x128 CK shapeCasts_S1x256x128_S256x128) (n.val / 4 * 64))
    (cols 1024 V (n.val / 4 * 64)) (cols 256 (shapeCast S256x128 CV shapeCasts_S1x256x128_S256x128) (n.val / 4 * 64))

/-- The block at a row and a column is the head its column names, at the column within it. -/
theorem heads_apply (Q : Vec Ideal S256x512 .f32) (K V : Vec Ideal S1024x128 .f32) (CK CV : Vec Ideal S1x256x128 .f32)
    (r : Fin 256) (c : Fin 512) :
    heads Q K V CK CV (ix2 r c)
      = headN Q K V CK CV ⟨c.val / 64, by omega⟩ (ix2 r ⟨c.val % 64, Nat.mod_lt _ (by norm_num)⟩) := by
  unfold heads
  rw [slice256x512 Q 0 _ (by norm_num)]
  rw [slice256x512 Q 64 _ (by norm_num)]
  rw [slice256x512 Q 128 _ (by norm_num)]
  rw [slice256x512 Q 192 _ (by norm_num)]
  rw [slice256x512 Q 256 _ (by norm_num)]
  rw [slice256x512 Q 320 _ (by norm_num)]
  rw [slice256x512 Q 384 _ (by norm_num)]
  rw [slice256x512 Q 448 _ (by norm_num)]
  rw [slice1024x128 K 0 _ (by norm_num)]
  rw [slice1024x128 K 64 _ (by norm_num)]
  rw [slice1024x128 V 0 _ (by norm_num)]
  rw [slice1024x128 V 64 _ (by norm_num)]
  rw [slice256x128 (shapeCast S256x128 CK shapeCasts_S1x256x128_S256x128) 0 _ (by norm_num)]
  rw [slice256x128 (shapeCast S256x128 CK shapeCasts_S1x256x128_S256x128) 64 _ (by norm_num)]
  rw [slice256x128 (shapeCast S256x128 CV shapeCasts_S1x256x128_S256x128) 0 _ (by norm_num)]
  rw [slice256x128 (shapeCast S256x128 CV shapeCasts_S1x256x128_S256x128) 64 _ (by norm_num)]
  exact concatenate_ofFn_apply (t := S256x512) (s₁ := S256x64) (1 : Fin 2) (headN Q K V CK CV) _ rfl 64 rfl
    (ix2 r c) ⟨c.val / 64, by omega⟩ rfl (ix2 r ⟨c.val % 64, _⟩) rfl
    (fun b hb => match b with | ⟨0, _⟩ => rfl | ⟨1, _⟩ => absurd rfl hb)

/-- The queries' columns of a block. -/
theorem ld_q (x : Vec Ideal S256x768 .f32) (r c : ℕ) (hr : r < 256) (hc : c < 512) : at2 (View.ld x r0_0) r c = at2 x r c := by
  rw [at2_in _ hr hc, at2_in _ hr (show c < 768 by omega)]
  pointwise

/-- The keys' columns of a sequence. -/
theorem ld_k (x : Vec Ideal S1024x768 .f32) (r c : ℕ) (hr : r < 1024) (hc : c < 128) : at2 (View.ld x r0_1) r c = at2 x r (512 + c) := by
  rw [at2_in _ hr hc, at2_in _ hr (show 512 + c < 768 by omega)]
  pointwise

/-- The values' columns of a sequence. -/
theorem ld_v (x : Vec Ideal S1024x768 .f32) (r c : ℕ) (hr : r < 1024) (hc : c < 128) : at2 (View.ld x r0_2) r c = at2 x r (640 + c) := by
  rw [at2_in _ hr hc, at2_in _ hr (show 640 + c < 768 by omega)]
  pointwise

/-- The queries' gain. -/
theorem ld_gq (x : Vec Ideal S2x64 .f32) (i : Fin 64) : View.ld x r0_3 (ix2 0 i) = x (ix2 0 i) := by pointwise

/-- The keys' gain. -/
theorem ld_gk (x : Vec Ideal S2x64 .f32) (i : Fin 64) : View.ld x r0_5 (ix2 0 i) = x (ix2 1 i) := by pointwise

/-- A block with a leading axis of one, read without it. -/
theorem cast_at (x : Vec Ideal S1x256x128 .f32) (r c : ℕ) (hr : r < 256) (hc : c < 128) :
    at2 (shapeCast S256x128 x shapeCasts_S1x256x128_S256x128) r c = x (ix3 0 ⟨r, hr⟩ ⟨c, hc⟩) := by
  rw [at2_in _ hr hc]
  pointwise

/-- A normalised head of finite numbers is finite. -/
theorem fine_norm (x : ℕ → ℕ → EReal) (g : Fin 64 → EReal) (R o : ℕ) (e : Fin 64) (hx : ∀ i j, Fine (x i j)) (hg : ∀ i, Fine (g i)) :
    Fine (normAt n64 eps x g R o e) := by
  obtain ⟨r, hr, he⟩ := eps_pos
  unfold normAt
  rw [show n64 = ((64 : ℝ) : EReal) from sixtyfour, show eps = (r : EReal) from he]
  exact fine_rmsn (by norm_num) hr _ _ (fun i => hx _ _) hg e

/-- A rotation depends only on the head's entries and the tables' row. -/
theorem rot_congr {C S C' S' : ℕ → ℕ → EReal} {x x' : Fin 64 → EReal} {e e' : Fin 64} (hC : C = C') (hS : S = S') (hx : ∀ i, x i = x' i)
    (he : e = e') : rot C S x e = rot C' S' x' e' := by
  subst hC; subst hS; subst he
  rw [show x = x' from funext hx]

section
variable (x0 : Vec Ideal S256x768 .f32) (x1 : Vec Ideal S1024x768 .f32) (x2 x3 : Vec Ideal S1x256x128 .f32) (x4 : Vec Ideal S2x64 .f32)
variable (x5 x6 : Vec Ideal S256x512 .f32) (x7 x8 : Vec Ideal S1024x128 .f32)
variable (X : ℕ → ℕ → EReal) (CK CV : ℕ → ℕ → ℕ → ℕ → EReal) (C S : ℕ → ℕ → ℕ → EReal) (B J : ℕ)

/-- A rotated query of a block. -/
theorem query_at (h0 : ∀ r c, r < 256 → c < 768 → at2 x0 r c = X (4096 + (B * 1024 + J * 256 + r)) c)
    (h5 : ∀ r c, r < 256 → c < 512 → at2 x5 r c = C (J * 256 + r) (c % 64 / 32) (c % 16))
    (h6 : ∀ r c, r < 256 → c < 512 → at2 x6 r c = if c % 32 < 16 then -S (J * 256 + r) (c % 64 / 32) (c % 16) else S (J * 256 + r) (c % 64 / 32) (c % 16))
    (r c : ℕ) (hr : r < 256) (hc : c < 512) :
    at2 (rope256x512 (qn (View.ld x0 r0_0) (View.ld x4 r0_3)) x5 x6) r c
      = rotAt n64 eps X (fun i => x4 (ix2 0 i)) C S (4096 + (B * 1024 + J * 256 + r)) (c / 64 * 64) (J * 256 + r) ⟨c % 64, Nat.mod_lt _ (by norm_num)⟩ := by
  rw [rope256x512_apply _ _ _ r c hr hc (C (J * 256 + r)) (S (J * 256 + r)) (h5 r c hr hc) (h6 r c hr hc)]
  refine rot_congr rfl rfl (fun e => ?_) rfl
  rw [qn_apply _ _ _ _ hr (by omega)]
  refine normAt_congr (fun i => ?_) (fun i => ld_gq x4 i) (Fin.ext ?_)
  · rw [ld_q _ _ _ hr (by omega), h0 _ _ hr (by omega), show (c / 64 * 64 + e.val) / 64 * 64 = c / 64 * 64 by omega]
  · show (c / 64 * 64 + e.val) % 64 = e.val
    omega

/-- A rotated key of a sequence. -/
theorem key_at (h1 : ∀ r c, r < 1024 → c < 768 → at2 x1 r c = X (4096 + B * 1024 + r) c)
    (h7 : ∀ r c, r < 1024 → c < 128 → at2 x7 r c = C r (c % 64 / 32) (c % 16))
    (h8 : ∀ r c, r < 1024 → c < 128 → at2 x8 r c = if c % 32 < 16 then -S r (c % 64 / 32) (c % 16) else S r (c % 64 / 32) (c % 16))
    (r c : ℕ) (hr : r < 1024) (hc : c < 128) :
    at2 (rope1024x128 (kn (View.ld x1 r0_1) (View.ld x4 r0_5)) x7 x8) r c
      = rotAt n64 eps X (fun i => x4 (ix2 1 i)) C S (4096 + B * 1024 + r) (512 + c / 64 * 64) r ⟨c % 64, Nat.mod_lt _ (by norm_num)⟩ := by
  rw [rope1024x128_apply _ _ _ r c hr hc (C r) (S r) (h7 r c hr hc) (h8 r c hr hc)]
  refine rot_congr rfl rfl (fun e => ?_) rfl
  rw [kn_apply _ _ _ _ hr (by omega)]
  refine normAt_congr (fun i => ?_) (fun i => ld_gk x4 i) (Fin.ext ?_)
  · rw [ld_k _ _ _ hr (by omega), h1 _ _ hr (by omega), show 512 + ((c / 64 * 64 + e.val) / 64 * 64 + i.val) = 512 + c / 64 * 64 + i.val by omega]
  · show (c / 64 * 64 + e.val) % 64 = e.val
    omega

/-- What the body leaves in the output's block. -/
theorem block9 (hJ : J < 4) (h0 : ∀ r c, r < 256 → c < 768 → at2 x0 r c = X (4096 + (B * 1024 + J * 256 + r)) c)
    (h1 : ∀ r c, r < 1024 → c < 768 → at2 x1 r c = X (4096 + B * 1024 + r) c)
    (h2 : ∀ (r : Fin 256) (c : Fin 128), x2 (ix3 0 r c) = CK B r.val (c.val / 64) (c.val % 64))
    (h3 : ∀ (r : Fin 256) (c : Fin 128), x3 (ix3 0 r c) = CV B r.val (c.val / 64) (c.val % 64))
    (h5 : ∀ r c, r < 256 → c < 512 → at2 x5 r c = C (J * 256 + r) (c % 64 / 32) (c % 16))
    (h6 : ∀ r c, r < 256 → c < 512 → at2 x6 r c = if c % 32 < 16 then -S (J * 256 + r) (c % 64 / 32) (c % 16) else S (J * 256 + r) (c % 64 / 32) (c % 16))
    (h7 : ∀ r c, r < 1024 → c < 128 → at2 x7 r c = C r (c % 64 / 32) (c % 16))
    (h8 : ∀ r c, r < 1024 → c < 128 → at2 x8 r c = if c % 32 < 16 then -S r (c % 64 / 32) (c % 16) else S r (c % 64 / 32) (c % 16))
    (fX : ∀ i j, Fine (X i j)) (fK : ∀ i j k l, Fine (CK i j k l)) (fg : ∀ i, Fine (x4 i)) (fC : ∀ i j k, Fine (C i j k))
    (fS : ∀ i j k, Fine (S i j k)) (r : Fin 256) (c : Fin 512) :
    out0_9 x0 x1 x2 x3 x4 x5 x6 x7 x8 (ix2 r c)
      = latAt c8 n64 eps X CK CV (fun i => x4 (ix2 0 i)) (fun i => x4 (ix2 1 i)) C S (B * 1024 + J * 256 + r.val) c.val := by
  have hr := r.isLt
  have hc := c.isLt
  have eB : (B * 1024 + J * 256 + r.val) / 1024 = B := by omega
  have eT : (B * 1024 + J * 256 + r.val) % 1024 = J * 256 + r.val := by omega
  have hq := query_at x0 x4 x5 x6 X C S B J h0 h5 h6
  have hk := key_at x1 x4 x7 x8 X C S B h1 h7 h8
  rw [out9_eq, heads_apply]
  unfold headN
  rw [head_apply]
  · unfold latAt latScore latValue
    rw [eB, eT]
    have q : ∀ e : Fin 64, cols 256 (rope256x512 (qn (View.ld x0 r0_0) (View.ld x4 r0_3)) x5 x6) (c.val / 64 * 64) (ix2 r e)
        = rotAt n64 eps X (fun i => x4 (ix2 0 i)) C S (4096 + (B * 1024 + J * 256 + r.val)) (c.val / 64 * 64) (J * 256 + r.val) e := fun e => by
      show at2 (rope256x512 _ _ _) r.val (c.val / 64 * 64 + e.val) = _
      rw [hq _ _ hr (by omega), show (c.val / 64 * 64 + e.val) / 64 * 64 = c.val / 64 * 64 by omega]
      exact congrArg _ (Fin.ext (by show (c.val / 64 * 64 + e.val) % 64 = e.val; omega))
    refine congrArg₂ soft (congrArg₂ (join _) (funext fun j => congrArg (· * c8) (Finset.sum_congr rfl fun e _ => congrArg₂ (· * ·) ?_ (q e)))
      (funext fun j => congrArg (· * c8) (Finset.sum_congr rfl fun e _ => congrArg₂ (· * ·) ?_ (q e))))
      (congrArg₂ (join _) (funext fun j => ?_) (funext fun j => ?_))
    · show at2 (rope1024x128 _ _ _) j.val (c.val / 64 / 4 * 64 + e.val) = _
      rw [hk _ _ j.isLt (by omega), show 512 + (c.val / 64 / 4 * 64 + e.val) / 64 * 64 = 512 + c.val / 256 * 64 by omega]
      exact congrArg _ (Fin.ext (by show (c.val / 64 / 4 * 64 + e.val) % 64 = e.val; omega))
    · show at2 (shapeCast S256x128 x2 shapeCasts_S1x256x128_S256x128) j.val (c.val / 64 / 4 * 64 + e.val) = _
      rw [cast_at _ _ _ j.isLt (by omega), h2]
      show CK B j.val ((c.val / 64 / 4 * 64 + e.val) / 64) ((c.val / 64 / 4 * 64 + e.val) % 64) = _
      rw [show (c.val / 64 / 4 * 64 + e.val) / 64 = c.val / 256 by omega, show (c.val / 64 / 4 * 64 + e.val) % 64 = e.val by omega]
    · show at2 (View.ld x1 r0_2) j.val (c.val / 64 / 4 * 64 + c.val % 64) = _
      rw [ld_v _ _ _ j.isLt (by omega), h1 _ _ j.isLt (by omega),
        show 640 + (c.val / 64 / 4 * 64 + c.val % 64) = 640 + c.val / 256 * 64 + c.val % 64 by omega]
    · show at2 (shapeCast S256x128 x3 shapeCasts_S1x256x128_S256x128) j.val (c.val / 64 / 4 * 64 + c.val % 64) = _
      rw [cast_at _ _ _ j.isLt (by omega), h3]
      show CV B j.val ((c.val / 64 / 4 * 64 + c.val % 64) / 64) ((c.val / 64 / 4 * 64 + c.val % 64) % 64) = _
      rw [show (c.val / 64 / 4 * 64 + c.val % 64) / 64 = c.val / 256 by omega, show (c.val / 64 / 4 * 64 + c.val % 64) % 64 = c.val % 64 by omega]
  · intro i
    have i0 : (i 0).val < 256 := (i 0).isLt
    have i1 : (i 1).val < 64 := (i 1).isLt
    show Fine (at2 (rope256x512 _ _ _) (i 0).val (c.val / 64 * 64 + (i 1).val))
    rw [hq _ _ i0 (by omega)]
    exact fine_rot (fC _) (fS _) (fun e => fine_norm _ _ _ _ _ fX fun i => fg _) _
  · intro i
    have i0 : (i 0).val < 1024 := (i 0).isLt
    have i1 : (i 1).val < 64 := (i 1).isLt
    show Fine (at2 (rope1024x128 _ _ _) (i 0).val (c.val / 64 / 4 * 64 + (i 1).val))
    rw [hk _ _ i0 (by omega)]
    exact fine_rot (fC _) (fS _) (fun e => fine_norm _ _ _ _ _ fX fun i => fg _) _
  · intro i
    have i0 : (i 0).val < 256 := (i 0).isLt
    have i1 : (i 1).val < 64 := (i 1).isLt
    show Fine (at2 (shapeCast S256x128 x2 shapeCasts_S1x256x128_S256x128) (i 0).val (c.val / 64 / 4 * 64 + (i 1).val))
    rw [cast_at _ _ _ i0 (by omega), h2]
    exact fK _ _ _ _

end

end Cert.GqaIdeal.Head

end
-- ==== Proof.GqaHost.lean ====
/-
  What the host prepares for the latent grouped attention: the caches' rows and the rotation's tables, one row a position.
-/
module

public import proofs.«01_k».proof.Proof.Gen.GqaIdeal.Value
public import proofs.«01_k».proof.Proof.GqaBlock

@[expose] public section

set_option maxRecDepth 16384

noncomputable section

namespace Cert.GqaIdeal.Head

open Cert.GqaIdeal Cert.GqaIdeal.Gen Cert.Attn Idealize.ShloMosaic Idealize.ShloMosaic.TcCoe Idealize.SL.Sem Idealize.ShloMosaic.StableHlo
open Idealize.ShloMosaic.Pipeline (Dat)
open Idealize.ShloMosaic.Pointwise
open scoped BigOperators

variable (m : (ℓ : Loc nD τ sig) → Buf (Elt Ideal) ℓ)

/-- The projected heads. -/
abbrev a0 (c : Dev nD) : FVec Ideal S8192x768 .f32 := m ((c : Thread nD τ).loc main_arg0)
/-- The cached keys. -/
abbrev a1 (c : Dev nD) : FVec Ideal S4x256x2x64 .f32 := m ((c : Thread nD τ).loc main_arg1)
/-- The cached values. -/
abbrev a2 (c : Dev nD) : FVec Ideal S4x256x2x64 .f32 := m ((c : Thread nD τ).loc main_arg2)
/-- The gains. -/
abbrev a3 (c : Dev nD) : FVec Ideal S2x64 .f32 := m ((c : Thread nD τ).loc main_arg3)
/-- The cosines. -/
abbrev a4 (c : Dev nD) : FVec Ideal S1024x2x16 .f32 := m ((c : Thread nD τ).loc main_arg4)
/-- The sines. -/
abbrev a5 (c : Dev nD) : FVec Ideal S1024x2x16 .f32 := m ((c : Thread nD τ).loc main_arg5)

/-- One half's table, a row a position. -/
def half0 (w : FVec Ideal S1024x2x16 .f32) : FVec Ideal S1024x16 .f32 := shapeCast S1024x16 (extractStridedSlice S1024x1x16 ![0, 0, 0] w slices_S1024x2x16_S1024x1x16_0_0_0) shapeCasts_S1024x1x16_S1024x16

/-- The other half's table. -/
def half1 (w : FVec Ideal S1024x2x16 .f32) : FVec Ideal S1024x16 .f32 := shapeCast S1024x16 (extractStridedSlice S1024x1x16 ![0, 1, 0] w slices_S1024x2x16_S1024x1x16_0_1_0) shapeCasts_S1024x1x16_S1024x16

/-- The cosines of a head of 64, each half's table twice. -/
def cosHead (w : FVec Ideal S1024x2x16 .f32) : FVec Ideal S1024x64 .f32 :=
  concatenate S1024x64 1 [⟨S1024x16, half0 w⟩, ⟨S1024x16, half0 w⟩, ⟨S1024x16, half1 w⟩, ⟨S1024x16, half1 w⟩] concatenates_S1024x16_S1024x16_S1024x16_S1024x16_S1024x64_d1

/-- The sines of a head of 64, each half's table negated and then plain. -/
def sinHead (w : FVec Ideal S1024x2x16 .f32) : FVec Ideal S1024x64 .f32 :=
  concatenate S1024x64 1 [⟨S1024x16, Host.negf (half0 w)⟩, ⟨S1024x16, half0 w⟩, ⟨S1024x16, Host.negf (half1 w)⟩, ⟨S1024x16, half1 w⟩] concatenates_S1024x16_S1024x16_S1024x16_S1024x16_S1024x64_d1

/-- A head's table for eight heads. -/
def tile8 (w : FVec Ideal S1024x64 .f32) : FVec Ideal S1024x512 .f32 :=
  shapeCast S1024x512 (broadcastInDim S1x1024x8x64 ![0, 1, 2, 3] bcast_S1x1024x1x64_S1x1024x8x64_0_1_2_3 (shapeCast S1x1024x1x64 w shapeCasts_S1024x64_S1x1024x1x64)) shapeCasts_S1x1024x8x64_S1024x512

/-- A head's table for two heads. -/
def tile2 (w : FVec Ideal S1024x64 .f32) : FVec Ideal S1024x128 .f32 :=
  shapeCast S1024x128 (broadcastInDim S1x1024x2x64 ![0, 1, 2, 3] bcast_S1x1024x1x64_S1x1024x2x64_0_1_2_3 (shapeCast S1x1024x1x64 w shapeCasts_S1024x64_S1x1024x1x64)) shapeCasts_S1x1024x2x64_S1024x128

/-- A cosine of a head. -/
theorem cosHead_at (w : FVec Ideal S1024x2x16 .f32) (p : Fin 1024) (e : Fin 64) :
    cosHead w (ix2 p e) = at3 w p.val (e.val / 32) (e.val % 16) := by
  have he := e.isLt
  rw [at3_in _ p.isLt (show e.val / 32 < 2 by omega) (show e.val % 16 < 16 by omega)]
  unfold cosHead half0 half1
  pointwise
  have key : ∀ (a : Fin 2) (b : Fin 16), a.val = e.val / 32 → b.val = e.val % 16 →
      w (ix3 p a b) = w (ix3 p ⟨e.val / 32, by omega⟩ ⟨e.val % 16, Nat.mod_lt _ (by norm_num)⟩) := fun a b ha hb =>
    congrArg₂ (fun a b => w (ix3 p a b)) (Fin.ext ha) (Fin.ext hb)
  by_cases h0 : e.val < 16
  · rw [dif_pos h0]
    exact key 0 _ (show 0 = e.val / 32 by omega) (show e.val = e.val % 16 by omega)
  by_cases h1 : e.val - 16 < 16
  · rw [dif_neg h0, dif_pos h1]
    exact key 0 _ (show 0 = e.val / 32 by omega) (show e.val - 16 = e.val % 16 by omega)
  by_cases h2 : e.val - 16 - 16 < 16
  · rw [dif_neg h0, dif_neg h1, dif_pos h2]
    exact key 1 _ (show 1 = e.val / 32 by omega) (show e.val - 16 - 16 = e.val % 16 by omega)
  · rw [dif_neg h0, dif_neg h1, dif_neg h2]
    exact key 1 _ (show 1 = e.val / 32 by omega) (show e.val - 16 - 16 - 16 = e.val % 16 by omega)

/-- A sine of a head. -/
theorem sinHead_at (w : FVec Ideal S1024x2x16 .f32) (p : Fin 1024) (e : Fin 64) :
    sinHead w (ix2 p e) = if e.val % 32 < 16 then -at3 w p.val (e.val / 32) (e.val % 16) else at3 w p.val (e.val / 32) (e.val % 16) := by
  have he := e.isLt
  rw [at3_in _ p.isLt (show e.val / 32 < 2 by omega) (show e.val % 16 < 16 by omega)]
  unfold sinHead half0 half1
  pointwise
  have key : ∀ (a : Fin 2) (b : Fin 16), a.val = e.val / 32 → b.val = e.val % 16 →
      w (ix3 p a b) = w (ix3 p ⟨e.val / 32, by omega⟩ ⟨e.val % 16, Nat.mod_lt _ (by norm_num)⟩) := fun a b ha hb =>
    congrArg₂ (fun a b => w (ix3 p a b)) (Fin.ext ha) (Fin.ext hb)
  by_cases h0 : e.val < 16
  · rw [dif_pos h0, if_pos (show e.val % 32 < 16 by omega)]
    exact congrArg Neg.neg (key 0 _ (show 0 = e.val / 32 by omega) (show e.val = e.val % 16 by omega))
  by_cases h1 : e.val - 16 < 16
  · rw [dif_neg h0, dif_pos h1, if_neg (show ¬e.val % 32 < 16 by omega)]
    exact key 0 _ (show 0 = e.val / 32 by omega) (show e.val - 16 = e.val % 16 by omega)
  by_cases h2 : e.val - 16 - 16 < 16
  · rw [dif_neg h0, dif_neg h1, dif_pos h2, if_pos (show e.val % 32 < 16 by omega)]
    exact congrArg Neg.neg (key 1 _ (show 1 = e.val / 32 by omega) (show e.val - 16 - 16 = e.val % 16 by omega))
  · rw [dif_neg h0, dif_neg h1, dif_neg h2, if_neg (show ¬e.val % 32 < 16 by omega)]
    exact key 1 _ (show 1 = e.val / 32 by omega) (show e.val - 16 - 16 - 16 = e.val % 16 by omega)

/-- The eight heads' table at a position and a column. -/
theorem tile8_at (w : FVec Ideal S1024x64 .f32) (p : Fin 1024) (c : Fin 512) :
    tile8 w (ix2 p c) = w (ix2 p ⟨c.val % 64, Nat.mod_lt _ (by norm_num)⟩) := by
  unfold tile8
  pointwise

/-- The two heads' table at a position and a column. -/
theorem tile2_at (w : FVec Ideal S1024x64 .f32) (p : Fin 1024) (c : Fin 128) :
    tile2 w (ix2 p c) = w (ix2 p ⟨c.val % 64, Nat.mod_lt _ (by norm_num)⟩) := by
  unfold tile2
  pointwise

/-- The cached keys' rows. -/
theorem V20 (c : Dev nD) : (V m c main_v20 : FVec Ideal S4x256x128 .f32) = shapeCast S4x256x128 (a1 m c) shapeCasts_S4x256x2x64_S4x256x128 := by
  unfold V
  simp only [hostOps0, List.flatten_cons, List.flatten_nil, List.append_nil, List.cons_append, List.nil_append, TRef.binary, TRef.unary, TRef.toBuf, TRef.ofBuf, cast_eq]
  after_results_simp <;> rfl

/-- The cached keys'' entry. -/
theorem V20_at (c : Dev nD) (b : Fin 4) (r : Fin 256) (k : Fin 128) :
    (V m c main_v20 : FVec Ideal S4x256x128 .f32) (ix3 b r k) = at4 (a1 m c) b.val r.val (k.val / 64) (k.val % 64) := by
  rw [V20, at4_in _ b.isLt r.isLt (show k.val / 64 < 2 by omega) (Nat.mod_lt _ (by norm_num))]
  generalize a1 m c = w
  pointwise

/-- The cached values' rows. -/
theorem V21 (c : Dev nD) : (V m c main_v21 : FVec Ideal S4x256x128 .f32) = shapeCast S4x256x128 (a2 m c) shapeCasts_S4x256x2x64_S4x256x128 := by
  unfold V
  simp only [hostOps0, List.flatten_cons, List.flatten_nil, List.append_nil, List.cons_append, List.nil_append, TRef.binary, TRef.unary, TRef.toBuf, TRef.ofBuf, cast_eq]
  after_results_simp <;> rfl

/-- The cached values'' entry. -/
theorem V21_at (c : Dev nD) (b : Fin 4) (r : Fin 256) (k : Fin 128) :
    (V m c main_v21 : FVec Ideal S4x256x128 .f32) (ix3 b r k) = at4 (a2 m c) b.val r.val (k.val / 64) (k.val % 64) := by
  rw [V21, at4_in _ b.isLt r.isLt (show k.val / 64 < 2 by omega) (Nat.mod_lt _ (by norm_num))]
  generalize a2 m c = w
  pointwise

/-- The queries' cosines. -/
theorem V24 (c : Dev nD) : (V m c main_v24 : FVec Ideal S1024x512 .f32) = tile8 (cosHead (a4 m c)) := by
  unfold V
  simp only [hostOps0, List.flatten_cons, List.flatten_nil, List.append_nil, List.cons_append, List.nil_append, TRef.binary, TRef.unary, TRef.toBuf, TRef.ofBuf, cast_eq]
  after_results_simp <;> rfl

/-- The queries' cosines at a position and a column. -/
theorem V24_at (c : Dev nD) (p : Fin 1024) (k : Fin 512) :
    (V m c main_v24 : FVec Ideal S1024x512 .f32) (ix2 p k) = at3 (a4 m c) p.val (k.val % 64 / 32) (k.val % 16) := by
  rw [V24, tile8_at, cosHead_at]
  simp only [show k.val % 64 % 16 = k.val % 16 by omega, show k.val % 64 % 32 = k.val % 32 by omega]

/-- The queries' sines. -/
theorem V27 (c : Dev nD) : (V m c main_v27 : FVec Ideal S1024x512 .f32) = tile8 (sinHead (a5 m c)) := by
  unfold V
  simp only [hostOps0, List.flatten_cons, List.flatten_nil, List.append_nil, List.cons_append, List.nil_append, TRef.binary, TRef.unary, TRef.toBuf, TRef.ofBuf, cast_eq]
  after_results_simp <;> rfl

/-- The queries' sines at a position and a column. -/
theorem V27_at (c : Dev nD) (p : Fin 1024) (k : Fin 512) :
    (V m c main_v27 : FVec Ideal S1024x512 .f32) (ix2 p k) = if k.val % 32 < 16 then -at3 (a5 m c) p.val (k.val % 64 / 32) (k.val % 16) else at3 (a5 m c) p.val (k.val % 64 / 32) (k.val % 16) := by
  rw [V27, tile8_at, sinHead_at]
  simp only [show k.val % 64 % 16 = k.val % 16 by omega, show k.val % 64 % 32 = k.val % 32 by omega]

/-- The keys' cosines. -/
theorem V30 (c : Dev nD) : (V m c main_v30 : FVec Ideal S1024x128 .f32) = tile2 (cosHead (a4 m c)) := by
  unfold V
  simp only [hostOps0, List.flatten_cons, List.flatten_nil, List.append_nil, List.cons_append, List.nil_append, TRef.binary, TRef.unary, TRef.toBuf, TRef.ofBuf, cast_eq]
  after_results_simp <;> rfl

/-- The keys' cosines at a position and a column. -/
theorem V30_at (c : Dev nD) (p : Fin 1024) (k : Fin 128) :
    (V m c main_v30 : FVec Ideal S1024x128 .f32) (ix2 p k) = at3 (a4 m c) p.val (k.val % 64 / 32) (k.val % 16) := by
  rw [V30, tile2_at, cosHead_at]
  simp only [show k.val % 64 % 16 = k.val % 16 by omega, show k.val % 64 % 32 = k.val % 32 by omega]

/-- The keys' sines. -/
theorem V33 (c : Dev nD) : (V m c main_v33 : FVec Ideal S1024x128 .f32) = tile2 (sinHead (a5 m c)) := by
  unfold V
  simp only [hostOps0, List.flatten_cons, List.flatten_nil, List.append_nil, List.cons_append, List.nil_append, TRef.binary, TRef.unary, TRef.toBuf, TRef.ofBuf, cast_eq]
  after_results_simp <;> rfl

/-- The keys' sines at a position and a column. -/
theorem V33_at (c : Dev nD) (p : Fin 1024) (k : Fin 128) :
    (V m c main_v33 : FVec Ideal S1024x128 .f32) (ix2 p k) = if k.val % 32 < 16 then -at3 (a5 m c) p.val (k.val % 64 / 32) (k.val % 16) else at3 (a5 m c) p.val (k.val % 64 / 32) (k.val % 16) := by
  rw [V33, tile2_at, sinHead_at]
  simp only [show k.val % 64 % 16 = k.val % 16 by omega, show k.val % 64 % 32 = k.val % 32 by omega]

end Cert.GqaIdeal.Head

end
-- ==== Proof.GqaValue.lean ====
/-
  The latent grouped attention's kernel as one function of its argument arrays: what a grid point leaves in its output
  block, and the result array after the run.
-/
module

public import proofs.«01_k».proof.Proof.GqaHost
public import Idealize.ShloMosaic.Lib.Pipeline.ValueKit

@[expose] public section

set_option maxRecDepth 16384

noncomputable section

namespace Cert.GqaIdeal.Head

open Cert.GqaIdeal Cert.GqaIdeal.Gen Cert.Attn Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The windows' block indices. -/
theorem idx : ∀ t : Fin cfg0.N, win0_0.index t = ![16 + t.val, 0] ∧ win0_1.index t = ![4 + t.val / 4, 0]
    ∧ win0_2.index t = ![t.val / 4, 0, 0] ∧ win0_3.index t = ![t.val / 4, 0, 0] ∧ win0_4.index t = ![0, 0]
    ∧ win0_5.index t = ![t.val % 4, 0] ∧ win0_6.index t = ![t.val % 4, 0] ∧ win0_7.index t = ![0, 0] ∧ win0_8.index t = ![0, 0]
    ∧ win0_9.index t = ![t.val, 0] :=
  (by decide +kernel : ∀ t : Fin grid0.N, _)

/-- There are sixteen points. -/
theorem lt16 (t : Fin cfg0.N) : t.val < 16 := by
  have h := t.isLt
  have e : cfg0.N = 16 := N_0
  omega

/-- A point's block of query rows. -/
theorem iblk0 (c : Dev nD) (t : Fin cfg0.N) (r k : ℕ) (hr : r < 256) (hk : k < 768) :
    at2 (a := 256) (b := 768) (iblk m c 0 t) r k = at2 (a0 m c) (4096 + (t.val / 4 * 1024 + t.val % 4 * 256 + r)) k := by
  have ht := lt16 t
  rw [show 4096 + (t.val / 4 * 1024 + t.val % 4 * 256 + r) = (16 + t.val) * 256 + r by omega,
    at2_in _ hr hk, at2_in _ (show (16 + t.val) * 256 + r < 8192 by omega) hk]
  blk_ext! [iblk, V, idx t]

/-- A point's sequence of key and value rows. -/
theorem iblk1 (c : Dev nD) (t : Fin cfg0.N) (r k : ℕ) (hr : r < 1024) (hk : k < 768) :
    at2 (a := 1024) (b := 768) (iblk m c 1 t) r k = at2 (a0 m c) (4096 + t.val / 4 * 1024 + r) k := by
  have ht := lt16 t
  rw [show 4096 + t.val / 4 * 1024 + r = (4 + t.val / 4) * 1024 + r by omega,
    at2_in _ hr hk, at2_in _ (show (4 + t.val / 4) * 1024 + r < 8192 by omega) hk]
  blk_ext! [iblk, V, idx t]

/-- The gains' block is the argument. -/
theorem iblk4 (c : Dev nD) (t : Fin cfg0.N) : iblk m c 4 t = a3 m c := by
  blk_ext! [iblk, V, idx t]

/-- A point's cached keys. -/
theorem iblk2 (c : Dev nD) (t : Fin cfg0.N) (r : Fin 256) (k : Fin 128) :
    (iblk m c 2 t : Vec Ideal S1x256x128 .f32) (ix3 0 r k) = at4 (a1 m c) (t.val / 4) r.val (k.val / 64) (k.val % 64) := by
  have ht := lt16 t
  have e : (iblk m c 2 t : Vec Ideal S1x256x128 .f32) (ix3 0 r k)
      = (V m c main_v20 : FVec Ideal S4x256x128 .f32) (ix3 ⟨t.val / 4, by omega⟩ r k) := by
    blk_ext! [iblk, idx t]
  exact e.trans (V20_at m c _ r k)

/-- A point's cached values. -/
theorem iblk3 (c : Dev nD) (t : Fin cfg0.N) (r : Fin 256) (k : Fin 128) :
    (iblk m c 3 t : Vec Ideal S1x256x128 .f32) (ix3 0 r k) = at4 (a2 m c) (t.val / 4) r.val (k.val / 64) (k.val % 64) := by
  have ht := lt16 t
  have e : (iblk m c 3 t : Vec Ideal S1x256x128 .f32) (ix3 0 r k)
      = (V m c main_v21 : FVec Ideal S4x256x128 .f32) (ix3 ⟨t.val / 4, by omega⟩ r k) := by
    blk_ext! [iblk, idx t]
  exact e.trans (V21_at m c _ r k)

/-- A point's cosines for the queries. -/
theorem iblk5 (c : Dev nD) (t : Fin cfg0.N) (r k : ℕ) (hr : r < 256) (hk : k < 512) :
    at2 (a := 256) (b := 512) (iblk m c 5 t) r k = at3 (a4 m c) (t.val % 4 * 256 + r) (k % 64 / 32) (k % 16) := by
  have ht := lt16 t
  have e : at2 (a := 256) (b := 512) (iblk m c 5 t) r k
      = (V m c main_v24 : FVec Ideal S1024x512 .f32) (ix2 ⟨t.val % 4 * 256 + r, by omega⟩ ⟨k, hk⟩) := by
    rw [at2_in _ hr hk]
    blk_ext! [iblk, idx t]
  exact e.trans (V24_at m c _ _)

/-- A point's sinines for the queries. -/
theorem iblk6 (c : Dev nD) (t : Fin cfg0.N) (r k : ℕ) (hr : r < 256) (hk : k < 512) :
    at2 (a := 256) (b := 512) (iblk m c 6 t) r k = if k % 32 < 16 then -at3 (a5 m c) (t.val % 4 * 256 + r) (k % 64 / 32) (k % 16) else at3 (a5 m c) (t.val % 4 * 256 + r) (k % 64 / 32) (k % 16) := by
  have ht := lt16 t
  have e : at2 (a := 256) (b := 512) (iblk m c 6 t) r k
      = (V m c main_v27 : FVec Ideal S1024x512 .f32) (ix2 ⟨t.val % 4 * 256 + r, by omega⟩ ⟨k, hk⟩) := by
    rw [at2_in _ hr hk]
    blk_ext! [iblk, idx t]
  exact e.trans (V27_at m c _ _)

/-- The keys' cosines. -/
theorem iblk7 (c : Dev nD) (t : Fin cfg0.N) (r k : ℕ) (hr : r < 1024) (hk : k < 128) :
    at2 (a := 1024) (b := 128) (iblk m c 7 t) r k = at3 (a4 m c) r (k % 64 / 32) (k % 16) := by
  have e : at2 (a := 1024) (b := 128) (iblk m c 7 t) r k = (V m c main_v30 : FVec Ideal S1024x128 .f32) (ix2 ⟨r, hr⟩ ⟨k, hk⟩) := by
    rw [at2_in _ hr hk]
    blk_ext! [iblk, idx t]
  exact e.trans (V30_at m c _ _)

/-- The keys' sinines. -/
theorem iblk8 (c : Dev nD) (t : Fin cfg0.N) (r k : ℕ) (hr : r < 1024) (hk : k < 128) :
    at2 (a := 1024) (b := 128) (iblk m c 8 t) r k = if k % 32 < 16 then -at3 (a5 m c) r (k % 64 / 32) (k % 16) else at3 (a5 m c) r (k % 64 / 32) (k % 16) := by
  have e : at2 (a := 1024) (b := 128) (iblk m c 8 t) r k = (V m c main_v33 : FVec Ideal S1024x128 .f32) (ix2 ⟨r, hr⟩ ⟨k, hk⟩) := by
    rw [at2_in _ hr hk]
    blk_ext! [iblk, idx t]
  exact e.trans (V33_at m c _ _)

/-- What the output holds after the run. -/
def G9 (c : Dev nD) : FVec Ideal S4096x512 .f32 := fun i =>
  latAt c8 n64 eps (at2 (a0 m c)) (at4 (a1 m c)) (at4 (a2 m c)) (fun e => a3 m c (ix2 0 e)) (fun e => a3 m c (ix2 1 e))
    (at3 (a4 m c)) (at3 (a5 m c)) (i 0).val (i 1).val

/-- The arguments the scores are made of are finite. -/
def Finite (c : Dev nD) : Prop :=
  (∀ i, Fine (a0 m c i)) ∧ (∀ i, Fine (a1 m c i)) ∧ (∀ i, Fine (a3 m c i)) ∧ (∀ i, Fine (a4 m c i)) ∧ ∀ i, Fine (a5 m c i)

/-- The output after the run. -/
theorem final9 (c : Dev nD) (h : Finite m c) : (dats m 0 c).arrAt 9 cfg0.N = G9 m c := by
  obtain ⟨f0, f1, f3, f4, f5⟩ := h
  refine (dats m 0 c).arrAt_eq_of_covers 9 (G9 m c) (by decide +kernel) (fun t hf y => ?_)
  rw [after0_9]
  blk_simp
  have ht := lt16 t
  have y0 : (y 0).val < 256 := (y 0).isLt
  have y1 : (y 1).val < 512 := (y 1).isLt
  have ey : y = ix2 ⟨(y 0).val, y0⟩ ⟨(y 1).val, y1⟩ := by blk_ext
  have ee : (win0_9.blk t).view.emb y = ix2 ⟨t.val * 256 + (y 0).val, show t.val * 256 + (y 0).val < 4096 by omega⟩ ⟨(y 1).val, y1⟩ := by
    blk_ext [idx t]
  rw [ee, iblk4]
  refine (congrArg _ ey).trans ?_
  refine (block9 _ _ _ _ _ _ _ _ _ (at2 (a0 m c)) (at4 (a1 m c)) (at4 (a2 m c)) (at3 (a4 m c)) (at3 (a5 m c)) (t.val / 4) (t.val % 4)
    (Nat.mod_lt _ (by norm_num)) (fun r k hr hk => iblk0 m c t r k hr hk) (fun r k hr hk => iblk1 m c t r k hr hk)
    (fun r k => iblk2 m c t r k) (fun r k => iblk3 m c t r k) (fun r k hr hk => iblk5 m c t r k hr hk) (fun r k hr hk => iblk6 m c t r k hr hk)
    (fun r k hr hk => iblk7 m c t r k hr hk) (fun r k hr hk => iblk8 m c t r k hr hk)
    (fine_at2 _ f0) (fine_at4 _ f1) f3 (fine_at3 _ f4) (fine_at3 _ f5) ⟨(y 0).val, y0⟩ ⟨(y 1).val, y1⟩).trans ?_
  show latAt _ _ _ _ _ _ _ _ _ _ (t.val / 4 * 1024 + t.val % 4 * 256 + (y 0).val) (y 1).val
    = latAt _ _ _ _ _ _ _ _ _ _ (t.val * 256 + (y 0).val) (y 1).val
  rw [show t.val / 4 * 1024 + t.val % 4 * 256 + (y 0).val = t.val * 256 + (y 0).val by omega]

/-- The run: the result array, the arguments unchanged. -/
theorem run (h : ∀ c, Finite m c) :
    θ_run defs (onTc (τ := τ) (main (F := Ideal))) ⟨m, fun _ => 0, ρ⟩ fun r => ∀ c : Dev nD,
      r.2.mem ((c : Thread nD τ).loc main_v34) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨(hr c).1.trans (final9 m c (h c)), (hr c).2⟩)
    (Value.run_blocks m ρ)

end Cert.GqaIdeal.Head

end
-- ==== Proof.GqaRead.lean ====
/-
  The reference of the latent grouped attention, read at a row and a column.
-/
module

public import proofs.«01_k».proof.Proof.Gen.GqaRefIdeal.Read
public import proofs.«01_k».proof.Proof.GqaSpec

@[expose] public section

set_option maxRecDepth 16384

noncomputable section

namespace Cert.GqaRefIdeal.At

open Cert.GqaRefIdeal Cert.GqaRefIdeal.Gen Cert.GqaRefIdeal.Read Cert.Attn Idealize.ShloMosaic Idealize.ShloMosaic.TcCoe Idealize.SL.Sem
open Idealize.ShloMosaic.Pointwise
open scoped BigOperators

/-- An entry at its own natural indices. -/
theorem at3_val {a b c : ℕ} (x : (⟨3, ![a, b, c]⟩ : Shape).Idx → EReal) (i : Fin a) (j : Fin b) (k : Fin c) :
    at3 x i.val j.val k.val = x (ix3 i j k) := at3_in x i.isLt j.isLt k.isLt

/-- An entry at its own natural indices. -/
theorem at4_val {a b c d : ℕ} (x : (⟨4, ![a, b, c, d]⟩ : Shape).Idx → EReal) (i : Fin a) (j : Fin b) (k : Fin c) (l : Fin d) :
    at4 x i.val j.val k.val l.val = x (ix4 i j k l) := at4_in x i.isLt j.isLt k.isLt l.isLt

/-- A normalised query. -/
theorem queries (x0 : FVec Ideal S8192x768 .f32) (x3 : FVec Ideal S2x64 .f32) (b : Fin 4) (p : Fin 1024) (h : Fin 8) (e : Fin 64) :
    val_main_v21 (F := Ideal) x0 x3 (ix4 b p h e)
      = normAt n64 eps (at2 x0) (fun i => x3 (ix2 0 i)) (4096 + (b.val * 1024 + p.val)) (h.val * 64) e := by
  unfold val_main_v21 val_main_v20 val_main_v19 val_main_v18 val_main_v17 val_main_v16 val_main_v15 val_main_v14 val_main_v13 val_main_v12 val_main_v11 val_main_v10 val_main_v9 val_main_v8 val_main_v7 val_main_v2 val_main_v1 val_main_v0 val_main_cst val_main_cst_0 val_main_cst_1
  pointwise
  simp only [← at2_val x0]
  rfl

/-- A normalised key. -/
theorem keys (x0 : FVec Ideal S8192x768 .f32) (x3 : FVec Ideal S2x64 .f32) (b : Fin 4) (p : Fin 1024) (h : Fin 2) (e : Fin 64) :
    val_main_v57 (F := Ideal) x0 x3 (ix4 b p h e)
      = normAt n64 eps (at2 x0) (fun i => x3 (ix2 1 i)) (4096 + (b.val * 1024 + p.val)) (512 + h.val * 64) e := by
  unfold val_main_v57 val_main_v56 val_main_v55 val_main_v54 val_main_v53 val_main_v52 val_main_v51 val_main_v50 val_main_v49 val_main_v48 val_main_v47 val_main_v46 val_main_v45 val_main_v44 val_main_v43 val_main_v4 val_main_v3 val_main_v0 val_main_cst_2 val_main_cst_3 val_main_cst_4
  pointwise
  simp only [← at2_val x0]
  simp only [normAt, rmsn, Nat.add_assoc]

/-- A rotated query. -/
theorem rotQ (x0 : FVec Ideal S8192x768 .f32) (x3 : FVec Ideal S2x64 .f32) (x4 x5 : FVec Ideal S1024x2x16 .f32) (b : Fin 4) (p : Fin 1024)
    (h : Fin 8) (e : Fin 64) :
    val_main_v42 (F := Ideal) x0 x3 x4 x5 (ix4 b p h e)
      = rot (at3 x4 p.val) (at3 x5 p.val) (fun i => val_main_v21 (F := Ideal) x0 x3 (ix4 b p h i)) e := by
  unfold val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22
  generalize val_main_v21 (F := Ideal) x0 x3 = y
  pointwise
  unfold rot
  simp only [← at3_val]
  have he := e.isLt
  by_cases h1 : e.val % 32 < 16
  · rw [dif_pos (show e.val / 16 % 2 < 1 by omega), dif_pos h1]
    simp only [show e.val / 32 * 32 + e.val % 16 = e.val by omega, show e.val / 32 * 32 + 16 + e.val % 16 = e.val + 16 by omega, Fin.eta]
  · rw [dif_neg (show ¬e.val / 16 % 2 < 1 by omega), dif_neg h1]
    simp only [show e.val / 32 * 32 + e.val % 16 = e.val - 16 by omega, show e.val / 32 * 32 + 16 + e.val % 16 = e.val by omega, Fin.eta]

/-- A rotated key. -/
theorem rotK (x0 : FVec Ideal S8192x768 .f32) (x3 : FVec Ideal S2x64 .f32) (x4 x5 : FVec Ideal S1024x2x16 .f32) (b : Fin 4) (p : Fin 1024)
    (h : Fin 2) (e : Fin 64) :
    val_main_v78 (F := Ideal) x0 x3 x4 x5 (ix4 b p h e)
      = rot (at3 x4 p.val) (at3 x5 p.val) (fun i => val_main_v57 (F := Ideal) x0 x3 (ix4 b p h i)) e := by
  unfold val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58
  generalize val_main_v57 (F := Ideal) x0 x3 = y
  pointwise
  unfold rot
  simp only [← at3_val]
  have he := e.isLt
  by_cases h1 : e.val % 32 < 16
  · rw [dif_pos (show e.val / 16 % 2 < 1 by omega), dif_pos h1]
    simp only [show e.val / 32 * 32 + e.val % 16 = e.val by omega, show e.val / 32 * 32 + 16 + e.val % 16 = e.val + 16 by omega, Fin.eta]
  · rw [dif_neg (show ¬e.val / 16 % 2 < 1 by omega), dif_neg h1]
    simp only [show e.val / 32 * 32 + e.val % 16 = e.val - 16 by omega, show e.val / 32 * 32 + 16 + e.val % 16 = e.val by omega, Fin.eta]

/-- The scores. -/
theorem scores (x0 : FVec Ideal S8192x768 .f32) (x1 : FVec Ideal S4x256x2x64 .f32) (x3 : FVec Ideal S2x64 .f32) (x4 x5 : FVec Ideal S1024x2x16 .f32)
    (b : Fin 4) (g : Fin 2) (h : Fin 4) (r : Fin 1024) (j : Fin 1280) :
    val_main_v85 (F := Ideal) x0 x1 x3 x4 x5 (ix5 b g h r j)
      = join (a := 1024) (b := 256) rfl
          (fun j => (∑ e : Fin 64, rotAt n64 eps (at2 x0) (fun i => x3 (ix2 1 i)) (at3 x4) (at3 x5) (4096 + (b.val * 1024 + j.val)) (512 + g.val * 64) j.val e * rotAt n64 eps (at2 x0) (fun i => x3 (ix2 0 i)) (at3 x4) (at3 x5) (4096 + (b.val * 1024 + r.val)) ((g.val * 4 + h.val) * 64) r.val e) * c8)
          (fun j => (∑ e : Fin 64, at4 x1 b.val j.val g.val e.val * rotAt n64 eps (at2 x0) (fun i => x3 (ix2 0 i)) (at3 x4) (at3 x5) (4096 + (b.val * 1024 + r.val)) ((g.val * 4 + h.val) * 64) r.val e) * c8) j := by
  unfold val_main_v85 val_main_v84 val_main_v83 val_main_v82 val_main_v81 val_main_v79 val_main_cst_5
  have hq : ∀ b p h e, val_main_v42 (F := Ideal) x0 x3 x4 x5 (ix4 b p h e)
      = rotAt n64 eps (at2 x0) (fun i => x3 (ix2 0 i)) (at3 x4) (at3 x5) (4096 + (b.val * 1024 + p.val)) (h.val * 64) p.val e := fun b p h e => by
    rw [rotQ, show (fun i => val_main_v21 (F := Ideal) x0 x3 (ix4 b p h i)) = _ from funext fun i => queries x0 x3 b p h i]
    rfl
  have hk : ∀ b p h e, val_main_v78 (F := Ideal) x0 x3 x4 x5 (ix4 b p h e)
      = rotAt n64 eps (at2 x0) (fun i => x3 (ix2 1 i)) (at3 x4) (at3 x5) (4096 + (b.val * 1024 + p.val)) (512 + h.val * 64) p.val e := fun b p h e => by
    rw [rotK, show (fun i => val_main_v57 (F := Ideal) x0 x3 (ix4 b p h i)) = _ from funext fun i => keys x0 x3 b p h i]
    rfl
  revert hq hk
  generalize val_main_v42 (F := Ideal) x0 x3 x4 x5 = q
  generalize val_main_v78 (F := Ideal) x0 x3 x4 x5 = k
  intro hq hk
  pointwise
  unfold join
  have hj := j.isLt
  by_cases hc : j.val < 1024
  · simp only [dif_pos hc, hq, hk]
  · simp only [dif_neg hc, hq, ← at4_val x1]

/-- The index a reduction over the keys reads. -/
theorem lift_keys (b : Fin 4) (g : Fin 2) (h : Fin 4) (r : Fin 1024) (hr : S4x2x4x1024x1280.Reduces [4] S4x2x4x1024) (k : Fin 1280) :
    Shape.Reduces.lift (s := S4x2x4x1024x1280) (t := S4x2x4x1024) (a := 4) hr (ix4 b g h r) k = ix5 b g h r k :=
  funext fun a => match a with
    | ⟨0, _⟩ => rfl
    | ⟨1, _⟩ => rfl
    | ⟨2, _⟩ => rfl
    | ⟨3, _⟩ => rfl
    | ⟨4, _⟩ => rfl

/-- The keys' axis is the one reduced. -/
theorem reduces_keys : S4x2x4x1024x1280.Reduces [4] S4x2x4x1024 := by decide

/-- A reduction over the keys is a fold over them. -/
theorem fold_keys (f : EReal → EReal → EReal) [Std.Commutative f] [Std.Associative f] (y : FVec Ideal S4x2x4x1024x1280 .f32)
    (init : FVec Ideal S_ .f32) (b : Fin 4) (g : Fin 2) (h : Fin 4) (r : Fin 1024) :
    Host.reduce f y init reducesTo_S4x2x4x1024x1280_S4x2x4x1024_d4 h_S_ (ix4 b g h r)
      = Finset.fold f (init (Shape.Idx.first h_S_)) (fun j : Fin 1280 => y (ix5 b g h r j)) Finset.univ := by
  refine (Host.reduce_eq_fold_single (s := S4x2x4x1024x1280) (t := S4x2x4x1024) (a := 4) f y init
    reducesTo_S4x2x4x1024x1280_S4x2x4x1024_d4 reduces_keys h_S_ (ix4 b g h r)).trans ?_
  exact congrArg (fun g => Finset.fold f (init (Shape.Idx.first h_S_)) g Finset.univ)
    (funext fun k => congrArg y (lift_keys b g h r reduces_keys k))

/-- The greatest score. -/
theorem maxes (x0 : FVec Ideal S8192x768 .f32) (x1 : FVec Ideal S4x256x2x64 .f32) (x3 : FVec Ideal S2x64 .f32) (x4 x5 : FVec Ideal S1024x2x16 .f32)
    (b : Fin 4) (g : Fin 2) (h : Fin 4) (r : Fin 1024) :
    val_main_v88 (F := Ideal) x0 x1 x3 x4 x5 (ix4 b g h r) = top fun j => val_main_v85 (F := Ideal) x0 x1 x3 x4 x5 (ix5 b g h r j) := by
  have e : val_main_v86 (F := Ideal) x0 x1 x3 x4 x5 (ix4 b g h r) = top fun j => val_main_v85 (F := Ideal) x0 x1 x3 x4 x5 (ix5 b g h r j) := by
    unfold val_main_v86
    refine (fold_keys max (val_main_v85 (F := Ideal) x0 x1 x3 x4 x5) (val_main_cst_6 (F := Ideal)) b g h r).trans ?_
    exact congrArg (fun i => Finset.fold max i (fun j : Fin 1280 => val_main_v85 (F := Ideal) x0 x1 x3 x4 x5 (ix5 b g h r j)) Finset.univ) negInf
  rw [val_main_v88_apply, e]
  have e0 : val_main_v87 (F := Ideal) (ix4 b g h r) = (⊥ : EReal) := by
    rw [val_main_v87_apply]; exact negInf
  rw [e0]
  exact max_bot_left _

/-- The exponentials. -/
theorem exps (x0 : FVec Ideal S8192x768 .f32) (x1 : FVec Ideal S4x256x2x64 .f32) (x3 : FVec Ideal S2x64 .f32) (x4 x5 : FVec Ideal S1024x2x16 .f32)
    (b : Fin 4) (g : Fin 2) (h : Fin 4) (r : Fin 1024) (j : Fin 1280) :
    val_main_v92 (F := Ideal) x0 x1 x3 x4 x5 (ix5 b g h r j)
      = Ideal.exp (val_main_v85 (F := Ideal) x0 x1 x3 x4 x5 (ix5 b g h r j) - val_main_v88 (F := Ideal) x0 x1 x3 x4 x5 (ix4 b g h r)) := by
  unfold val_main_v92 val_main_v91 val_main_v90 val_main_v89
  generalize val_main_v85 (F := Ideal) x0 x1 x3 x4 x5 = y
  generalize val_main_v88 (F := Ideal) x0 x1 x3 x4 x5 = w
  pointwise

/-- The probabilities. -/
theorem probs (x0 : FVec Ideal S8192x768 .f32) (x1 : FVec Ideal S4x256x2x64 .f32) (x3 : FVec Ideal S2x64 .f32) (x4 x5 : FVec Ideal S1024x2x16 .f32)
    (b : Fin 4) (g : Fin 2) (h : Fin 4) (r : Fin 1024) (j : Fin 1280) :
    val_main_v96 (F := Ideal) x0 x1 x3 x4 x5 (ix5 b g h r j)
      = Ideal.div (val_main_v92 (F := Ideal) x0 x1 x3 x4 x5 (ix5 b g h r j)) (∑ k, val_main_v92 (F := Ideal) x0 x1 x3 x4 x5 (ix5 b g h r k)) := by
  unfold val_main_v96 val_main_v95 val_main_v94 val_main_v93 val_main_cst_8
  generalize val_main_v92 (F := Ideal) x0 x1 x3 x4 x5 = y
  pointwise

/-- A value: a latent one, or a cached one. -/
theorem values (x0 : FVec Ideal S8192x768 .f32) (x2 : FVec Ideal S4x256x2x64 .f32) (b : Fin 4) (j : Fin 1280) (g : Fin 2) (e : Fin 64) :
    val_main_v80 (F := Ideal) x0 x2 (ix4 b j g e)
      = join (a := 1024) (b := 256) rfl (fun j => at2 x0 (4096 + (b.val * 1024 + j.val)) (640 + (g.val * 64 + e.val)))
          (fun j => at4 x2 b.val j.val g.val e.val) j := by
  unfold val_main_v80 val_main_v6 val_main_v5 val_main_v0
  pointwise
  unfold join
  have hj := j.isLt
  by_cases hc : j.val < 1024
  · simp only [dif_pos hc, ← at2_val x0]
  · simp only [dif_neg hc, ← at4_val x2]

/-- The attention's output at a row and a column. -/
theorem attended (x0 : FVec Ideal S8192x768 .f32) (x1 x2 : FVec Ideal S4x256x2x64 .f32) (x3 : FVec Ideal S2x64 .f32)
    (x4 x5 : FVec Ideal S1024x2x16 .f32) (R : Fin 4096) (C : Fin 512) :
    val_main_v99 (F := Ideal) x0 x1 x2 x3 x4 x5 (ix2 R C)
      = latAt c8 n64 eps (at2 x0) (at4 x1) (at4 x2) (fun i => x3 (ix2 0 i)) (fun i => x3 (ix2 1 i)) (at3 x4) (at3 x5) R.val C.val := by
  unfold val_main_v99 val_main_v98 val_main_v97
  have hp := probs x0 x1 x3 x4 x5
  have hv := values x0 x2
  revert hp hv
  generalize val_main_v96 (F := Ideal) x0 x1 x3 x4 x5 = y
  generalize val_main_v80 (F := Ideal) x0 x2 = v
  intro hp hv
  pointwise
  rw [latAt, soft]
  refine Finset.sum_congr rfl fun j _ => ?_
  rw [mul_comm, hp, hv]
  simp only [exps, maxes, scores]
  have e1 : R.val / 1024 * 1024 + R.val % 1024 = R.val := by omega
  have e2 : (C.val / 256 * 4 + C.val / 64 % 4) * 64 = C.val / 64 * 64 := by omega
  simp only [e1, e2]
  unfold latScore latValue
  simp only [Nat.add_assoc]

end Cert.GqaRefIdeal.At

end
-- ==== Proof.GqaClaim.lean ====
/-
  The claims about the latent grouped attention: the precondition read as finiteness, and the kernel's result equal to the
  reference's.
-/
module

public import proofs.«01_k».proof.Defs
public import proofs.«01_k».proof.Proof.CtxClaim
public import proofs.«01_k».proof.Proof.Gen.Gqa
public import proofs.«01_k».proof.Proof.Gen.GqaIdeal
public import proofs.«01_k».proof.Proof.Gen.GqaRefIdeal
public import proofs.«01_k».proof.Proof.Gen.GqaRefIdeal.Run
public import proofs.«01_k».proof.Proof.Gen.Pre_finite_lat
public import proofs.«01_k».proof.Proof.GqaValue
public import proofs.«01_k».proof.Proof.GqaRead
public import Idealize.ShloMosaic.Lib.ReduceAll
public import Idealize.ShloMosaic.Lib.Quiescent

@[expose] public section

noncomputable section

namespace Cert.Proof

open Idealize.ShloMosaic Idealize.ShloMosaic.TcCoe Idealize.SL.Sem Cert.Attn

/-- The precondition says that every entry of every argument but the cached values is finite. -/
theorem pre_lat (x0 : FVec Ideal Cert.GqaIdeal.S8192x768 .f32) (x1 x2 : FVec Ideal Cert.GqaIdeal.S4x256x2x64 .f32) (x3 : FVec Ideal Cert.GqaIdeal.S2x64 .f32)
    (x4 x5 : FVec Ideal Cert.GqaIdeal.S1024x2x16 .f32)
    (h : Cert.Pre_finite_lat.fn (F := Ideal) x0 x1 x2 x3 x4 x5 = fun _ => 1#1) :
    (∀ i, Fine (x0 i)) ∧ (∀ i, Fine (x1 i)) ∧ (∀ i, Fine (x3 i)) ∧ (∀ i, Fine (x4 i)) ∧ ∀ i, Fine (x5 i) := by
  have h1 := congrFun h (fun a => a.elim0)
  dsimp only [Cert.Pre_finite_lat.fn, Cert.Pre_finite_lat.fn_part1] at h1
  have split : ∀ a b : BitVec 1, a &&& b = 1#1 → a = 1#1 ∧ b = 1#1 := by decide
  obtain ⟨h2, g5⟩ := split _ _ h1
  obtain ⟨h3, g4⟩ := split _ _ h2
  obtain ⟨h4, g3⟩ := split _ _ h3
  obtain ⟨g0, g1⟩ := split _ _ h4
  haveI : Subsingleton Cert.Pre_finite_lat.S_.Idx := ⟨fun a b => funext fun k => k.elim0⟩
  exact ⟨fun i => fine_of_cmp _ _ i posInf (Host.reduce_andi_all _ _ _ _ _ g0 i),
    fun i => fine_of_cmp _ _ i posInf (Host.reduce_andi_all _ _ _ _ _ g1 i),
    fun i => fine_of_cmp _ _ i posInf (Host.reduce_andi_all _ _ _ _ _ g3 i),
    fun i => fine_of_cmp _ _ i posInf (Host.reduce_andi_all _ _ _ _ _ g4 i),
    fun i => fine_of_cmp _ _ i posInf (Host.reduce_andi_all _ _ _ _ _ g5 i)⟩

/-- The reference's result is the function the kernel's array holds. -/
theorem ref_v99 (x0 : FVec Ideal Cert.GqaRefIdeal.S8192x768 .f32) (x1 x2 : FVec Ideal Cert.GqaRefIdeal.S4x256x2x64 .f32) (x3 : FVec Ideal Cert.GqaRefIdeal.S2x64 .f32)
    (x4 x5 : FVec Ideal Cert.GqaRefIdeal.S1024x2x16 .f32) :
    Cert.GqaRefIdeal.Read.val_main_v99 (F := Ideal) x0 x1 x2 x3 x4 x5 = fun i =>
      latAt c8 n64 eps (at2 x0) (at4 x1) (at4 x2) (fun e => x3 (ix2 0 e)) (fun e => x3 (ix2 1 e)) (at3 x4) (at3 x5) (i 0).val (i 1).val := by
  funext i
  have ei : i = ix2 (i 0) (i 1) := funext fun a => match a with
    | ⟨0, _⟩ => rfl
    | ⟨1, _⟩ => rfl
  refine (congrArg _ ei).trans ?_
  exact Cert.GqaRefIdeal.At.attended x0 x1 x2 x3 x4 x5 (i 0) (i 1)

/-- The reference runs, leaves its arguments as they were, and has no semaphore to leave raised. -/
theorem frame_gqaRef : Cert.quiescent_GqaRefIdeal := fun m g _ =>
  (θ_run _ _ _).mono (fun r h => ⟨fun c => (h c).2, sem_eq_zero_of_no_sems rfl r.2⟩) (Cert.GqaRefIdeal.Value.run (F := Ideal) m g)

/-- The kernel's result equals the reference's on finite arguments. -/
theorem algebraic_gqa : Cert.algebraic_GqaIdeal_GqaRefIdeal_pre_finite_lat := by
  intro m g m' g' hpre hag
  have hf : ∀ c, Cert.GqaIdeal.Head.Finite m c := fun c => pre_lat _ _ _ _ _ _ (hpre c)
  refine ⟨fun c => Cert.GqaIdeal.Head.G9 m c, Cert.GqaIdeal.Head.run m g hf, ?_⟩
  refine (θ_run _ _ _).mono (fun r h c => ?_) (Cert.GqaRefIdeal.Value.run (F := Ideal) m' g')
  obtain ⟨h99, hrest⟩ := h c
  obtain ⟨e0, e1, e2, e3, e4, e5⟩ := hag c
  refine ⟨h99.trans ?_, hrest⟩
  refine (Cert.GqaRefIdeal.Read.val_main_v99_eq m' c).trans ?_
  rw [ref_v99, e0, e1, e2, e3, e4, e5]
  rfl

end Cert.Proof

end
-- ==== Proof.ModBlock.lean ====
/-
  The modulation's block: the counted loop's accumulators as partial sums over the rows of the weights, and what a grid
  point leaves in its output block.
-/
module

public import proofs.«01_k».proof.Proof.Gen.ModIdeal.Value
public import proofs.«01_k».proof.Proof.GqaSpec
public import Idealize.ShloMosaic.Lib.Pipeline.ValueKit
public import Idealize.ShloMosaic.Lib.Pointwise
public import Idealize.ShloMosaic.Lib.WholeRead
public import Idealize.ShloMosaic.Lib.VecWindow

@[expose] public section

set_option maxRecDepth 16384

noncomputable section

namespace Cert.ModIdeal.Val

open Cert.ModIdeal Cert.ModIdeal.Gen Cert.Attn Idealize.ShloMosaic Idealize.ShloMosaic.TcCoe Idealize.SL.Sem Idealize.ShloMosaic.StableHlo
open Idealize.ShloMosaic.Pointwise
open scoped BigOperators

/-! ## The sums -/

/-- The modulation at one condition and one column: the condition gated by its own logistic, times the column of the
    weights, plus the bias. -/
def ada (s w : Fin 1024 → EReal) (b : EReal) : EReal := (∑ k, s k * Ideal.logistic (s k) * w k) + b

/-- The first `k` chunks' rows that fall into accumulator row `u`, added up. -/
def chunks (g : ℕ → EReal) (k u : ℕ) : EReal := ∑ q ∈ Finset.range k, ∑ s : Fin 8, g (64 * q + (s.val * 8 + u))

/-- No chunk adds up to nothing. -/
theorem chunks_zero (g : ℕ → EReal) (u : ℕ) : chunks g 0 u = 0 := Finset.sum_range_zero _

/-- One chunk more. -/
theorem chunks_succ (g : ℕ → EReal) (k u : ℕ) :
    chunks g (k + 1) u = chunks g k u + ∑ s : Fin 8, g (64 * k + (s.val * 8 + u)) := Finset.sum_range_succ _ _

/-- A row of the weights is a row of a chunk's group, in one way. -/
def place : Fin 8 × Fin 16 × Fin 8 ≃ Fin 1024 where
  toFun p := ⟨64 * p.2.1.val + (p.2.2.val * 8 + p.1.val), by omega⟩
  invFun n := (⟨n.val % 8, by omega⟩, ⟨n.val / 64, by omega⟩, ⟨n.val % 64 / 8, by omega⟩)
  left_inv p := by
    obtain ⟨u, q, s⟩ := p
    refine Prod.ext (Fin.ext ?_) (Prod.ext (Fin.ext ?_) (Fin.ext ?_))
    · show (64 * q.val + (s.val * 8 + u.val)) % 8 = u.val; omega
    · show (64 * q.val + (s.val * 8 + u.val)) / 64 = q.val; omega
    · show (64 * q.val + (s.val * 8 + u.val)) % 64 / 8 = s.val; omega
  right_inv n := Fin.ext (by show 64 * (n.val / 64) + (n.val % 64 / 8 * 8 + n.val % 8) = n.val; omega)

/-- The sixteen chunks' accumulators add up to the sum over every row. -/
theorem chunks_all (g : ℕ → EReal) : ∑ u : Fin 8, chunks g 16 u.val = ∑ k : Fin 1024, g k.val := by
  rw [← Equiv.sum_comp place, Fintype.sum_prod_type]
  refine Finset.sum_congr rfl fun u _ => ?_
  rw [Fintype.sum_prod_type]
  unfold chunks
  rw [Finset.sum_range]
  rfl

/-! ## One chunk -/

section
variable (acc : FVec Ideal S8x512 .f32) (v : Vec Ideal S1x64x512 .f32) (w : Vec Ideal S64x8 .f32) (u : Fin 8) (j : Fin 512)

/-- What a chunk adds for one condition. -/
def part (r : Fin 8) : EReal :=
  ∑ x : Fin 8, v (ix3 0 ⟨x.val * 8 + u.val, by omega⟩ j)
    * (w (ix2 ⟨x.val * 8 + u.val, by omega⟩ r) * Ideal.logistic (w (ix2 ⟨x.val * 8 + u.val, by omega⟩ r)))

/-- The first condition's accumulator after a chunk. -/
theorem pay8_at : k0_pay8 acc v w (ix2 u j) = acc (ix2 u j) + part v w u j 0 := by
  unfold k0_pay8 k0_pay7 k0_pay6 part
  pointwise

/-- The second condition's. -/
theorem pay9_at : k0_pay9 acc v w (ix2 u j) = acc (ix2 u j) + part v w u j 1 := by
  unfold k0_pay9 k0_pay7 k0_pay6 part
  pointwise

/-- The third condition's. -/
theorem pay10_at : k0_pay10 acc v w (ix2 u j) = acc (ix2 u j) + part v w u j 2 := by
  unfold k0_pay10 k0_pay7 k0_pay6 part
  pointwise

/-- The fourth condition's. -/
theorem pay11_at : k0_pay11 acc v w (ix2 u j) = acc (ix2 u j) + part v w u j 3 := by
  unfold k0_pay11 k0_pay7 k0_pay6 part
  pointwise

/-- The fifth condition's. -/
theorem pay12_at : k0_pay12 acc v w (ix2 u j) = acc (ix2 u j) + part v w u j 4 := by
  unfold k0_pay12 k0_pay7 k0_pay6 part
  pointwise
end

/-- The accumulators start at zero. -/
theorem start_at (u : Fin 8) (j : Fin 512) :
    k0_pay1 (F := Ideal) (ix2 u j) = 0 ∧ k0_pay2 (F := Ideal) (ix2 u j) = 0 ∧ k0_pay3 (F := Ideal) (ix2 u j) = 0
      ∧ k0_pay4 (F := Ideal) (ix2 u j) = 0 ∧ k0_pay5 (F := Ideal) (ix2 u j) = 0 := by
  refine ⟨?_, ?_, ?_, ?_, ?_⟩
  · unfold k0_pay1; pointwise
  · unfold k0_pay2; pointwise
  · unfold k0_pay3; pointwise
  · unfold k0_pay4; pointwise
  · unfold k0_pay5; pointwise

/-- The block's rows: a condition's accumulator added up, and zero for the rows of no condition. -/
theorem rows_at (a b c d e : FVec Ideal S8x512 .f32) (v : Vec Ideal S1x1x512 .f32) (r : Fin 8) (j : Fin 512) :
    k0_pay13 a b c d e v (ix3 0 r j)
      = (if r.val = 0 then ∑ x : Fin 8, a (ix2 x j) else if r.val = 1 then ∑ x : Fin 8, b (ix2 x j)
          else if r.val = 2 then ∑ x : Fin 8, c (ix2 x j) else if r.val = 3 then ∑ x : Fin 8, d (ix2 x j)
          else if r.val = 4 then ∑ x : Fin 8, e (ix2 x j) else 0) + v (ix3 0 0 j) := by
  have hr := r.isLt
  have hq : r.val = 0 ∨ r.val = 1 ∨ r.val = 2 ∨ r.val = 3 ∨ r.val = 4 ∨ r.val = 5 ∨ r.val = 6 ∨ r.val = 7 := by omega
  unfold k0_pay13
  pointwise
  rcases hq with hq | hq | hq | hq | hq | hq | hq | hq <;> simp [hq]

/-! ## The loop -/

section
variable (c : Dev nD) (i : grid0.Coords) (arg2 : Memref sig .tc .vmem S1024x8 .f32) (harg2 : arg2.IsWhole)
  (arg3 : Memref sig .tc .vmem S1x1024x512 .f32) (harg3 : arg3.IsWhole) (arg4 : Memref sig .tc .vmem S1x1x512 .f32) (harg4 : arg4.IsWhole)
  (arg5 : Memref sig .tc .vmem S1x8x512 .f32) (harg5 : arg5.IsWhole)
  (x0 : Vec Ideal S1024x8 .f32) (x1 : Vec Ideal S1x1024x512 .f32) (x2 : Vec Ideal S1x1x512 .f32)

/-- One row's term for a condition and a column. -/
def term (r j n : ℕ) : EReal := at3 (a := 1) (b := 1024) (c := 512) x1 0 n j * (at2 (a := 1024) (b := 8) x0 n r * Ideal.logistic (at2 (a := 1024) (b := 8) x0 n r))

/-- There are sixteen trips. -/
theorem trips_eq : k0_t1_loop.trips = 16 := by decide +kernel

/-- A trip's rows of the weights. -/
theorem weights_at (k : Fin k0_t1_loop.trips) (r : Fin 64) (j : Fin 512) :
    View.readAt (Elt Ideal) arg3.view (Rect.unit (s := S1x1024x512) (k0_off1 k) S1x64x512.size (k0_off1_inb k)).toLoadRect (harg3.unread x1) (ix3 0 r j)
      = at3 (a := 1) (b := 1024) (c := 512) x1 0 (64 * k.val + r.val) j.val := by
  have hk : k.val < 16 := lt_of_lt_of_eq k.isLt trips_eq
  rw [harg3.readAt_unread, at3_in _ (by norm_num) (by omega) j.isLt]
  refine congrArg x1 (funext fun a => Fin.ext ?_)
  match a with
  | ⟨0, _⟩ => show (k0_off1 k) 0 + 1 * 0 = 0; rw [k0_off1_eq]; rfl
  | ⟨1, _⟩ => show (k0_off1 k) 1 + 1 * r.val = 64 * k.val + r.val; rw [k0_off1_eq, Nat.one_mul]; rfl
  | ⟨2, _⟩ => show (k0_off1 k) 2 + 1 * j.val = j.val; rw [k0_off1_eq, Nat.one_mul]; exact Nat.zero_add _

/-- A trip's rows of the conditions. -/
theorem conds_at (k : Fin k0_t1_loop.trips) (r : Fin 64) (j : Fin 8) :
    View.readAt (Elt Ideal) arg2.view (Rect.unit (s := S1024x8) (k0_off2 k) S64x8.size (k0_off2_inb k)).toLoadRect (harg2.unread x0) (ix2 r j)
      = at2 (a := 1024) (b := 8) x0 (64 * k.val + r.val) j.val := by
  have hk : k.val < 16 := lt_of_lt_of_eq k.isLt trips_eq
  rw [harg2.readAt_unread, at2_in _ (by omega) j.isLt]
  refine congrArg x0 (funext fun a => Fin.ext ?_)
  match a with
  | ⟨0, _⟩ => show (k0_off2 k) 0 + 1 * r.val = 64 * k.val + r.val; rw [k0_off2_eq, Nat.one_mul]; rfl
  | ⟨1, _⟩ => show (k0_off2 k) 1 + 1 * j.val = j.val; rw [k0_off2_eq, Nat.one_mul]; exact Nat.zero_add _

/-- What a trip adds. -/
theorem part_at (k : Fin k0_t1_loop.trips) (u : Fin 8) (j : Fin 512) (r : Fin 8) :
    part (View.readAt (Elt Ideal) arg3.view (Rect.unit (s := S1x1024x512) (k0_off1 k) S1x64x512.size (k0_off1_inb k)).toLoadRect (harg3.unread x1))
        (View.readAt (Elt Ideal) arg2.view (Rect.unit (s := S1024x8) (k0_off2 k) S64x8.size (k0_off2_inb k)).toLoadRect (harg2.unread x0)) u j r
      = ∑ s : Fin 8, term x0 x1 r.val j.val (64 * k.val + (s.val * 8 + u.val)) := by
  unfold part term
  refine Finset.sum_congr rfl fun s _ => ?_
  rw [weights_at, conds_at]

/-- The accumulators before trip `k`. -/
abbrev state (k : ℕ) := st_k0_t1 (F := Ideal) Variants.none c none i arg2 harg2 arg3 harg3 arg4 harg4 arg5 harg5 (harg2.unread x0) (harg3.unread x1)
  (k0_pay1, k0_pay2, k0_pay3, k0_pay4, k0_pay5) k

/-- The accumulators hold the first `k` chunks' sums. -/
theorem state_at (u : Fin 8) (j : Fin 512) : ∀ k : ℕ, k ≤ 16 →
    (state c i arg2 harg2 arg3 harg3 arg4 harg4 arg5 harg5 x0 x1 k).1 (ix2 u j) = chunks (term x0 x1 0 j.val) k u.val
    ∧ (state c i arg2 harg2 arg3 harg3 arg4 harg4 arg5 harg5 x0 x1 k).2.1 (ix2 u j) = chunks (term x0 x1 1 j.val) k u.val
    ∧ (state c i arg2 harg2 arg3 harg3 arg4 harg4 arg5 harg5 x0 x1 k).2.2.1 (ix2 u j) = chunks (term x0 x1 2 j.val) k u.val
    ∧ (state c i arg2 harg2 arg3 harg3 arg4 harg4 arg5 harg5 x0 x1 k).2.2.2.1 (ix2 u j) = chunks (term x0 x1 3 j.val) k u.val
    ∧ (state c i arg2 harg2 arg3 harg3 arg4 harg4 arg5 harg5 x0 x1 k).2.2.2.2 (ix2 u j) = chunks (term x0 x1 4 j.val) k u.val := by
  intro k
  induction k with
  | zero =>
    intro _
    simp only [chunks_zero, st_k0_t1_zero]
    exact start_at u j
  | succ k ih =>
    intro hk
    obtain ⟨h0, h1, h2, h3, h4⟩ := ih (by omega)
    have ht : k < k0_t1_loop.trips := lt_of_lt_of_eq (by omega : k < 16) trips_eq.symm
    have e := st_k0_t1_succ (F := Ideal) Variants.none c none i arg2 harg2 arg3 harg3 arg4 harg4 arg5 harg5 (harg2.unread x0) (harg3.unread x1)
      (k0_pay1, k0_pay2, k0_pay3, k0_pay4, k0_pay5) ⟨k, ht⟩
    unfold tripR_k0_t1 trip_k0_t1 at e
    dsimp only at e
    simp only [chunks_succ]
    unfold state
    rw [e]
    refine ⟨?_, ?_, ?_, ?_, ?_⟩
    · exact (pay8_at _ _ _ u j).trans (congrArg₂ (· + ·) h0 (part_at arg2 harg2 arg3 harg3 x0 x1 ⟨k, ht⟩ u j 0))
    · exact (pay9_at _ _ _ u j).trans (congrArg₂ (· + ·) h1 (part_at arg2 harg2 arg3 harg3 x0 x1 ⟨k, ht⟩ u j 1))
    · exact (pay10_at _ _ _ u j).trans (congrArg₂ (· + ·) h2 (part_at arg2 harg2 arg3 harg3 x0 x1 ⟨k, ht⟩ u j 2))
    · exact (pay11_at _ _ _ u j).trans (congrArg₂ (· + ·) h3 (part_at arg2 harg2 arg3 harg3 x0 x1 ⟨k, ht⟩ u j 3))
    · exact (pay12_at _ _ _ u j).trans (congrArg₂ (· + ·) h4 (part_at arg2 harg2 arg3 harg3 x0 x1 ⟨k, ht⟩ u j 4))

/-- A condition's row is the sum over every row of the weights. -/
theorem total (r : Fin 8) (j : Fin 512) :
    ∑ k : Fin 1024, term x0 x1 r.val j.val k.val
      = ∑ k : Fin 1024, x0 (ix2 k r) * Ideal.logistic (x0 (ix2 k r)) * x1 (ix3 0 k j) := by
  refine Finset.sum_congr rfl fun k _ => ?_
  unfold term
  rw [at3_in _ (by norm_num) k.isLt j.isLt, at2_in _ k.isLt r.isLt]
  exact mul_comm _ _

/-- What a grid point leaves in its block, where the rows past the fifth condition are zero. -/
theorem block (hz : ∀ (k : Fin 1024) (r : Fin 8), 5 ≤ r.val → x0 (ix2 k r) = 0) (r : Fin 8) (j : Fin 512) :
    out0_A_3 c i arg2 harg2 arg3 harg3 arg4 harg4 arg5 harg5 x0 x1 x2 (ix3 0 r j)
      = ada (fun k => x0 (ix2 k r)) (fun k => x1 (ix3 0 k j)) (x2 (ix3 0 0 j)) := by
  unfold out0_A_3 kernelRun0_A
  dsimp only
  refine (congrFun (View.read_writes_full VO0_3 _ inb_S1x8x512_S1x8x512_0_0_0 _ []) (ix3 0 r j)).trans ?_
  refine (rows_at _ _ _ _ _ _ r j).trans ?_
  unfold ada
  refine congrArg₂ (· + ·) ?_ ?_
  · have hs := fun u => state_at c i arg2 harg2 arg3 harg3 arg4 harg4 arg5 harg5 x0 x1 u j 16 le_rfl
    have ht := total x0 x1 r j
    have hr := r.isLt
    have hq : r.val = 0 ∨ r.val = 1 ∨ r.val = 2 ∨ r.val = 3 ∨ r.val = 4 ∨ 5 ≤ r.val := by omega
    rcases hq with hq | hq | hq | hq | hq | hq
    · rw [if_pos hq, ← ht, hq, ← chunks_all]
      exact Finset.sum_congr rfl fun u _ => (hs u).1
    · rw [if_neg (by omega), if_pos hq, ← ht, hq, ← chunks_all]
      exact Finset.sum_congr rfl fun u _ => (hs u).2.1
    · rw [if_neg (by omega), if_neg (by omega), if_pos hq, ← ht, hq, ← chunks_all]
      exact Finset.sum_congr rfl fun u _ => (hs u).2.2.1
    · rw [if_neg (by omega), if_neg (by omega), if_neg (by omega), if_pos hq, ← ht, hq, ← chunks_all]
      exact Finset.sum_congr rfl fun u _ => (hs u).2.2.2.1
    · rw [if_neg (by omega), if_neg (by omega), if_neg (by omega), if_neg (by omega), if_pos hq, ← ht, hq, ← chunks_all]
      exact Finset.sum_congr rfl fun u _ => (hs u).2.2.2.2
    · rw [if_neg (by omega), if_neg (by omega), if_neg (by omega), if_neg (by omega), if_neg (by omega)]
      refine (Finset.sum_eq_zero fun k _ => ?_).symm
      show x0 (ix2 k r) * Ideal.logistic (x0 (ix2 k r)) * x1 (ix3 0 k j) = 0
      rw [hz k r hq, zero_mul, zero_mul]
  · exact congrFun ((View.readAt_full _ _ _).trans (harg4.read_unread x2)) (ix3 0 0 j)
end

end Cert.ModIdeal.Val

end
-- ==== Proof.ModValue.lean ====
/-
  The modulation's kernel as one function of its argument arrays: the conditions' columns the host prepares, and the result
  array after the run.
-/
module

public import proofs.«01_k».proof.Proof.ModBlock

@[expose] public section

set_option maxRecDepth 16384

noncomputable section

namespace Cert.ModIdeal.Val

open Cert.ModIdeal Cert.ModIdeal.Gen Cert.Attn Idealize.ShloMosaic Idealize.ShloMosaic.TcCoe Idealize.SL.Sem Idealize.ShloMosaic.StableHlo
open Idealize.ShloMosaic.Pipeline (Dat)
open Idealize.ShloMosaic.Pointwise
open scoped BigOperators

variable (m : (ℓ : Loc nD τ sig) → Buf (Elt Ideal) ℓ) (ρ : Dev nD → PrngReg)

/-- The samples' conditions. -/
abbrev a0 (c : Dev nD) : FVec Ideal S4x1024 .f32 := m ((c : Thread nD τ).loc main_arg0)
/-- The context's condition. -/
abbrev a1 (c : Dev nD) : FVec Ideal S1024 .f32 := m ((c : Thread nD τ).loc main_arg1)
/-- The weights. -/
abbrev a2 (c : Dev nD) : FVec Ideal S2x1024x6144 .f32 := m ((c : Thread nD τ).loc main_arg2)
/-- The biases. -/
abbrev a3 (c : Dev nD) : FVec Ideal S2x6144 .f32 := m ((c : Thread nD τ).loc main_arg3)

/-- The conditions: the context's, the four samples', and zeros up to eight rows. -/
def condition (x0 : FVec Ideal S4x1024 .f32) (x1 : FVec Ideal S1024 .f32) (r : Fin 8) (k : Fin 1024) : EReal :=
  if r.val = 0 then x1 (ix1 k) else if h : r.val - 1 < 4 then x0 (ix2 ⟨r.val - 1, h⟩ k) else 0

/-- The rows past the fifth condition are zero. -/
theorem condition_zero (x0 : FVec Ideal S4x1024 .f32) (x1 : FVec Ideal S1024 .f32) (r : Fin 8) (k : Fin 1024) (h : 5 ≤ r.val) :
    condition x0 x1 r k = 0 := by
  unfold condition
  rw [if_neg (by omega), dif_neg (by omega)]

/-- The conditions' columns as the host leaves them. -/
theorem V3 (c : Dev nD) : (V m c main_v3 : FVec Ideal S1024x8 .f32)
    = transpose S1024x8 [1, 0] (concatenate S8x1024 0 [⟨S1x1024, broadcastInDim S1x1024 ![1] bcast_S1024_S1x1024_1 (a1 m c)⟩, ⟨S4x1024, a0 m c⟩,
        ⟨S3x1024, broadcastInDim S3x1024 ![] bcast_S_S3x1024 (constant S_ .f32 0x00000000#32)⟩] concatenates_S1x1024_S4x1024_S3x1024_S8x1024_d0) transposes_S8x1024_S1024x8_1_0 := by
  unfold V
  simp only [hostOps0, List.flatten_cons, List.flatten_nil, List.append_nil, List.cons_append, List.nil_append, TRef.binary, TRef.unary, TRef.toBuf, TRef.ofBuf, cast_eq]
  after_results_simp <;> rfl

/-- The biases as the host leaves them. -/
theorem V4 (c : Dev nD) : (V m c main_v4 : FVec Ideal S2x1x6144 .f32) = shapeCast S2x1x6144 (a3 m c) shapeCasts_S2x6144_S2x1x6144 := by
  unfold V
  simp only [hostOps0, List.flatten_cons, List.flatten_nil, List.append_nil, List.cons_append, List.nil_append, TRef.binary, TRef.unary, TRef.toBuf, TRef.ofBuf, cast_eq]
  after_results_simp <;> rfl

/-- A column of the conditions is a condition. -/
theorem V3_at (c : Dev nD) (k : Fin 1024) (r : Fin 8) :
    (V m c main_v3 : FVec Ideal S1024x8 .f32) (ix2 k r) = condition (a0 m c) (a1 m c) r k := by
  rw [V3]
  generalize a0 m c = x0
  generalize a1 m c = x1
  unfold condition
  pointwise
  by_cases h0 : r.val = 0
  · rw [dif_pos (show r.val < 1 by omega), if_pos h0]
  · rw [dif_neg (show ¬ r.val < 1 by omega), if_neg h0]

/-- A bias. -/
theorem V4_at (c : Dev nD) (l : Fin 2) (j : Fin 6144) :
    (V m c main_v4 : FVec Ideal S2x1x6144 .f32) (ix3 l 0 j) = a3 m c (ix2 l j) := by
  rw [V4]
  generalize a3 m c = x3
  pointwise

/-- The windows' block indices. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- There are twenty-four points. -/
theorem lt24 (t : Fin cfg0.N) : t.val < 24 := by
  have h := t.isLt
  have e : cfg0.N = 24 := N_0
  omega

/-- Every point reads every condition. -/
theorem iblk0 (c : Dev nD) (t : Fin cfg0.N) (k : Fin 1024) (r : Fin 8) :
    (iblk m c 0 t : Vec Ideal S1024x8 .f32) (ix2 k r) = condition (a0 m c) (a1 m c) r k := by
  have e : (iblk m c 0 t : Vec Ideal S1024x8 .f32) (ix2 k r) = (V m c main_v3 : FVec Ideal S1024x8 .f32) (ix2 k r) := by
    blk_ext! [iblk, idx t]
  exact e.trans (V3_at m c k r)

/-- A point's columns of the weights. -/
theorem iblk1 (c : Dev nD) (t : Fin cfg0.N) (k : Fin 1024) (j : Fin 512) (h : t.val / 12 < 2) (hj : t.val % 12 * 512 + j.val < 6144) :
    (iblk m c 1 t : Vec Ideal S1x1024x512 .f32) (ix3 0 k j) = a2 m c (ix3 ⟨t.val / 12, h⟩ k ⟨t.val % 12 * 512 + j.val, hj⟩) := by
  blk_ext! [iblk, V, idx t]

/-- A point's biases. -/
theorem iblk2 (c : Dev nD) (t : Fin cfg0.N) (j : Fin 512) (h : t.val / 12 < 2) (hj : t.val % 12 * 512 + j.val < 6144) :
    (iblk m c 2 t : Vec Ideal S1x1x512 .f32) (ix3 0 0 j) = a3 m c (ix2 ⟨t.val / 12, h⟩ ⟨t.val % 12 * 512 + j.val, hj⟩) := by
  have e : (iblk m c 2 t : Vec Ideal S1x1x512 .f32) (ix3 0 0 j)
      = (V m c main_v4 : FVec Ideal S2x1x6144 .f32) (ix3 ⟨t.val / 12, h⟩ 0 ⟨t.val % 12 * 512 + j.val, hj⟩) := by
    blk_ext! [iblk, idx t]
  exact e.trans (V4_at m c _ _)

/-- What the output holds after the run. -/
def G3 (c : Dev nD) : FVec Ideal S2x8x6144 .f32 := fun i =>
  ada (condition (a0 m c) (a1 m c) (i 1)) (fun k => a2 m c (ix3 (i 0) k (i 2))) (a3 m c (ix2 (i 0) (i 2)))

/-- The output after the run. -/
theorem final3 (c : Dev nD) : (dats m 0 c).arrAt 3 cfg0.N = G3 m c := by
  refine (dats m 0 c).arrAt_eq_of_covers 3 (G3 m c) (by decide +kernel) (fun t hf y => ?_)
  rw [after0_3]
  blk_simp
  have ht := lt24 t
  have y0 : (y 0).val < 1 := (y 0).isLt
  have y1 : (y 1).val < 8 := (y 1).isLt
  have y2 : (y 2).val < 512 := (y 2).isLt
  have h0 : t.val / 12 < 2 := by omega
  have h2 : t.val % 12 * 512 + (y 2).val < 6144 := by omega
  have ey : y = ix3 0 ⟨(y 1).val, y1⟩ ⟨(y 2).val, y2⟩ := by blk_ext
  have ee : (win0_3.blk t).view.emb y = ix3 ⟨t.val / 12, h0⟩ ⟨(y 1).val, y1⟩ ⟨t.val % 12 * 512 + (y 2).val, h2⟩ := by
    blk_ext [idx t]
  rw [ee]
  unfold outsAt0
  refine (congrArg _ ey).trans ?_
  refine (block c _ _ _ _ _ _ _ _ _ _ _ _ (fun k r h => (iblk0 m c t k r).trans (condition_zero _ _ r k h)) ⟨(y 1).val, y1⟩ ⟨(y 2).val, y2⟩).trans ?_
  show ada _ _ _ = ada _ _ _
  rw [iblk2 m c t ⟨(y 2).val, y2⟩ h0 h2]
  refine congrArg₂ (fun a b => ada a b _) (funext fun k => iblk0 m c t k _) (funext fun k => iblk1 m c t k ⟨(y 2).val, y2⟩ h0 h2)

/-- The run: the result array, the arguments unchanged. -/
theorem run :
    θ_run defs (onTc (τ := τ) (main (F := Ideal))) ⟨m, fun _ => 0, ρ⟩ fun r => ∀ c : Dev nD,
      r.2.mem ((c : Thread nD τ).loc main_v5) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨(h c).1.trans (final3 m c), (h c).2⟩) (Value.run_blocks m ρ)

end Cert.ModIdeal.Val

end
-- ==== Proof.ModRead.lean ====
/-
  The modulation's reference, read at a layer, a condition and a column.
-/
module

public import proofs.«01_k».proof.Proof.Gen.ModRefIdeal.Read
public import proofs.«01_k».proof.Proof.ModValue

@[expose] public section

set_option maxRecDepth 16384

noncomputable section

namespace Cert.ModRefIdeal.At

open Cert.ModRefIdeal Cert.ModRefIdeal.Gen Cert.ModRefIdeal.Read Cert.Attn Idealize.ShloMosaic Idealize.ShloMosaic.TcCoe Idealize.SL.Sem
open Cert.ModIdeal.Val (ada condition)
open Idealize.ShloMosaic.Pointwise
open scoped BigOperators

variable (x0 : FVec Ideal S4x1024 .f32) (x1 : FVec Ideal S1024 .f32) (x2 : FVec Ideal S2x1024x6144 .f32) (x3 : FVec Ideal S2x6144 .f32)

/-- The conditions' rows. -/
theorem rows (r : Fin 8) (k : Fin 1024) : val_main_v2 (F := Ideal) x0 x1 (ix2 r k) = condition x0 x1 r k := by
  unfold val_main_v2 val_main_v0 val_main_v1 val_main_cst condition
  pointwise
  by_cases h0 : r.val = 0
  · rw [dif_pos (show r.val < 1 by omega), if_pos h0]
  · rw [dif_neg (show ¬ r.val < 1 by omega), if_neg h0]

/-- The gated conditions, for the first layer. -/
theorem gate0 (r : Fin 8) (k : Fin 1024) :
    val_main_v7 (F := Ideal) x0 x1 (ix2 r k) = condition x0 x1 r k * Ideal.logistic (condition x0 x1 r k) := by
  rw [← rows]
  unfold val_main_v7 val_main_call0_v5 val_main_call0_v4 val_main_call0_cst_0 val_main_call0_v3 val_main_call0_v2 val_main_call0_cst val_main_call0_v1 val_main_call0_v0 Ideal.logistic
  generalize val_main_v2 (F := Ideal) x0 x1 = y
  pointwise

/-- The gated conditions, for the second. -/
theorem gate1 (r : Fin 8) (k : Fin 1024) :
    val_main_v16 (F := Ideal) x0 x1 (ix2 r k) = condition x0 x1 r k * Ideal.logistic (condition x0 x1 r k) := by
  rw [← rows]
  unfold val_main_v16 val_main_call1_v5 val_main_call1_v4 val_main_call1_cst_0 val_main_call1_v3 val_main_call1_v2 val_main_call1_cst val_main_call1_v1 val_main_call1_v0 Ideal.logistic
  generalize val_main_v2 (F := Ideal) x0 x1 = y
  pointwise

/-- The first layer's modulation. -/
theorem layer0 (r : Fin 8) (j : Fin 6144) :
    val_main_v11 (F := Ideal) x0 x1 x2 x3 (ix2 r j) = ada (condition x0 x1 r) (fun k => x2 (ix3 0 k j)) (x3 (ix2 0 j)) := by
  unfold ada
  simp only [← gate0]
  unfold val_main_v11 val_main_v10 val_main_v9 val_main_v8 val_main_v6 val_main_v5 val_main_v4 val_main_v3
  generalize val_main_v7 (F := Ideal) x0 x1 = y
  pointwise

/-- The second layer's. -/
theorem layer1 (r : Fin 8) (j : Fin 6144) :
    val_main_v20 (F := Ideal) x0 x1 x2 x3 (ix2 r j) = ada (condition x0 x1 r) (fun k => x2 (ix3 1 k j)) (x3 (ix2 1 j)) := by
  unfold ada
  simp only [← gate1]
  unfold val_main_v20 val_main_v19 val_main_v18 val_main_v17 val_main_v15 val_main_v14 val_main_v13 val_main_v12
  generalize val_main_v16 (F := Ideal) x0 x1 = y
  pointwise

/-- The result at a layer, a condition and a column. -/
theorem result (l : Fin 2) (r : Fin 8) (j : Fin 6144) :
    val_main_v23 (F := Ideal) x0 x1 x2 x3 (ix3 l r j) = ada (condition x0 x1 r) (fun k => x2 (ix3 l k j)) (x3 (ix2 l j)) := by
  have h0 := layer0 x0 x1 x2 x3 r j
  have h1 := layer1 x0 x1 x2 x3 r j
  unfold val_main_v23 val_main_v21 val_main_v22
  revert h0 h1
  generalize val_main_v11 (F := Ideal) x0 x1 x2 x3 = y
  generalize val_main_v20 (F := Ideal) x0 x1 x2 x3 = w
  intro h0 h1
  pointwise
  have hl := l.isLt
  by_cases h : l.val < 1
  · obtain rfl : l = 0 := Fin.ext (by show l.val = 0; omega)
    rw [dif_pos h]
    exact h0
  · obtain rfl : l = 1 := Fin.ext (by show l.val = 1; omega)
    rw [dif_neg h]
    exact h1

end Cert.ModRefIdeal.At

end
-- ==== Proof.ModClaim.lean ====
/-
  The claims about the modulation: its result equals the reference's.
-/
module

public import proofs.«01_k».proof.Defs
public import proofs.«01_k».proof.Proof.Gen.Mod
public import proofs.«01_k».proof.Proof.Gen.ModIdeal
public import proofs.«01_k».proof.Proof.Gen.ModRefIdeal
public import proofs.«01_k».proof.Proof.Gen.ModRefIdeal.Run
public import proofs.«01_k».proof.Proof.ModValue
public import proofs.«01_k».proof.Proof.ModRead
public import Idealize.ShloMosaic.Lib.Quiescent

@[expose] public section

noncomputable section

namespace Cert.Proof

open Idealize.ShloMosaic Idealize.ShloMosaic.TcCoe Idealize.SL.Sem Cert.ModIdeal.Val

/-- The reference's result is the function the kernel's array holds. -/
theorem ref_mod (x0 : FVec Ideal Cert.ModRefIdeal.S4x1024 .f32) (x1 : FVec Ideal Cert.ModRefIdeal.S1024 .f32) (x2 : FVec Ideal Cert.ModRefIdeal.S2x1024x6144 .f32) (x3 : FVec Ideal Cert.ModRefIdeal.S2x6144 .f32) :
    Cert.ModRefIdeal.Read.val_main_v23 (F := Ideal) x0 x1 x2 x3 = fun i =>
      ada (condition x0 x1 (i 1)) (fun k => x2 (ix3 (i 0) k (i 2))) (x3 (ix2 (i 0) (i 2))) := by
  funext i
  have ei : i = ix3 (i 0) (i 1) (i 2) := funext fun a => match a with
    | ⟨0, _⟩ => rfl
    | ⟨1, _⟩ => rfl
    | ⟨2, _⟩ => rfl
  refine (congrArg _ ei).trans ?_
  exact Cert.ModRefIdeal.At.result x0 x1 x2 x3 (i 0) (i 1) (i 2)

/-- The reference runs, leaves its arguments as they were, and has no semaphore to leave raised. -/
theorem frame_modRef : Cert.quiescent_ModRefIdeal := fun m g _ =>
  (θ_run _ _ _).mono (fun r h => ⟨fun c => (h c).2, sem_eq_zero_of_no_sems rfl r.2⟩) (Cert.ModRefIdeal.Value.run (F := Ideal) m g)

/-- The kernel's result equals the reference's. -/
theorem algebraic_mod : Cert.algebraic_ModIdeal_ModRefIdeal := by
  intro m g m' g' _ hag
  refine ⟨fun c => G3 m c, run m g, ?_⟩
  refine (θ_run _ _ _).mono (fun r h c => ?_) (Cert.ModRefIdeal.Value.run (F := Ideal) m' g')
  obtain ⟨h23, hrest⟩ := h c
  obtain ⟨e0, e1, e2, e3⟩ := hag c
  refine ⟨h23.trans ?_, hrest⟩
  refine (Cert.ModRefIdeal.Read.val_main_v23_eq _ _ _ _).trans ?_
  rw [ref_mod, e0, e1, e2, e3]
  rfl

end Cert.Proof

end
-- ==== Proof.NbrSpec.lean ====
/-
  The latent neighbourhood attention at a row and a column, free of any program: a grid row's window of eight rows, the
  scores against its keys and the cached ones, and the softmax of both.
-/
module

public import proofs.«01_k».proof.Proof.GqaSpec

@[expose] public section

noncomputable section

namespace Cert.Attn

open Idealize.ShloMosaic
open scoped BigOperators

/-- The first grid row of the window of grid row `g`: four rows above it, within the sixteen rows. -/
def wstart (g : ℕ) : ℕ := min (g - 4) 8

/-- The scores of row `R` in the head of column `C`: against the 512 keys of its window, each with the bias of its place,
    then against the 256 cached keys. -/
def nbrScore (c : EReal) (na : ℕ → ℕ → EReal) (ck tab : ℕ → ℕ → ℕ → ℕ → EReal) (R C : ℕ) : Fin 768 → EReal :=
  join (a := 512) (b := 256) rfl
    (fun j => (∑ e : Fin 64, na (4096 + R / 1024 * 1024 + (64 * wstart (R % 1024 / 64) + j.val)) (256 + C / 64 * 64 + e.val)
        * na (4096 + R) (C / 64 * 64 + e.val)) * c
      + tab (C / 64) (R % 1024 / 64 - wstart (R % 1024 / 64)) (R % 64) j.val)
    (fun j => (∑ e : Fin 64, ck (R / 1024) j.val (C / 64) e.val * na (4096 + R) (C / 64 * 64 + e.val)) * c)

/-- The values of column `C`: those of the window of row `R`, then the cached ones. -/
def nbrValue (na : ℕ → ℕ → EReal) (cv : ℕ → ℕ → ℕ → ℕ → EReal) (R C : ℕ) : Fin 768 → EReal :=
  join (a := 512) (b := 256) rfl
    (fun j => na (4096 + R / 1024 * 1024 + (64 * wstart (R % 1024 / 64) + j.val)) (512 + C))
    (fun j => cv (R / 1024) j.val (C / 64) (C % 64))

/-- The attention's output at row `R` and column `C`. -/
def nbrAt (c : EReal) (na : ℕ → ℕ → EReal) (ck cv tab : ℕ → ℕ → ℕ → ℕ → EReal) (R C : ℕ) : EReal :=
  soft (nbrScore c na ck tab R C) (nbrValue na cv R C)

end Cert.Attn

end
-- ==== Proof.NbrHead.lean ====
/-
  One head of the latent neighbourhood attention as the kernel's body writes it, and the body's block of four heads, read
  at an index.
-/
module

public import proofs.«01_k».proof.Proof.Gen.NbrIdeal.Value
public import proofs.«01_k».proof.Proof.NbrSpec
public import Idealize.ShloMosaic.Lib.Pipeline.ValueKit
public import Idealize.ShloMosaic.Lib.WholeRead
public import Idealize.ShloMosaic.Lib.VecWindow

@[expose] public section

set_option maxRecDepth 16384

noncomputable section

namespace Cert.NbrIdeal.Head

open Cert.NbrIdeal Cert.NbrIdeal.Gen Cert.Attn Idealize.ShloMosaic Idealize.ShloMosaic.TcCoe Idealize.SL.Sem
open Idealize.ShloMosaic.Pointwise
open scoped BigOperators

/-- A head of a softmax attention over 512 keys with a bias and 256 further keys without, as the body's operations. -/
def head (q : FVec Ideal S64x64 .f32) (k : FVec Ideal S512x64 .f32) (ck : FVec Ideal S256x64 .f32) (v : FVec Ideal S512x64 .f32)
    (cv : FVec Ideal S256x64 .f32) (w : Vec Ideal S1x1x64x512 .f32) : FVec Ideal S64x64 .f32 :=
  let qs := truncf .bf16 (mulf q (broadcast S64x64 (Scalar.ofBits (F := Ideal) .f32 0x3E000000#32))) bitsLt_bf16_f32
  let s : FVec Ideal S64x512 .f32 := addf (matmul dot_S64x64_S512x64_S64x512_1_1_0_0_n_n none qs
    (truncf .bf16 k bitsLt_bf16_f32) (constant S64x512 .f32 0x00000000#32)) (shapeCast S64x512 w shapeCasts_S1x1x64x512_S64x512)
  let t : FVec Ideal S64x256 .f32 := matmul dot_S64x64_S256x64_S64x256_1_1_0_0_n_n none qs
    (truncf .bf16 ck bitsLt_bf16_f32) (constant S64x256 .f32 0x00000000#32)
  let m : FVec Ideal S64x1 .f32 := maximumf (shapeCast S64x1
    (multiReduction .maximumf [1] S64 s 0xFF800000#32 reduces_S64x512_S64 (.inl rfl) rfl) shapeCasts_S64_S64x1)
    (shapeCast S64x1 (multiReduction .maximumf [1] S64 t 0xFF800000#32 reduces_S64x256_S64 (.inl rfl) rfl) shapeCasts_S64_S64x1)
  let p : FVec Ideal S64x512 .f32 := exp (subf s (broadcastTo S64x512 m broadcasts_S64x1_S64x512))
  let r : FVec Ideal S64x256 .f32 := exp (subf t (broadcastTo S64x256 m broadcasts_S64x1_S64x256))
  let l : FVec Ideal S64x1 .f32 := divf (broadcast S64x1 (Scalar.ofBits (F := Ideal) .f32 0x3F800000#32)) (addf (shapeCast S64x1
    (multiReduction .add [1] S64 p 0x00000000#32 reduces_S64x512_S64 (.inl rfl) rfl) shapeCasts_S64_S64x1)
    (shapeCast S64x1 (multiReduction .add [1] S64 r 0x00000000#32 reduces_S64x256_S64 (.inl rfl) rfl) shapeCasts_S64_S64x1))
  addf (matmul dot_S64x512_S512x64_S64x64_1_0_0_1_n_n none
      (truncf .bf16 (mulf p (broadcastTo S64x512 l broadcasts_S64x1_S64x512)) bitsLt_bf16_f32)
      (truncf .bf16 v bitsLt_bf16_f32) (constant S64x64 .f32 0x00000000#32))
    (matmul dot_S64x256_S256x64_S64x64_1_0_0_1_n_n none
      (truncf .bf16 (mulf r (broadcastTo S64x256 l broadcasts_S64x1_S64x256)) bitsLt_bf16_f32)
      (truncf .bf16 cv bitsLt_bf16_f32) (constant S64x64 .f32 0x00000000#32))

/-- A head at an index: the softmax of the scores of both parts against the values' column. -/
theorem head_apply (q : FVec Ideal S64x64 .f32) (k : FVec Ideal S512x64 .f32) (ck : FVec Ideal S256x64 .f32)
    (v : FVec Ideal S512x64 .f32) (cv : FVec Ideal S256x64 .f32) (w : Vec Ideal S1x1x64x512 .f32) (r : Fin 64) (d : Fin 64)
    (hq : ∀ i, Fine (q i)) (hk : ∀ i, Fine (k i)) (hck : ∀ i, Fine (ck i)) (hw : ∀ j, Fine (w (ix4 0 0 r j))) :
    head q k ck v cv w (ix2 r d)
      = soft (join (a := 512) (b := 256) (n := 768) rfl (fun j => (∑ e, k (ix2 j e) * q (ix2 r e)) * c8 + w (ix4 0 0 r j))
          (fun j => (∑ e, ck (ix2 j e) * q (ix2 r e)) * c8))
        (join (a := 512) (b := 256) (n := 768) rfl (fun j => v (ix2 j d)) (fun j => cv (ix2 j d))) := by
  unfold head
  pointwise
  have h0 : (0 : EReal) ≤ Ideal.ofBits .f32 0x3E000000#32 := by rw [eighth]; exact EReal.coe_nonneg.mpr (by norm_num)
  have h1 : Ideal.ofBits .f32 0x3E000000#32 ≠ ⊤ := by rw [eighth]; exact EReal.coe_ne_top _
  have e1 : ∀ j : Fin 512, ∑ i, q (ix2 r i) * Ideal.ofBits .f32 0x3E000000#32 * k (ix2 j i)
      = (∑ i, k (ix2 j i) * q (ix2 r i)) * Ideal.ofBits .f32 0x3E000000#32 :=
    fun j => score_scale (fun i => q (ix2 r i)) (fun i => k (ix2 j i)) h0 h1
  have e2 : ∀ j : Fin 256, ∑ i, q (ix2 r i) * Ideal.ofBits .f32 0x3E000000#32 * ck (ix2 j i)
      = (∑ i, ck (ix2 j i) * q (ix2 r i)) * Ideal.ofBits .f32 0x3E000000#32 :=
    fun j => score_scale (fun i => q (ix2 r i)) (fun i => ck (ix2 j i)) h0 h1
  simp only [e1, e2, negInf]
  have fc : Fine (Ideal.ofBits .f32 0x3E000000#32) := by rw [eighth]; exact Fine.coe _
  exact soft_parts (a := 512) (b := 256) (n := 768) rfl
    (fun j => (∑ i, k (ix2 j i) * q (ix2 r i)) * Ideal.ofBits .f32 0x3E000000#32 + w (ix4 0 0 r j)) (fun j => v (ix2 j d))
    (fun j => (∑ i, ck (ix2 j i) * q (ix2 r i)) * Ideal.ofBits .f32 0x3E000000#32) (fun j => cv (ix2 j d)) ⟨0, by norm_num⟩
    (fun j => ((Fine.sum _ _ fun i _ => (hk _).mul (hq _)).mul fc).add (hw j)) (fun j => (Fine.sum _ _ fun i _ => (hck _).mul (hq _)).mul fc)

/-! ## The body's block: four heads beside one another -/

/-- The attention's block: four heads, each with its own bias. -/
def heads (Q : Vec Ideal S64x256 .f32) (K V : Vec Ideal S512x256 .f32) (CK CV : Vec Ideal S1x256x256 .f32)
    (W : Fin 4 → Vec Ideal S1x1x64x512 .f32) : FVec Ideal S64x256 .f32 :=
  concatenate S64x256 1 [
    ⟨S64x64, head (extractStridedSlice S64x64 ![0, 0] Q slices_S64x256_o0_0_S64x64)
      (extractStridedSlice S512x64 ![0, 0] K slices_S512x256_o0_0_S512x64)
      (extractStridedSlice S256x64 ![0, 0] (shapeCast S256x256 CK shapeCasts_S1x256x256_S256x256) slices_S256x256_o0_0_S256x64)
      (extractStridedSlice S512x64 ![0, 0] V slices_S512x256_o0_0_S512x64)
      (extractStridedSlice S256x64 ![0, 0] (shapeCast S256x256 CV shapeCasts_S1x256x256_S256x256) slices_S256x256_o0_0_S256x64) (W 0)⟩,
    ⟨S64x64, head (extractStridedSlice S64x64 ![0, 64] Q slices_S64x256_o0_64_S64x64)
      (extractStridedSlice S512x64 ![0, 64] K slices_S512x256_o0_64_S512x64)
      (extractStridedSlice S256x64 ![0, 64] (shapeCast S256x256 CK shapeCasts_S1x256x256_S256x256) slices_S256x256_o0_64_S256x64)
      (extractStridedSlice S512x64 ![0, 64] V slices_S512x256_o0_64_S512x64)
      (extractStridedSlice S256x64 ![0, 64] (shapeCast S256x256 CV shapeCasts_S1x256x256_S256x256) slices_S256x256_o0_64_S256x64) (W 1)⟩,
    ⟨S64x64, head (extractStridedSlice S64x64 ![0, 128] Q slices_S64x256_o0_128_S64x64)
      (extractStridedSlice S512x64 ![0, 128] K slices_S512x256_o0_128_S512x64)
      (extractStridedSlice S256x64 ![0, 128] (shapeCast S256x256 CK shapeCasts_S1x256x256_S256x256) slices_S256x256_o0_128_S256x64)
      (extractStridedSlice S512x64 ![0, 128] V slices_S512x256_o0_128_S512x64)
      (extractStridedSlice S256x64 ![0, 128] (shapeCast S256x256 CV shapeCasts_S1x256x256_S256x256) slices_S256x256_o0_128_S256x64) (W 2)⟩,
    ⟨S64x64, head (extractStridedSlice S64x64 ![0, 192] Q slices_S64x256_o0_192_S64x64)
      (extractStridedSlice S512x64 ![0, 192] K slices_S512x256_o0_192_S512x64)
      (extractStridedSlice S256x64 ![0, 192] (shapeCast S256x256 CK shapeCasts_S1x256x256_S256x256) slices_S256x256_o0_192_S256x64)
      (extractStridedSlice S512x64 ![0, 192] V slices_S512x256_o0_192_S512x64)
      (extractStridedSlice S256x64 ![0, 192] (shapeCast S256x256 CV shapeCasts_S1x256x256_S256x256) slices_S256x256_o0_192_S256x64) (W 3)⟩]
    concatenates_S64x64_S64x64_S64x64_S64x64_S64x256_d1

/-- The body's stored block is the four heads of what it loads. -/
theorem stored (v6 v8 : Vec Ideal S512x256 .f32) (v9 : Vec Ideal S64x256 .f32) (v10 v12 : Vec Ideal S1x256x256 .f32)
    (t0 t1 t2 t3 : Vec Ideal S1x1x64x512 .f32) :
    k0_pay1 (k0_pay11 (k0_pay5 v6 v9 t0) (k0_pay6 v9 v10) (k0_pay7 v8) (k0_pay8 v12) (k0_pay9 v6 v9 v10 t0) (k0_pay10 v6 v9 v10 t0))
      (k0_pay19 (k0_pay14 v9 (k0_pay2 v10)) (k0_pay15 v8) (k0_pay16 (k0_pay3 v12)) (k0_pay17 v6 v9 (k0_pay2 v10) t1) (k0_pay18 v6 v9 (k0_pay2 v10) t1))
      (k0_pay28 (k0_pay23 v8) (k0_pay24 (k0_pay3 v12)) (k0_pay26 v6 v9 (k0_pay2 v10) t2) (k0_pay27 v6 v9 (k0_pay2 v10) t2))
      (k0_pay32 v8) (k0_pay33 (k0_pay3 v12)) (k0_pay35 v6 v9 (k0_pay2 v10) t3) (k0_pay36 v6 v9 (k0_pay2 v10) t3)
      = heads v9 v6 v8 v10 v12 ![t0, t1, t2, t3] := rfl

/-- Sixty-four columns of a block of `n` rows, from column `o` on. -/
def cols (n : ℕ) {b : ℕ} (x : (⟨2, ![n, b]⟩ : Shape).Idx → EReal) (o : ℕ) : FVec Ideal (⟨2, ![n, 64]⟩ : Shape) .f32 :=
  fun i => at2 x (i 0).val (o + (i 1).val)

/-- A slice of 64 columns is the columns from its offset on. -/
theorem slice64 (x : FVec Ideal S64x256 .f32) (o : ℕ) (h : S64x256.Slices ![0, o] S64x64) (ho : o + 64 ≤ 256) :
    extractStridedSlice S64x64 ![0, o] x h = cols 64 x o := by
  funext i
  have h0 : (i 0).val < 64 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- The same of 256 rows. -/
theorem slice256 (x : FVec Ideal S256x256 .f32) (o : ℕ) (h : S256x256.Slices ![0, o] S256x64) (ho : o + 64 ≤ 256) :
    extractStridedSlice S256x64 ![0, o] x h = cols 256 x o := by
  funext i
  have h0 : (i 0).val < 256 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- The same of 512 rows. -/
theorem slice512 (x : FVec Ideal S512x256 .f32) (o : ℕ) (h : S512x256.Slices ![0, o] S512x64) (ho : o + 64 ≤ 256) :
    extractStridedSlice S512x64 ![0, o] x h = cols 512 x o := by
  funext i
  have h0 : (i 0).val < 512 := (i 0).isLt
  have h1 : (i 1).val < 64 := (i 1).isLt
  unfold cols
  rw [at2_in x h0 (by omega)]
  exact congrArg x (funext fun a => match a with
    | ⟨0, _⟩ => Fin.ext (Nat.zero_add _)
    | ⟨1, _⟩ => Fin.ext rfl)

/-- Head `n` of the four. -/
def headN (Q : Vec Ideal S64x256 .f32) (K V : Vec Ideal S512x256 .f32) (CK CV : Vec Ideal S1x256x256 .f32)
    (W : Fin 4 → Vec Ideal S1x1x64x512 .f32) (n : Fin 4) : FVec Ideal S64x64 .f32 :=
  head (cols 64 Q (n.val * 64)) (cols 512 K (n.val * 64)) (cols 256 (shapeCast S256x256 CK shapeCasts_S1x256x256_S256x256) (n.val * 64))
    (cols 512 V (n.val * 64)) (cols 256 (shapeCast S256x256 CV shapeCasts_S1x256x256_S256x256) (n.val * 64)) (W n)

/-- The block is the four heads beside one another. -/
theorem heads_eq (Q : Vec Ideal S64x256 .f32) (K V : Vec Ideal S512x256 .f32) (CK CV : Vec Ideal S1x256x256 .f32)
    (W : Fin 4 → Vec Ideal S1x1x64x512 .f32) :
    heads Q K V CK CV W = concatenate S64x256 1 [⟨S64x64, headN Q K V CK CV W 0⟩, ⟨S64x64, headN Q K V CK CV W 1⟩,
      ⟨S64x64, headN Q K V CK CV W 2⟩, ⟨S64x64, headN Q K V CK CV W 3⟩] concatenates_S64x64_S64x64_S64x64_S64x64_S64x256_d1 := by
  unfold heads
  rw [slice64 Q 0 _ (by norm_num), slice512 K 0 _ (by norm_num), slice512 V 0 _ (by norm_num),
    slice256 (shapeCast S256x256 CK shapeCasts_S1x256x256_S256x256) 0 _ (by norm_num),
    slice256 (shapeCast S256x256 CV shapeCasts_S1x256x256_S256x256) 0 _ (by norm_num)]
  rw [slice64 Q 64 _ (by norm_num), slice512 K 64 _ (by norm_num), slice512 V 64 _ (by norm_num),
    slice256 (shapeCast S256x256 CK shapeCasts_S1x256x256_S256x256) 64 _ (by norm_num),
    slice256 (shapeCast S256x256 CV shapeCasts_S1x256x256_S256x256) 64 _ (by norm_num)]
  rw [slice64 Q 128 _ (by norm_num), slice512 K 128 _ (by norm_num), slice512 V 128 _ (by norm_num),
    slice256 (shapeCast S256x256 CK shapeCasts_S1x256x256_S256x256) 128 _ (by norm_num),
    slice256 (shapeCast S256x256 CV shapeCasts_S1x256x256_S256x256) 128 _ (by norm_num)]
  rw [slice64 Q 192 _ (by norm_num), slice512 K 192 _ (by norm_num), slice512 V 192 _ (by norm_num),
    slice256 (shapeCast S256x256 CK shapeCasts_S1x256x256_S256x256) 192 _ (by norm_num),
    slice256 (shapeCast S256x256 CV shapeCasts_S1x256x256_S256x256) 192 _ (by norm_num)]
  rfl

/-- The block at a row and a column is the head its column names, at the column within it. -/
theorem heads_apply (Q : Vec Ideal S64x256 .f32) (K V : Vec Ideal S512x256 .f32) (CK CV : Vec Ideal S1x256x256 .f32)
    (W : Fin 4 → Vec Ideal S1x1x64x512 .f32) (r : Fin 64) (c : Fin 256) :
    heads Q K V CK CV W (ix2 r c)
      = headN Q K V CK CV W ⟨c.val / 64, by omega⟩ (ix2 r ⟨c.val % 64, Nat.mod_lt _ (by norm_num)⟩) := by
  rw [heads_eq]
  generalize headN Q K V CK CV W = f
  exact concatenate_ofFn_apply (t := S64x256) (s₁ := S64x64) (1 : Fin 2) f _ rfl 64 rfl
    (ix2 r c) ⟨c.val / 64, by omega⟩ rfl (ix2 r ⟨c.val % 64, _⟩) rfl
    (fun b hb => match b with | ⟨0, _⟩ => rfl | ⟨1, _⟩ => absurd rfl hb)

end Cert.NbrIdeal.Head

end
-- ==== Proof.NbrBlock.lean ====
/-
  The neighbourhood attention's block: what the body loads at a grid point and what it leaves in its output block.
-/
module

public import proofs.«01_k».proof.Proof.NbrHead

@[expose] public section

set_option maxRecDepth 16384

noncomputable section

namespace Cert.NbrIdeal.Head

open Cert.NbrIdeal Cert.NbrIdeal.Gen Cert.Attn Idealize.ShloMosaic Idealize.ShloMosaic.TcCoe Idealize.SL.Sem
open Idealize.ShloMosaic.Pointwise
open scoped BigOperators

/-- A cached block's rows and columns. -/
theorem cast_at (x : Vec Ideal S1x256x256 .f32) (r c : ℕ) (hr : r < 256) (hc : c < 256) :
    at2 (shapeCast S256x256 x shapeCasts_S1x256x256_S256x256) r c = x (ix3 0 ⟨r, hr⟩ ⟨c, hc⟩) := by
  rw [at2_in _ hr hc]
  pointwise

section
variable (c : Dev nD) (i : grid0.Coords) (arg2 : Memref sig .tc .vmem S64x768 .f32) (harg2 : arg2.IsWhole)
  (arg3 : Memref sig .tc .vmem S1024x768 .f32) (harg3 : arg3.IsWhole) (arg4 : Memref sig .tc .vmem S1x256x256 .f32) (harg4 : arg4.IsWhole)
  (arg5 : Memref sig .tc .vmem S1x256x256 .f32) (harg5 : arg5.IsWhole) (arg6 : Memref sig .tc .vmem S4x1x64x512 .f32) (harg6 : arg6.IsWhole)
  (arg7 : Memref sig .tc .vmem S64x256 .f32) (harg7 : arg7.IsWhole)
  (x0 : Vec Ideal S64x768 .f32) (x1 : Vec Ideal S1024x768 .f32) (x2 x3 : Vec Ideal S1x256x256 .f32) (x4 : Vec Ideal S4x1x64x512 .f32)

/-- The queries' columns. -/
theorem queries_at (r k : ℕ) (hr : r < 64) (hk : k < 256) :
    at2 (a := 64) (b := 256) (View.readAt (Elt Ideal) arg2.view (Rect.unit (s := S64x768) ![0, 0] S64x256.size inb_S64x768_S64x256_0_0).toLoadRect
      (harg2.unread x0)) r k = at2 (a := 64) (b := 768) x0 r k := by
  rw [at2_in _ hr hk, at2_in _ hr (by omega), harg2.readAt_unread]
  refine congrArg x0 (funext fun a => Fin.ext ?_)
  match a with
  | ⟨0, _⟩ => show 0 + 1 * r = r; omega
  | ⟨1, _⟩ => show 0 + 1 * k = k; omega

/-- The window's keys. -/
theorem keys_at (w : ℕ) (hw : w ≤ 8) (ho : k0_off1 i = ![64 * w, 256]) (r k : ℕ) (hr : r < 512) (hk : k < 256) :
    at2 (a := 512) (b := 256) (View.readAt (Elt Ideal) arg3.view (Rect.unit (s := S1024x768) (k0_off1 i) S512x256.size (k0_off1_inb i)).toLoadRect
      (harg3.unread x1)) r k = at2 (a := 1024) (b := 768) x1 (64 * w + r) (256 + k) := by
  rw [at2_in _ hr hk, at2_in _ (by omega) (by omega), harg3.readAt_unread]
  refine congrArg x1 (funext fun a => Fin.ext ?_)
  match a with
  | ⟨0, _⟩ => show (k0_off1 i) 0 + 1 * r = 64 * w + r; rw [ho, Nat.one_mul]; rfl
  | ⟨1, _⟩ => show (k0_off1 i) 1 + 1 * k = 256 + k; rw [ho, Nat.one_mul]; rfl

/-- The window's values. -/
theorem values_at (w : ℕ) (hw : w ≤ 8) (ho : k0_off2 i = ![64 * w, 512]) (r k : ℕ) (hr : r < 512) (hk : k < 256) :
    at2 (a := 512) (b := 256) (View.readAt (Elt Ideal) arg3.view (Rect.unit (s := S1024x768) (k0_off2 i) S512x256.size (k0_off2_inb i)).toLoadRect
      (harg3.unread x1)) r k = at2 (a := 1024) (b := 768) x1 (64 * w + r) (512 + k) := by
  rw [at2_in _ hr hk, at2_in _ (by omega) (by omega), harg3.readAt_unread]
  refine congrArg x1 (funext fun a => Fin.ext ?_)
  match a with
  | ⟨0, _⟩ => show (k0_off2 i) 0 + 1 * r = 64 * w + r; rw [ho, Nat.one_mul]; rfl
  | ⟨1, _⟩ => show (k0_off2 i) 1 + 1 * k = 512 + k; rw [ho, Nat.one_mul]; rfl

/-- A head's bias. -/
theorem bias_at (h : Fin 4) (hin : ∀ a, (![h.val, 0, 0, 0] : Fin 4 → ℕ) a + S1x1x64x512.size a ≤ S4x1x64x512.size a) (r : Fin 64) (j : Fin 512) :
    (View.readAt (Elt Ideal) arg6.view (Rect.unit (s := S4x1x64x512) ![h.val, 0, 0, 0] S1x1x64x512.size hin).toLoadRect
      (harg6.unread x4) : Vec Ideal S1x1x64x512 .f32) (ix4 0 0 r j) = x4 (ix4 h 0 r j) := by
  rw [harg6.readAt_unread]
  refine congrArg x4 (funext fun a => Fin.ext ?_)
  match a with
  | ⟨0, _⟩ => show h.val + 1 * 0 = h.val; omega
  | ⟨1, _⟩ => rfl
  | ⟨2, _⟩ => show 0 + 1 * r.val = r.val; omega
  | ⟨3, _⟩ => show 0 + 1 * j.val = j.val; omega

/-- Four heads of blocks that hold an array's entries are the attention. -/
theorem heads_block (Q : Vec Ideal S64x256 .f32) (K V : Vec Ideal S512x256 .f32) (CKb CVb : Vec Ideal S1x256x256 .f32)
    (W : Fin 4 → Vec Ideal S1x1x64x512 .f32) (X : ℕ → ℕ → EReal) (CK CV T : ℕ → ℕ → ℕ → ℕ → EReal) (B G : ℕ) (hG : G < 16)
    (hq : ∀ r k, r < 64 → k < 256 → at2 Q r k = X (4096 + (B * 1024 + G * 64 + r)) k)
    (hk : ∀ r k, r < 512 → k < 256 → at2 K r k = X (4096 + B * 1024 + (64 * wstart G + r)) (256 + k))
    (hv : ∀ r k, r < 512 → k < 256 → at2 V r k = X (4096 + B * 1024 + (64 * wstart G + r)) (512 + k))
    (h2 : ∀ (r : Fin 256) (k : Fin 256), CKb (ix3 0 r k) = CK B r.val (k.val / 64) (k.val % 64))
    (h3 : ∀ (r : Fin 256) (k : Fin 256), CVb (ix3 0 r k) = CV B r.val (k.val / 64) (k.val % 64))
    (h4 : ∀ (h : Fin 4) (r : Fin 64) (j : Fin 512), W h (ix4 0 0 r j) = T h.val (G - wstart G) r.val j.val)
    (fX : ∀ i j, Fine (X i j)) (fK : ∀ i j k l, Fine (CK i j k l)) (fT : ∀ i j k l, Fine (T i j k l)) (r : Fin 64) (k : Fin 256) :
    heads Q K V CKb CVb W (ix2 r k) = nbrAt c8 X CK CV T (B * 1024 + G * 64 + r.val) k.val := by
  have hr := r.isLt
  have hk' := k.isLt
  have eB : (B * 1024 + G * 64 + r.val) / 1024 = B := by omega
  have eG : (B * 1024 + G * 64 + r.val) % 1024 / 64 = G := by omega
  have eR : (B * 1024 + G * 64 + r.val) % 64 = r.val := by omega
  rw [heads_apply]
  unfold headN
  rw [head_apply]
  · unfold nbrAt nbrScore nbrValue
    rw [eB, eG, eR]
    have q : ∀ e : Fin 64, cols 64 Q (k.val / 64 * 64) (ix2 r e) = X (4096 + (B * 1024 + G * 64 + r.val)) (k.val / 64 * 64 + e.val) :=
      fun e => by
        show at2 Q r.val (k.val / 64 * 64 + e.val) = _
        exact hq _ _ hr (by omega)
    refine congrArg₂ soft (congrArg₂ (join _) (funext fun j => congrArg₂ (· + ·) (congrArg (· * c8) (Finset.sum_congr rfl fun e _ => congrArg₂ (· * ·) ?_ (q e))) ?_)
      (funext fun j => congrArg (· * c8) (Finset.sum_congr rfl fun e _ => congrArg₂ (· * ·) ?_ (q e))))
      (congrArg₂ (join _) (funext fun j => ?_) (funext fun j => ?_))
    · show at2 K j.val (k.val / 64 * 64 + e.val) = _
      rw [hk _ _ j.isLt (by omega), Nat.add_assoc 256]
    · exact h4 _ r j
    · show at2 (shapeCast S256x256 CKb shapeCasts_S1x256x256_S256x256) j.val (k.val / 64 * 64 + e.val) = _
      rw [cast_at _ _ _ j.isLt (by omega), h2]
      show CK B j.val ((k.val / 64 * 64 + e.val) / 64) ((k.val / 64 * 64 + e.val) % 64) = _
      rw [show (k.val / 64 * 64 + e.val) / 64 = k.val / 64 by omega, show (k.val / 64 * 64 + e.val) % 64 = e.val by omega]
    · show at2 V j.val (k.val / 64 * 64 + k.val % 64) = _
      rw [hv _ _ j.isLt (by omega), show k.val / 64 * 64 + k.val % 64 = k.val by omega]
    · show at2 (shapeCast S256x256 CVb shapeCasts_S1x256x256_S256x256) j.val (k.val / 64 * 64 + k.val % 64) = _
      rw [cast_at _ _ _ j.isLt (by omega), h3]
      show CV B j.val ((k.val / 64 * 64 + k.val % 64) / 64) ((k.val / 64 * 64 + k.val % 64) % 64) = _
      rw [show k.val / 64 * 64 + k.val % 64 = k.val by omega]
  · intro i
    have i0 : (i 0).val < 64 := (i 0).isLt
    have i1 : (i 1).val < 64 := (i 1).isLt
    show Fine (at2 Q (i 0).val (k.val / 64 * 64 + (i 1).val))
    rw [hq _ _ i0 (by omega)]
    exact fX _ _
  · intro i
    have i0 : (i 0).val < 512 := (i 0).isLt
    have i1 : (i 1).val < 64 := (i 1).isLt
    show Fine (at2 K (i 0).val (k.val / 64 * 64 + (i 1).val))
    rw [hk _ _ i0 (by omega)]
    exact fX _ _
  · intro i
    have i0 : (i 0).val < 256 := (i 0).isLt
    have i1 : (i 1).val < 64 := (i 1).isLt
    show Fine (at2 (shapeCast S256x256 CKb shapeCasts_S1x256x256_S256x256) (i 0).val (k.val / 64 * 64 + (i 1).val))
    rw [cast_at _ _ _ i0 (by omega), h2]
    exact fK _ _ _ _
  · intro j
    rw [h4]
    exact fT _ _ _ _

/-- What a grid point leaves in its block. -/
theorem block5 (X : ℕ → ℕ → EReal) (CK CV T : ℕ → ℕ → ℕ → ℕ → EReal) (B G : ℕ) (hG : G < 16)
    (ho1 : k0_off1 i = ![64 * wstart G, 256]) (ho2 : k0_off2 i = ![64 * wstart G, 512])
    (h0 : ∀ r k, r < 64 → k < 768 → at2 (a := 64) (b := 768) x0 r k = X (4096 + (B * 1024 + G * 64 + r)) k)
    (h1 : ∀ r k, r < 1024 → k < 768 → at2 (a := 1024) (b := 768) x1 r k = X (4096 + B * 1024 + r) k)
    (h2 : ∀ (r : Fin 256) (k : Fin 256), x2 (ix3 0 r k) = CK B r.val (k.val / 64) (k.val % 64))
    (h3 : ∀ (r : Fin 256) (k : Fin 256), x3 (ix3 0 r k) = CV B r.val (k.val / 64) (k.val % 64))
    (h4 : ∀ (h : Fin 4) (r : Fin 64) (j : Fin 512), x4 (ix4 h 0 r j) = T h.val (G - wstart G) r.val j.val)
    (fX : ∀ i j, Fine (X i j)) (fK : ∀ i j k l, Fine (CK i j k l)) (fT : ∀ i j k l, Fine (T i j k l)) (r : Fin 64) (k : Fin 256) :
    out0_A_5 c i arg2 harg2 arg3 harg3 arg4 harg4 arg5 harg5 arg6 harg6 arg7 harg7 x0 x1 x2 x3 x4 (ix2 r k)
      = nbrAt c8 X CK CV T (B * 1024 + G * 64 + r.val) k.val := by
  have hw : wstart G ≤ 8 := Nat.min_le_right _ _
  unfold out0_A_5 kernelRun0_A
  dsimp only
  refine (congrFun (View.read_writes_full VO0_5 _ inb_S64x256_S64x256_0_0 _ []) (ix2 r k)).trans ?_
  refine (congrFun (stored _ _ _ _ _ _ _ _ _) (ix2 r k)).trans ?_
  refine heads_block _ _ _ _ _ _ X CK CV T B G hG (fun r k hr hk => ?_) (fun r k hr hk => ?_) (fun r k hr hk => ?_) (fun r k => ?_) (fun r k => ?_)
    (fun h r j => ?_) fX fK fT r k
  · exact (queries_at arg2 harg2 x0 r k hr hk).trans (h0 r k hr (by omega))
  · exact (keys_at i arg3 harg3 x1 _ hw ho1 r k hr hk).trans (h1 _ _ (by omega) (by omega))
  · exact (values_at i arg3 harg3 x1 _ hw ho2 r k hr hk).trans (h1 _ _ (by omega) (by omega))
  · exact (congrFun ((View.readAt_full _ _ _).trans (harg4.read_unread x2)) (ix3 0 r k)).trans (h2 r k)
  · exact (congrFun ((View.readAt_full _ _ _).trans (harg5.read_unread x3)) (ix3 0 r k)).trans (h3 r k)
  · refine Eq.trans ?_ (h4 h r j)
    match h with
    | ⟨0, _⟩ => exact bias_at arg6 harg6 x4 0 inb_S4x1x64x512_S1x1x64x512_0_0_0_0 r j
    | ⟨1, _⟩ => exact bias_at arg6 harg6 x4 1 inb_S4x1x64x512_S1x1x64x512_1_0_0_0 r j
    | ⟨2, _⟩ => exact bias_at arg6 harg6 x4 2 inb_S4x1x64x512_S1x1x64x512_2_0_0_0 r j
    | ⟨3, _⟩ => exact bias_at arg6 harg6 x4 3 inb_S4x1x64x512_S1x1x64x512_3_0_0_0 r j

end

end Cert.NbrIdeal.Head

end
-- ==== Proof.NbrValue.lean ====
/-
  The neighbourhood attention's kernel as one function of its argument arrays: what a grid point leaves in its output
  block, and the result array after the run.
-/
module

public import proofs.«01_k».proof.Proof.NbrBlock

@[expose] public section

set_option maxRecDepth 16384

noncomputable section

namespace Cert.NbrIdeal.Head

open Cert.NbrIdeal Cert.NbrIdeal.Gen Cert.Attn Idealize.ShloMosaic Idealize.ShloMosaic.TcCoe Idealize.SL.Sem Idealize.ShloMosaic.StableHlo
open Idealize.ShloMosaic.Pointwise
open Idealize.ShloMosaic.Pipeline (Dat)

variable (m : (ℓ : Loc nD τ sig) → Buf (Elt Ideal) ℓ) (ρ : Dev nD → PrngReg)

/-- The projected rows. -/
abbrev a0 (c : Dev nD) : FVec Ideal S8192x768 .f32 := m ((c : Thread nD τ).loc main_arg0)
/-- The cached keys. -/
abbrev a1 (c : Dev nD) : FVec Ideal S4x256x4x64 .f32 := m ((c : Thread nD τ).loc main_arg1)
/-- The cached values. -/
abbrev a2 (c : Dev nD) : FVec Ideal S4x256x4x64 .f32 := m ((c : Thread nD τ).loc main_arg2)
/-- The bias table. -/
abbrev a3 (c : Dev nD) : FVec Ideal S4x8x64x512 .f32 := m ((c : Thread nD τ).loc main_arg3)

/-- The cached keys' rows. -/
theorem V0 (c : Dev nD) : (V m c main_v0 : FVec Ideal S4x256x256 .f32) = shapeCast S4x256x256 (a1 m c) shapeCasts_S4x256x4x64_S4x256x256 := by
  unfold V
  simp only [hostOps0, List.flatten_cons, List.flatten_nil, List.append_nil, List.cons_append, List.nil_append, TRef.binary, TRef.unary, TRef.toBuf, TRef.ofBuf, cast_eq]
  after_results_simp <;> rfl

/-- The cached keys' entry. -/
theorem V0_at (c : Dev nD) (b : Fin 4) (r k : Fin 256) :
    (V m c main_v0 : FVec Ideal S4x256x256 .f32) (ix3 b r k) = at4 (a1 m c) b.val r.val (k.val / 64) (k.val % 64) := by
  rw [V0, at4_in _ b.isLt r.isLt (show k.val / 64 < 4 by omega) (Nat.mod_lt _ (by norm_num))]
  generalize a1 m c = w
  pointwise

/-- The cached values' rows. -/
theorem V1 (c : Dev nD) : (V m c main_v1 : FVec Ideal S4x256x256 .f32) = shapeCast S4x256x256 (a2 m c) shapeCasts_S4x256x4x64_S4x256x256 := by
  unfold V
  simp only [hostOps0, List.flatten_cons, List.flatten_nil, List.append_nil, List.cons_append, List.nil_append, TRef.binary, TRef.unary, TRef.toBuf, TRef.ofBuf, cast_eq]
  after_results_simp <;> rfl

/-- The cached values' entry. -/
theorem V1_at (c : Dev nD) (b : Fin 4) (r k : Fin 256) :
    (V m c main_v1 : FVec Ideal S4x256x256 .f32) (ix3 b r k) = at4 (a2 m c) b.val r.val (k.val / 64) (k.val % 64) := by
  rw [V1, at4_in _ b.isLt r.isLt (show k.val / 64 < 4 by omega) (Nat.mod_lt _ (by norm_num))]
  generalize a2 m c = w
  pointwise

/-- The windows' block indices. -/
theorem idx : ∀ t : Fin cfg0.N, win0_0.index t = ![64 + t.val, 0] ∧ win0_1.index t = ![4 + t.val / 16, 0]
    ∧ win0_2.index t = ![t.val / 16, 0, 0] ∧ win0_3.index t = ![t.val / 16, 0, 0]
    ∧ win0_4.index t = ![0, t.val % 16 - wstart (t.val % 16), 0, 0] ∧ win0_5.index t = ![t.val, 0] :=
  (by decide +kernel : ∀ t : Fin grid0.N, _)

/-- The windows' offsets. -/
theorem offs : ∀ t : Fin cfg0.N, k0_off1 (grid0.coords t) = ![64 * wstart (t.val % 16), 256]
    ∧ k0_off2 (grid0.coords t) = ![64 * wstart (t.val % 16), 512] :=
  (by decide +kernel : ∀ t : Fin grid0.N, _)

/-- There are sixty-four points. -/
theorem lt64 (t : Fin cfg0.N) : t.val < 64 := by
  have h := t.isLt
  have e : cfg0.N = 64 := N_0
  omega

/-- A point's block of query rows. -/
theorem iblk0 (c : Dev nD) (t : Fin cfg0.N) (r k : ℕ) (hr : r < 64) (hk : k < 768) :
    at2 (a := 64) (b := 768) (iblk m c 0 t) r k = at2 (a0 m c) (4096 + (t.val / 16 * 1024 + t.val % 16 * 64 + r)) k := by
  have ht := lt64 t
  rw [show 4096 + (t.val / 16 * 1024 + t.val % 16 * 64 + r) = (64 + t.val) * 64 + r by omega,
    at2_in _ hr hk, at2_in _ (show (64 + t.val) * 64 + r < 8192 by omega) hk]
  blk_ext! [iblk, V, idx t]

/-- A point's sequence of key and value rows. -/
theorem iblk1 (c : Dev nD) (t : Fin cfg0.N) (r k : ℕ) (hr : r < 1024) (hk : k < 768) :
    at2 (a := 1024) (b := 768) (iblk m c 1 t) r k = at2 (a0 m c) (4096 + t.val / 16 * 1024 + r) k := by
  have ht := lt64 t
  rw [show 4096 + t.val / 16 * 1024 + r = (4 + t.val / 16) * 1024 + r by omega,
    at2_in _ hr hk, at2_in _ (show (4 + t.val / 16) * 1024 + r < 8192 by omega) hk]
  blk_ext! [iblk, V, idx t]

/-- A point's cached keys. -/
theorem iblk2 (c : Dev nD) (t : Fin cfg0.N) (r k : Fin 256) :
    (iblk m c 2 t : Vec Ideal S1x256x256 .f32) (ix3 0 r k) = at4 (a1 m c) (t.val / 16) r.val (k.val / 64) (k.val % 64) := by
  have ht := lt64 t
  have e : (iblk m c 2 t : Vec Ideal S1x256x256 .f32) (ix3 0 r k)
      = (V m c main_v0 : FVec Ideal S4x256x256 .f32) (ix3 ⟨t.val / 16, by omega⟩ r k) := by
    blk_ext! [iblk, idx t]
  exact e.trans (V0_at m c _ r k)

/-- A point's cached values. -/
theorem iblk3 (c : Dev nD) (t : Fin cfg0.N) (r k : Fin 256) :
    (iblk m c 3 t : Vec Ideal S1x256x256 .f32) (ix3 0 r k) = at4 (a2 m c) (t.val / 16) r.val (k.val / 64) (k.val % 64) := by
  have ht := lt64 t
  have e : (iblk m c 3 t : Vec Ideal S1x256x256 .f32) (ix3 0 r k)
      = (V m c main_v1 : FVec Ideal S4x256x256 .f32) (ix3 ⟨t.val / 16, by omega⟩ r k) := by
    blk_ext! [iblk, idx t]
  exact e.trans (V1_at m c _ r k)

/-- A point's bias. -/
theorem iblk4 (c : Dev nD) (t : Fin cfg0.N) (h : Fin 4) (r : Fin 64) (j : Fin 512) :
    (iblk m c 4 t : Vec Ideal S4x1x64x512 .f32) (ix4 h 0 r j)
      = at4 (a3 m c) h.val (t.val % 16 - wstart (t.val % 16)) r.val j.val := by
  have hw : t.val % 16 - wstart (t.val % 16) < 8 := by unfold wstart; omega
  rw [at4_in _ h.isLt hw r.isLt j.isLt]
  blk_ext! [iblk, V, idx t]

/-- What the output holds after the run. -/
def G5 (c : Dev nD) : FVec Ideal S4096x256 .f32 := fun i =>
  nbrAt c8 (at2 (a0 m c)) (at4 (a1 m c)) (at4 (a2 m c)) (at4 (a3 m c)) (i 0).val (i 1).val

/-- The arguments the scores are made of are finite. -/
def Finite (c : Dev nD) : Prop := (∀ i, Fine (a0 m c i)) ∧ (∀ i, Fine (a1 m c i)) ∧ ∀ i, Fine (a3 m c i)

/-- The output after the run. -/
theorem final5 (c : Dev nD) (h : Finite m c) : (dats m 0 c).arrAt 5 cfg0.N = G5 m c := by
  obtain ⟨f0, f1, f3⟩ := h
  refine (dats m 0 c).arrAt_eq_of_covers 5 (G5 m c) (by decide +kernel) (fun t hf y => ?_)
  rw [after0_5]
  unfold outsAt0
  blk_simp
  have ht := lt64 t
  have y0 : (y 0).val < 64 := (y 0).isLt
  have y1 : (y 1).val < 256 := (y 1).isLt
  have ey : y = ix2 ⟨(y 0).val, y0⟩ ⟨(y 1).val, y1⟩ := by blk_ext
  have ee : (win0_5.blk t).view.emb y = ix2 ⟨t.val * 64 + (y 0).val, show t.val * 64 + (y 0).val < 4096 by omega⟩ ⟨(y 1).val, y1⟩ := by
    blk_ext [idx t]
  rw [ee]
  refine (congrArg _ ey).trans ?_
  refine (block5 _ _ _ _ _ _ _ _ _ _ _ _ _ _ _ _ _ _ _ (at2 (a0 m c)) (at4 (a1 m c)) (at4 (a2 m c)) (at4 (a3 m c)) (t.val / 16) (t.val % 16)
    (Nat.mod_lt _ (by norm_num)) (offs t).1 (offs t).2 (fun r k hr hk => iblk0 m c t r k hr hk) (fun r k hr hk => iblk1 m c t r k hr hk)
    (fun r k => iblk2 m c t r k) (fun r k => iblk3 m c t r k) (fun h r j => iblk4 m c t h r j)
    (fine_at2 _ f0) (fine_at4 _ f1) (fine_at4 _ f3) ⟨(y 0).val, y0⟩ ⟨(y 1).val, y1⟩).trans ?_
  show nbrAt _ _ _ _ _ (t.val / 16 * 1024 + t.val % 16 * 64 + (y 0).val) (y 1).val
    = nbrAt _ _ _ _ _ (t.val * 64 + (y 0).val) (y 1).val
  rw [show t.val / 16 * 1024 + t.val % 16 * 64 + (y 0).val = t.val * 64 + (y 0).val by omega]

/-- The run: the result array, the arguments unchanged. -/
theorem run (h : ∀ c, Finite m c) :
    θ_run defs (onTc (τ := τ) (main (F := Ideal))) ⟨m, fun _ => 0, ρ⟩ fun r => ∀ c : Dev nD,
      r.2.mem ((c : Thread nD τ).loc main_v2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ hr c => ⟨(hr c).1.trans (final5 m c (h c)), (hr c).2⟩)
    (Value.run_blocks m ρ)

end Cert.NbrIdeal.Head

end
-- ==== Proof.NbrWindow.lean ====
/-
  The grid of the latent neighbourhood attention's reference: the windows it gathers, read at an index.
-/
module

public import proofs.«01_k».proof.Proof.Gen.NbrRefIdeal.Read
public import proofs.«01_k».proof.Proof.NbrSpec
public import Idealize.ShloMosaic.Lib.Pipeline.ValueKit

@[expose] public section

set_option maxRecDepth 16384

noncomputable section

namespace Cert.NbrRefIdeal.At

open Cert.NbrRefIdeal Cert.NbrRefIdeal.Gen Cert.NbrRefIdeal.Read Cert.Attn Idealize.ShloMosaic Idealize.ShloMosaic.TcCoe Idealize.SL.Sem
open Idealize.ShloMosaic.Pointwise
open scoped BigOperators

/-- A window is within the sixteen rows. -/
theorem wstart_lt (g : Fin 16) (a : ℕ) (ha : a < 8) : wstart g.val + a < 16 := by
  unfold wstart
  omega

/-- A grid row is one of its window's eight. -/
theorem row_lt (g : Fin 16) : g.val - wstart g.val < 8 := by
  unfold wstart
  omega

/-- Rows taken off the grid: the row the index names, at most the last. -/
theorem take_rows (y : FVec Ideal S4x16x64x4x64 .f32) (idx : IVec S16x8x1 32) (b : Fin 4) (g : Fin 16) (a : Fin 8) (p : Fin 64) (h : Fin 4) (e : Fin 64) :
    Host.gather gather_S4x16x64x4x64_S16x8x1_S4x16x8x64x4x64_0345_1_n_n_1_2_4164464 y idx (ix6 b g a p h e) = y (ix5 b ⟨min (idx (ix3 g a 0)).toInt.toNat 15, by omega⟩ p h e) := by
  unfold Host.gather
  refine congrArg y (funext fun c => Fin.ext ?_)
  show GatherDims.start gather_S4x16x64x4x64_S16x8x1_S4x16x8x64x4x64_0345_1_n_n_1_2_4164464 (ix6 b g a p h e) idx c + GatherDims.batchCoord gather_S4x16x64x4x64_S16x8x1_S4x16x8x64x4x64_0345_1_n_n_1_2_4164464 (ix6 b g a p h e) c
    + GatherDims.offCoord gather_S4x16x64x4x64_S16x8x1_S4x16x8x64x4x64_0345_1_n_n_1_2_4164464 (ix6 b g a p h e) c = _
  rw [GatherDims.batchCoord_eq_zero _ _ _ List.not_mem_nil]
  have hsi : ∀ k, GatherDims.siIdx gather_S4x16x64x4x64_S16x8x1_S4x16x8x64x4x64_0345_1_n_n_1_2_4164464 (ix6 b g a p h e) k = (ix3 g a 0 : S16x8x1.Idx) := by
    intro k
    funext c
    refine Fin.ext ?_
    match c with
    | ⟨0, _⟩ => rfl
    | ⟨1, _⟩ => rfl
    | ⟨2, _⟩ => exact Nat.lt_one_iff.mp k.isLt
  match c with
  | ⟨0, hc⟩ =>
    have k1 : (⟨0, hc⟩ : Fin 5) ∈ GatherDims.sKept gather_S4x16x64x4x64_S16x8x1_S4x16x8x64x4x64_0345_1_n_n_1_2_4164464 :=
      show (0 : Fin 5) ∈ GatherDims.sKept gather_S4x16x64x4x64_S16x8x1_S4x16x8x64x4x64_0345_1_n_n_1_2_4164464 from by decide
    have k2 : (⟨0, hc⟩ : Fin 5) ∉ GatherDims.startIndexMap gather_S4x16x64x4x64_S16x8x1_S4x16x8x64x4x64_0345_1_n_n_1_2_4164464 :=
      show (0 : Fin 5) ∉ [(1 : Fin 5)] from by decide
    unfold GatherDims.start GatherDims.offCoord
    rw [dif_neg k2, dif_pos k1]
    exact Nat.zero_add _
  | ⟨1, hc⟩ =>
    have k1 : (⟨1, hc⟩ : Fin 5) ∉ GatherDims.sKept gather_S4x16x64x4x64_S16x8x1_S4x16x8x64x4x64_0345_1_n_n_1_2_4164464 :=
      show (1 : Fin 5) ∉ GatherDims.sKept gather_S4x16x64x4x64_S16x8x1_S4x16x8x64x4x64_0345_1_n_n_1_2_4164464 from by decide
    have k2 : (⟨1, hc⟩ : Fin 5) ∈ GatherDims.startIndexMap gather_S4x16x64x4x64_S16x8x1_S4x16x8x64x4x64_0345_1_n_n_1_2_4164464 :=
      show (1 : Fin 5) ∈ [(1 : Fin 5)] from by decide
    rw [GatherDims.offCoord_eq_zero _ _ _ k1]
    unfold GatherDims.start
    rw [dif_pos k2, hsi]
    rfl
  | ⟨2, hc⟩ =>
    have k1 : (⟨2, hc⟩ : Fin 5) ∈ GatherDims.sKept gather_S4x16x64x4x64_S16x8x1_S4x16x8x64x4x64_0345_1_n_n_1_2_4164464 :=
      show (2 : Fin 5) ∈ GatherDims.sKept gather_S4x16x64x4x64_S16x8x1_S4x16x8x64x4x64_0345_1_n_n_1_2_4164464 from by decide
    have k2 : (⟨2, hc⟩ : Fin 5) ∉ GatherDims.startIndexMap gather_S4x16x64x4x64_S16x8x1_S4x16x8x64x4x64_0345_1_n_n_1_2_4164464 :=
      show (2 : Fin 5) ∉ [(1 : Fin 5)] from by decide
    unfold GatherDims.start GatherDims.offCoord
    rw [dif_neg k2, dif_pos k1]
    exact Nat.zero_add _
  | ⟨3, hc⟩ =>
    have k1 : (⟨3, hc⟩ : Fin 5) ∈ GatherDims.sKept gather_S4x16x64x4x64_S16x8x1_S4x16x8x64x4x64_0345_1_n_n_1_2_4164464 :=
      show (3 : Fin 5) ∈ GatherDims.sKept gather_S4x16x64x4x64_S16x8x1_S4x16x8x64x4x64_0345_1_n_n_1_2_4164464 from by decide
    have k2 : (⟨3, hc⟩ : Fin 5) ∉ GatherDims.startIndexMap gather_S4x16x64x4x64_S16x8x1_S4x16x8x64x4x64_0345_1_n_n_1_2_4164464 :=
      show (3 : Fin 5) ∉ [(1 : Fin 5)] from by decide
    unfold GatherDims.start GatherDims.offCoord
    rw [dif_neg k2, dif_pos k1]
    exact Nat.zero_add _
  | ⟨4, hc⟩ =>
    have k1 : (⟨4, hc⟩ : Fin 5) ∈ GatherDims.sKept gather_S4x16x64x4x64_S16x8x1_S4x16x8x64x4x64_0345_1_n_n_1_2_4164464 :=
      show (4 : Fin 5) ∈ GatherDims.sKept gather_S4x16x64x4x64_S16x8x1_S4x16x8x64x4x64_0345_1_n_n_1_2_4164464 from by decide
    have k2 : (⟨4, hc⟩ : Fin 5) ∉ GatherDims.startIndexMap gather_S4x16x64x4x64_S16x8x1_S4x16x8x64x4x64_0345_1_n_n_1_2_4164464 :=
      show (4 : Fin 5) ∉ [(1 : Fin 5)] from by decide
    unfold GatherDims.start GatherDims.offCoord
    rw [dif_neg k2, dif_pos k1]
    exact Nat.zero_add _

/-- Places taken off the table: the place the index names, at most the last. -/
theorem take_places (y : FVec Ideal S4x8x64x512 .f32) (idx : IVec S16x1 32) (h : Fin 4) (g : Fin 16) (p : Fin 64) (j : Fin 512) :
    Host.gather gather_S4x8x64x512_S16x1_S4x16x64x512_023_1_n_n_1_1_4164512 y idx (ix4 h g p j) = y (ix4 h ⟨min (idx (ix2 g 0)).toInt.toNat 7, by omega⟩ p j) := by
  unfold Host.gather
  refine congrArg y (funext fun c => Fin.ext ?_)
  show GatherDims.start gather_S4x8x64x512_S16x1_S4x16x64x512_023_1_n_n_1_1_4164512 (ix4 h g p j) idx c + GatherDims.batchCoord gather_S4x8x64x512_S16x1_S4x16x64x512_023_1_n_n_1_1_4164512 (ix4 h g p j) c
    + GatherDims.offCoord gather_S4x8x64x512_S16x1_S4x16x64x512_023_1_n_n_1_1_4164512 (ix4 h g p j) c = _
  rw [GatherDims.batchCoord_eq_zero _ _ _ List.not_mem_nil]
  have hsi : ∀ k, GatherDims.siIdx gather_S4x8x64x512_S16x1_S4x16x64x512_023_1_n_n_1_1_4164512 (ix4 h g p j) k = (ix2 g 0 : S16x1.Idx) := by
    intro k
    funext c
    refine Fin.ext ?_
    match c with
    | ⟨0, _⟩ => rfl
    | ⟨1, _⟩ => exact Nat.lt_one_iff.mp k.isLt
  match c with
  | ⟨0, hc⟩ =>
    have k1 : (⟨0, hc⟩ : Fin 4) ∈ GatherDims.sKept gather_S4x8x64x512_S16x1_S4x16x64x512_023_1_n_n_1_1_4164512 :=
      show (0 : Fin 4) ∈ GatherDims.sKept gather_S4x8x64x512_S16x1_S4x16x64x512_023_1_n_n_1_1_4164512 from by decide
    have k2 : (⟨0, hc⟩ : Fin 4) ∉ GatherDims.startIndexMap gather_S4x8x64x512_S16x1_S4x16x64x512_023_1_n_n_1_1_4164512 :=
      show (0 : Fin 4) ∉ [(1 : Fin 4)] from by decide
    unfold GatherDims.start GatherDims.offCoord
    rw [dif_neg k2, dif_pos k1]
    exact Nat.zero_add _
  | ⟨1, hc⟩ =>
    have k1 : (⟨1, hc⟩ : Fin 4) ∉ GatherDims.sKept gather_S4x8x64x512_S16x1_S4x16x64x512_023_1_n_n_1_1_4164512 :=
      show (1 : Fin 4) ∉ GatherDims.sKept gather_S4x8x64x512_S16x1_S4x16x64x512_023_1_n_n_1_1_4164512 from by decide
    have k2 : (⟨1, hc⟩ : Fin 4) ∈ GatherDims.startIndexMap gather_S4x8x64x512_S16x1_S4x16x64x512_023_1_n_n_1_1_4164512 :=
      show (1 : Fin 4) ∈ [(1 : Fin 4)] from by decide
    rw [GatherDims.offCoord_eq_zero _ _ _ k1]
    unfold GatherDims.start
    rw [dif_pos k2, hsi]
    rfl
  | ⟨2, hc⟩ =>
    have k1 : (⟨2, hc⟩ : Fin 4) ∈ GatherDims.sKept gather_S4x8x64x512_S16x1_S4x16x64x512_023_1_n_n_1_1_4164512 :=
      show (2 : Fin 4) ∈ GatherDims.sKept gather_S4x8x64x512_S16x1_S4x16x64x512_023_1_n_n_1_1_4164512 from by decide
    have k2 : (⟨2, hc⟩ : Fin 4) ∉ GatherDims.startIndexMap gather_S4x8x64x512_S16x1_S4x16x64x512_023_1_n_n_1_1_4164512 :=
      show (2 : Fin 4) ∉ [(1 : Fin 4)] from by decide
    unfold GatherDims.start GatherDims.offCoord
    rw [dif_neg k2, dif_pos k1]
    exact Nat.zero_add _
  | ⟨3, hc⟩ =>
    have k1 : (⟨3, hc⟩ : Fin 4) ∈ GatherDims.sKept gather_S4x8x64x512_S16x1_S4x16x64x512_023_1_n_n_1_1_4164512 :=
      show (3 : Fin 4) ∈ GatherDims.sKept gather_S4x8x64x512_S16x1_S4x16x64x512_023_1_n_n_1_1_4164512 from by decide
    have k2 : (⟨3, hc⟩ : Fin 4) ∉ GatherDims.startIndexMap gather_S4x8x64x512_S16x1_S4x16x64x512_023_1_n_n_1_1_4164512 :=
      show (3 : Fin 4) ∉ [(1 : Fin 4)] from by decide
    unfold GatherDims.start GatherDims.offCoord
    rw [dif_neg k2, dif_pos k1]
    exact Nat.zero_add _

/-- The row of the grid at a place of a window. -/
theorem keyRow (g : Fin 16) (a : Fin 8) : (val_main_call1_v0 (F := Ideal) (ix3 g a 0)).toInt.toNat = wstart g.val + a.val := by
  revert g a
  decide +kernel

/-- The row of the grid at a place of a window. -/
theorem valueRow (g : Fin 16) (a : Fin 8) : (val_main_call2_v0 (F := Ideal) (ix3 g a 0)).toInt.toNat = wstart g.val + a.val := by
  revert g a
  decide +kernel

/-- The place of a grid row in its window. -/
theorem biasPlace (g : Fin 16) : (val_main_call3_v0 (F := Ideal) (ix2 g 0)).toInt.toNat = g.val - wstart g.val := by
  revert g
  decide +kernel

/-- A query of the grid. -/
theorem gridQ (x0 : FVec Ideal S8192x768 .f32) (b : Fin 4) (g : Fin 16) (p : Fin 64) (h : Fin 4) (e : Fin 64) :
    val_main_v2 (F := Ideal) x0 (ix5 b g p h e) = at2 x0 (4096 + (b.val * 1024 + g.val * 64 + p.val)) (h.val * 64 + e.val) := by
  rw [at2_in _ (show 4096 + (b.val * 1024 + g.val * 64 + p.val) < 8192 by omega) (show h.val * 64 + e.val < 768 by omega)]
  unfold val_main_v2 val_main_v1 val_main_v0
  pointwise

/-- A key of the grid. -/
theorem gridK (x0 : FVec Ideal S8192x768 .f32) (b : Fin 4) (g : Fin 16) (p : Fin 64) (h : Fin 4) (e : Fin 64) :
    val_main_v4 (F := Ideal) x0 (ix5 b g p h e) = at2 x0 (4096 + (b.val * 1024 + g.val * 64 + p.val)) (256 + (h.val * 64 + e.val)) := by
  rw [at2_in _ (show 4096 + (b.val * 1024 + g.val * 64 + p.val) < 8192 by omega) (show 256 + (h.val * 64 + e.val) < 768 by omega)]
  unfold val_main_v4 val_main_v3 val_main_v0
  pointwise

/-- A value of the grid. -/
theorem gridV (x0 : FVec Ideal S8192x768 .f32) (b : Fin 4) (g : Fin 16) (p : Fin 64) (h : Fin 4) (e : Fin 64) :
    val_main_v6 (F := Ideal) x0 (ix5 b g p h e) = at2 x0 (4096 + (b.val * 1024 + g.val * 64 + p.val)) (512 + (h.val * 64 + e.val)) := by
  rw [at2_in _ (show 4096 + (b.val * 1024 + g.val * 64 + p.val) < 8192 by omega) (show 512 + (h.val * 64 + e.val) < 768 by omega)]
  unfold val_main_v6 val_main_v5 val_main_v0
  pointwise

/-- A bias of a grid row. -/
theorem bias (x3 : FVec Ideal S4x8x64x512 .f32) (h : Fin 4) (g : Fin 16) (p : Fin 64) (j : Fin 512) :
    val_main_v22 (F := Ideal) x3 (ix4 h g p j) = at4 x3 h.val (g.val - wstart g.val) p.val j.val := by
  rw [at4_in _ h.isLt (row_lt g) p.isLt j.isLt]
  unfold val_main_v22
  refine (take_places x3 _ h g p j).trans (congrArg x3 ?_)
  have hp := biasPlace g
  have hl := row_lt g
  exact congrArg (fun k : Fin 8 => (ix4 h k p j : S4x8x64x512.Idx)) (Fin.ext (by show min _ 7 = g.val - wstart g.val; omega))

/-- A key of a grid row's window. -/
theorem keys (x0 : FVec Ideal S8192x768 .f32) (b : Fin 4) (g : Fin 16) (j : Fin 512) (h : Fin 4) (e : Fin 64) :
    val_main_v18 (F := Ideal) x0 (ix5 b g j h e)
      = at2 x0 (4096 + b.val * 1024 + (64 * wstart g.val + j.val)) (256 + (h.val * 64 + e.val)) := by
  have hj := j.isLt
  have e1 : val_main_v18 (F := Ideal) x0 (ix5 b g j h e)
      = val_main_v17 (F := Ideal) x0 (ix6 b g ⟨j.val / 64, by omega⟩ ⟨j.val % 64, Nat.mod_lt _ (by norm_num)⟩ h e) := by
    unfold val_main_v18
    generalize val_main_v17 (F := Ideal) x0 = y
    pointwise
  rw [e1]
  unfold val_main_v17
  refine (take_rows _ _ b g _ _ h e).trans ?_
  have hr := keyRow g ⟨j.val / 64, by omega⟩
  have hl := wstart_lt g (j.val / 64) (by omega)
  rw [gridK]
  refine congrArg (fun n => at2 x0 n (256 + (h.val * 64 + e.val))) ?_
  show 4096 + (b.val * 1024 + min _ 15 * 64 + j.val % 64) = 4096 + b.val * 1024 + (64 * wstart g.val + j.val)
  rw [hr]
  show 4096 + (b.val * 1024 + min (wstart g.val + j.val / 64) 15 * 64 + j.val % 64) = 4096 + b.val * 1024 + (64 * wstart g.val + j.val)
  omega

/-- A value of a grid row's window. -/
theorem values (x0 : FVec Ideal S8192x768 .f32) (b : Fin 4) (g : Fin 16) (j : Fin 512) (h : Fin 4) (e : Fin 64) :
    val_main_v20 (F := Ideal) x0 (ix5 b g j h e)
      = at2 x0 (4096 + b.val * 1024 + (64 * wstart g.val + j.val)) (512 + (h.val * 64 + e.val)) := by
  have hj := j.isLt
  have e1 : val_main_v20 (F := Ideal) x0 (ix5 b g j h e)
      = val_main_v19 (F := Ideal) x0 (ix6 b g ⟨j.val / 64, by omega⟩ ⟨j.val % 64, Nat.mod_lt _ (by norm_num)⟩ h e) := by
    unfold val_main_v20
    generalize val_main_v19 (F := Ideal) x0 = y
    pointwise
  rw [e1]
  unfold val_main_v19
  refine (take_rows _ _ b g _ _ h e).trans ?_
  have hr := valueRow g ⟨j.val / 64, by omega⟩
  have hl := wstart_lt g (j.val / 64) (by omega)
  rw [gridV]
  refine congrArg (fun n => at2 x0 n (512 + (h.val * 64 + e.val))) ?_
  show 4096 + (b.val * 1024 + min _ 15 * 64 + j.val % 64) = 4096 + b.val * 1024 + (64 * wstart g.val + j.val)
  rw [hr]
  show 4096 + (b.val * 1024 + min (wstart g.val + j.val / 64) 15 * 64 + j.val % 64) = 4096 + b.val * 1024 + (64 * wstart g.val + j.val)
  omega

end Cert.NbrRefIdeal.At

end
-- ==== Proof.NbrRead.lean ====
/-
  The reference of the latent neighbourhood attention, read at a row and a column.
-/
module

public import proofs.«01_k».proof.Proof.NbrWindow
public import Idealize.ShloMosaic.Lib.Pipeline.ValueKit

@[expose] public section

set_option maxRecDepth 16384

noncomputable section

namespace Cert.NbrRefIdeal.At

open Cert.NbrRefIdeal Cert.NbrRefIdeal.Gen Cert.NbrRefIdeal.Read Cert.Attn Idealize.ShloMosaic Idealize.ShloMosaic.TcCoe Idealize.SL.Sem
open Idealize.ShloMosaic.Pointwise
open scoped BigOperators

/-- The scores. -/
theorem scores (x0 : FVec Ideal S8192x768 .f32) (x1 : FVec Ideal S4x256x4x64 .f32) (x3 : FVec Ideal S4x8x64x512 .f32) (b : Fin 4) (h : Fin 4) (g : Fin 16) (p : Fin 64) (j : Fin 768) :
    val_main_v32 (F := Ideal) x0 x1 x3 (ix5 b h g p j)
      = join (a := 512) (b := 256) rfl
          (fun j => (∑ e : Fin 64, at2 x0 (4096 + b.val * 1024 + (64 * wstart g.val + j.val)) (256 + (h.val * 64 + e.val))
              * at2 x0 (4096 + (b.val * 1024 + g.val * 64 + p.val)) (h.val * 64 + e.val)) * c8
            + at4 x3 h.val (g.val - wstart g.val) p.val j.val)
          (fun j => (∑ e : Fin 64, at4 x1 b.val j.val h.val e.val
              * at2 x0 (4096 + (b.val * 1024 + g.val * 64 + p.val)) (h.val * 64 + e.val)) * c8) j := by
  unfold val_main_v32 val_main_v31 val_main_v30 val_main_v29 val_main_v28 val_main_v27 val_main_v26 val_main_v25 val_main_v24 val_main_v23 val_main_cst val_main_cst_2
  have hq := gridQ x0
  have hk := keys x0
  have hb := bias x3
  revert hq hk hb
  generalize val_main_v2 (F := Ideal) x0 = q
  generalize val_main_v18 (F := Ideal) x0 = k
  generalize val_main_v22 (F := Ideal) x3 = w
  intro hq hk hb
  pointwise
  unfold join
  have hj := j.isLt
  have hx : ∀ (b : Fin 4) (j : Fin 256) (h : Fin 4) (e : Fin 64), x1 (ix4 b j h e) = at4 x1 b.val j.val h.val e.val :=
    fun b j h e => (at4_in x1 b.isLt j.isLt h.isLt e.isLt).symm
  by_cases hc : j.val < 512
  · simp only [dif_pos hc, hq, hk, hb]
    simp only [mul_comm]
  · simp only [dif_neg hc, hq, hx]
    simp only [mul_comm]

/-- The index a reduction over the keys reads. -/
theorem lift_keys (b : Fin 4) (h : Fin 4) (g : Fin 16) (p : Fin 64) (hr : S4x4x16x64x768.Reduces [4] S4x4x16x64) (k : Fin 768) :
    Shape.Reduces.lift (s := S4x4x16x64x768) (t := S4x4x16x64) (a := 4) hr (ix4 b h g p) k = ix5 b h g p k :=
  funext fun a => match a with
    | ⟨0, _⟩ => rfl
    | ⟨1, _⟩ => rfl
    | ⟨2, _⟩ => rfl
    | ⟨3, _⟩ => rfl
    | ⟨4, _⟩ => rfl

/-- The keys' axis is the one reduced. -/
theorem reduces_keys : S4x4x16x64x768.Reduces [4] S4x4x16x64 := by decide

/-- A reduction over the keys is a fold over them. -/
theorem fold_keys (f : EReal → EReal → EReal) [Std.Commutative f] [Std.Associative f] (y : FVec Ideal S4x4x16x64x768 .f32)
    (init : FVec Ideal S_ .f32) (b : Fin 4) (h : Fin 4) (g : Fin 16) (p : Fin 64) :
    Host.reduce f y init reducesTo_S4x4x16x64x768_S4x4x16x64_d4 h_S_ (ix4 b h g p)
      = Finset.fold f (init (Shape.Idx.first h_S_)) (fun j : Fin 768 => y (ix5 b h g p j)) Finset.univ := by
  refine (Host.reduce_eq_fold_single (s := S4x4x16x64x768) (t := S4x4x16x64) (a := 4) f y init
    reducesTo_S4x4x16x64x768_S4x4x16x64_d4 reduces_keys h_S_ (ix4 b h g p)).trans ?_
  exact congrArg (fun w => Finset.fold f (init (Shape.Idx.first h_S_)) w Finset.univ)
    (funext fun k => congrArg y (lift_keys b h g p reduces_keys k))

/-- The greatest score. -/
theorem maxes (x0 : FVec Ideal S8192x768 .f32) (x1 : FVec Ideal S4x256x4x64 .f32) (x3 : FVec Ideal S4x8x64x512 .f32) (b : Fin 4) (h : Fin 4) (g : Fin 16) (p : Fin 64) :
    val_main_v35 (F := Ideal) x0 x1 x3 (ix4 b h g p) = top fun j => val_main_v32 (F := Ideal) x0 x1 x3 (ix5 b h g p j) := by
  have e : val_main_v33 (F := Ideal) x0 x1 x3 (ix4 b h g p) = top fun j => val_main_v32 (F := Ideal) x0 x1 x3 (ix5 b h g p j) := by
    unfold val_main_v33
    refine (fold_keys max (val_main_v32 (F := Ideal) x0 x1 x3) (val_main_cst_3 (F := Ideal)) b h g p).trans ?_
    exact congrArg (fun i => Finset.fold max i (fun j : Fin 768 => val_main_v32 (F := Ideal) x0 x1 x3 (ix5 b h g p j)) Finset.univ) negInf
  rw [val_main_v35_apply, e]
  have e0 : val_main_v34 (F := Ideal) (ix4 b h g p) = (⊥ : EReal) := by
    rw [val_main_v34_apply]; exact negInf
  rw [e0]
  exact max_bot_left _

/-- The exponentials. -/
theorem exps (x0 : FVec Ideal S8192x768 .f32) (x1 : FVec Ideal S4x256x4x64 .f32) (x3 : FVec Ideal S4x8x64x512 .f32) (b : Fin 4) (h : Fin 4) (g : Fin 16) (p : Fin 64) (j : Fin 768) :
    val_main_v39 (F := Ideal) x0 x1 x3 (ix5 b h g p j)
      = Ideal.exp (val_main_v32 (F := Ideal) x0 x1 x3 (ix5 b h g p j) - val_main_v35 (F := Ideal) x0 x1 x3 (ix4 b h g p)) := by
  unfold val_main_v39 val_main_v38 val_main_v37 val_main_v36
  generalize val_main_v32 (F := Ideal) x0 x1 x3 = y
  generalize val_main_v35 (F := Ideal) x0 x1 x3 = w
  pointwise

/-- The probabilities. -/
theorem probs (x0 : FVec Ideal S8192x768 .f32) (x1 : FVec Ideal S4x256x4x64 .f32) (x3 : FVec Ideal S4x8x64x512 .f32) (b : Fin 4) (h : Fin 4) (g : Fin 16) (p : Fin 64) (j : Fin 768) :
    val_main_v43 (F := Ideal) x0 x1 x3 (ix5 b h g p j)
      = Ideal.div (val_main_v39 (F := Ideal) x0 x1 x3 (ix5 b h g p j)) (∑ k, val_main_v39 (F := Ideal) x0 x1 x3 (ix5 b h g p k)) := by
  unfold val_main_v43 val_main_v42 val_main_v41 val_main_v40 val_main_cst_5
  generalize val_main_v39 (F := Ideal) x0 x1 x3 = y
  pointwise

/-- The weighted sum over a grid row's window. -/
theorem local_part (x0 : FVec Ideal S8192x768 .f32) (x1 : FVec Ideal S4x256x4x64 .f32) (x3 : FVec Ideal S4x8x64x512 .f32)
    (b : Fin 4) (g : Fin 16) (p : Fin 64) (h : Fin 4) (e : Fin 64) :
    val_main_v46 (F := Ideal) x0 x1 x3 (ix5 b g p h e)
      = ∑ j : Fin 512, val_main_v20 (F := Ideal) x0 (ix5 b g j h e) * val_main_v43 (F := Ideal) x0 x1 x3 (ix5 b h g p ⟨j.val, by omega⟩) := by
  unfold val_main_v46 val_main_v45 val_main_v44
  generalize val_main_v43 (F := Ideal) x0 x1 x3 = y
  generalize val_main_v20 (F := Ideal) x0 = v
  pointwise

/-- The weighted sum over the cached keys. -/
theorem cached_part (x0 : FVec Ideal S8192x768 .f32) (x1 x2 : FVec Ideal S4x256x4x64 .f32) (x3 : FVec Ideal S4x8x64x512 .f32)
    (b : Fin 4) (g : Fin 16) (p : Fin 64) (h : Fin 4) (e : Fin 64) :
    val_main_v49 (F := Ideal) x0 x1 x2 x3 (ix5 b g p h e)
      = ∑ j : Fin 256, x2 (ix4 b j h e) * val_main_v43 (F := Ideal) x0 x1 x3 (ix5 b h g p ⟨512 + j.val, by omega⟩) := by
  unfold val_main_v49 val_main_v48 val_main_v47
  generalize val_main_v43 (F := Ideal) x0 x1 x3 = y
  pointwise

/-- The attention's output at a row and a column. -/
theorem attended (x0 : FVec Ideal S8192x768 .f32) (x1 x2 : FVec Ideal S4x256x4x64 .f32) (x3 : FVec Ideal S4x8x64x512 .f32)
    (R : Fin 4096) (C : Fin 256) :
    val_main_v51 (F := Ideal) x0 x1 x2 x3 (ix2 R C) = nbrAt c8 (at2 x0) (at4 x1) (at4 x2) (at4 x3) R.val C.val := by
  have hR := R.isLt
  have hC := C.isLt
  have e0 : val_main_v51 (F := Ideal) x0 x1 x2 x3 (ix2 R C)
      = val_main_v50 (F := Ideal) x0 x1 x2 x3 (ix5 (⟨R.val / 1024, by omega⟩ : Fin 4) (⟨R.val % 1024 / 64, by omega⟩ : Fin 16)
          (⟨R.val % 64, by omega⟩ : Fin 64) (⟨C.val / 64, by omega⟩ : Fin 4) (⟨C.val % 64, by omega⟩ : Fin 64)) := by
    unfold val_main_v51
    refine shapeCast_apply _ _ _ _ ?_
    rewrite [Shape.rowMajor_val_five, Shape.rowMajor_val_two]
    show (((R.val / 1024 * 16 + R.val % 1024 / 64) * 64 + R.val % 64) * 4 + C.val / 64) * 64 + C.val % 64 = R.val * 256 + C.val
    omega
  have e1 : R.val / 1024 * 1024 + R.val % 1024 / 64 * 64 + R.val % 64 = R.val := by omega
  have e2 : C.val / 64 * 64 + C.val % 64 = C.val := by omega
  have hw : ∀ j : Fin 768, val_main_v43 (F := Ideal) x0 x1 x3 (ix5 (⟨R.val / 1024, by omega⟩ : Fin 4) (⟨C.val / 64, by omega⟩ : Fin 4)
      (⟨R.val % 1024 / 64, by omega⟩ : Fin 16) (⟨R.val % 64, by omega⟩ : Fin 64) j)
      = Ideal.div (Ideal.exp (nbrScore c8 (at2 x0) (at4 x1) (at4 x3) R.val C.val j - top (nbrScore c8 (at2 x0) (at4 x1) (at4 x3) R.val C.val)))
          (∑ k, Ideal.exp (nbrScore c8 (at2 x0) (at4 x1) (at4 x3) R.val C.val k - top (nbrScore c8 (at2 x0) (at4 x1) (at4 x3) R.val C.val))) := by
    have hs : ∀ j : Fin 768, val_main_v32 (F := Ideal) x0 x1 x3 (ix5 (⟨R.val / 1024, by omega⟩ : Fin 4) (⟨C.val / 64, by omega⟩ : Fin 4)
        (⟨R.val % 1024 / 64, by omega⟩ : Fin 16) (⟨R.val % 64, by omega⟩ : Fin 64) j) = nbrScore c8 (at2 x0) (at4 x1) (at4 x3) R.val C.val j := by
      intro j
      rw [scores]
      unfold nbrScore
      simp only [e1, Nat.add_assoc]
    intro j
    rw [probs]
    simp only [exps, maxes, hs]
  rw [e0, val_main_v50_apply, local_part, cached_part, nbrAt, soft, sum_parts (a := 512) (b := 256) rfl]
  simp only [hw]
  refine congrArg₂ (· + ·) (Finset.sum_congr rfl fun j _ => ?_) (Finset.sum_congr rfl fun j _ => ?_)
  · unfold nbrValue
    rw [join_left, values, mul_comm]
    simp only [e2]
  · unfold nbrValue
    rw [join_right, mul_comm]
    exact congrArg _ (at4_in x2 _ _ _ _).symm

end Cert.NbrRefIdeal.At

end
-- ==== Proof.NbrClaim.lean ====
/-
  The claims about the latent neighbourhood attention: the precondition read as finiteness, and the kernel's result equal to
  the reference's.
-/
module

public import proofs.«01_k».proof.Defs
public import proofs.«01_k».proof.Proof.CtxClaim
public import proofs.«01_k».proof.Proof.Gen.Nbr
public import proofs.«01_k».proof.Proof.Gen.NbrIdeal
public import proofs.«01_k».proof.Proof.Gen.NbrRefIdeal
public import proofs.«01_k».proof.Proof.Gen.NbrRefIdeal.Run
public import proofs.«01_k».proof.Proof.Gen.Pre_finite_na
public import proofs.«01_k».proof.Proof.NbrValue
public import proofs.«01_k».proof.Proof.NbrRead
public import Idealize.ShloMosaic.Lib.ReduceAll
public import Idealize.ShloMosaic.Lib.Quiescent

@[expose] public section

noncomputable section

namespace Cert.Proof

open Idealize.ShloMosaic Idealize.ShloMosaic.TcCoe Idealize.SL.Sem Cert.Attn

/-- The precondition says that every entry of every argument but the cached values is finite. -/
theorem pre_na (x0 : FVec Ideal Cert.NbrIdeal.S8192x768 .f32) (x1 x2 : FVec Ideal Cert.NbrIdeal.S4x256x4x64 .f32)
    (x3 : FVec Ideal Cert.NbrIdeal.S4x8x64x512 .f32) (h : Cert.Pre_finite_na.fn (F := Ideal) x0 x1 x2 x3 = fun _ => 1#1) :
    (∀ i, Fine (x0 i)) ∧ (∀ i, Fine (x1 i)) ∧ ∀ i, Fine (x3 i) := by
  have h1 := congrFun h (fun a => a.elim0)
  dsimp only [Cert.Pre_finite_na.fn] at h1
  have split : ∀ a b : BitVec 1, a &&& b = 1#1 → a = 1#1 ∧ b = 1#1 := by decide
  obtain ⟨h2, g3⟩ := split _ _ h1
  obtain ⟨g0, g1⟩ := split _ _ h2
  haveI : Subsingleton Cert.Pre_finite_na.S_.Idx := ⟨fun a b => funext fun k => k.elim0⟩
  exact ⟨fun i => fine_of_cmp _ _ i posInf (Host.reduce_andi_all _ _ _ _ _ g0 i),
    fun i => fine_of_cmp _ _ i posInf (Host.reduce_andi_all _ _ _ _ _ g1 i),
    fun i => fine_of_cmp _ _ i posInf (Host.reduce_andi_all _ _ _ _ _ g3 i)⟩

/-- The reference's result is the function the kernel's array holds. -/
theorem ref_v51 (x0 : FVec Ideal Cert.NbrRefIdeal.S8192x768 .f32) (x1 x2 : FVec Ideal Cert.NbrRefIdeal.S4x256x4x64 .f32)
    (x3 : FVec Ideal Cert.NbrRefIdeal.S4x8x64x512 .f32) :
    Cert.NbrRefIdeal.Read.val_main_v51 (F := Ideal) x0 x1 x2 x3 = fun i =>
      nbrAt c8 (at2 x0) (at4 x1) (at4 x2) (at4 x3) (i 0).val (i 1).val := by
  funext i
  have ei : i = ix2 (i 0) (i 1) := funext fun a => match a with
    | ⟨0, _⟩ => rfl
    | ⟨1, _⟩ => rfl
  refine (congrArg _ ei).trans ?_
  exact Cert.NbrRefIdeal.At.attended x0 x1 x2 x3 (i 0) (i 1)

/-- The reference runs, leaves its arguments as they were, and has no semaphore to leave raised. -/
theorem frame_nbrRef : Cert.quiescent_NbrRefIdeal := fun m g _ =>
  (θ_run _ _ _).mono (fun r h => ⟨fun c => (h c).2, sem_eq_zero_of_no_sems rfl r.2⟩) (Cert.NbrRefIdeal.Value.run (F := Ideal) m g)

/-- The kernel's result equals the reference's on finite arguments. -/
theorem algebraic_nbr : Cert.algebraic_NbrIdeal_NbrRefIdeal_pre_finite_na := by
  intro m g m' g' hpre hag
  have hf : ∀ c, Cert.NbrIdeal.Head.Finite m c := fun c => pre_na _ _ _ _ (hpre c)
  refine ⟨fun c => Cert.NbrIdeal.Head.G5 m c, Cert.NbrIdeal.Head.run m g hf, ?_⟩
  refine (θ_run _ _ _).mono (fun r h c => ?_) (Cert.NbrRefIdeal.Value.run (F := Ideal) m' g')
  obtain ⟨h51, hrest⟩ := h c
  obtain ⟨e0, e1, e2, e3⟩ := hag c
  refine ⟨h51.trans ?_, hrest⟩
  refine (Cert.NbrRefIdeal.Read.val_main_v51_eq m' c).trans ?_
  rw [ref_v51, e0, e1, e2, e3]
  rfl

end Cert.Proof

end
-- ==== Proof.lean ====
module

public import proofs.«01_k».proof.Defs
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxIdeal.Value
public import proofs.«01_k».proof.Proof.Gen.CtxRefIdeal.Run
public import proofs.«01_k».proof.Proof.Gen.CtxRefIdeal.Read
public import proofs.«01_k».proof.Proof.Gen.Pre_finite_ctx
public import proofs.«01_k».proof.Proof.CtxClaim
public import proofs.«01_k».proof.Proof.Gen.Moe
public import proofs.«01_k».proof.Proof.Gen.MoeIdeal
public import proofs.«01_k».proof.Proof.Gen.MoeRefIdeal
public import proofs.«01_k».proof.Proof.Gen.Pre_experts_in_range
public import proofs.«01_k».proof.Proof.MoeClaim
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpRefIdeal
public import proofs.«01_k».proof.Proof.InpClaim
public import proofs.«01_k».proof.Proof.Gen.Fin
public import proofs.«01_k».proof.Proof.Gen.Fin.Frame
public import proofs.«01_k».proof.Proof.Gen.FinIdeal
public import proofs.«01_k».proof.Proof.Gen.FinIdeal.Frame
public import proofs.«01_k».proof.Proof.Gen.FinRefIdeal
public import proofs.«01_k».proof.Proof.FinClaim
public import proofs.«01_k».proof.Proof.Gen.Mrg
public import proofs.«01_k».proof.Proof.Gen.Mrg.Frame
public import proofs.«01_k».proof.Proof.Gen.MrgIdeal
public import proofs.«01_k».proof.Proof.Gen.MrgIdeal.Frame
public import proofs.«01_k».proof.Proof.Gen.MrgRefIdeal
public import proofs.«01_k».proof.Proof.MrgClaim
public import proofs.«01_k».proof.Proof.Gen.Gqa
public import proofs.«01_k».proof.Proof.Gen.Gqa.Frame
public import proofs.«01_k».proof.Proof.Gen.GqaIdeal
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Read
public import proofs.«01_k».proof.Proof.Gen.GqaRefIdeal.Run
public import proofs.«01_k».proof.Proof.Gen.Pre_finite_lat
public import proofs.«01_k».proof.Proof.GqaClaim
public import proofs.«01_k».proof.Proof.ModClaim
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Read
public import proofs.«01_k».proof.Proof.Gen.ModRefIdeal.Run
public import proofs.«01_k».proof.Proof.Gen.Nbr
public import proofs.«01_k».proof.Proof.Gen.Nbr.Frame
public import proofs.«01_k».proof.Proof.Gen.NbrIdeal
public import proofs.«01_k».proof.Proof.Gen.NbrIdeal.Frame
public import proofs.«01_k».proof.Proof.Gen.NbrIdeal.Value
public import proofs.«01_k».proof.Proof.Gen.NbrRefIdeal
public import proofs.«01_k».proof.Proof.Gen.NbrRefIdeal.Read
public import proofs.«01_k».proof.Proof.Gen.NbrRefIdeal.Run
public import proofs.«01_k».proof.Proof.Gen.Pre_finite_na
public import proofs.«01_k».proof.Proof.NbrClaim
public import Idealize.ShloMosaic.Adequacy
public import Idealize.ShloMosaic.Init

@[expose] public section

noncomputable section

namespace Cert.Proof

open Idealize.ShloMosaic Idealize.SL.Sem Cert.Ctx

/-- Everything this certificate claims. -/
theorem claim : Cert.Claim := ⟨Cert.Ctx.Gen.facts, Cert.CtxIdeal.Gen.facts, Cert.CtxRefIdeal.Gen.facts, Cert.Moe.Gen.facts, Cert.MoeIdeal.Gen.facts, Cert.MoeRefIdeal.Gen.facts,
  Cert.Inp.Gen.facts, Cert.InpIdeal.Gen.facts, Cert.InpRefIdeal.Gen.facts, Cert.Fin.Gen.facts, Cert.FinIdeal.Gen.facts, Cert.FinRefIdeal.Gen.facts,
  Cert.Mrg.Gen.facts, Cert.MrgIdeal.Gen.facts, Cert.MrgRefIdeal.Gen.facts,
  Cert.Gqa.Gen.facts, Cert.GqaIdeal.Gen.facts, Cert.GqaRefIdeal.Gen.facts,
  Cert.Mod.Gen.facts, Cert.ModIdeal.Gen.facts, Cert.ModRefIdeal.Gen.facts,
  Cert.Nbr.Gen.facts, Cert.NbrIdeal.Gen.facts, Cert.NbrRefIdeal.Gen.facts,
  Cert.Pre_finite_ctx.Gen.facts, Cert.Pre_experts_in_range.Gen.facts, Cert.Pre_finite_lat.Gen.facts, Cert.Pre_finite_na.Gen.facts,
  fun m ρ _ => Cert.Ctx.Gen.frame m ρ,
  fun m ρ _ => Cert.CtxIdeal.Gen.frame m ρ,
  fun m ρ _ => Cert.CtxIdeal.Gen.frame m ρ,
  frame_ctxRef,
  fun m ρ _ => frame_ctxRef m ρ trivial,
  frame_moe,
  frame_moeIdeal,
  frame_moeRef,
  fun m ρ _ => Cert.Inp.Gen.frame m ρ,
  fun m ρ _ => Cert.InpIdeal.Gen.frame m ρ,
  frame_inpRef,
  fun m ρ _ => Cert.Fin.Gen.frame m ρ,
  fun m ρ _ => Cert.FinIdeal.Gen.frame m ρ,
  frame_finRef,
  fun m ρ _ => Cert.Mrg.Gen.frame m ρ,
  fun m ρ _ => Cert.MrgIdeal.Gen.frame m ρ,
  frame_mrgRef,
  fun m ρ _ => Cert.Gqa.Gen.frame m ρ,
  fun m ρ _ => Cert.GqaIdeal.Gen.frame m ρ,
  fun m ρ _ => Cert.GqaIdeal.Gen.frame m ρ,
  frame_gqaRef,
  fun m ρ _ => frame_gqaRef m ρ trivial,
  fun m ρ _ => Cert.Mod.Gen.frame m ρ,
  fun m ρ _ => Cert.ModIdeal.Gen.frame m ρ,
  frame_modRef,
  fun m ρ _ => Cert.Nbr.Gen.frame m ρ,
  fun m ρ _ => Cert.NbrIdeal.Gen.frame m ρ,
  fun m ρ _ => Cert.NbrIdeal.Gen.frame m ρ,
  frame_nbrRef,
  fun m ρ _ => frame_nbrRef m ρ trivial,
  trivial,
  algebraic_ctx,
  trivial,
  algebraic_moe,
  trivial,
  algebraic_inp,
  trivial,
  algebraic_fin,
  trivial,
  algebraic_mrg,
  trivial,
  algebraic_gqa,
  trivial,
  algebraic_mod,
  trivial,
  algebraic_nbr⟩

end Cert.Proof

end
